-- ==== Defs.lean ====
def Pre_Gather [hPre_in_batch : Cert.Pre_in_batch.Facts] (m : (ℓ : Loc Cert.Gather.nD Cert.Gather.τ Cert.Gather.sig) → Buf (Elt Bits) ℓ) : Prop :=
  ∀ c : Dev Cert.Gather.nD,
    (Cert.Pre_in_batch.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_in_batch : Cert.Pre_in_batch.Facts] (m : (ℓ : Loc Cert.GatherIdeal.nD Cert.GatherIdeal.τ Cert.GatherIdeal.sig) → Buf (Elt Ideal) ℓ) : Prop :=
  ∀ c : Dev Cert.GatherIdeal.nD,
    (Cert.Pre_in_batch.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_batch [hPre_in_batch : Cert.Pre_in_batch.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_batch.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Gather [hGather : Cert.Gather.Facts] [hPre_in_batch : Cert.Pre_in_batch.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_in_batch : Cert.Pre_in_batch.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_GatherReferenceIdeal_pre_in_batch [hGatherReferenceIdeal : Cert.GatherReferenceIdeal.Facts] [hPre_in_batch : Cert.Pre_in_batch.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_batch m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] [hPre_in_batch : Cert.Pre_in_batch.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v13)) (v1 : (c : Dev Cert.GatherIdeal.nD) → Buf (Elt Ideal) ((c.tc : Thread Cert.GatherIdeal.nD Cert.GatherIdeal.τ).loc Cert.GatherIdeal.main_v10)) (v2 : (c : Dev Cert.GatherIdeal.nD) → Buf (Elt Ideal) ((c.tc : Thread Cert.GatherIdeal.nD Cert.GatherIdeal.τ).loc Cert.GatherIdeal.main_v9)) (v3 : (c : Dev Cert.GatherIdeal.nD) → Buf (Elt Ideal) ((c.tc : Thread Cert.GatherIdeal.nD Cert.GatherIdeal.τ).loc Cert.GatherIdeal.main_v15)) (v4 : (c : Dev Cert.GatherIdeal.nD) → Buf (Elt Ideal) ((c.tc : Thread Cert.GatherIdeal.nD Cert.GatherIdeal.τ).loc Cert.GatherIdeal.main_v11)) (v5 : (c : Dev Cert.GatherIdeal.nD) → Buf (Elt Ideal) ((c.tc : Thread Cert.GatherIdeal.nD Cert.GatherIdeal.τ).loc Cert.GatherIdeal.main_v7)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v13) = v0 c
          ∧ r.2.mem ((c.tc : Thread Cert.GatherIdeal.nD Cert.GatherIdeal.τ).loc Cert.GatherIdeal.main_v10) = v1 c
          ∧ r.2.mem ((c.tc : Thread Cert.GatherIdeal.nD Cert.GatherIdeal.τ).loc Cert.GatherIdeal.main_v9) = v2 c
          ∧ r.2.mem ((c.tc : Thread Cert.GatherIdeal.nD Cert.GatherIdeal.τ).loc Cert.GatherIdeal.main_v15) = v3 c
          ∧ r.2.mem ((c.tc : Thread Cert.GatherIdeal.nD Cert.GatherIdeal.τ).loc Cert.GatherIdeal.main_v11) = v4 c
          ∧ r.2.mem ((c.tc : Thread Cert.GatherIdeal.nD Cert.GatherIdeal.τ).loc Cert.GatherIdeal.main_v7) = v5 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v22) = v0 c
          ∧ r.2.mem ((c.tc : Thread Cert.GatherReferenceIdeal.nD Cert.GatherReferenceIdeal.τ).loc Cert.GatherReferenceIdeal.main_v19) = v1 c
          ∧ r.2.mem ((c.tc : Thread Cert.GatherReferenceIdeal.nD Cert.GatherReferenceIdeal.τ).loc Cert.GatherReferenceIdeal.main_v11) = v2 c
          ∧ r.2.mem ((c.tc : Thread Cert.GatherReferenceIdeal.nD Cert.GatherReferenceIdeal.τ).loc Cert.GatherReferenceIdeal.main_v24) = v3 c
          ∧ r.2.mem ((c.tc : Thread Cert.GatherReferenceIdeal.nD Cert.GatherReferenceIdeal.τ).loc Cert.GatherReferenceIdeal.main_v20) = v4 c
          ∧ r.2.mem ((c.tc : Thread Cert.GatherReferenceIdeal.nD Cert.GatherReferenceIdeal.τ).loc Cert.GatherReferenceIdeal.main_v18) = v5 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v35)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v27) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v127) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hGather : Cert.Gather.Facts) (hGatherIdeal : Cert.GatherIdeal.Facts) (hGatherReferenceIdeal : Cert.GatherReferenceIdeal.Facts) (hKernelIdeal : Cert.KernelIdeal.Facts) (hReferenceIdeal : Cert.ReferenceIdeal.Facts) (hPre_in_batch : Cert.Pre_in_batch.Facts) (hPre_finite : Cert.Pre_finite.Facts),
    quiescent_Gather (hGather := hGather) (hPre_in_batch := hPre_in_batch)
    ∧ quiescent_GatherIdeal (hGatherIdeal := hGatherIdeal) (hPre_in_batch := hPre_in_batch)
    ∧ quiescent_GatherReferenceIdeal (hGatherReferenceIdeal := hGatherReferenceIdeal)
    ∧ quiescent_GatherReferenceIdeal_pre_in_batch (hGatherReferenceIdeal := hGatherReferenceIdeal) (hPre_in_batch := hPre_in_batch)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Gather_GatherIdeal
    ∧ algebraic_GatherIdeal_GatherReferenceIdeal (hGatherIdeal := hGatherIdeal) (hGatherReferenceIdeal := hGatherReferenceIdeal) (hPre_in_batch := hPre_in_batch)
    ∧ algebraic_KernelIdeal_ReferenceIdeal_pre_finite (hKernelIdeal := hKernelIdeal) (hReferenceIdeal := hReferenceIdeal) (hPre_finite := hPre_finite)
-- ==== Pre_finite.lean ====
abbrev S8x8192x3 : Shape := ⟨3, ![8, 8192, 3]⟩
abbrev S8x8192x64 : Shape := ⟨3, ![8, 8192, 64]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S256x64 .f32) (main_arg11 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S32 .f32) (main_arg6 : FVec F S64x32 .f32) (main_arg7 : FVec F S64 .f32) (main_arg8 : FVec F S64 .f32) (main_arg9 : FVec F S64 .f32) (main_arg10 : FVec F S256x64 .f32) (main_arg11 : FVec F S256 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8x8192x3 .f32) (main_arg1 : FVec F S8x8192x64 .f32) (main_arg2 : FVec F S32x3 .f32) (main_arg3 : FVec F S32 .f32) (main_arg4 : FVec F S32 .f32) (main_arg5 : FVec F S32 .f32) (main_arg6 : FVec F S64x32 .f32) (main_arg7 : FVec F S64 .f32) (main_arg8 : FVec F S64 .f32) (main_arg9 : FVec F S64 .f32) (main_arg10 : FVec F S256x64 .f32) (main_arg11 : FVec F S256 .f32) (main_arg12 : FVec F S256 .f32) (main_arg13 : FVec F S256 .f32) (main_arg14 : FVec F S512x256 .f32) (main_arg15 : FVec F S512 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S32x3 .f32 := Host.absf main_arg2
  let main_cst_0 : FVec F S_ .f32 := constant S_ .f32 0x7F800000#32
  let main_v5 : FVec F S32x3 .f32 := broadcastInDim S32x3 ![] bcast_S_S32x3 main_cst_0
  let main_v6 : IVec S32x3 1 := cmpf .olt main_v4 main_v5
  let main_c_1 : IVec S_ 1 := constantI S_ 1 1#1
  let main_v7 : IVec S_ 1 := (fun x v => Host.reduce IntOp.andi x v reducesTo_S32x3_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_v13 main_v16
-- ==== Pre_in_batch.lean ====
abbrev S8x8192x3 : Shape := ⟨3, ![8, 8192, 3]⟩
abbrev S8x8192x64 : Shape := ⟨3, ![8, 8192, 64]⟩
abbrev S4096x64 : Shape := ⟨2, ![4096, 64]⟩
abbrev S_ : Shape := ⟨0, ![]⟩

class Facts : Prop where
  bcast_S_S4096x64 : S_.BroadcastsInDim S4096x64 (![] : Fin 0 → Fin S4096x64.rank)

variable [Facts]

def fn_where {F : FTy → Type} [FloatOps F] (arg0 : IVec S4096x64 1) (arg1 : IVec S4096x64 32) (arg2 : IVec S4096x64 32) : IVec S4096x64 32 :=
  let v0 : IVec S4096x64 32 := select arg0 arg1 arg2
  v0

def fn_floor_divide {F : FTy → Type} [FloatOps F] (arg0 : IVec S4096x64 32) (arg1 : IVec S_ 32) : IVec S4096x64 32 :=
  let v0 : IVec S_ 32 := id arg1
  let v1 : IVec S4096x64 32 := broadcastInDim S4096x64 ![] bcast_S_S4096x64 v0
  let v2 : IVec S4096x64 32 := Host.divsi arg0 v1
  let v3 : IVec S4096x64 32 := signi arg0
  let v4 : IVec S_ 32 := signi v0
  let v5 : IVec S4096x64 32 := broadcastInDim S4096x64 ![] bcast_S_S4096x64 v4
  let v6 : IVec S4096x64 1 := cmpi .ne v3 v5
  let v7 : IVec S4096x64 32 := broadcastInDim S4096x64 ![] bcast_S_S4096x64 v0
  let v8 : IVec S4096x64 32 := Host.remsi arg0 v7
  let c : IVec S_ 32 := constantI S_ 32 0#32
  let v9 : IVec S4096x64 32 := broadcastInDim S4096x64 ![] bcast_S_S4096x64 c
  let v10 : IVec S4096x64 1 := cmpi .ne v8 v9
  let v11 : IVec S4096x64 1 := andi v6 v10
  let c_0 : IVec S_ 32 := constantI S_ 32 1#32
  let v12 : IVec S4096x64 32 := broadcastInDim S4096x64 ![] bcast_S_S4096x64 c_0
  let v13 : IVec S4096x64 32 := subi v2 v12
  let v14 : IVec S4096x64 32 := fn_where (F := F) v11 v13 v2
  v14

def fn {F : FTy → Type} [FloatOps F] (main_arg0 : FVec F S8x8192x3 .f32) (main_arg1 : FVec F S8x8192x64 .f32) (main_arg2 : IVec S4096x64 32) : IVec S4096x64 1 :=
  let main_v0 : IVec S4096x64 32 := iotaInDim S4096x64 32 0
  let main_c : IVec S_ 32 := constantI S_ 32 512#32
  let main_v1 : IVec S4096x64 32 := fn_floor_divide (F := F) main_v0 main_c
  let main_c_0 : IVec S_ 32 := constantI S_ 32 8192#32
  let main_v2 : IVec S4096x64 32 := broadcastInDim S4096x64 ![] bcast_S_S4096x64 main_c_0
  let main_v3 : IVec S4096x64 32 := muli main_v2 main_v1
  let main_v4 : IVec S4096x64 1 := cmpi .sle main_v3 main_arg2
  let main_c_1 : IVec S_ 32 := constantI S_ 32 8192#32
  let main_v5 : IVec S4096x64 32 := broadcastInDim S4096x64 ![] bcast_S_S4096x64 main_c_1
  let main_v6 : IVec S4096x64 32 := addi main_v3 main_v5
  let main_v7 : IVec S4096x64 1 := cmpi .slt main_arg2 main_v6
  let main_v8 : IVec S4096x64 1 := andi main_v4 main_v7
  main_v8
-- ==== Gather.lean ====
abbrev S8x8192x3 : Shape := ⟨3, ![8, 8192, 3]⟩
abbrev S8x8192x64 : Shape := ⟨3, ![8, 8192, 64]⟩
abbrev S4096x64 : Shape := ⟨2, ![4096, 64]⟩
abbrev S65536x64 : Shape := ⟨2, ![65536, 64]⟩
abbrev S65536x3 : Shape := ⟨2, ![65536, 3]⟩
abbrev S65536x67 : Shape := ⟨2, ![65536, 67]⟩
abbrev S_ : Shape := ⟨0, ![]⟩
abbrev S65536x128 : Shape := ⟨2, ![65536, 128]⟩
abbrev S262144 : Shape := ⟨1, ![262144]⟩
abbrev S262144x128 : Shape := ⟨2, ![262144, 128]⟩
abbrev S512 : Shape := ⟨1, ![512]⟩
abbrev S512x128 : Shape := ⟨2, ![512, 128]⟩
abbrev S262144x64 : Shape := ⟨2, ![262144, 64]⟩
abbrev S8x512x64x64 : Shape := ⟨4, ![8, 512, 64, 64]⟩
abbrev S262144x3 : Shape := ⟨2, ![262144, 3]⟩
abbrev S8x512x64x3 : Shape := ⟨4, ![8, 512, 64, 3]⟩
abbrev S8x512x32x3 : Shape := ⟨4, ![8, 512, 32, 3]⟩
abbrev S8x512x32x64 : Shape := ⟨4, ![8, 512, 32, 64]⟩
abbrev S8x512x1x3 : Shape := ⟨4, ![8, 512, 1, 3]⟩
abbrev S8x512x3 : Shape := ⟨3, ![8, 512, 3]⟩
abbrev S8x512x1x64 : Shape := ⟨4, ![8, 512, 1, 64]⟩
abbrev S8x512x64 : Shape := ⟨3, ![8, 512, 64]⟩

abbrev nBuf : Table → Nat
  | .hbm => 21
  | .local .scVector .vmem => 2
  | _ => 0

abbrev bufTy : (tb : Table) → Fin (nBuf tb) → BufTy
  | .hbm, ⟨0, _⟩ => ⟨S8x8192x3, .f32⟩
  | .hbm, ⟨1, _⟩ => ⟨S8x8192x64, .f32⟩
  | .hbm, ⟨2, _⟩ => ⟨S4096x64, .i32⟩
  | .hbm, ⟨3, _⟩ => ⟨S65536x64, .f32⟩
  | .hbm, ⟨4, _⟩ => ⟨S65536x3, .f32⟩
  | .hbm, ⟨5, _⟩ => ⟨S65536x67, .f32⟩
  | .hbm, ⟨6, _⟩ => ⟨S_, .i32⟩
  | .hbm, ⟨7, _⟩ => ⟨S_, .f32⟩
  | .hbm, ⟨8, _⟩ => ⟨S65536x128, .f32⟩
  | .hbm, ⟨9, _⟩ => ⟨S262144, .i32⟩
  | .hbm, ⟨10, _⟩ => ⟨S262144x128, .f32⟩
  | .hbm, ⟨11, _⟩ => ⟨S262144x64, .f32⟩
  | .hbm, ⟨12, _⟩ => ⟨S8x512x64x64, .f32⟩
  | .hbm, ⟨13, _⟩ => ⟨S262144x3, .f32⟩
  | .hbm, ⟨14, _⟩ => ⟨S8x512x64x3, .f32⟩
  | .hbm, ⟨15, _⟩ => ⟨S8x512x32x3, .f32⟩
  | .hbm, ⟨16, _⟩ => ⟨S8x512x32x64, .f32⟩
  | .hbm, ⟨17, _⟩ => ⟨S8x512x1x3, .f32⟩
  | .hbm, ⟨18, _⟩ => ⟨S8x512x3, .f32⟩
  | .hbm, ⟨19, _⟩ => ⟨S8x512x1x64, .f32⟩
  | .hbm, ⟨20, _⟩ => ⟨S8x512x64, .f32⟩
  | .local .scVector .vmem, ⟨0, _⟩ => ⟨S512, .i32⟩
  | .local .scVector .vmem, ⟨1, _⟩ => ⟨S512x128, .f32⟩
  | _, _ => ⟨S8x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v3_scv : Ref sig .scVector := ⟨.hbm, 8, rfl⟩
abbrev main_v4_scv : Ref sig .scVector := ⟨.hbm, 9, rfl⟩
abbrev main_v5_scv : Ref sig .scVector := ⟨.hbm, 10, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S8x8192x3 : Shape := ⟨3, ![8, 8192, 3]⟩
abbrev S8x8192x64 : Shape := ⟨3, ![8, 8192, 64]⟩
abbrev S4096x64 : Shape := ⟨2, ![4096, 64]⟩
abbrev S8x512x64 : Shape := ⟨3, ![8, 512, 64]⟩
abbrev S_ : Shape := ⟨0, ![]⟩
abbrev S8x512x64x1 : Shape := ⟨4, ![8, 512, 64, 1]⟩
abbrev S8x512x64x3 : Shape := ⟨4, ![8, 512, 64, 3]⟩
abbrev S8x512x64x64 : Shape := ⟨4, ![8, 512, 64, 64]⟩
abbrev S8x512x32x3 : Shape := ⟨4, ![8, 512, 32, 3]⟩
abbrev S8x512x32x64 : Shape := ⟨4, ![8, 512, 32, 64]⟩
abbrev S8x512x1x3 : Shape := ⟨4, ![8, 512, 1, 3]⟩
abbrev S8x512x3 : Shape := ⟨3, ![8, 512, 3]⟩
abbrev S8x512x1x64 : Shape := ⟨4, ![8, 512, 1, 64]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x8192x64, .f32⟩
  | .hbm, ⟨2, _⟩ => ⟨S4096x64, .i32⟩
  | .hbm, ⟨3, _⟩ => ⟨S8x512x64, .i32⟩
  | .hbm, ⟨4, _⟩ => ⟨S8x512x64, .i32⟩
  | .hbm, ⟨5, _⟩ => ⟨S_, .i32⟩
  | .hbm, ⟨6, _⟩ => ⟨S8x512x64, .i32⟩
  | .hbm, ⟨7, _⟩ => ⟨S8x512x64, .i32⟩
  | .hbm, ⟨8, _⟩ => ⟨S8x512x64, .i32⟩
  | .hbm, ⟨9, _⟩ => ⟨S_, .i32⟩
  | .hbm, ⟨10, _⟩ => ⟨S8x512x64, .i32⟩
  | .hbm, ⟨11, _⟩ => ⟨S8x512x64, .i1⟩
  | .hbm, ⟨12, _⟩ => ⟨S_, .i32⟩
  | .hbm, ⟨13, _⟩ => ⟨S8x512x64, .i32⟩
  | .hbm, ⟨14, _⟩ => ⟨S8x512x64, .i32⟩
  | .hbm, ⟨15, _⟩ => ⟨S8x512x64, .i32⟩
  | .hbm, ⟨16, _⟩ => ⟨S8x512x64x1, .i32⟩
  | .hbm, ⟨17, _⟩ => ⟨S8x512x64x3, .f32⟩
  | .hbm, ⟨18, _⟩ => ⟨S_, .i32⟩
  | .hbm, ⟨19, _⟩ => ⟨S8x512x64, .i32⟩
  | .hbm, ⟨20, _⟩ => ⟨S8x512x64, .i1⟩
  | .hbm, ⟨21, _⟩ => ⟨S_, .i32⟩
  | .hbm, ⟨22, _⟩ => ⟨S8x512x64, .i32⟩
  | .hbm, ⟨23, _⟩ => ⟨S8x512x64, .i32⟩
  | .hbm, ⟨24, _⟩ => ⟨S8x512x64, .i32⟩
  | .hbm, ⟨25, _⟩ => ⟨S8x512x64x1, .i32⟩
  | .hbm, ⟨26, _⟩ => ⟨S8x512x64x64, .f32⟩
  | .hbm, ⟨27, _⟩ => ⟨S8x512x32x3, .f32⟩
  | .hbm, ⟨28, _⟩ => ⟨S8x512x32x64, .f32⟩
  | .hbm, ⟨29, _⟩ => ⟨S8x512x1x3, .f32⟩
  | .hbm, ⟨30, _⟩ => ⟨S8x512x3, .f32⟩
  | .hbm, ⟨31, _⟩ => ⟨S8x512x1x64, .f32⟩
  | .hbm, ⟨32, _⟩ => ⟨S8x512x64, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KernelIdeal.lean ====
abbrev S8x8192x3 : Shape := ⟨3, ![8, 8192, 3]⟩
abbrev S8x8192x64 : Shape := ⟨3, ![8, 8192, 64]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S65536x3 : Shape := ⟨2, ![65536, 3]⟩
abbrev S3x65536 : Shape := ⟨2, ![3, 65536]⟩
abbrev S_ : Shape := ⟨0, ![]⟩
abbrev S8x65536 : Shape := ⟨2, ![8, 65536]⟩
abbrev S32x8 : Shape := ⟨2, ![32, 8]⟩
abbrev S32x1 : Shape := ⟨2, ![32, 1]⟩
abbrev S64x1 : Shape := ⟨2, ![64, 1]⟩
abbrev S256x1 : Shape := ⟨2, ![256, 1]⟩
abbrev S512x1 : Shape := ⟨2, ![512, 1]⟩
abbrev S8x2048 : Shape := ⟨2, ![8, 2048]⟩
abbrev S32x2048 : Shape := ⟨2, ![32, 2048]⟩
abbrev S64x2048 : Shape := ⟨2, ![64, 2048]⟩
abbrev S256x2048 : Shape := ⟨2, ![256, 2048]⟩
abbrev S8x512x8192 : Shape := ⟨3, ![8, 512, 8192]⟩
abbrev S8x1024 : Shape := ⟨2, ![8, 1024]⟩
abbrev S1x512x1024 : Shape := ⟨3, ![1, 512, 1024]⟩
abbrev S32x1024 : Shape := ⟨2, ![32, 1024]⟩
abbrev S64x1024 : Shape := ⟨2, ![64, 1024]⟩
abbrev S256x1024 : Shape := ⟨2, ![256, 1024]⟩
abbrev S512x1024 : Shape := ⟨2, ![512, 1024]⟩
abbrev S4096x8192 : Shape := ⟨2, ![4096, 8192]⟩
abbrev S4096x64 : Shape := ⟨2, ![4096, 64]⟩
abbrev S8x8192 : Shape := ⟨2, ![8, 8192]⟩
abbrev S8x64 : Shape := ⟨2, ![8, 64]⟩
abbrev S8 : Shape := ⟨1, ![8]⟩
abbrev S8x1 : Shape := ⟨2, ![8, 1]⟩
abbrev S65536x64 : Shape := ⟨2, ![65536, 64]⟩
abbrev S65536x67 : Shape := ⟨2, ![65536, 67]⟩
abbrev S65536x128 : Shape := ⟨2, ![65536, 128]⟩
abbrev S262144 : Shape := ⟨1, ![262144]⟩
abbrev S262144x128 : Shape := ⟨2, ![262144, 128]⟩
abbrev S512x128 : Shape := ⟨2, ![512, 128]⟩
abbrev S262144x64 : Shape := ⟨2, ![262144, 64]⟩
abbrev S8x512x64x64 : Shape := ⟨4, ![8, 512, 64, 64]⟩
abbrev S262144x3 : Shape := ⟨2, ![262144, 3]⟩
abbrev S8x512x64x3 : Shape := ⟨4, ![8, 512, 64, 3]⟩
abbrev S8x512x32x3 : Shape := ⟨4, ![8, 512, 32, 3]⟩
abbrev S8x512x32x64 : Shape := ⟨4, ![8, 512, 32, 64]⟩
abbrev S8x512x1x3 : Shape := ⟨4, ![8, 512, 1, 3]⟩
abbrev S8x512x3 : Shape := ⟨3, ![8, 512, 3]⟩
abbrev S8x512x1x64 : Shape := ⟨4, ![8, 512, 1, 64]⟩
abbrev S8x512x64 : Shape := ⟨3, ![8, 512, 64]⟩

abbrev nBuf : Table → Nat
  | .hbm => 61
  | .local .tc .vmem => 71
  | .local .scVector .vmem => 2
  | _ => 0

abbrev bufTy : (tb : Table) → Fin (nBuf tb) → BufTy
  | .hbm, ⟨0, _⟩ => ⟨S8x8192x3, .f32⟩
  | .hbm, ⟨1, _⟩ => ⟨S8x8192x64, .f32⟩
  | .hbm, ⟨2, _⟩ => ⟨S32x3, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S64x32, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S256x64, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S512x256, .f32⟩
  | .hbm, ⟨15, _⟩ => ⟨S512, .f32⟩
  | .hbm, ⟨16, _⟩ => ⟨S65536x3, .f32⟩
  | .hbm, ⟨17, _⟩ => ⟨S3x65536, .f32⟩
  | .hbm, ⟨18, _⟩ => ⟨S_, .i32⟩
  | .hbm, ⟨19, _⟩ => ⟨S_, .f32⟩
  | .hbm, ⟨20, _⟩ => ⟨S8x65536, .f32⟩
  | .hbm, ⟨21, _⟩ => ⟨S_, .i32⟩
  | .hbm, ⟨22, _⟩ => ⟨S_, .f32⟩
  | .hbm, ⟨23, _⟩ => ⟨S32x8, .f32⟩
  | .hbm, ⟨24, _⟩ => ⟨S32x1, .f32⟩
  | .hbm, ⟨25, _⟩ => ⟨S32x1, .f32⟩
  | .hbm, ⟨26, _⟩ => ⟨S32x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S512x1, .f32⟩
  | .hbm, ⟨34, _⟩ => ⟨S32x1, .f32⟩
  | .hbm, ⟨35, _⟩ => ⟨S32x1, .f32⟩
  | .hbm, ⟨36, _⟩ => ⟨S64x1, .f32⟩
  | .hbm, ⟨37, _⟩ => ⟨S64x1, .f32⟩
  | .hbm, ⟨38, _⟩ => ⟨S256x1, .f32⟩
  | .hbm, ⟨39, _⟩ => ⟨S256x1, .f32⟩
  | .hbm, ⟨40, _⟩ => ⟨S8x512x8192, .f32⟩
  | .hbm, ⟨41, _⟩ => ⟨S4096x8192, .f32⟩
  | .hbm, ⟨42, _⟩ => ⟨S4096x64, .i32⟩
  | .hbm, ⟨43, _⟩ => ⟨S65536x64, .f32⟩
  | .hbm, ⟨44, _⟩ => ⟨S65536x3, .f32⟩
  | .hbm, ⟨45, _⟩ => ⟨S65536x67, .f32⟩
  | .hbm, ⟨46, _⟩ => ⟨S_, .i32⟩
  | .hbm, ⟨47, _⟩ => ⟨S_, .f32⟩
  | .hbm, ⟨48, _⟩ => ⟨S65536x128, .f32⟩
  | .hbm, ⟨49, _⟩ => ⟨S262144, .i32⟩
  | .hbm, ⟨50, _⟩ => ⟨S262144x128, .f32⟩
  | .hbm, ⟨51, _⟩ => ⟨S262144x64, .f32⟩
  | .hbm, ⟨52, _⟩ => ⟨S8x512x64x64, .f32⟩
  | .hbm, ⟨53, _⟩ => ⟨S262144x3, .f32⟩
  | .hbm, ⟨54, _⟩ => ⟨S8x512x64x3, .f32⟩
  | .hbm, ⟨55, _⟩ => ⟨S8x512x32x3, .f32⟩
  | .hbm, ⟨56, _⟩ => ⟨S8x512x32x64, .f32⟩
  | .hbm, ⟨57, _⟩ => ⟨S8x512x1x3, .f32⟩
  | .hbm, ⟨58, _⟩ => ⟨S8x512x3, .f32⟩
  | .hbm, ⟨59, _⟩ => ⟨S8x512x1x64, .f32⟩
  | .hbm, ⟨60, _⟩ => ⟨S8x512x64, .f32⟩
  | .local .tc .vmem, ⟨0, _⟩ => ⟨S8x2048, .f32⟩
  | .local .tc .vmem, ⟨1, _⟩ => ⟨S8x2048, .f32⟩
  | .local .tc .vmem, ⟨2, _⟩ => ⟨S32x8, .f32⟩
  | .local .tc .vmem, ⟨3, _⟩ => ⟨S32x1, .f32⟩
  | .local .tc .vmem, ⟨4, _⟩ => ⟨S32x1, .f32⟩
  | .local .tc .vmem, ⟨5, _⟩ => ⟨S32x1, .f32⟩
  | .local .tc .vmem, ⟨6, _⟩ => ⟨S32x1, .f32⟩
  | .local .tc .vmem, ⟨7, _⟩ => ⟨S32x1, .f32⟩
  | .local .tc .vmem, ⟨8, _⟩ => ⟨S8x2048, .f32⟩
  | .local .tc .vmem, ⟨9, _⟩ => ⟨S8x2048, .f32⟩
  | .local .tc .vmem, ⟨10, _⟩ => ⟨S32x8, .f32⟩
  | .local .tc .vmem, ⟨11, _⟩ => ⟨S32x1, .f32⟩
  | .local .tc .vmem, ⟨12, _⟩ => ⟨S32x1, .f32⟩
  | .local .tc .vmem, ⟨13, _⟩ => ⟨S32x1, .f32⟩
  | .local .tc .vmem, ⟨14, _⟩ => ⟨S32x1, .f32⟩
  | .local .tc .vmem, ⟨15, _⟩ => ⟨S32x1, .f32⟩
  | .local .tc .vmem, ⟨16, _⟩ => ⟨S64x32, .f32⟩
  | .local .tc .vmem, ⟨17, _⟩ => ⟨S64x1, .f32⟩
  | .local .tc .vmem, ⟨18, _⟩ => ⟨S64x1, .f32⟩
  | .local .tc .vmem, ⟨19, _⟩ => ⟨S64x1, .f32⟩
  | .local .tc .vmem, ⟨20, _⟩ => ⟨S64x1, .f32⟩
  | .local .tc .vmem, ⟨21, _⟩ => ⟨S64x1, .f32⟩
  | .local .tc .vmem, ⟨22, _⟩ => ⟨S8x2048, .f32⟩
  | .local .tc .vmem, ⟨23, _⟩ => ⟨S8x2048, .f32⟩
  | .local .tc .vmem, ⟨24, _⟩ => ⟨S32x8, .f32⟩
  | .local .tc .vmem, ⟨25, _⟩ => ⟨S32x1, .f32⟩
  | .local .tc .vmem, ⟨26, _⟩ => ⟨S32x1, .f32⟩
  | .local .tc .vmem, ⟨27, _⟩ => ⟨S32x1, .f32⟩
  | .local .tc .vmem, ⟨28, _⟩ => ⟨S32x1, .f32⟩
  | .local .tc .vmem, ⟨29, _⟩ => ⟨S32x1, .f32⟩
  | .local .tc .vmem, ⟨30, _⟩ => ⟨S64x32, .f32⟩
  | .local .tc .vmem, ⟨31, _⟩ => ⟨S64x1, .f32⟩
  | .local .tc .vmem, ⟨32, _⟩ => ⟨S64x1, .f32⟩
  | .local .tc .vmem, ⟨33, _⟩ => ⟨S64x1, .f32⟩
  | .local .tc .vmem, ⟨34, _⟩ => ⟨S64x1, .f32⟩
  | .local .tc .vmem, ⟨35, _⟩ => ⟨S64x1, .f32⟩
  | .local .tc .vmem, ⟨36, _⟩ => ⟨S256x64, .f32⟩
  | .local .tc .vmem, ⟨37, _⟩ => ⟨S256x1, .f32⟩
  | .local .tc .vmem, ⟨38, _⟩ => ⟨S256x1, .f32⟩
  | .local .tc .vmem, ⟨39, _⟩ => ⟨S256x1, .f32⟩
  | .local .tc .vmem, ⟨40, _⟩ => ⟨S256x1, .f32⟩
  | .local .tc .vmem, ⟨41, _⟩ => ⟨S256x1, .f32⟩
  | .local .tc .vmem, ⟨42, _⟩ => ⟨S8x1024, .f32⟩
  | .local .tc .vmem, ⟨43, _⟩ => ⟨S8x1024, .f32⟩
  | .local .tc .vmem, ⟨44, _⟩ => ⟨S32x8, .f32⟩
  | .local .tc .vmem, ⟨45, _⟩ => ⟨S32x1, .f32⟩
  | .local .tc .vmem, ⟨46, _⟩ => ⟨S32x1, .f32⟩
  | .local .tc .vmem, ⟨47, _⟩ => ⟨S32x1, .f32⟩
  | .local .tc .vmem, ⟨48, _⟩ => ⟨S32x1, .f32⟩
  | .local .tc .vmem, ⟨49, _⟩ => ⟨S32x1, .f32⟩
  | .local .tc .vmem, ⟨50, _⟩ => ⟨S64x32, .f32⟩
  | .local .tc .vmem, ⟨51, _⟩ => ⟨S64x1, .f32⟩
  | .local .tc .vmem, ⟨52, _⟩ => ⟨S64x1, .f32⟩
  | .local .tc .vmem, ⟨53, _⟩ => ⟨S64x1, .f32⟩
  | .local .tc .vmem, ⟨54, _⟩ => ⟨S64x1, .f32⟩
  | .local .tc .vmem, ⟨55, _⟩ => ⟨S64x1, .f32⟩
  | .local .tc .vmem, ⟨56, _⟩ => ⟨S256x64, .f32⟩
  | .local .tc .vmem, ⟨57, _⟩ => ⟨S256x1, .f32⟩
  | .local .tc .vmem, ⟨58, _⟩ => ⟨S256x1, .f32⟩
  | .local .tc .vmem, ⟨59, _⟩ => ⟨S256x1, .f32⟩
  | .local .tc .vmem, ⟨60, _⟩ => ⟨S256x1, .f32⟩
  | .local .tc .vmem, ⟨61, _⟩ => ⟨S256x1, .f32⟩
  | .local .tc .vmem, ⟨62, _⟩ => ⟨S512x256, .f32⟩
  | .local .tc .vmem, ⟨63, _⟩ => ⟨S512x1, .f32⟩
  | .local .tc .vmem, ⟨64, _⟩ => ⟨S1x512x1024, .f32⟩
  | .local .tc .vmem, ⟨65, _⟩ => ⟨S1x512x1024, .f32⟩
  | .local .tc .vmem, ⟨66, _⟩ => ⟨S8x8192, .f32⟩
  | .local .tc .vmem, ⟨67, _⟩ => ⟨S8x8192, .f32⟩
  | .local .tc .vmem, ⟨68, _⟩ => ⟨S8x64, .i32⟩
  | .local .tc .vmem, ⟨69, _⟩ => ⟨S8x64, .i32⟩
  | .local .tc .vmem, ⟨70, _⟩ => ⟨S8x8192, .f32⟩
  | .local .scVector .vmem, ⟨0, _⟩ => ⟨S512, .i32⟩
  | .local .scVector .vmem, ⟨1, _⟩ => ⟨S512x128, .f32⟩
  | _, _ => ⟨S8x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => false
  | ⟨65, _⟩ => false
  | ⟨66, _⟩ => false
  | _ => false

abbrev sig : RefSig :=
  ofTables nBuf rfl bufTy 4 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15_0 : Ref sig .tc := ⟨.hbm, 36, rfl⟩
abbrev main_v15_1 : Ref sig .tc := ⟨.hbm, 37, rfl⟩
abbrev main_v16_0 : Ref sig .tc := ⟨.hbm, 38, rfl⟩
abbrev main_v16_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_1 : Ref sig .tc := ⟨.hbm, 46, rfl⟩
abbrev main_call2_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v23_scv : Ref sig .scVector := ⟨.hbm, 48, rfl⟩
abbrev main_v24_scv : Ref sig .scVector := ⟨.hbm, 49, rfl⟩
abbrev main_v25_scv : Ref sig .scVector := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg14_0 : Ref sig .tc := ⟨.vmem, 37, rfl⟩
abbrev cc2_stg15_0 : Ref sig .tc := ⟨.vmem, 38, rfl⟩
abbrev cc2_stg16_0 : Ref sig .tc := ⟨.vmem, 39, rfl⟩
abbrev cc2_scratch0 : Ref sig .tc := ⟨.vmem, 40, rfl⟩
abbrev cc2_scratch1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg11_0 : Ref sig .tc := ⟨.vmem, 54, rfl⟩
abbrev cc3_stg12_0 : Ref sig .tc := ⟨.vmem, 55, rfl⟩
abbrev cc3_stg13_0 : Ref sig .tc := ⟨.vmem, 56, rfl⟩
abbrev cc3_stg14_0 : Ref sig .tc := ⟨.vmem, 57, rfl⟩
abbrev cc3_stg15_0 : Ref sig .tc := ⟨.vmem, 58, rfl⟩
abbrev cc3_stg16_0 : Ref sig .tc := ⟨.vmem, 59, rfl⟩
abbrev cc3_stg17_0 : Ref sig .tc := ⟨.vmem, 60, rfl⟩
abbrev cc3_stg18_0 : Ref sig .tc := ⟨.vmem, 61, rfl⟩
abbrev cc3_stg19_0 : Ref sig .tc := ⟨.vmem, 62, rfl⟩
abbrev cc3_stg20_0 : Ref sig .tc := ⟨.vmem, 63, rfl⟩
abbrev cc3_stg21_0 : Ref sig .tc := ⟨.vmem, 64, rfl⟩
abbrev cc3_stg21_1 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg1_1 : Ref sig .tc := ⟨.vmem, 69, rfl⟩
abbrev cc4_scratch0 : Ref sig .tc := ⟨.vmem, 70, rfl⟩
abbrev cc5_scratch0 : Ref sig .scVector := ⟨.vmem, 0, rfl⟩
abbrev cc5_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem16_0 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem10_0 : DmaSem sig := 47
abbrev cc3_sem11_0 : DmaSem sig := 48
abbrev cc3_sem12_0 : DmaSem sig := 49
abbrev cc3_sem13_0 : DmaSem sig := 50
abbrev cc3_sem14_0 : DmaSem sig := 51
abbrev cc3_sem15_0 : DmaSem sig := 52
abbrev cc3_sem16_0 : DmaSem sig := 53
abbrev cc3_sem17_0 : DmaSem sig := 54
abbrev cc3_sem18_0 : DmaSem sig := 55
abbrev cc3_sem19_0 : DmaSem sig := 56
abbrev cc3_sem20_0 : DmaSem sig := 57
abbrev cc3_sem21_0 : DmaSem sig := 58
abbrev cc3_sem21_1 : DmaSem sig := 59
abbrev cc4_sem0_0 : DmaSem sig := 60
abbrev cc4_sem0_1 : DmaSem sig := 61
abbrev cc4_sem1_0 : DmaSem sig := 62
abbrev cc4_sem1_1 : DmaSem sig := 63
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v27 : BitVec 1 := Scalar.cmpi .eq arg0 c31_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v54 : BitVec 1 := Scalar.cmpi .eq arg0 c31_i32
  let v55 : BitVec 32 := Scalar.extui v54
  let c0_i32_31 : BitVec 32 := 0#32
  let v56 : BitVec 1 := Scalar.cmpi .ne v55 c0_i32_31
  v56

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v81 : BitVec 1 := Scalar.cmpi .eq arg0 c31_i32
  let v82 : BitVec 32 := Scalar.extui v81
  let c0_i32_46 : BitVec 32 := 0#32
  let v83 : BitVec 1 := Scalar.cmpi .ne v82 c0_i32_46
  v83

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S256x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S256x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage3_0 : Fin 2 → Memref sig .tc .vmem S8x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S256x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S256x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S256x1 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S256x1 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S256x1 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S256x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S512x256 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S512x1 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 2 → Memref sig .tc .vmem S1x512x1024 .f32 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev grid4 : Pipeline.Grid := ⟨1, ![512], ![false]⟩

@[reducible] def k4_t1_loop : Scf.Loop 32 :=
  let c0_i32_8 : BitVec 32 := 0#32
  let c64_i32 : BitVec 32 := 64#32
  let v26 : BitVec 32 := Scalar.addi c0_i32_8 c64_i32
  let c1_i32_9 : BitVec 32 := 1#32
  ⟨c0_i32_8, v26, c1_i32_9⟩
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x64 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨2, ![2, 16], ![false, false]⟩

@[reducible] def k5_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k5_off1 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k5_t1
  let c512_i32 : BitVec 32 := 512#32
  let v4 : BitVec 32 := Scalar.muli arg8 c512_i32
  let v5 : BitVec 32 := Scalar.addi v2 v4
  ![v5.toNat]
def k5_off2 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k5_t1
  let c512_i32 : BitVec 32 := 512#32
  let v4 : BitVec 32 := Scalar.muli arg8 c512_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8192x3 : Shape := ⟨3, ![8, 8192, 3]⟩
abbrev S8x8192x64 : Shape := ⟨3, ![8, 8192, 64]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S8x3x8192 : Shape := ⟨3, ![8, 3, 8192]⟩
abbrev S8x8192x32 : Shape := ⟨3, ![8, 8192, 32]⟩
abbrev S8x32x8192 : Shape := ⟨3, ![8, 32, 8192]⟩
abbrev S1x32x1 : Shape := ⟨3, ![1, 32, 1]⟩
abbrev S_ : Shape := ⟨0, ![]⟩
abbrev S8x64x8192 : Shape := ⟨3, ![8, 64, 8192]⟩
abbrev S1x64x1 : Shape := ⟨3, ![1, 64, 1]⟩
abbrev S8x8192x256 : Shape := ⟨3, ![8, 8192, 256]⟩
abbrev S8x256x8192 : Shape := ⟨3, ![8, 256, 8192]⟩
abbrev S1x256x1 : Shape := ⟨3, ![1, 256, 1]⟩
abbrev S8x8192x512 : Shape := ⟨3, ![8, 8192, 512]⟩
abbrev S8x512x8192 : Shape := ⟨3, ![8, 512, 8192]⟩
abbrev S1x512x1 : Shape := ⟨3, ![1, 512, 1]⟩
abbrev S8x512x64 : Shape := ⟨3, ![8, 512, 64]⟩
abbrev S8x512x64x1 : Shape := ⟨4, ![8, 512, 64, 1]⟩
abbrev S8x512x64x3 : Shape := ⟨4, ![8, 512, 64, 3]⟩
abbrev S8x512x64x64 : Shape := ⟨4, ![8, 512, 64, 64]⟩
abbrev S8x512x32x3 : Shape := ⟨4, ![8, 512, 32, 3]⟩
abbrev S8x512x32x64 : Shape := ⟨4, ![8, 512, 32, 64]⟩
abbrev S8x512x1x3 : Shape := ⟨4, ![8, 512, 1, 3]⟩
abbrev S8x512x3 : Shape := ⟨3, ![8, 512, 3]⟩
abbrev S8x512x1x64 : Shape := ⟨4, ![8, 512, 1, 64]⟩

abbrev nBuf : Space → Nat
  | .hbm => 176
  | .vmem => 0
  | .smem => 0
  | _ => 0

abbrev hbmTy0_0 (i : Nat) : BufTy := match i % 128 with
  | 0 => ⟨S8x8192x3, .f32⟩
  | 1 => ⟨S8x8192x64, .f32⟩
  | 2 => ⟨S32x3, .f32⟩
  | 3 => ⟨S32, .f32⟩
  | 4 => ⟨S32, .f32⟩
  | 5 => ⟨S32, .f32⟩
  | 6 => ⟨S64x32, .f32⟩
  | 7 => ⟨S64, .f32⟩
  | 8 => ⟨S64, .f32⟩
  | 9 => ⟨S64, .f32⟩
  | 10 => ⟨S256x64, .f32⟩
  | 11 => ⟨S256, .f32⟩
  | 12 => ⟨S256, .f32⟩
  | 13 => ⟨S256, .f32⟩
  | 14 => ⟨S512x256, .f32⟩
  | 15 => ⟨S512, .f32⟩
  | 16 => ⟨S8x3x8192, .f32⟩
  | 17 => ⟨S8x8192x32, .f32⟩
  | 18 => ⟨S8x32x8192, .f32⟩
  | 19 => ⟨S1x32x1, .f32⟩
  | 20 => ⟨S8x32x8192, .f32⟩
  | 21 => ⟨S8x32x8192, .f32⟩
  | 22 => ⟨S_, .f32⟩
  | 23 => ⟨S32, .f32⟩
  | 24 => ⟨S1x32x1, .f32⟩
  | 25 => ⟨S_, .f32⟩
  | 26 => ⟨S1x32x1, .f32⟩
  | 27 => ⟨S1x32x1, .f32⟩
  | 28 => ⟨S8x32x8192, .f32⟩
  | 29 => ⟨S8x32x8192, .f32⟩
  | 30 => ⟨S8x32x8192, .f32⟩
  | 31 => ⟨S8x32x8192, .f32⟩
  | 32 => ⟨S8x32x8192, .f32⟩
  | 33 => ⟨S_, .f32⟩
  | 34 => ⟨S32, .f32⟩
  | 35 => ⟨S1x32x1, .f32⟩
  | 36 => ⟨S_, .f32⟩
  | 37 => ⟨S1x32x1, .f32⟩
  | 38 => ⟨S1x32x1, .f32⟩
  | 39 => ⟨S8x32x8192, .f32⟩
  | 40 => ⟨S8x32x8192, .f32⟩
  | 41 => ⟨S_, .f32⟩
  | 42 => ⟨S1x32x1, .f32⟩
  | 43 => ⟨S1x32x1, .f32⟩
  | 44 => ⟨S1x32x1, .f32⟩
  | 45 => ⟨S8x32x8192, .f32⟩
  | 46 => ⟨S8x32x8192, .f32⟩
  | 47 => ⟨S1x32x1, .f32⟩
  | 48 => ⟨S8x32x8192, .f32⟩
  | 49 => ⟨S8x32x8192, .f32⟩
  | 50 => ⟨S1x32x1, .f32⟩
  | 51 => ⟨S8x32x8192, .f32⟩
  | 52 => ⟨S8x32x8192, .f32⟩
  | 53 => ⟨S_, .f32⟩
  | 54 => ⟨S8x32x8192, .f32⟩
  | 55 => ⟨S8x32x8192, .f32⟩
  | 56 => ⟨S8x8192x64, .f32⟩
  | 57 => ⟨S8x64x8192, .f32⟩
  | 58 => ⟨S1x64x1, .f32⟩
  | 59 => ⟨S8x64x8192, .f32⟩
  | 60 => ⟨S8x64x8192, .f32⟩
  | 61 => ⟨S_, .f32⟩
  | 62 => ⟨S64, .f32⟩
  | 63 => ⟨S1x64x1, .f32⟩
  | 64 => ⟨S_, .f32⟩
  | 65 => ⟨S1x64x1, .f32⟩
  | 66 => ⟨S1x64x1, .f32⟩
  | 67 => ⟨S8x64x8192, .f32⟩
  | 68 => ⟨S8x64x8192, .f32⟩
  | 69 => ⟨S8x64x8192, .f32⟩
  | 70 => ⟨S8x64x8192, .f32⟩
  | 71 => ⟨S8x64x8192, .f32⟩
  | 72 => ⟨S_, .f32⟩
  | 73 => ⟨S64, .f32⟩
  | 74 => ⟨S1x64x1, .f32⟩
  | 75 => ⟨S_, .f32⟩
  | 76 => ⟨S1x64x1, .f32⟩
  | 77 => ⟨S1x64x1, .f32⟩
  | 78 => ⟨S8x64x8192, .f32⟩
  | 79 => ⟨S8x64x8192, .f32⟩
  | 80 => ⟨S_, .f32⟩
  | 81 => ⟨S1x64x1, .f32⟩
  | 82 => ⟨S1x64x1, .f32⟩
  | 83 => ⟨S1x64x1, .f32⟩
  | 84 => ⟨S8x64x8192, .f32⟩
  | 85 => ⟨S8x64x8192, .f32⟩
  | 86 => ⟨S1x64x1, .f32⟩
  | 87 => ⟨S8x64x8192, .f32⟩
  | 88 => ⟨S8x64x8192, .f32⟩
  | 89 => ⟨S1x64x1, .f32⟩
  | 90 => ⟨S8x64x8192, .f32⟩
  | 91 => ⟨S8x64x8192, .f32⟩
  | 92 => ⟨S_, .f32⟩
  | 93 => ⟨S8x64x8192, .f32⟩
  | 94 => ⟨S8x64x8192, .f32⟩
  | 95 => ⟨S8x8192x256, .f32⟩
  | 96 => ⟨S8x256x8192, .f32⟩
  | 97 => ⟨S1x256x1, .f32⟩
  | 98 => ⟨S8x256x8192, .f32⟩
  | 99 => ⟨S8x256x8192, .f32⟩
  | 100 => ⟨S_, .f32⟩
  | 101 => ⟨S256, .f32⟩
  | 102 => ⟨S1x256x1, .f32⟩
  | 103 => ⟨S_, .f32⟩
  | 104 => ⟨S1x256x1, .f32⟩
  | 105 => ⟨S1x256x1, .f32⟩
  | 106 => ⟨S8x256x8192, .f32⟩
  | 107 => ⟨S8x256x8192, .f32⟩
  | 108 => ⟨S8x256x8192, .f32⟩
  | 109 => ⟨S8x256x8192, .f32⟩
  | 110 => ⟨S8x256x8192, .f32⟩
  | 111 => ⟨S_, .f32⟩
  | 112 => ⟨S256, .f32⟩
  | 113 => ⟨S1x256x1, .f32⟩
  | 114 => ⟨S_, .f32⟩
  | 115 => ⟨S1x256x1, .f32⟩
  | 116 => ⟨S1x256x1, .f32⟩
  | 117 => ⟨S8x256x8192, .f32⟩
  | 118 => ⟨S8x256x8192, .f32⟩
  | 119 => ⟨S_, .f32⟩
  | 120 => ⟨S1x256x1, .f32⟩
  | 121 => ⟨S1x256x1, .f32⟩
  | 122 => ⟨S1x256x1, .f32⟩
  | 123 => ⟨S8x256x8192, .f32⟩
  | 124 => ⟨S8x256x8192, .f32⟩
  | 125 => ⟨S1x256x1, .f32⟩
  | 126 => ⟨S8x256x8192, .f32⟩
  | 127 => ⟨S8x256x8192, .f32⟩
  | _ => ⟨S8x8192x3, .f32⟩

abbrev hbmTy0_1 (i : Nat) : BufTy := match i % 128 with
  | 0 => ⟨S1x256x1, .f32⟩
  | 1 => ⟨S8x256x8192, .f32⟩
  | 2 => ⟨S8x256x8192, .f32⟩
  | 3 => ⟨S_, .f32⟩
  | 4 => ⟨S8x256x8192, .f32⟩
  | 5 => ⟨S8x256x8192, .f32⟩
  | 6 => ⟨S8x8192x512, .f32⟩
  | 7 => ⟨S8x512x8192, .f32⟩
  | 8 => ⟨S1x512x1, .f32⟩
  | 9 => ⟨S8x512x8192, .f32⟩
  | 10 => ⟨S8x512x8192, .f32⟩
  | 11 => ⟨S8x512x8192, .f32⟩
  | 12 => ⟨S8x512x8192, .f32⟩
  | 13 => ⟨S_, .f32⟩
  | 14 => ⟨S8x512x8192, .f32⟩
  | 15 => ⟨S8x512x8192, .f32⟩
  | 16 => ⟨S_, .f32⟩
  | 17 => ⟨S8x512x8192, .f32⟩
  | 18 => ⟨S8x512x8192, .f32⟩
  | 19 => ⟨S8x512x8192, .f32⟩
  | 20 => ⟨S8x512x8192, .i32⟩
  | 21 => ⟨S8x512x8192, .f32⟩
  | 22 => ⟨S8x512x8192, .i32⟩
  | 23 => ⟨S8x512x64, .i32⟩
  | 24 => ⟨S_, .i32⟩
  | 25 => ⟨S8x512x64, .i32⟩
  | 26 => ⟨S8x512x64, .i1⟩
  | 27 => ⟨S_, .i32⟩
  | 28 => ⟨S8x512x64, .i32⟩
  | 29 => ⟨S8x512x64, .i32⟩
  | 30 => ⟨S8x512x64, .i32⟩
  | 31 => ⟨S8x512x64x1, .i32⟩
  | 32 => ⟨S8x512x64x3, .f32⟩
  | 33 => ⟨S_, .i32⟩
  | 34 => ⟨S8x512x64, .i32⟩
  | 35 => ⟨S8x512x64, .i1⟩
  | 36 => ⟨S_, .i32⟩
  | 37 => ⟨S8x512x64, .i32⟩
  | 38 => ⟨S8x512x64, .i32⟩
  | 39 => ⟨S8x512x64, .i32⟩
  | 40 => ⟨S8x512x64x1, .i32⟩
  | 41 => ⟨S8x512x64x64, .f32⟩
  | 42 => ⟨S8x512x32x3, .f32⟩
  | 43 => ⟨S8x512x32x64, .f32⟩
  | 44 => ⟨S8x512x1x3, .f32⟩
  | 45 => ⟨S8x512x3, .f32⟩
  | 46 => ⟨S8x512x1x64, .f32⟩
  | 47 => ⟨S8x512x64, .f32⟩
  | _ => ⟨S8x8192x3, .f32⟩

abbrev hbmTy (i : Nat) : BufTy := match i / 128 with
  | 0 => hbmTy0_0 i
  | 1 => hbmTy0_1 i
  | _ => ⟨S8x8192x3, .f32⟩

abbrev bufTy : (tb : Table) → Fin (tcTables nBuf tb) → BufTy
  | .hbm, ⟨i, _⟩ => hbmTy i
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_16 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_17 : Ref sig .tc := ⟨.hbm, 141, rfl⟩
abbrev main_v107 : Ref sig .tc := ⟨.hbm, 142, rfl⟩
abbrev main_v108 : Ref sig .tc := ⟨.hbm, 143, rfl⟩
abbrev main_cst_18 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call0_v0 : Ref sig .tc := ⟨.hbm, 148, rfl⟩
abbrev main_call0_v1_0 : Ref sig .tc := ⟨.hbm, 149, rfl⟩
abbrev main_v112 : Ref sig .tc := ⟨.hbm, 150, rfl⟩
abbrev main_v113 : Ref sig .tc := ⟨.hbm, 151, rfl⟩
abbrev main_c : Ref sig .tc := ⟨.hbm, 152, rfl⟩
abbrev main_v114 : Ref sig .tc := ⟨.hbm, 153, rfl⟩
abbrev main_v115 : Ref sig .tc := ⟨.hbm, 154, rfl⟩
abbrev main_c_19 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_20 : Ref sig .tc := ⟨.hbm, 161, rfl⟩
abbrev main_v121 : Ref sig .tc := ⟨.hbm, 162, rfl⟩
abbrev main_v122 : Ref sig .tc := ⟨.hbm, 163, rfl⟩
abbrev main_c_21 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩

abbrev nD : Nat := 1
abbrev τ : Topo := Topo.v7x

variable {F : FTy → Type} [FloatOps F]
-- ==== Proof.GatherTile.lean ====
/-
  The gather's task on one vector subcore. Task `w = 2 · subcore + core` owns the 8192 result rows from `8192 w` on and
  fills them in sixteen rounds of 512: it copies 512 row numbers into its index scratch, gathers the table's rows they
  name into its row scratch, and copies that to the result. Every task reads all of the table and all of the row
  numbers, each at a thirty-second share. The loop's invariant says which result rows already hold the table's rows; the
  task ends with its whole block there.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.GatherIdeal
public import proofs.«01_k».proof.Proof.Gen.GatherIdeal.Skeleton

@[expose] public section

noncomputable section

namespace Cert.Proof.GatherRun

open Cert.GatherIdeal Cert.GatherIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The row numbers, the table, the result. -/
abbrev iLoc (d : Dev nD) : Loc nD τ sig := (SparseCore.T d).loc main_v4
abbrev tLoc (d : Dev nD) : Loc nD τ sig := (SparseCore.T d).loc main_v3
abbrev oLoc (d : Dev nD) : Loc nD τ sig := (SparseCore.T d).loc main_v5

local notation "iV" => (Memref.whole Cert.GatherIdeal.main_v4_scv : Memref Cert.GatherIdeal.sig Kind.scVector Space.hbm Cert.GatherIdeal.S262144 EltTy.i32)
local notation "tV" => (Memref.whole Cert.GatherIdeal.main_v3_scv : Memref Cert.GatherIdeal.sig Kind.scVector Space.hbm Cert.GatherIdeal.S65536x128 EltTy.f32)
local notation "oV" => (Memref.whole Cert.GatherIdeal.main_v5_scv : Memref Cert.GatherIdeal.sig Kind.scVector Space.hbm Cert.GatherIdeal.S262144x128 EltTy.f32)
local notation "sV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

/-- The table row that row number `r` names (reduced below 65536, which a row number in range already is). -/
def rowOfWord (ix : S262144.Idx → Elt F .i32) (r : Fin 262144) : Fin 65536 :=
  ⟨(show BitVec 32 from ix (ix1 r)).toNat % 65536, Nat.mod_lt _ (by decide)⟩

/-- What the gather computes: row `r` of the result is the table's row that row number `r` names. -/
def gath (tbl : S65536x128.Idx → Elt F .f32) (ix : S262144.Idx → Elt F .i32) : S262144x128.Idx → Elt F .f32 :=
  fun j => tbl (ix2 (rowOfWord ix (j 0)) (j 1))

/-- Task `w`'s result rows. -/
def blkSet (w : Fin 32) : Finset S262144x128.Idx := Finset.univ.filter fun j => (j 0).val / 8192 = w.val

theorem blk_disjoint : ∀ i ∈ (Finset.univ : Finset (Fin 32)), ∀ j ∈ (Finset.univ : Finset (Fin 32)), i ≠ j → Disjoint (blkSet i) (blkSet j) := by
  intro i _ j _ h
  rw [Finset.disjoint_left]
  intro x hx hy
  simp only [blkSet, Finset.mem_filter, Finset.mem_univ, true_and] at hx hy
  exact h (Fin.ext (hx.symm.trans hy))
theorem blk_cover : (Finset.univ : Finset (Fin 32)).biUnion blkSet = Finset.univ := by
  ext x
  simp only [blkSet, Finset.mem_biUnion, Finset.mem_filter, Finset.mem_univ, true_and, iff_true]
  have h : (x 0).val < 262144 := (x 0).isLt
  exact ⟨⟨(x 0).val / 8192, by omega⟩, rfl⟩

/-! ## What the handshakes carry -/

variable (tbl : ∀ d : Dev nD, Buf (Elt F) (tLoc d)) (ix : ∀ d : Dev nD, Buf (Elt F) (iLoc d))

/-- Every row number names a row of the table. -/
def InRange : Prop := ∀ (d : Dev nD) (j : S262144.Idx), (show BitVec 32 from ix d j).toNat < 65536

/-- Task number of subcore `s` of core `c`. -/
def wid (c : Fin 2) (s : Fin 16) : Fin 32 := ⟨2 * s.val + c.val, by omega⟩

abbrev iShPts (d : Dev nD) (w : Fin 32) : sProp 𝕄 := iLoc d ↦{leaf 5 fullShare w} ix d
abbrev tShPts (d : Dev nD) (w : Fin 32) : sProp 𝕄 := tLoc d ↦{leaf 5 fullShare w} tbl d
abbrev oBlkPts (d : Dev nD) (w : Fin 32) (f : Buf (Elt F) (oLoc d)) : sProp 𝕄 := oLoc d ↦[blkSet w]{fullShare} f

/-- What task `w` is handed, and what it brings back. -/
abbrev taskIn (d : Dev nD) (w : Fin 32) : sProp 𝕄 := iprop(iShPts ix d w ∗ tShPts tbl d w ∗ ∃ f, oBlkPts d w f)
abbrev taskOut (d : Dev nD) (w : Fin 32) : sProp 𝕄 := iprop(iShPts ix d w ∗ tShPts tbl d w ∗ oBlkPts d w (gath (tbl d) (ix d)))

/-- The payloads: a core's is its sixteen tasks'. -/
def P : (K (F := F)).Pay (nD := nD) (Val := Elt F) (Name := ℕ) (U := UU) where
  st := fun q d c => match q with | 0 => bigSep Finset.univ fun i : Fin 16 => taskIn tbl ix d (wid (Fin.cast nCore_zero c) i)
  dn := fun q d c => match q with | 0 => bigSep Finset.univ fun i : Fin 16 => taskOut tbl ix d (wid (Fin.cast nCore_zero c) i)
  go := fun q d c i => match q with | 0 => taskIn tbl ix d (wid (Fin.cast nCore_zero c) (Fin.cast nSub_zero i))
  td := fun q d c i => match q with | 0 => taskOut tbl ix d (wid (Fin.cast nCore_zero c) (Fin.cast nSub_zero i))
  x := fun _ _ => iprop(emp)

instance P_storable : (P (F := F) tbl ix).IsStorable where
  st q d c := match q with
    | 0 => (inferInstance : BI.Storable (upEmb : UEmb _ 𝕄) (bigSep Finset.univ fun i : Fin 16 => taskIn tbl ix d (wid (Fin.cast nCore_zero c) i)))
  dn q d c := match q with
    | 0 => (inferInstance : BI.Storable (upEmb : UEmb _ 𝕄) (bigSep Finset.univ fun i : Fin 16 => taskOut tbl ix d (wid (Fin.cast nCore_zero c) i)))
  go q d c i := match q with
    | 0 => (inferInstance : BI.Storable (upEmb : UEmb _ 𝕄) (taskIn tbl ix d (wid (Fin.cast nCore_zero c) (Fin.cast nSub_zero i))))
  td q d c i := match q with
    | 0 => (inferInstance : BI.Storable (upEmb : UEmb _ 𝕄) (taskOut tbl ix d (wid (Fin.cast nCore_zero c) (Fin.cast nSub_zero i))))

theorem vecSplit : (K (F := F)).VecSplit' (P tbl ix) 0 := by
  intro d c
  show (bigSep Finset.univ fun i : Fin 16 => taskIn tbl ix d (wid (Fin.cast nCore_zero c) i)) ⊢ |={Set.univ}=> iprop(
      (bigSep Finset.univ fun i : Fin 16 => taskIn tbl ix d (wid (Fin.cast nCore_zero c) i))
      ∗ ((bigSep Finset.univ fun i : Fin 16 => taskOut tbl ix d (wid (Fin.cast nCore_zero c) i))
          -∗ (bigSep Finset.univ fun i : Fin 16 => taskOut tbl ix d (wid (Fin.cast nCore_zero c) i))))
  iintro H; imodintro
  isplitl [H]; · iexact H
  iintro H; iexact H

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

/-- Round `t`'s row numbers and result rows, and all of the table, as the task addresses them. -/
abbrev iCh (L : grid0.Coords) (t : Fin k0_t1_loop.trips) : Memref sig .scVector .hbm S512 .i32 :=
  (iV).slice (Rect.unit (s := S262144) (k0_off1 L t) S512.size (k0_off1_inb L t)) (fun _ => rfl)
abbrev oCh (L : grid0.Coords) (t : Fin k0_t1_loop.trips) : Memref sig .scVector .hbm S512x128 .f32 :=
  (oV).slice (Rect.unit (s := S262144x128) (k0_off2 L t) S512x128.size (k0_off2_inb L t)) (fun _ => rfl)
abbrev tAll : Memref sig .scVector .hbm S65536x128 .f32 :=
  (tV).slice (Rect.unit (s := S65536x128) ![0, 0] S65536x128.size inb_S65536x128_S65536x128_0_0) (fun _ => rfl)

theorem trips_le : k0_t1_loop.trips ≤ 16 := k0_t1_abs.2.1
theorem trips_eq : k0_t1_loop.trips = 16 := by decide

theorem iCh_emb (t : Fin k0_t1_loop.trips) (y : S512.Idx) :
    ((iCh L t).view.emb y 0).val = 16384 * (L 1).val + 8192 * (L 0).val + 512 * t.val + (y 0).val := by
  show (k0_off1 L t) 0 + 1 * (y 0).val = _
  rw [k0_off1_eq]; simp
theorem oCh_emb0 (t : Fin k0_t1_loop.trips) (y : S512x128.Idx) :
    ((oCh L t).view.emb y 0).val = 16384 * (L 1).val + 8192 * (L 0).val + 512 * t.val + (y 0).val := by
  show (k0_off2 L t) 0 + 1 * (y 0).val = _
  rw [k0_off2_eq]; simp
theorem oCh_emb1 (t : Fin k0_t1_loop.trips) (y : S512x128.Idx) : ((oCh L t).view.emb y 1).val = (y 1).val := by
  show (k0_off2 L t) 1 + 1 * (y 1).val = _
  rw [k0_off2_eq]; simp
theorem tAll_emb (y : S65536x128.Idx) : (tAll).view.emb y = y := by
  funext a
  apply Fin.ext
  show (![0, 0] : Fin 2 → ℕ) a + 1 * (y a).val = _
  match a with
  | 0 => simp
  | 1 => simp

/-- A round's result rows lie in the task's block. -/
theorem oCh_subset (t : Fin k0_t1_loop.trips) : (oCh L t).view.set ⊆ blkSet (wL L) := by
  intro j hj
  obtain ⟨y, -, rfl⟩ := Finset.mem_map.mp hj
  simp only [blkSet, Finset.mem_filter, Finset.mem_univ, true_and]
  have h := oCh_emb0 L t y
  have hy : (y 0).val < 512 := (y 0).isLt
  have ht : t.val < 16 := lt_of_lt_of_le t.isLt trips_le
  show ((oCh L t).view.emb y 0).val / 8192 = 2 * (L 1).val + (L 0).val
  omega

/-- A row of the block that a round's rows miss is not in the round's range. -/
theorem mem_oCh (t : Fin k0_t1_loop.trips) (j : S262144x128.Idx)
    (h1 : 16384 * (L 1).val + 8192 * (L 0).val + 512 * t.val ≤ (j 0).val)
    (h2 : (j 0).val < 16384 * (L 1).val + 8192 * (L 0).val + 512 * (t.val + 1)) : j ∈ (oCh L t).view.set := by
  have hlt : (j 0).val - (16384 * (L 1).val + 8192 * (L 0).val + 512 * t.val) < 512 := by omega
  have e : (oCh L t).view.emb (ix2 (n0 := 512) (n1 := 128) ⟨_, hlt⟩ (j 1)) = j := by
    funext a
    match a with
    | 0 => apply Fin.ext; refine (oCh_emb0 L t _).trans ?_; show _ + ((j 0).val - _) = (j 0).val; omega
    | 1 => apply Fin.ext; exact oCh_emb1 L t _
  rw [← e]; exact View.emb_mem_set _ _

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- What the loop keeps: the shares, the block with its first `512 t` rows gathered, the scratch buffers at whatever they
    hold, the three counters at zero, the waits owed. -/
def inv (O : CellTallies nD τ sig (HIx 1)) (W : Waits sig (HIx 1)) (t : Nat) (_ : PUnit) : sProp 𝕄 :=
  iprop(Transfers.MayWaits (V d (cV L) (jV L)) (none : HIx 1) O
    ∗ ((iV).view.loc (V d (cV L) (jV L)) ↦{leaf 5 fullShare (wL L)} ix d)
    ∗ ((tV).view.loc (V d (cV L) (jV L)) ↦{leaf 5 fullShare (wL L)} tbl d)
    ∗ (∃ f : Buf (Elt F) (oLoc d), ⌜∀ j : S262144x128.Idx, 8192 * (wL L).val ≤ (j 0).val → (j 0).val < 8192 * (wL L).val + 512 * t →
          f j = gath (tbl d) (ix d) j⌝ ∗ ((oV).view.loc (V d (cV L) (jV L)) ↦[blkSet (wL L)]{fullShare} f))
    ∗ (∃ f, (sV).view.loc (V d (cV L) (jV L)) ↦{fullShare} f)
    ∗ (∃ f, (rV).view.loc (V d (cV L) (jV L)) ↦{fullShare} f)
    ∗ semVal (V d (cV L) (jV L), SemLoc.dma cc0_scratch2.sem) 0
    ∗ semVal (V d (cV L) (jV L), SemLoc.dma cc0_scoped0.sem) 0
    ∗ semVal (V d (cV L) (jV L), SemLoc.dma cc0_scoped1.sem) 0
    ∗ ∃ W', ⌜∀ p ∈ W', p ∈ W ∨ p.2 = none⌝ ∗ owes (V d (cV L) (jV L)) O W')

/-- The row numbers the stream reads are in range: the index scratch holds round `t`'s. -/
theorem inb_of_range (hr : InRange ix) (t : Fin k0_t1_loop.trips) (fs : Buf (Elt F) ((V d (cV L) (jV L)).loc cc0_scratch0)) (pay : S512.Idx → Elt F .i32)
    (hpay : pay = (iCh L t).view.read (Elt F) (ix d)) :
    ∀ x, ((sV).view.read (Elt F) (View.write (Elt F) (sV).view fs pay Finset.univ) x).toNat < S65536x128.size gathers_S65536x128_S512x128.axis := by
  subst hpay; intro x
  rw [View.write_whole_univ]
  simp only [Memref.view_whole, View.read_whole]
  exact hr d _

/-- A round's gathered rows, copied to the result: they are the table's rows. -/
theorem chunk_value (hr : InRange ix) (t : Fin k0_t1_loop.trips) (fs : Buf (Elt F) ((V d (cV L) (jV L)).loc cc0_scratch0)) (pay : S512.Idx → Elt F .i32)
    (hpay : pay = (iCh L t).view.read (Elt F) (ix d))
    (hin : ∀ x, ((sV).view.read (Elt F) (View.write (Elt F) (sV).view fs pay Finset.univ) x).toNat < S65536x128.size gathers_S65536x128_S512x128.axis)
    (y : S512x128.Idx) :
    SparseCore.gatherPayload gathers_S65536x128_S512x128 ((tAll).view.read (Elt F) (tbl d))
      (SparseCore.rows ((sV).view.read (Elt F) (View.write (Elt F) (sV).view fs pay Finset.univ)) rfl hin) y
      = gath (tbl d) (ix d) ((oCh L t).view.emb y) := by
  subst hpay
  unfold SparseCore.gatherPayload gath
  show tbl d ((tAll).view.emb _) = _
  rw [tAll_emb]
  congr 1
  funext a
  match a with
  | 0 =>
    refine ((gathers_S65536x128_S512x128).idx_axis _ y).trans ?_
    apply Fin.ext
    show (show BitVec 32 from (View.write (Elt F) (sV).view fs ((iCh L t).view.read (Elt F) (ix d)) Finset.univ)
      (S512.rowMajor.symm _)).toNat = _
    rw [View.write_whole_univ]
    show (show BitVec 32 from ix d ((iCh L t).view.emb (S512.rowMajor.symm _))).toNat
      = (show BitVec 32 from ix d (ix1 ((oCh L t).view.emb y 0))).toNat % 65536
    rw [Nat.mod_eq_of_lt (hr d _)]
    refine congrArg (fun z => (show BitVec 32 from ix d z).toNat) ?_
    funext b
    match b with
    | 0 =>
      apply Fin.ext
      refine (iCh_emb L t _).trans (Eq.trans ?_ (oCh_emb0 L t y).symm)
      congr 1
      rw [← Shape.rowMajor_val_one, Equiv.apply_symm_apply]
      rfl
  | 1 =>
    apply Fin.ext
    refine ((gathers_S65536x128_S512x128).idx_of_ne _ y 1 (by decide)).trans ?_
    exact (oCh_emb1 L t y).symm

/-- The stream's credits, row by row, are the row scratch's. -/
theorem rowCredits (h : S65536x128.Gathers 0 S512x128) :
    ∑ j, ((rV).slice (S512x128.rowRect h.axis' j) (S512x128.stride_rowRect h.axis' j)).view.dmaCredit = (rV).view.dmaCredit := by
  refine (Finset.sum_const_nat (m := ((rV).slice (S512x128.rowRect 0 (show Fin 512 from 0)) (S512x128.stride_rowRect 0 (show Fin 512 from 0))).view.dmaCredit)
    (fun j _ => rfl)).trans ?_
  rw [Finset.card_univ, Fintype.card_fin]
  change 512 * _ = _
  decide

/-- A block's contents after round `t`: the gathered rows up to its end, what was there beyond. -/
def grown (t : Fin k0_t1_loop.trips) (f : Buf (Elt F) (oLoc d)) : Buf (Elt F) (oLoc d) := fun j =>
  if 8192 * (wL L).val ≤ (j 0).val ∧ (j 0).val < 8192 * (wL L).val + 512 * (t.val + 1) then gath (tbl d) (ix d) j else f j

omit [FloatOps F] in
/-- A view written whole reads back what was written. -/
theorem chunk_written {κ : Kind} {sp : Space} (v : View sig κ sp S512x128 .f32) (f : v.ty.Contents (Elt F)) (w : S512x128.Idx → Elt F .f32) (y : S512x128.Idx) :
    v.read (Elt F) (v.writes (Elt F) f [⟨Rect.whole S512x128, w⟩]) y = w y := by
  have h := View.read_writes_cons_emb v f (Rect.whole S512x128) w [] y
  rwa [Rect.emb_whole_apply] at h

set_option maxHeartbeats 4000000 in
/-- The task on vector subcore `(L 0, L 1)` of device `d`. -/
theorem tile_body (hF : (K (F := F)).Facts) (hr : InRange ix) (O : CellTallies nD τ sig (HIx 1)) (W : Waits sig (HIx 1)) (hO : ∀ g, O g none = 0) :
    iprop(levAts (K (F := F)).L (K (F := F)).lev ∗ emp
        ∗ taskIn tbl ix d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_sc_body L tV (Memref.isWhole_whole _) iV (Memref.isWhole_whole _) oV (Memref.isWhole_whole _)
            sV (Memref.isWhole_whole _) rV (Memref.isWhole_whole _) cc0_scratch2 cc0_scoped0 cc0_scoped1)
          fun _ => iprop(taskOut tbl ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_sc_body_eq_skeleton]; unfold cc0__gather_sc_body_skel
  rw [(K (F := F)).scopedBufs_V hF d (cV L) (jV L), SparseCore.Cfg.scopedSems0_V (Val := Elt F) d (cV L) (jV L), ownSems0_V, ownBufs_V]
  iintro ⟨#Hlv, -, ⟨Hi, Ht, %f0, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  sl_for (inv tbl ix d L O W) $$ [Hmw Hi Ht Ho Hs Hr HsemA HsemB HsemC HO]
  case region =>
    intro t _
    unfold inv
    iintro ⟨#Hmw, Hi, Ht, ⟨%f, %hf, Ho⟩, ⟨%fs, Hs⟩, ⟨%fr, Hr⟩, HsemA, HsemB, HsemC, %W', %hW', HO⟩
    sl_exec
    -- the indirect gather: a share of the table, the row scratch, the index scratch whole, its counter at zero
    ihave Hts := (pointsTo_split_subset (q := leaf 5 fullShare (wL L)) (f := tbl d) (S := Finset.univ) (Finset.subset_univ (tAll).view.set)).1 $$ Ht
    icases Hts with ⟨Hts, Htr⟩
    have hrs : (rV).view.set = Finset.univ := View.set_whole _
    have hss : (sV).view.set = Finset.univ := View.set_whole _
    ihave Hr'' := (Entails.of_eq (show ((rV).view.loc (V d (cV L) (jV L)) ↦{fullShare} fr : sProp 𝕄)
        = (rV).view.loc (V d (cV L) (jV L)) ↦[(rV).view.set]{fullShare} fr by rw [hrs])) $$ Hr
    ihave Hs'' := (Entails.of_eq (show ((sV).view.loc (V d (cV L) (jV L)) ↦{fullShare} View.write (Elt F) (sV).view fs (tile_body.sl.dma0 ix d L t) Finset.univ : sProp 𝕄)
        = (sV).view.loc (V d (cV L) (jV L)) ↦[(sV).view.set]{fullShare} View.write (Elt F) (sV).view fs (tile_body.sl.dma0 ix d L t) Finset.univ
        by rw [hss])) $$ Hs
    iapply (SparseCore.wp_indirectGatherLocal countersEmb 𝒱₀ (V d (cV L) (jV L)) none (hg := gathers_S65536x128_S512x128) (default : HIx 1)
        (rV).view.dmaCredit (rowCredits _) (by decide) (inb_of_range ix d L hr t fs _ rfl)) $$ [Hts Hr'' Hs'' HsemA]
    · isplitl [Hts]; · iexact Hts
      isplitl [Hr'']; · iexact Hr''
      isplitl [Hs'']; · iexact Hs''
      iexact HsemA
    iintro Hfl
    sl_exec
    -- its wait
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr', Hts, Hs'⟩, HsemA, HO⟩
    ihave Ht := (pointsTo_split_subset (q := leaf 5 fullShare (wL L)) (f := tbl d) (S := Finset.univ) (Finset.subset_univ (tAll).view.set)).2 $$ [Hts Htr]; · isplitl [Hts] <;> iassumption
    ihave Hr3 := (Entails.of_eq (show ((rV).view.loc (V d (cV L) (jV L)) ↦[(rV).view.set]{fullShare} _ : sProp 𝕄)
        = (rV).view.loc (V d (cV L) (jV L)) ↦{fullShare} _ by rw [hrs])) $$ Hr'
    ihave Hs3 := (Entails.of_eq (show ((sV).view.loc (V d (cV L) (jV L)) ↦[(sV).view.set]{fullShare} _ : sProp 𝕄)
        = (sV).view.loc (V d (cV L) (jV L)) ↦{fullShare} _ by rw [hss])) $$ Hs'
    -- the copy out, onto the round's rows of the block
    ihave Hos := (pointsTo_split_subset (q := fullShare) (f := f) (oCh_subset L t)).1 $$ Ho
    icases Hos with ⟨Hoc, Hor⟩
    ihave Hoc' := (show (oLoc d ↦[(oCh L t).view.set]{fullShare} f : sProp 𝕄)
        ⊢ (oCh L t).view.loc (V d (cV L) (jV L)) ↦[(oCh L t).view.set]{fullShare} f from BI.Entails.refl _) $$ Hoc
    sl_exec (disch := exact View.amount_pos _ _ (show 0 < S512x128.numel by decide))
    sl_step
    have hpay : ∀ y : S512x128.Idx, tile_body.sl.dma0_1 tbl ix d L hr t fs fr y = gath (tbl d) (ix d) ((oCh L t).view.emb y) := fun y => by
      unfold tile_body.sl.dma0_1
      rw [View.write_whole_univ]
      exact chunk_value tbl ix d L hr t fs _ rfl _ y
    have hw : ∀ j ∈ (oCh L t).view.set, (oCh L t).view.writes (Elt F) f [⟨Rect.whole S512x128, tile_body.sl.dma0_1 tbl ix d L hr t fs fr⟩] j
        = grown tbl ix d L t f j := fun j hj => by
      obtain ⟨y, -, rfl⟩ := Finset.mem_map.mp hj
      refine (chunk_written (oCh L t).view f _ y).trans ((hpay y).trans ?_)
      have h := oCh_emb0 L t y
      have hy : (y 0).val < 512 := (y 0).isLt
      exact (if_pos ⟨by show 8192 * (2 * (L 1).val + (L 0).val) ≤ ((oCh L t).view.emb y 0).val; omega,
        by show ((oCh L t).view.emb y 0).val < 8192 * (2 * (L 1).val + (L 0).val) + 512 * (t.val + 1); omega⟩).symm
    have hk : ∀ j ∈ blkSet (wL L) \ (oCh L t).view.set, f j = grown tbl ix d L t f j := fun j hj => by
      unfold grown
      split
      · rename_i h
        refine hf j h.1 ?_
        by_contra hc
        have h2 : (j 0).val < 8192 * (2 * (L 1).val + (L 0).val) + 512 * (t.val + 1) := h.2
        have h3 : ¬(j 0).val < 8192 * (2 * (L 1).val + (L 0).val) + 512 * t.val := hc
        exact (Finset.mem_sdiff.mp hj).2 (mem_oCh L t j (by omega) (by omega))
      · rfl
    ihave Hoc := (Entails.of_eq (show ((oCh L t).view.loc (V d (cV L) (jV L)) ↦[(oCh L t).view.set]{fullShare} _ : sProp 𝕄)
        = oLoc d ↦[(oCh L t).view.set]{fullShare} grown tbl ix d L t f from pointsTo_congr hw)) $$ Hoc'
    ihave Hor' := (Entails.of_eq (pointsTo_congr (ℓ := oLoc d) (q := fullShare) hk)) $$ Hor
    ihave Ho := (pointsTo_split_subset (q := fullShare) (f := grown tbl ix d L t f) (oCh_subset L t)).2 $$ [Hoc Hor']
    · isplitl [Hoc] <;> iassumption
    isplitr; · iexact Hmw
    isplitl [Hi]; · iexact Hi
    isplitl [Ht]; · iexact Ht
    isplitl [Ho]
    · iexists _; isplitr
      swap; · iexact Ho
      ipureintro
      exact fun j h1 h2 => if_pos ⟨h1, h2⟩
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Ht]; · iexact Ht
    isplitl [Ho]
    · iexists f0; isplitr
      · ipureintro; intro j h1 h2; omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hi, Ht, ⟨%f, %hf, Ho⟩, Hs, Hr, HsemA, HsemB, HsemC, HO⟩
  sl_step
  have hfin : ∀ j ∈ blkSet (wL L), f j = gath (tbl d) (ix d) j := fun j hj => by
    simp only [blkSet, Finset.mem_filter, Finset.mem_univ, true_and] at hj
    have h : (j 0).val < 262144 := (j 0).isLt
    have e : Scf.trips k0_t1_loop.lb k0_t1_loop.ub k0_t1_loop.st = 16 := trips_eq
    exact hf j (by omega) (by rw [e]; omega)
  ihave Ho := (Entails.of_eq (show ((oV).view.loc (V d (cV L) (jV L)) ↦[blkSet (wL L)]{fullShare} f : sProp 𝕄)
      = oLoc d ↦[blkSet (wL L)]{fullShare} gath (tbl d) (ix d) from pointsTo_congr hfin)) $$ Ho
  isplitl [Hi Ht Ho]
  · isplitl [Hi]; · iexact Hi
    isplitl [Ht]; · iexact Ht
    iexact Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sc_body (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : InRange ix) : (K (F := F)).TileObl (D (F := F)) 𝒱 (P tbl ix) v₀ 0 := by
  intro d c i O W hO _ _
  simp only [show (P tbl ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tbl ix d (coordsV ⟨_, hci.1⟩ ⟨_, hci.2⟩) hF hr O W hO).trans (wp_mono frame _ _ fun _ => obl_post)

end Tile

end Cert.Proof.GatherRun

end
-- ==== Proof.GatherMain.lean ====
/-
  The whole run of the gather's program. Before the call the host builds the table (features beside coordinates, padded
  to 128 columns) and flattens the row numbers; the call splits both among its thirty-two tasks and joins the blocks they
  bring back; after it the host slices the six results off. `run_main` says that every host buffer ends at the contents
  these three steps give it.
-/
module

public import proofs.«01_k».proof.Proof.GatherTile
public import Idealize.ShloMosaic.Lib.Pipeline.Frame

@[expose] public section

noncomputable section

namespace Cert.Proof.GatherRun

open Cert.GatherIdeal Cert.GatherIdeal.Gen

open Idealize.ShloMosaic
open Idealize.ShloMosaic.ValueIdx (ix1 ix2)
open Idealize.ShloMosaic.StableHlo (after held)
open Idealize.ShloMosaic.Pipeline (ucRefs sub_ucRefs)
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The thirty-two tasks, core by core -/

/-- A task number is a core and a subcore. -/
def widEquiv : Fin 2 × Fin 16 ≃ Fin 32 where
  toFun p := wid p.1 p.2
  invFun w := (⟨w.val % 2, by omega⟩, ⟨w.val / 2, by omega⟩)
  left_inv p := by
    have h := p.1.isLt
    refine Prod.ext (Fin.ext ?_) (Fin.ext ?_) <;> simp only [wid] <;> omega
  right_inv w := Fin.ext (by simp only [wid]; omega)

theorem bigSep_tasks (Ψ : Fin 32 → sProp 𝕄) :
    (bigSep Finset.univ fun c : Fin 2 => bigSep Finset.univ fun i : Fin 16 => Ψ (wid c i)) = bigSep Finset.univ Ψ := by
  rw [bigSep_univ_equiv widEquiv Ψ, bigSep_univ_prod]
  rfl

variable (tbl : ∀ d : Dev nD, Buf (Elt F) (tLoc d)) (ix : ∀ d : Dev nD, Buf (Elt F) (iLoc d))

/-- The three arrays held whole are what the call is handed. -/
theorem st_intro (d : Dev nD) (f : Buf (Elt F) (oLoc d)) :
    iprop((iLoc d ↦{fullShare} ix d) ∗ (tLoc d ↦{fullShare} tbl d) ∗ oLoc d ↦{fullShare} f)
      ⊢ (bigSep Finset.univ fun c : Fin ((K (F := F)).nCore 0) => (P tbl ix).st 0 d c : sProp 𝕄) := by
  show _ ⊢ (bigSep Finset.univ fun c : Fin 2 => bigSep Finset.univ fun i : Fin 16 => taskIn tbl ix d (wid c i) : sProp 𝕄)
  rw [bigSep_tasks (fun w => taskIn tbl ix d w), bigSep_sep', bigSep_sep', pointsTo_leaves Finset.univ (ix d) 5 fullShare,
    pointsTo_leaves Finset.univ (tbl d) 5 fullShare, ← blk_cover, pointsTo_biUnion Finset.univ (ℓ := oLoc d) blkSet blk_disjoint]
  refine sep_mono_right (sep_mono_right (bigSep_mono fun w _ => show iprop(oBlkPts d w f) ⊢ iprop(∃ f, oBlkPts d w f) from ?_))
  iintro H; iexists f; iexact H

/-- What it brings back joins to the three arrays whole, the result at the gather's value. -/
theorem dn_elim (d : Dev nD) :
    (bigSep Finset.univ fun c : Fin ((K (F := F)).nCore 0) => (P tbl ix).dn 0 d c : sProp 𝕄)
      ⊢ iprop((iLoc d ↦{fullShare} ix d) ∗ (tLoc d ↦{fullShare} tbl d) ∗ oLoc d ↦{fullShare} gath (tbl d) (ix d)) := by
  show (bigSep Finset.univ fun c : Fin 2 => bigSep Finset.univ fun i : Fin 16 => taskOut tbl ix d (wid c i) : sProp 𝕄) ⊢ _
  rw [bigSep_tasks (fun w => taskOut tbl ix d w), bigSep_sep', bigSep_sep', pointsTo_leaves Finset.univ (ix d) 5 fullShare,
    pointsTo_leaves Finset.univ (tbl d) 5 fullShare, ← blk_cover, pointsTo_biUnion Finset.univ (ℓ := oLoc d) blkSet blk_disjoint]
  exact .rfl

/-! ## The host's two lines -/

variable [FloatOps F]

/-- Before the call: the table and the flat row numbers. -/
def ops1 : List (HloOp τ sig (Elt F)) :=
  [StableHlo.reshape main_arg1 main_v0 (rfl : (.f32 : EltTy) = .f32) shapeCasts_S8x8192x64_S65536x64,
   StableHlo.reshape main_arg0 main_v1 (rfl : (.f32 : EltTy) = .f32) shapeCasts_S8x8192x3_S65536x3,
   StableHlo.binary main_v0 main_v1 main_v2 (fun a b => concatenate S65536x67 1 [⟨S65536x64, a⟩, ⟨S65536x3, b⟩] concatenates_S65536x64_S65536x3_S65536x67_d1),
   StableHlo.nullary main_c (constantI S_ 32 0#32),
   StableHlo.unary main_c main_call0_v0 (sitofp .f32),
   StableHlo.binary main_v2 main_call0_v0 main_v3 (fun x v => pad S65536x128 ![0, 0] ![0, 61] ![0, 0] x v pads_S65536x67_S65536x128_000_0610 h_S_),
   StableHlo.reshape main_arg2 main_v4 (rfl : (.i32 : EltTy) = .i32) shapeCasts_S4096x64_S262144]

/-- After it: the six results. -/
def ops2 : List (HloOp τ sig (Elt F)) :=
  [StableHlo.unary main_v5 main_v6 (extractStridedSlice S262144x64 ![0, 0] · slices_S262144x128_S262144x64_0_0),
   StableHlo.reshape main_v6 main_v7 (rfl : (.f32 : EltTy) = .f32) shapeCasts_S262144x64_S8x512x64x64,
   StableHlo.unary main_v5 main_v8 (extractStridedSlice S262144x3 ![0, 64] · slices_S262144x128_S262144x3_0_64),
   StableHlo.reshape main_v8 main_v9 (rfl : (.f32 : EltTy) = .f32) shapeCasts_S262144x3_S8x512x64x3,
   StableHlo.unary main_v9 main_v10 (extractStridedSlice S8x512x32x3 ![0, 0, 0, 0] · slices_S8x512x64x3_S8x512x32x3_0_0_0_0),
   StableHlo.unary main_v7 main_v11 (extractStridedSlice S8x512x32x64 ![0, 0, 0, 0] · slices_S8x512x64x64_S8x512x32x64_0_0_0_0),
   StableHlo.unary main_v9 main_v12 (extractStridedSlice S8x512x1x3 ![0, 0, 0, 0] · slices_S8x512x64x3_S8x512x1x3_0_0_0_0),
   StableHlo.reshape main_v12 main_v13 (rfl : (.f32 : EltTy) = .f32) shapeCasts_S8x512x1x3_S8x512x3,
   StableHlo.unary main_v7 main_v14 (extractStridedSlice S8x512x1x64 ![0, 0, 0, 0] · slices_S8x512x64x64_S8x512x1x64_0_0_0_0),
   StableHlo.reshape main_v14 main_v15 (rfl : (.f32 : EltTy) = .f32) shapeCasts_S8x512x1x64_S8x512x64]

theorem main_eq (d : Dev nD) :
    main (F := F) d = StableHlo.seq ops1 >>= fun _ => sc.run d 0 >>= fun _ => StableHlo.seq ops2 := by
  rfl

theorem ops1_sub : ∀ op ∈ ops1 (F := F), op.bufs ⊆ ucRefs τ sig :=
  List.forall_iff_forall_mem.mp (by
    refine ⟨?_, ?_, ?_, ?_, ?_, ?_, ?_⟩ <;> exact sub_ucRefs _ (by simp))
theorem ops2_sub : ∀ op ∈ ops2 (F := F), op.bufs ⊆ ucRefs τ sig :=
  List.forall_iff_forall_mem.mp (by
    refine ⟨?_, ?_, ?_, ?_, ?_, ?_, ?_, ?_, ?_, ?_⟩ <;> exact sub_ucRefs _ (by simp))
theorem ops1_fresh : ∀ op ∈ ops1 (F := F), op.fresh = ∅ :=
  List.forall_iff_forall_mem.mp ⟨rfl, rfl, rfl, rfl, rfl, rfl, rfl⟩
theorem ops2_fresh : ∀ op ∈ ops2 (F := F), op.fresh = ∅ :=
  List.forall_iff_forall_mem.mp ⟨rfl, rfl, rfl, rfl, rfl, rfl, rfl, rfl, rfl, rfl⟩

/-! ## The contents at each point -/

variable (m : (ℓ : Loc nD τ sig) → Buf (Elt F) ℓ) (ρ : Dev nD → PrngReg)

abbrev i' : DevRef τ sig := Proc.devRef .tc (main_v4 : Ref sig .tc)
abbrev t' : DevRef τ sig := Proc.devRef .tc (main_v3 : Ref sig .tc)
abbrev o' : DevRef τ sig := Proc.devRef .tc (main_v5 : Ref sig .tc)

def W0 (d : Dev nD) : Valuation τ sig (Elt F) := fun b => m (d, b)
def W1 (d : Dev nD) : Valuation τ sig (Elt F) := after ops1 (W0 m d)
/-- The table and the row numbers the call reads. -/
def tblOf (d : Dev nD) : Buf (Elt F) (tLoc d) := W1 m d t'
def ixOf (d : Dev nD) : Buf (Elt F) (iLoc d) := W1 m d i'
def W2 (d : Dev nD) : Valuation τ sig (Elt F) := Function.update (W1 m d) o' (gath (tblOf m d) (ixOf m d))
def W3 (d : Dev nD) : Valuation τ sig (Elt F) := after ops2 (W2 m d)

/-- The call's three arrays. -/
abbrev S3 : Finset (DevRef τ sig) := {i', t', o'}

theorem S3_sub : S3 ⊆ ucRefs τ sig := by
  intro b hb
  simp only [S3, Finset.mem_insert, Finset.mem_singleton] at hb
  refine Finset.mem_filter.mpr ⟨?_, ?_⟩
  · rcases hb with rfl | rfl | rfl <;> exact StableHlo.devRef_mem_tcRefs _
  · rcases hb with rfl | rfl | rfl <;> decide

theorem held_S3 (d : Dev nD) (W : Valuation τ sig (Elt F)) :
    (held (T d) S3 W : sProp 𝕄)
      = iprop((iLoc d ↦{fullShare} W i') ∗ (tLoc d ↦{fullShare} W t') ∗ oLoc d ↦{fullShare} W o') := by
  unfold held S3
  rw [SparseCore.bigSep_insert' (by decide), SparseCore.bigSep_insert' (by decide), bigSep_singleton]

/-- The arrays outside the call are as it found them. -/
theorem held_rest (d : Dev nD) :
    (held (T d) (ucRefs τ sig \ S3) (W1 m d) : sProp 𝕄) = held (T d) (ucRefs τ sig \ S3) (W2 m d) :=
  StableHlo.held_congr (T d) fun b hb => by
    unfold W2
    refine (Function.update_of_ne ?_ _ _).symm
    rintro rfl
    exact (Finset.mem_sdiff.mp hb).2 (by simp [S3])

theorem held_after_call (d : Dev nD) :
    iprop(((iLoc d ↦{fullShare} ixOf m d) ∗ (tLoc d ↦{fullShare} tblOf m d) ∗ oLoc d ↦{fullShare} gath (tblOf m d) (ixOf m d))
        ∗ held (T d) (ucRefs τ sig \ S3) (W1 m d))
      ⊢ (held (T d) (ucRefs τ sig) (W2 m d) : sProp 𝕄) := by
  rw [held_rest, StableHlo.held_sub_split (T d) S3_sub (W2 m d), held_S3]
  rw [show W2 m d i' = ixOf m d from Function.update_of_ne (by decide) _ _,
    show W2 m d t' = tblOf m d from Function.update_of_ne (by decide) _ _,
    show W2 m d o' = gath (tblOf m d) (ixOf m d) from Function.update_self _ _ _]

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tbl ix).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tbl ix).x q thr) = bigSep Finset.univ fun _ => iprop(emp) from
    bigSep_congr fun _ _ => bigSep_univ_of_subsingleton (0 : Fin 1), bigSep_emp']
  iempintro

/-! ## @main on the TensorCore -/

/-- What @main leaves the claims: every host buffer at its final contents. -/
abbrev FIN (d : Dev nD) : sProp 𝕄 := held (T d) (ucRefs τ sig) (W3 m d)

/-- @main on device `d`'s TensorCore: the first host line, the call from the table and the row numbers, the second
    host line. -/
theorem hmain (κ : GSem nD τ sig → ℕ) (d : Dev nD) :
    iprop((K (F := F)).ctx EH (P (tblOf m) (ixOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (W0 m d) from
    Pipeline.unscopedBufs_held d (W0 m d), main_eq]
  iintro ⟨#Hctx, Hst, ⟨Hb, Hheld, Hts, -⟩, -⟩
  iapply (StableHlo.wp_seq 𝒱 none Set.univ d (ucRefs τ sig) _ ops1 ops1_sub ops1_fresh (W0 m d)) $$ [Hb Hheld]
  · isplitl [Hb] <;> iassumption
  iintro ⟨Hb, Hheld⟩
  ihave Hheld' := (show held d.tc (ucRefs τ sig) (after ops1 (W0 m d)) ⊢ (held (T d) (ucRefs τ sig) (W1 m d) : sProp 𝕄) from .rfl) $$ Hheld
  ihave Hh := (Entails.of_eq (StableHlo.held_sub_split (T d) S3_sub (W1 m d))) $$ Hheld'
  icases Hh with ⟨H3, Hrest⟩
  ihave H3' := (Entails.of_eq (held_S3 d (W1 m d))) $$ H3
  rw [wp_bind]
  iapply ((K (F := F)).wp_run (D (F := F)) 𝒱 (EH := EH) (P := P (tblOf m) (ixOf m)) κ d 0) $$ [Hst H3' Hrest Hb Hts]
  isplitr; · iexact Hctx
  isplitl [Hst]; · iexact Hst
  isplitl [H3']
  · iapply (st_intro (tblOf m) (ixOf m) d (W1 m d o')); iexact H3'
  iintro ⟨Hst, Hdn⟩
  ihave Hdn' := (dn_elim (tblOf m) (ixOf m) d) $$ Hdn
  ihave Hheld := (held_after_call m d) $$ [Hdn' Hrest]
  · isplitl [Hdn'] <;> iassumption
  rw [show StableHlo.seq (ops2 (F := F)) = (StableHlo.seq (Λ := SparseCore.Sig (ΛP (F := F)) 1) (nD := nD) ops2 >>= fun u => Pure.pure u) from (bind_pure _).symm]
  iapply (StableHlo.wp_seq 𝒱 none Set.univ d (ucRefs τ sig) (fun u => Pure.pure u) ops2 ops2_sub ops2_fresh (W2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = W3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

def QC : PUnit × MemSt nD τ sig (Elt F) → Prop :=
  fun r => (∀ (c : Dev nD), ∀ b ∈ ucRefs τ sig, r.2.mem (c, b) = W3 m c b) ∧ r.2.sem = fun _ => 0

/-- Every run ends, with every host buffer at `W3` and every counter at zero. -/
theorem run_main [∀ e, Nonempty (Elt F e)] (hr : InRange (ixOf m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (tblOf m) (ixOf m)) (A := ∅) facts v₀
    (fun q hq => match q with | 0 => nomatch hq)
    (fun q _ => match q with | 0 => tileObl (tblOf m) (ixOf m) facts hr)
    (fun q _ => match q with | 0 => SparseCore.Cfg.VecSplit.of_plain (vecSplit (tblOf m) (ixOf m)))
    m ρ main (fun _ => iprop(emp)) (FIN m) (u₀ (F := F)) (sep_elim_left.trans (hu₀ (tblOf m) (ixOf m))) (hmain m ρ) (fq m) (hfin m) (QC m) (fun _ h hz => ⟨h, hz⟩)

end Cert.Proof.GatherRun

end
-- ==== Proof.GatherValue.lean ====
/-
  The six results of the gather's program as functions of its arguments, and their equality with the reference's.
-/
module

public import proofs.«01_k».proof.Proof.GatherMain
public import proofs.«01_k».proof.Proof.Gen.GatherReferenceIdeal.Run
public import proofs.«01_k».proof.Proof.Gen.Pre_in_batch
public import Idealize.ShloMosaic.Lib.Pointwise

@[expose] public section

noncomputable section

namespace Cert.Proof.GatherRun

open Cert.GatherIdeal Cert.GatherIdeal.Gen

open Idealize.ShloMosaic
open Idealize.ShloMosaic.StableHlo (after held)
open Idealize.ShloMosaic.Pipeline (ucRefs sub_ucRefs)
open Idealize.SL.Sem

variable {F : FTy → Type} [FloatOps F]

/-! ## What the host's lines compute -/

/-- The table: features, then coordinates, then padding. -/
def tableOf (a0 : S8x8192x3.Idx → Elt F .f32) (a1 : S8x8192x64.Idx → Elt F .f32) : S65536x128.Idx → Elt F .f32 :=
  pad S65536x128 ![0, 0] ![0, 61] ![0, 0]
    (concatenate S65536x67 1 [⟨S65536x64, shapeCast S65536x64 a1 shapeCasts_S8x8192x64_S65536x64⟩,
      ⟨S65536x3, shapeCast S65536x3 a0 shapeCasts_S8x8192x3_S65536x3⟩] concatenates_S65536x64_S65536x3_S65536x67_d1)
    (sitofp (F := F) .f32 (constantI S_ 32 0#32)) pads_S65536x67_S65536x128_000_0610 h_S_

/-- The row numbers, flat. -/
def flatOf (a2 : S4096x64.Idx → Elt F .i32) : S262144.Idx → Elt F .i32 := shapeCast S262144 a2 shapeCasts_S4096x64_S262144

/-- The gathered rows' feature columns, and their coordinate columns. -/
def featOut (o : S262144x128.Idx → Elt F .f32) : S8x512x64x64.Idx → Elt F .f32 :=
  shapeCast S8x512x64x64 (extractStridedSlice S262144x64 ![0, 0] o slices_S262144x128_S262144x64_0_0) shapeCasts_S262144x64_S8x512x64x64
def coordOut (o : S262144x128.Idx → Elt F .f32) : S8x512x64x3.Idx → Elt F .f32 :=
  shapeCast S8x512x64x3 (extractStridedSlice S262144x3 ![0, 64] o slices_S262144x128_S262144x3_0_64) shapeCasts_S262144x3_S8x512x64x3

variable (m : (ℓ : Loc nD τ sig) → Buf (Elt F) ℓ)

/-- The three arguments on device `d`. -/
abbrev A0 (d : Dev nD) : S8x8192x3.Idx → Elt F .f32 := m ((d.tc : Thread nD τ).loc main_arg0)
abbrev A1 (d : Dev nD) : S8x8192x64.Idx → Elt F .f32 := m ((d.tc : Thread nD τ).loc main_arg1)
abbrev A2 (d : Dev nD) : S4096x64.Idx → Elt F .i32 := m ((d.tc : Thread nD τ).loc main_arg2)

theorem tblOf_eq (d : Dev nD) : tblOf m d = tableOf (A0 m d) (A1 m d) := by
  unfold tblOf W1 ops1
  after_results
  rfl
theorem ixOf_eq (d : Dev nD) : ixOf m d = flatOf (A2 m d) := by
  unfold ixOf W1 ops1
  after_results
  rfl

/-- The gathered array. -/
def outOf (d : Dev nD) : S262144x128.Idx → Elt F .f32 := gath (tableOf (A0 m d) (A1 m d)) (flatOf (A2 m d))

theorem W2_o (d : Dev nD) : W2 m d (Proc.devRef .tc main_v5) = outOf m d := by
  unfold W2
  rw [Function.update_self, tblOf_eq, ixOf_eq]
  rfl

theorem W3_feat (d : Dev nD) : W3 m d (Proc.devRef .tc main_v7) = featOut (outOf m d) := by
  unfold W3 ops2; after_results; rw [W2_o]; rfl
theorem W3_coord (d : Dev nD) : W3 m d (Proc.devRef .tc main_v9) = coordOut (outOf m d) := by
  unfold W3 ops2; after_results; rw [W2_o]; rfl
theorem W3_feat32 (d : Dev nD) : W3 m d (Proc.devRef .tc main_v11)
    = extractStridedSlice S8x512x32x64 ![0, 0, 0, 0] (featOut (outOf m d)) slices_S8x512x64x64_S8x512x32x64_0_0_0_0 := by
  unfold W3 ops2; after_results; rw [W2_o]; rfl
theorem W3_coord32 (d : Dev nD) : W3 m d (Proc.devRef .tc main_v10)
    = extractStridedSlice S8x512x32x3 ![0, 0, 0, 0] (coordOut (outOf m d)) slices_S8x512x64x3_S8x512x32x3_0_0_0_0 := by
  unfold W3 ops2; after_results; rw [W2_o]; rfl
theorem W3_feat1 (d : Dev nD) : W3 m d (Proc.devRef .tc main_v15)
    = shapeCast S8x512x64 (extractStridedSlice S8x512x1x64 ![0, 0, 0, 0] (featOut (outOf m d)) slices_S8x512x64x64_S8x512x1x64_0_0_0_0) shapeCasts_S8x512x1x64_S8x512x64 := by
  unfold W3 ops2; after_results; rw [W2_o]; rfl
theorem W3_coord1 (d : Dev nD) : W3 m d (Proc.devRef .tc main_v13)
    = shapeCast S8x512x3 (extractStridedSlice S8x512x1x3 ![0, 0, 0, 0] (coordOut (outOf m d)) slices_S8x512x64x3_S8x512x1x3_0_0_0_0) shapeCasts_S8x512x1x3_S8x512x3 := by
  unfold W3 ops2; after_results; rw [W2_o]; rfl

theorem W3_arg0 (d : Dev nD) : W3 m d (Proc.devRef .tc main_arg0) = m ((d.tc : Thread nD τ).loc main_arg0) := by
  unfold W3 ops2; after_results
  unfold W2; rw [Function.update_of_ne (by decide)]; unfold W1 ops1; after_results; rfl
theorem W3_arg1 (d : Dev nD) : W3 m d (Proc.devRef .tc main_arg1) = m ((d.tc : Thread nD τ).loc main_arg1) := by
  unfold W3 ops2; after_results
  unfold W2; rw [Function.update_of_ne (by decide)]; unfold W1 ops1; after_results; rfl
theorem W3_arg2 (d : Dev nD) : W3 m d (Proc.devRef .tc main_arg2) = m ((d.tc : Thread nD τ).loc main_arg2) := by
  unfold W3 ops2; after_results
  unfold W2; rw [Function.update_of_ne (by decide)]; unfold W1 ops1; after_results; rfl

/-! ## Read at an index -/

/-- Every row number of batch `b` names a row of batch `b`. -/
def InBatch (a2 : S4096x64.Idx → BitVec 32) : Prop :=
  ∀ (r : Fin 4096) (k : Fin 64), 8192 * (r.val / 512) ≤ (a2 (ix2 r k)).toNat ∧ (a2 (ix2 r k)).toNat < 8192 * (r.val / 512) + 8192

theorem table_feat (a0 : S8x8192x3.Idx → Elt F .f32) (a1 : S8x8192x64.Idx → Elt F .f32) (n : Fin 65536) (c : Fin 128) (hc : c.val < 64) :
    tableOf a0 a1 (ix2 n c) = a1 (ix3 ⟨n.val / 8192, by omega⟩ ⟨n.val % 8192, by omega⟩ ⟨c.val, hc⟩) := by
  unfold tableOf
  pointwise
  rw [dif_pos (by omega), dif_pos hc]
theorem table_coord (a0 : S8x8192x3.Idx → Elt F .f32) (a1 : S8x8192x64.Idx → Elt F .f32) (n : Fin 65536) (c : Fin 3) :
    tableOf a0 a1 (ix2 n ⟨64 + c.val, by omega⟩) = a0 (ix3 ⟨n.val / 8192, by omega⟩ ⟨n.val % 8192, by omega⟩ c) := by
  unfold tableOf
  pointwise
  rw [dif_pos (by omega)]

theorem rowOfWord_flat (a2 : S4096x64.Idx → Elt F .i32) (b : Fin 8) (s : Fin 512) (k : Fin 64) (h : b.val * 32768 + s.val * 64 + k.val < 262144) :
    rowOfWord (flatOf (F := F) a2) ⟨b.val * 32768 + s.val * 64 + k.val, h⟩
      = ⟨(show BitVec 32 from a2 (ix2 ⟨b.val * 512 + s.val, by omega⟩ k)).toNat % 65536, Nat.mod_lt _ (by decide)⟩ := by
  have e : flatOf (F := F) a2 (ix1 ⟨b.val * 32768 + s.val * 64 + k.val, h⟩) = a2 (ix2 ⟨b.val * 512 + s.val, by omega⟩ k) := by
    unfold flatOf
    pointwise
    congr 1
    congr 1 <;> apply Fin.ext <;> simp only [] <;> omega
  unfold rowOfWord
  apply Fin.ext
  exact congrArg (fun z : Elt F .i32 => (show BitVec 32 from z).toNat % 65536) e

theorem featOut_apply (tbl : S65536x128.Idx → Elt F .f32) (a2 : S4096x64.Idx → Elt F .i32) (b : Fin 8) (s : Fin 512) (k : Fin 64) (c : Fin 64) :
    featOut (gath tbl (flatOf (F := F) a2)) (ix4 b s k c)
      = tbl (ix2 ⟨(show BitVec 32 from a2 (ix2 ⟨b.val * 512 + s.val, by omega⟩ k)).toNat % 65536, Nat.mod_lt _ (by decide)⟩ ⟨c.val, by omega⟩) := by
  unfold featOut
  pointwise
  unfold gath
  rw [← rowOfWord_flat a2 b s k (by omega)]
  rfl

theorem coordOut_apply (tbl : S65536x128.Idx → Elt F .f32) (a2 : S4096x64.Idx → Elt F .i32) (b : Fin 8) (s : Fin 512) (k : Fin 64) (c : Fin 3) :
    coordOut (gath tbl (flatOf (F := F) a2)) (ix4 b s k c)
      = tbl (ix2 ⟨(show BitVec 32 from a2 (ix2 ⟨b.val * 512 + s.val, by omega⟩ k)).toNat % 65536, Nat.mod_lt _ (by decide)⟩ ⟨64 + c.val, by omega⟩) := by
  unfold coordOut
  pointwise
  unfold gath
  rw [← rowOfWord_flat a2 b s k (by omega)]
  rfl

/-! ## The reference's gather -/

/-- The gather along the middle axis whose leading axis is a batch: dimension numbers, at any row width. -/
def batchRows (C : ℕ) (wf : GatherDims.WF ⟨3, ![8, 8192, C]⟩ ⟨4, ![8, 512, 64, 1]⟩ ⟨4, ![8, 512, 64, C]⟩ [3] [1] [0] [1] [0] 3 ![1, 1, C]) :
    GatherDims ⟨3, ![8, 8192, C]⟩ ⟨4, ![8, 512, 64, 1]⟩ ⟨4, ![8, 512, 64, C]⟩ where
  offsetDims := [3]
  collapsedSliceDims := [1]
  operandBatchingDims := [0]
  startIndicesBatchingDims := [0]
  startIndexMap := [1]
  indexVectorDim := 3
  sliceSizes := ![1, 1, C]
  wf := wf

/-- It reads, in its own batch, the row its start index names. -/
theorem batchRows_apply {α : Type} (C : ℕ) (wf) (x : (⟨3, ![8, 8192, C]⟩ : Shape).Idx → α) (idx : IVec ⟨4, ![8, 512, 64, 1]⟩ 32)
    (b : Fin 8) (s : Fin 512) (k : Fin 64) (c : Fin C) :
    Host.gather (batchRows C wf) x idx (ix4 b s k c) = x (ix3 b ⟨min (idx (ix4 b s k 0)).toInt.toNat 8191, by omega⟩ c) := by
  unfold Host.gather
  congr 1
  funext a
  apply Fin.ext
  show (batchRows C wf).start _ idx a + (batchRows C wf).batchCoord _ a + (batchRows C wf).offCoord _ a = _
  match a with
  | 0 =>
    rw [(batchRows C wf).start_batching _ idx _ (List.mem_singleton.mpr rfl),
      (batchRows C wf).offCoord_eq_zero _ _ (fun h => (((batchRows C wf).mem_sKept _).mp h).2 (List.mem_singleton.mpr rfl))]
    unfold GatherDims.batchCoord
    rw [dif_pos (show (0 : Fin 3) ∈ (batchRows C wf).operandBatchingDims from List.mem_singleton.mpr rfl)]
    show 0 + b.val + 0 = b.val
    omega
  | 1 =>
    rw [(batchRows C wf).batchCoord_eq_zero _ _ (show (1 : Fin 3) ∉ [(0 : Fin 3)] by decide),
      (batchRows C wf).offCoord_eq_zero _ _ (fun h => (((batchRows C wf).mem_sKept _).mp h).1 (List.mem_singleton.mpr rfl))]
    unfold GatherDims.start
    rw [dif_pos (show (1 : Fin 3) ∈ (batchRows C wf).startIndexMap from List.mem_singleton.mpr rfl)]
    have hi : (batchRows C wf).siIdx (ix4 b s k c) ⟨(batchRows C wf).startIndexMap.idxOf 1, List.idxOf_lt_length_iff.2 (List.mem_singleton.mpr rfl)⟩
        = (ix4 b s k 0 : (⟨4, ![8, 512, 64, 1]⟩ : Shape).Idx) := by
      funext e
      match e with
      | 0 => rfl
      | 1 => rfl
      | 2 => rfl
      | 3 => rfl
    rw [hi]
    rfl
  | 2 =>
    rw [(batchRows C wf).batchCoord_eq_zero _ _ (show (2 : Fin 3) ∉ [(0 : Fin 3)] by decide)]
    unfold GatherDims.start
    rw [dif_neg (show ¬ (2 : Fin 3) ∈ (batchRows C wf).startIndexMap from (by decide : (2 : Fin 3) ∉ [(1 : Fin 3)]))]
    unfold GatherDims.offCoord
    rw [dif_pos (((batchRows C wf).mem_sKept 2).mpr ⟨(by decide : (2 : Fin 3) ∉ [(1 : Fin 3)]), (by decide : (2 : Fin 3) ∉ [(0 : Fin 3)])⟩)]
    show 0 + 0 + c.val = c.val
    omega

/-- The reference's row number inside its batch, as its program computes it. -/
def localRow (a2 : IVec Cert.GatherReferenceIdeal.S4096x64 32) : IVec Cert.GatherReferenceIdeal.S8x512x64 32 :=
  subi (shapeCast _ a2 Cert.GatherReferenceIdeal.Facts₀.shapeCasts_S4096x64_S8x512x64)
    (muli (broadcastInDim Cert.GatherReferenceIdeal.S8x512x64 (![] : Fin 0 → Fin Cert.GatherReferenceIdeal.S8x512x64.rank) Cert.GatherReferenceIdeal.Facts₀.bcast_S_S8x512x64 (constantI Cert.GatherReferenceIdeal.S_ 32 8192#32)) (iotaInDim _ 32 0))
/-- The same with negative numbers counted from the end, as an index column. -/
def localIdx (a2 : IVec Cert.GatherReferenceIdeal.S4096x64 32) : IVec Cert.GatherReferenceIdeal.S8x512x64x1 32 :=
  broadcastInDim _ ![0, 1, 2] Cert.GatherReferenceIdeal.Facts₀.bcast_S8x512x64_S8x512x64x1_0_1_2
    (select (cmpi .slt (localRow a2) (broadcastInDim Cert.GatherReferenceIdeal.S8x512x64 (![] : Fin 0 → Fin Cert.GatherReferenceIdeal.S8x512x64.rank) Cert.GatherReferenceIdeal.Facts₀.bcast_S_S8x512x64 (constantI Cert.GatherReferenceIdeal.S_ 32 0#32)))
      (addi (localRow a2) (broadcastInDim Cert.GatherReferenceIdeal.S8x512x64 (![] : Fin 0 → Fin Cert.GatherReferenceIdeal.S8x512x64.rank) Cert.GatherReferenceIdeal.Facts₀.bcast_S_S8x512x64 (constantI Cert.GatherReferenceIdeal.S_ 32 8192#32))) (localRow a2))

/-- A word of batch `b` less `8192 b` is its number inside the batch. -/
theorem sub_batch (w : BitVec 32) (b : Fin 8) (h₁ : 8192 * b.val ≤ w.toNat) (h₂ : w.toNat < 8192 * b.val + 8192) :
    w - 8192#32 * BitVec.ofNat 32 b.val = BitVec.ofNat 32 (w.toNat % 65536 % 8192) := by
  apply BitVec.eq_of_toNat_eq
  have hb := b.isLt
  simp only [BitVec.toNat_sub, BitVec.toNat_mul, BitVec.toNat_ofNat, Nat.reducePow, Nat.reduceMod]
  omega

theorem localRow_apply (a2 : IVec S4096x64 32) (h : InBatch a2) (b : Fin 8) (s : Fin 512) (k : Fin 64) :
    localRow a2 (ix3 b s k) = BitVec.ofNat 32 ((a2 (ix2 ⟨b.val * 512 + s.val, by omega⟩ k)).toNat % 65536 % 8192) := by
  have hb := h ⟨b.val * 512 + s.val, by omega⟩ k
  have hq : (b.val * 512 + s.val) / 512 = b.val := by omega
  simp only [hq] at hb
  rw [← sub_batch _ b hb.1 hb.2]
  unfold localRow
  pointwise
  rfl

theorem localIdx_apply (a2 : IVec S4096x64 32) (h : InBatch a2) (b : Fin 8) (s : Fin 512) (k : Fin 64) :
    (localIdx a2 (ix4 b s k 0)).toInt.toNat = (a2 (ix2 ⟨b.val * 512 + s.val, by omega⟩ k)).toNat % 65536 % 8192 := by
  unfold localIdx
  pointwise
  rw [localRow_apply a2 h b s k]
  generalize hn : (a2 (ix2 ⟨b.val * 512 + s.val, by omega⟩ k)).toNat % 65536 % 8192 = n
  have hlt : n < 8192 := by omega
  have hneg : IntOp.cmpi .slt (BitVec.ofNat 32 n) 0#32 = 0#1 := by
    have : ¬ IntOp.cmpi .slt (BitVec.ofNat 32 n) 0#32 = 1#1 := by
      simp only [IntOp.cmpi, BitVec.slt_eq_decide, BitVec.toInt_eq_toNat_cond, BitVec.toNat_ofNat]
      rw [decide_eq_false (by omega)]
      decide
    rcases BitVec.eq_zero_or_eq_one (IntOp.cmpi .slt (BitVec.ofNat 32 n) 0#32) with e | e
    · exact e
    · exact absurd e this
  rw [hneg]
  show (BitVec.ofNat 32 n).toInt.toNat = n
  rw [BitVec.toInt_eq_toNat_cond, BitVec.toNat_ofNat]
  omega

/-! ## The two arrays are the reference's -/

theorem feat_eq (a0 : S8x8192x3.Idx → Elt F .f32) (a1 : S8x8192x64.Idx → Elt F .f32) (a2 : IVec S4096x64 32) (h : InBatch a2) :
    featOut (gath (tableOf a0 a1) (flatOf (F := F) a2))
      = Host.gather (Cert.GatherReferenceIdeal.gather_S8x8192x64_S8x512x64x1_S8x512x64x64_3_1_0_0_1_3_1164) a1 (localIdx a2) := by
  funext j
  idx_vars j
  generalize j0 = b; generalize j1 = s; generalize j2 = k; generalize j3 = c
  have hb := h ⟨b.val * 512 + s.val, by omega⟩ k
  have hq : (b.val * 512 + s.val) / 512 = b.val := by omega
  simp only [hq] at hb
  rw [featOut_apply, table_feat a0 a1 _ _ c.isLt]
  refine Eq.trans ?_ (batchRows_apply 64 _ a1 (localIdx a2) b s k c).symm
  have hl := localIdx_apply a2 h b s k
  congr 1
  congr 1
  · apply Fin.ext; simp only []; omega
  · apply Fin.ext; simp only [hl]; omega

theorem coord_eq (a0 : S8x8192x3.Idx → Elt F .f32) (a1 : S8x8192x64.Idx → Elt F .f32) (a2 : IVec S4096x64 32) (h : InBatch a2) :
    coordOut (gath (tableOf a0 a1) (flatOf (F := F) a2))
      = Host.gather (Cert.GatherReferenceIdeal.gather_S8x8192x3_S8x512x64x1_S8x512x64x3_3_1_0_0_1_3_113) a0 (localIdx a2) := by
  funext j
  idx_vars j
  generalize j0 = b; generalize j1 = s; generalize j2 = k; generalize j3 = c
  have hb := h ⟨b.val * 512 + s.val, by omega⟩ k
  have hq : (b.val * 512 + s.val) / 512 = b.val := by omega
  simp only [hq] at hb
  rw [coordOut_apply, table_coord a0 a1]
  refine Eq.trans ?_ (batchRows_apply 3 _ a0 (localIdx a2) b s k c).symm
  have hl := localIdx_apply a2 h b s k
  congr 1
  congr 1
  · apply Fin.ext; simp only []; omega
  · apply Fin.ext; simp only [hl]; omega

/-! ## The precondition, read -/

/-- Division of words rounding down, as the host program spells it. -/
def floorDiv (x y : BitVec 32) : BitVec 32 :=
  Scalar.select (IntOp.andi (IntOp.cmpi (w := 32) .ne (if x = 0 then 0 else if x.msb = true then -1 else 1) (if y = 0 then 0 else if y.msb = true then -1 else 1))
      (IntOp.cmpi .ne (IntOp.remsi .host x y) 0#32))
    (IntOp.subi (IntOp.divsi .host x y) 1#32) (IntOp.divsi .host x y)

theorem floorDiv_512 (n : ℕ) (hn : n < 4096) : floorDiv (BitVec.ofNat 32 n) 512#32 = BitVec.ofNat 32 (n / 512) := by
  have hcorner : ∀ x : BitVec 32, ¬ IntOp.SDivCorner x 512#32 := by
    intro x hc; rcases hc with hc | ⟨_, hc⟩ <;> exact absurd hc (by decide)
  have hm : (BitVec.ofNat 32 n).msb = false := BitVec.msb_eq_false_iff_two_mul_lt.mpr (by rw [BitVec.toNat_ofNat]; omega)
  have hd : IntOp.divsi .host (BitVec.ofNat 32 n) 512#32 = BitVec.ofNat 32 (n / 512) := by
    simp only [IntOp.divsi, if_neg (hcorner _), BitVec.sdiv_eq, hm, show (512#32 : BitVec 32).msb = false by decide, BitVec.udiv_eq]
    apply BitVec.eq_of_toNat_eq
    simp only [BitVec.toNat_udiv, BitVec.toNat_ofNat, Nat.reducePow, Nat.reduceMod]
    rw [Nat.mod_eq_of_lt (by omega), Nat.mod_eq_of_lt (by omega)]
  unfold floorDiv
  rw [hd]
  by_cases h0 : n = 0
  · subst h0
    have hr : IntOp.remsi .host (BitVec.ofNat 32 0) 512#32 = 0#32 := by
      simp only [IntOp.remsi, if_neg (hcorner _)]; decide
    rw [hr]; decide
  · have hx : ¬ (BitVec.ofNat 32 n = 0) := by
      intro e; have := congrArg BitVec.toNat e
      rw [BitVec.toNat_ofNat, show (0 : BitVec 32).toNat = 0 from rfl] at this; omega
    rw [if_neg hx, hm]
    have : IntOp.cmpi .ne (if false = true then (-1 : BitVec 32) else 1) (if (512#32 : BitVec 32) = 0 then 0 else if (512#32 : BitVec 32).msb = true then -1 else 1) = 0#1 := by decide
    rw [this]
    have h2 : ∀ z : BitVec 1, IntOp.andi 0#1 z = 0#1 := by decide
    rw [h2]
    rfl

theorem inBatch_of_pre (a0 : FVec F Cert.Pre_in_batch.S8x8192x3 .f32) (a1 : FVec F Cert.Pre_in_batch.S8x8192x64 .f32) (a2 : IVec Cert.Pre_in_batch.S4096x64 32)
    (h : Cert.Pre_in_batch.fn (F := F) a0 a1 a2 = fun _ => 1#1) : InBatch a2 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro r k
  have e := congrFun h (ix2 r k)
  unfold Cert.Pre_in_batch.fn Cert.Pre_in_batch.fn_floor_divide Cert.Pre_in_batch.fn_where at e
  pointwise at e
  have hid : id (constantI Cert.Pre_in_batch.S_ 32 512#32) ix0 = 512#32 := rfl
  simp only [hid] at e
  change IntOp.andi (IntOp.cmpi .sle (IntOp.muli 8192#32 (floorDiv (BitVec.ofNat 32 r.val) 512#32)) (a2 (ix2 r k)))
    (IntOp.cmpi .slt (a2 (ix2 r k)) (IntOp.addi (IntOp.muli 8192#32 (floorDiv (BitVec.ofNat 32 r.val) 512#32)) 8192#32)) = 1#1 at e
  rw [floorDiv_512 _ r.isLt] at e
  have hr : r.val / 512 < 8 := by omega
  have hlo : (IntOp.muli 8192#32 (BitVec.ofNat 32 (r.val / 512))).toNat = 8192 * (r.val / 512) := by
    show (8192#32 * BitVec.ofNat 32 (r.val / 512)).toNat = _
    simp only [BitVec.toNat_mul, BitVec.toNat_ofNat, Nat.reducePow, Nat.reduceMod]
    omega
  have hhi : (IntOp.addi (IntOp.muli 8192#32 (BitVec.ofNat 32 (r.val / 512))) 8192#32).toNat = 8192 * (r.val / 512) + 8192 := by
    show (IntOp.muli 8192#32 (BitVec.ofNat 32 (r.val / 512)) + 8192#32).toNat = _
    rw [BitVec.toNat_add, hlo]
    simp only [BitVec.toNat_ofNat, Nat.reducePow, Nat.reduceMod]
    omega
  simp only [IntOp.cmpi, andi_ofBool, ofBool_eq_one, Bool.and_eq_true, BitVec.sle_eq_decide, BitVec.slt_eq_decide,
    decide_eq_true_eq, BitVec.toInt_eq_toNat_cond, hlo, hhi] at e
  omega

theorem inRange_of_inBatch (h : ∀ d, InBatch (A2 m d)) : InRange (ixOf m) := by
  intro d j
  rw [ixOf_eq]
  idx_vars j
  generalize j0 = n
  have hb := h d ⟨n.val / 64, by omega⟩ ⟨n.val % 64, by omega⟩
  have e : flatOf (F := F) (A2 m d) (ix1 n) = A2 m d (ix2 ⟨n.val / 64, by omega⟩ ⟨n.val % 64, by omega⟩) := by
    unfold flatOf
    pointwise
  rw [e]
  simp only [] at hb
  omega

/-! ## The six results -/

/-- The first of the 32 first groups is the first group. -/
theorem first_feat (x : S8x512x64x64.Idx → Elt F .f32) :
    shapeCast S8x512x64 (extractStridedSlice S8x512x1x64 ![0, 0, 0, 0] x slices_S8x512x64x64_S8x512x1x64_0_0_0_0) shapeCasts_S8x512x1x64_S8x512x64
      = shapeCast Cert.GatherReferenceIdeal.S8x512x64 (extractStridedSlice Cert.GatherReferenceIdeal.S8x512x1x64 ![0, 0, 0, 0] x Cert.GatherReferenceIdeal.Facts₀.slices_S8x512x64x64_S8x512x1x64_0_0_0_0) Cert.GatherReferenceIdeal.Facts₀.shapeCasts_S8x512x1x64_S8x512x64 := rfl

theorem first_coord (x : S8x512x64x3.Idx → Elt F .f32) :
    shapeCast S8x512x3 (extractStridedSlice S8x512x1x3 ![0, 0, 0, 0] x slices_S8x512x64x3_S8x512x1x3_0_0_0_0) shapeCasts_S8x512x1x3_S8x512x3
      = shapeCast S8x512x3 (extractStridedSlice S8x512x1x3 ![0, 0, 0, 0]
          (extractStridedSlice Cert.GatherReferenceIdeal.S8x512x32x3 ![0, 0, 0, 0] x Cert.GatherReferenceIdeal.Facts₀.slices_S8x512x64x3_S8x512x32x3_0_0_0_0)
          Cert.GatherReferenceIdeal.Facts₀.slices_S8x512x32x3_S8x512x1x3_0_0_0_0) shapeCasts_S8x512x1x3_S8x512x3 := by
  congr 1
  funext j
  idx_vars j
  pointwise

end Cert.Proof.GatherRun

end
-- ==== Proof.KernelTile.lean ====
/-
  The gather's task on one vector subcore. Task `w = 2 · subcore + core` owns the 8192 result rows from `8192 w` on and
  fills them in sixteen rounds of 512: it copies 512 row numbers into its index scratch, gathers the table's rows they
  name into its row scratch, and copies that to the result. Every task reads all of the table and all of the row
  numbers, each at a thirty-second share. The loop's invariant says which result rows already hold the table's rows; the
  task ends with its whole block there.
-/
module

public import proofs.«01_k».proof.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.KernelRun

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 5) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The pipelines' staging cells have rounds of their own beside the handshakes'. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The buffers -/

/-- The row numbers, the table, the result. -/
abbrev iLoc (d : Dev nD) : Loc nD τ sig := (SparseCore.T d).loc main_v24
abbrev tLoc (d : Dev nD) : Loc nD τ sig := (SparseCore.T d).loc main_v23
abbrev oLoc (d : Dev nD) : Loc nD τ sig := (SparseCore.T d).loc main_v25

local notation "iV" => (Memref.whole Cert.KernelIdeal.main_v24_scv : Memref Cert.KernelIdeal.sig Kind.scVector Space.hbm Cert.KernelIdeal.S262144 EltTy.i32)
local notation "tV" => (Memref.whole Cert.KernelIdeal.main_v23_scv : Memref Cert.KernelIdeal.sig Kind.scVector Space.hbm Cert.KernelIdeal.S65536x128 EltTy.f32)
local notation "oV" => (Memref.whole Cert.KernelIdeal.main_v25_scv : Memref Cert.KernelIdeal.sig Kind.scVector Space.hbm Cert.KernelIdeal.S262144x128 EltTy.f32)
local notation "sV" => (Memref.whole Cert.KernelIdeal.cc5_scratch0 : Memref Cert.KernelIdeal.sig Kind.scVector Space.vmem Cert.KernelIdeal.S512 EltTy.i32)
local notation "rV" => (Memref.whole Cert.KernelIdeal.cc5_scratch1 : Memref Cert.KernelIdeal.sig Kind.scVector Space.vmem Cert.KernelIdeal.S512x128 EltTy.f32)

/-- The table row that row number `r` names (reduced below 65536, which a row number in range already is). -/
def rowOfWord (ix : S262144.Idx → Elt F .i32) (r : Fin 262144) : Fin 65536 :=
  ⟨(show BitVec 32 from ix (ix1 r)).toNat % 65536, Nat.mod_lt _ (by decide)⟩

/-- What the gather computes: row `r` of the result is the table's row that row number `r` names. -/
def gath (tbl : S65536x128.Idx → Elt F .f32) (ix : S262144.Idx → Elt F .i32) : S262144x128.Idx → Elt F .f32 :=
  fun j => tbl (ix2 (rowOfWord ix (j 0)) (j 1))

/-- Task `w`'s result rows. -/
def blkSet (w : Fin 32) : Finset S262144x128.Idx := Finset.univ.filter fun j => (j 0).val / 8192 = w.val

theorem blk_disjoint : ∀ i ∈ (Finset.univ : Finset (Fin 32)), ∀ j ∈ (Finset.univ : Finset (Fin 32)), i ≠ j → Disjoint (blkSet i) (blkSet j) := by
  intro i _ j _ h
  rw [Finset.disjoint_left]
  intro x hx hy
  simp only [blkSet, Finset.mem_filter, Finset.mem_univ, true_and] at hx hy
  exact h (Fin.ext (hx.symm.trans hy))
theorem blk_cover : (Finset.univ : Finset (Fin 32)).biUnion blkSet = Finset.univ := by
  ext x
  simp only [blkSet, Finset.mem_biUnion, Finset.mem_filter, Finset.mem_univ, true_and, iff_true]
  have h : (x 0).val < 262144 := (x 0).isLt
  exact ⟨⟨(x 0).val / 8192, by omega⟩, rfl⟩

/-! ## What the handshakes carry -/

variable (tbl : ∀ d : Dev nD, Buf (Elt F) (tLoc d)) (ix : ∀ d : Dev nD, Buf (Elt F) (iLoc d))

/-- Every row number names a row of the table. -/
def InRange : Prop := ∀ (d : Dev nD) (j : S262144.Idx), (show BitVec 32 from ix d j).toNat < 65536

/-- Task number of subcore `s` of core `c`. -/
def wid (c : Fin 2) (s : Fin 16) : Fin 32 := ⟨2 * s.val + c.val, by omega⟩

abbrev iShPts (d : Dev nD) (w : Fin 32) : sProp 𝕄 := iLoc d ↦{leaf 5 fullShare w} ix d
abbrev tShPts (d : Dev nD) (w : Fin 32) : sProp 𝕄 := tLoc d ↦{leaf 5 fullShare w} tbl d
abbrev oBlkPts (d : Dev nD) (w : Fin 32) (f : Buf (Elt F) (oLoc d)) : sProp 𝕄 := oLoc d ↦[blkSet w]{fullShare} f

/-- What task `w` is handed, and what it brings back. -/
abbrev taskIn (d : Dev nD) (w : Fin 32) : sProp 𝕄 := iprop(iShPts ix d w ∗ tShPts tbl d w ∗ ∃ f, oBlkPts d w f)
abbrev taskOut (d : Dev nD) (w : Fin 32) : sProp 𝕄 := iprop(iShPts ix d w ∗ tShPts tbl d w ∗ oBlkPts d w (gath (tbl d) (ix d)))

/-- The payloads: a core's is its sixteen tasks'. -/
def P : (K (F := F)).Pay (nD := nD) (Val := Elt F) (Name := ℕ) (U := UU) where
  st := fun q d c => match q with | 0 => bigSep Finset.univ fun i : Fin 16 => taskIn tbl ix d (wid (Fin.cast nCore_zero c) i)
  dn := fun q d c => match q with | 0 => bigSep Finset.univ fun i : Fin 16 => taskOut tbl ix d (wid (Fin.cast nCore_zero c) i)
  go := fun q d c i => match q with | 0 => taskIn tbl ix d (wid (Fin.cast nCore_zero c) (Fin.cast nSub_zero i))
  td := fun q d c i => match q with | 0 => taskOut tbl ix d (wid (Fin.cast nCore_zero c) (Fin.cast nSub_zero i))
  x := fun _ _ => iprop(emp)

instance P_storable : (P (F := F) tbl ix).IsStorable where
  st q d c := match q with
    | 0 => (inferInstance : BI.Storable (upEmb : UEmb _ 𝕄) (bigSep Finset.univ fun i : Fin 16 => taskIn tbl ix d (wid (Fin.cast nCore_zero c) i)))
  dn q d c := match q with
    | 0 => (inferInstance : BI.Storable (upEmb : UEmb _ 𝕄) (bigSep Finset.univ fun i : Fin 16 => taskOut tbl ix d (wid (Fin.cast nCore_zero c) i)))
  go q d c i := match q with
    | 0 => (inferInstance : BI.Storable (upEmb : UEmb _ 𝕄) (taskIn tbl ix d (wid (Fin.cast nCore_zero c) (Fin.cast nSub_zero i))))
  td q d c i := match q with
    | 0 => (inferInstance : BI.Storable (upEmb : UEmb _ 𝕄) (taskOut tbl ix d (wid (Fin.cast nCore_zero c) (Fin.cast nSub_zero i))))

theorem vecSplit : (K (F := F)).VecSplit' (P tbl ix) 0 := by
  intro d c
  show (bigSep Finset.univ fun i : Fin 16 => taskIn tbl ix d (wid (Fin.cast nCore_zero c) i)) ⊢ |={Set.univ}=> iprop(
      (bigSep Finset.univ fun i : Fin 16 => taskIn tbl ix d (wid (Fin.cast nCore_zero c) i))
      ∗ ((bigSep Finset.univ fun i : Fin 16 => taskOut tbl ix d (wid (Fin.cast nCore_zero c) i))
          -∗ (bigSep Finset.univ fun i : Fin 16 => taskOut tbl ix d (wid (Fin.cast nCore_zero c) i))))
  iintro H; imodintro
  isplitl [H]; · iexact H
  iintro H; iexact H

/-! ## The task -/

section Tile

variable (d : Dev nD) (L : grid5.Coords)

abbrev cV (L : grid5.Coords) : Fin τ.nSC := (L 0).castLE hcore5
abbrev jV (L : grid5.Coords) : Fin τ.nSub := (L 1).castLE hsub5
theorem bound_zero : grid5.bound 0 = 2 := rfl
theorem bound_one : grid5.bound 1 = 16 := rfl
abbrev wL (L : grid5.Coords) : Fin 32 := wid (Fin.cast bound_zero (L 0)) (Fin.cast bound_one (L 1))

/-- Round `t`'s row numbers and result rows, and all of the table, as the task addresses them. -/
abbrev iCh (L : grid5.Coords) (t : Fin k5_t1_loop.trips) : Memref sig .scVector .hbm S512 .i32 :=
  (iV).slice (Rect.unit (s := S262144) (k5_off1 L t) S512.size (k5_off1_inb L t)) (fun _ => rfl)
abbrev oCh (L : grid5.Coords) (t : Fin k5_t1_loop.trips) : Memref sig .scVector .hbm S512x128 .f32 :=
  (oV).slice (Rect.unit (s := S262144x128) (k5_off2 L t) S512x128.size (k5_off2_inb L t)) (fun _ => rfl)
abbrev tAll : Memref sig .scVector .hbm S65536x128 .f32 :=
  (tV).slice (Rect.unit (s := S65536x128) ![0, 0] S65536x128.size inb_S65536x128_S65536x128_0_0) (fun _ => rfl)

theorem trips_le : k5_t1_loop.trips ≤ 16 := k5_t1_abs.2.1
theorem trips_eq : k5_t1_loop.trips = 16 := by decide

theorem iCh_emb (t : Fin k5_t1_loop.trips) (y : S512.Idx) :
    ((iCh L t).view.emb y 0).val = 16384 * (L 1).val + 8192 * (L 0).val + 512 * t.val + (y 0).val := by
  show (k5_off1 L t) 0 + 1 * (y 0).val = _
  rw [k5_off1_eq]; simp
theorem oCh_emb0 (t : Fin k5_t1_loop.trips) (y : S512x128.Idx) :
    ((oCh L t).view.emb y 0).val = 16384 * (L 1).val + 8192 * (L 0).val + 512 * t.val + (y 0).val := by
  show (k5_off2 L t) 0 + 1 * (y 0).val = _
  rw [k5_off2_eq]; simp
theorem oCh_emb1 (t : Fin k5_t1_loop.trips) (y : S512x128.Idx) : ((oCh L t).view.emb y 1).val = (y 1).val := by
  show (k5_off2 L t) 1 + 1 * (y 1).val = _
  rw [k5_off2_eq]; simp
theorem tAll_emb (y : S65536x128.Idx) : (tAll).view.emb y = y := by
  funext a
  apply Fin.ext
  show (![0, 0] : Fin 2 → ℕ) a + 1 * (y a).val = _
  match a with
  | 0 => simp
  | 1 => simp

/-- A round's result rows lie in the task's block. -/
theorem oCh_subset (t : Fin k5_t1_loop.trips) : (oCh L t).view.set ⊆ blkSet (wL L) := by
  intro j hj
  obtain ⟨y, -, rfl⟩ := Finset.mem_map.mp hj
  simp only [blkSet, Finset.mem_filter, Finset.mem_univ, true_and]
  have h := oCh_emb0 L t y
  have hy : (y 0).val < 512 := (y 0).isLt
  have ht : t.val < 16 := lt_of_lt_of_le t.isLt trips_le
  show ((oCh L t).view.emb y 0).val / 8192 = 2 * (L 1).val + (L 0).val
  omega

/-- A row of the block that a round's rows miss is not in the round's range. -/
theorem mem_oCh (t : Fin k5_t1_loop.trips) (j : S262144x128.Idx)
    (h1 : 16384 * (L 1).val + 8192 * (L 0).val + 512 * t.val ≤ (j 0).val)
    (h2 : (j 0).val < 16384 * (L 1).val + 8192 * (L 0).val + 512 * (t.val + 1)) : j ∈ (oCh L t).view.set := by
  have hlt : (j 0).val - (16384 * (L 1).val + 8192 * (L 0).val + 512 * t.val) < 512 := by omega
  have e : (oCh L t).view.emb (ix2 (n0 := 512) (n1 := 128) ⟨_, hlt⟩ (j 1)) = j := by
    funext a
    match a with
    | 0 => apply Fin.ext; refine (oCh_emb0 L t _).trans ?_; show _ + ((j 0).val - _) = (j 0).val; omega
    | 1 => apply Fin.ext; exact oCh_emb1 L t _
  rw [← e]; exact View.emb_mem_set _ _

abbrev cAcell (d : Dev nD) (c : Fin τ.nSC) (i : Fin τ.nSub) : GSem nD τ sig := (V d c i, .dma cc5_scratch2.sem)
abbrev cBcell (d : Dev nD) (c : Fin τ.nSC) (i : Fin τ.nSub) : GSem nD τ sig := (V d c i, .dma cc5_scoped0.sem)
abbrev cCcell (d : Dev nD) (c : Fin τ.nSC) (i : Fin τ.nSub) : GSem nD τ sig := (V d c i, .dma cc5_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc5_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc5_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc5_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f)
          ∗ bigSep (((ownRefs (τ := τ) (.scVector (cV L) (jV L))).erase ((Proc.scVector (cV L) (jV L)).devRef cc5_scratch0)).erase
              ((Proc.scVector (cV L) (jV L)).devRef cc5_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc5_scratch0) rfl)).trans ?_
  rw [SparseCore.bigSep_erase' (Finset.mem_erase.mpr ⟨fun e => absurd (Proc.devRef_injective _ e) (show (cc5_scratch1 : Ref sig .scVector) ≠ cc5_scratch0 by decide),
    SparseCore.Cfg.mem_ownRefs_of_owner (p := Proc.scVector (cV L) (jV L)) (b := (Proc.scVector (cV L) (jV L)).devRef cc5_scratch1) rfl⟩)]

variable [FloatOps F]

/-- What the loop keeps: the shares, the block with its first `512 t` rows gathered, the scratch buffers at whatever they
    hold, the three counters at zero, the waits owed. -/
def inv (O : CellTallies nD τ sig (HIx 1)) (W : Waits sig (HIx 1)) (t : Nat) (_ : PUnit) : sProp 𝕄 :=
  iprop(Transfers.MayWaits (V d (cV L) (jV L)) (none : HIx 1) O
    ∗ ((iV).view.loc (V d (cV L) (jV L)) ↦{leaf 5 fullShare (wL L)} ix d)
    ∗ ((tV).view.loc (V d (cV L) (jV L)) ↦{leaf 5 fullShare (wL L)} tbl d)
    ∗ (∃ f : Buf (Elt F) (oLoc d), ⌜∀ j : S262144x128.Idx, 8192 * (wL L).val ≤ (j 0).val → (j 0).val < 8192 * (wL L).val + 512 * t →
          f j = gath (tbl d) (ix d) j⌝ ∗ ((oV).view.loc (V d (cV L) (jV L)) ↦[blkSet (wL L)]{fullShare} f))
    ∗ (∃ f, (sV).view.loc (V d (cV L) (jV L)) ↦{fullShare} f)
    ∗ (∃ f, (rV).view.loc (V d (cV L) (jV L)) ↦{fullShare} f)
    ∗ semVal (V d (cV L) (jV L), SemLoc.dma cc5_scratch2.sem) 0
    ∗ semVal (V d (cV L) (jV L), SemLoc.dma cc5_scoped0.sem) 0
    ∗ semVal (V d (cV L) (jV L), SemLoc.dma cc5_scoped1.sem) 0
    ∗ ∃ W', ⌜∀ p ∈ W', p ∈ W ∨ p.2 = none⌝ ∗ owes (V d (cV L) (jV L)) O W')

/-- The row numbers the stream reads are in range: the index scratch holds round `t`'s. -/
theorem inb_of_range (hr : InRange ix) (t : Fin k5_t1_loop.trips) (fs : Buf (Elt F) ((V d (cV L) (jV L)).loc cc5_scratch0)) (pay : S512.Idx → Elt F .i32)
    (hpay : pay = (iCh L t).view.read (Elt F) (ix d)) :
    ∀ x, ((sV).view.read (Elt F) (View.write (Elt F) (sV).view fs pay Finset.univ) x).toNat < S65536x128.size gathers_S65536x128_S512x128.axis := by
  subst hpay; intro x
  rw [View.write_whole_univ]
  simp only [Memref.view_whole, View.read_whole]
  exact hr d _

/-- A round's gathered rows, copied to the result: they are the table's rows. -/
theorem chunk_value (hr : InRange ix) (t : Fin k5_t1_loop.trips) (fs : Buf (Elt F) ((V d (cV L) (jV L)).loc cc5_scratch0)) (pay : S512.Idx → Elt F .i32)
    (hpay : pay = (iCh L t).view.read (Elt F) (ix d))
    (hin : ∀ x, ((sV).view.read (Elt F) (View.write (Elt F) (sV).view fs pay Finset.univ) x).toNat < S65536x128.size gathers_S65536x128_S512x128.axis)
    (y : S512x128.Idx) :
    SparseCore.gatherPayload gathers_S65536x128_S512x128 ((tAll).view.read (Elt F) (tbl d))
      (SparseCore.rows ((sV).view.read (Elt F) (View.write (Elt F) (sV).view fs pay Finset.univ)) rfl hin) y
      = gath (tbl d) (ix d) ((oCh L t).view.emb y) := by
  subst hpay
  unfold SparseCore.gatherPayload gath
  show tbl d ((tAll).view.emb _) = _
  rw [tAll_emb]
  congr 1
  funext a
  match a with
  | 0 =>
    refine ((gathers_S65536x128_S512x128).idx_axis _ y).trans ?_
    apply Fin.ext
    show (show BitVec 32 from (View.write (Elt F) (sV).view fs ((iCh L t).view.read (Elt F) (ix d)) Finset.univ)
      (S512.rowMajor.symm _)).toNat = _
    rw [View.write_whole_univ]
    show (show BitVec 32 from ix d ((iCh L t).view.emb (S512.rowMajor.symm _))).toNat
      = (show BitVec 32 from ix d (ix1 ((oCh L t).view.emb y 0))).toNat % 65536
    rw [Nat.mod_eq_of_lt (hr d _)]
    refine congrArg (fun z => (show BitVec 32 from ix d z).toNat) ?_
    funext b
    match b with
    | 0 =>
      apply Fin.ext
      refine (iCh_emb L t _).trans (Eq.trans ?_ (oCh_emb0 L t y).symm)
      congr 1
      rw [← Shape.rowMajor_val_one, Equiv.apply_symm_apply]
      rfl
  | 1 =>
    apply Fin.ext
    refine ((gathers_S65536x128_S512x128).idx_of_ne _ y 1 (by decide)).trans ?_
    exact (oCh_emb1 L t y).symm

/-- The stream's credits, row by row, are the row scratch's. -/
theorem rowCredits (h : S65536x128.Gathers 0 S512x128) :
    ∑ j, ((rV).slice (S512x128.rowRect h.axis' j) (S512x128.stride_rowRect h.axis' j)).view.dmaCredit = (rV).view.dmaCredit := by
  refine (Finset.sum_const_nat (m := ((rV).slice (S512x128.rowRect 0 (show Fin 512 from 0)) (S512x128.stride_rowRect 0 (show Fin 512 from 0))).view.dmaCredit)
    (fun j _ => rfl)).trans ?_
  rw [Finset.card_univ, Fintype.card_fin]
  change 512 * _ = _
  decide

/-- A block's contents after round `t`: the gathered rows up to its end, what was there beyond. -/
def grown (t : Fin k5_t1_loop.trips) (f : Buf (Elt F) (oLoc d)) : Buf (Elt F) (oLoc d) := fun j =>
  if 8192 * (wL L).val ≤ (j 0).val ∧ (j 0).val < 8192 * (wL L).val + 512 * (t.val + 1) then gath (tbl d) (ix d) j else f j

omit [FloatOps F] in
/-- A view written whole reads back what was written. -/
theorem chunk_written {κ : Kind} {sp : Space} (v : View sig κ sp S512x128 .f32) (f : v.ty.Contents (Elt F)) (w : S512x128.Idx → Elt F .f32) (y : S512x128.Idx) :
    v.read (Elt F) (v.writes (Elt F) f [⟨Rect.whole S512x128, w⟩]) y = w y := by
  have h := View.read_writes_cons_emb v f (Rect.whole S512x128) w [] y
  rwa [Rect.emb_whole_apply] at h

set_option maxHeartbeats 4000000 in
/-- The task on vector subcore `(L 0, L 1)` of device `d`. -/
theorem tile_body (hF : (K (F := F)).Facts) (hr : InRange ix) (O : CellTallies nD τ sig (HIx 1)) (W : Waits sig (HIx 1)) (hO : ∀ g, O g none = 0) :
    iprop(levAts (K (F := F)).L (K (F := F)).lev ∗ emp
        ∗ taskIn tbl ix d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5__gather_sc_body L tV (Memref.isWhole_whole _) iV (Memref.isWhole_whole _) oV (Memref.isWhole_whole _)
            sV (Memref.isWhole_whole _) rV (Memref.isWhole_whole _) cc5_scratch2 cc5_scoped0 cc5_scoped1)
          fun _ => iprop(taskOut tbl ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc5__gather_sc_body_eq_skeleton]; unfold cc5__gather_sc_body_skel
  rw [(K (F := F)).scopedBufs_V hF d (cV L) (jV L), SparseCore.Cfg.scopedSems0_V (Val := Elt F) d (cV L) (jV L), ownSems0_V, ownBufs_V]
  iintro ⟨#Hlv, -, ⟨Hi, Ht, %f0, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  sl_for (inv tbl ix d L O W) $$ [Hmw Hi Ht Ho Hs Hr HsemA HsemB HsemC HO]
  case region =>
    intro t _
    unfold inv
    iintro ⟨#Hmw, Hi, Ht, ⟨%f, %hf, Ho⟩, ⟨%fs, Hs⟩, ⟨%fr, Hr⟩, HsemA, HsemB, HsemC, %W', %hW', HO⟩
    sl_exec
    -- the indirect gather: a share of the table, the row scratch, the index scratch whole, its counter at zero
    ihave Hts := (pointsTo_split_subset (q := leaf 5 fullShare (wL L)) (f := tbl d) (S := Finset.univ) (Finset.subset_univ (tAll).view.set)).1 $$ Ht
    icases Hts with ⟨Hts, Htr⟩
    have hrs : (rV).view.set = Finset.univ := View.set_whole _
    have hss : (sV).view.set = Finset.univ := View.set_whole _
    ihave Hr'' := (Entails.of_eq (show ((rV).view.loc (V d (cV L) (jV L)) ↦{fullShare} fr : sProp 𝕄)
        = (rV).view.loc (V d (cV L) (jV L)) ↦[(rV).view.set]{fullShare} fr by rw [hrs])) $$ Hr
    ihave Hs'' := (Entails.of_eq (show ((sV).view.loc (V d (cV L) (jV L)) ↦{fullShare} View.write (Elt F) (sV).view fs (tile_body.sl.dma0 ix d L t) Finset.univ : sProp 𝕄)
        = (sV).view.loc (V d (cV L) (jV L)) ↦[(sV).view.set]{fullShare} View.write (Elt F) (sV).view fs (tile_body.sl.dma0 ix d L t) Finset.univ
        by rw [hss])) $$ Hs
    iapply (SparseCore.wp_indirectGatherLocal countersEmb 𝒱₀ (V d (cV L) (jV L)) none (hg := gathers_S65536x128_S512x128) (default : HIx 1)
        (rV).view.dmaCredit (rowCredits _) (by decide) (inb_of_range ix d L hr t fs _ rfl)) $$ [Hts Hr'' Hs'' HsemA]
    · isplitl [Hts]; · iexact Hts
      isplitl [Hr'']; · iexact Hr''
      isplitl [Hs'']; · iexact Hs''
      iexact HsemA
    iintro Hfl
    sl_exec
    -- its wait
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc5_scratch2.sem)) $$ Hmw
    iintro ⟨⟨Hr', Hts, Hs'⟩, HsemA, HO⟩
    ihave Ht := (pointsTo_split_subset (q := leaf 5 fullShare (wL L)) (f := tbl d) (S := Finset.univ) (Finset.subset_univ (tAll).view.set)).2 $$ [Hts Htr]; · isplitl [Hts] <;> iassumption
    ihave Hr3 := (Entails.of_eq (show ((rV).view.loc (V d (cV L) (jV L)) ↦[(rV).view.set]{fullShare} _ : sProp 𝕄)
        = (rV).view.loc (V d (cV L) (jV L)) ↦{fullShare} _ by rw [hrs])) $$ Hr'
    ihave Hs3 := (Entails.of_eq (show ((sV).view.loc (V d (cV L) (jV L)) ↦[(sV).view.set]{fullShare} _ : sProp 𝕄)
        = (sV).view.loc (V d (cV L) (jV L)) ↦{fullShare} _ by rw [hss])) $$ Hs'
    -- the copy out, onto the round's rows of the block
    ihave Hos := (pointsTo_split_subset (q := fullShare) (f := f) (oCh_subset L t)).1 $$ Ho
    icases Hos with ⟨Hoc, Hor⟩
    ihave Hoc' := (show (oLoc d ↦[(oCh L t).view.set]{fullShare} f : sProp 𝕄)
        ⊢ (oCh L t).view.loc (V d (cV L) (jV L)) ↦[(oCh L t).view.set]{fullShare} f from BI.Entails.refl _) $$ Hoc
    sl_exec (disch := exact View.amount_pos _ _ (show 0 < S512x128.numel by decide))
    sl_step
    have hpay : ∀ y : S512x128.Idx, tile_body.sl.dma0_1 tbl ix d L hr t fs fr y = gath (tbl d) (ix d) ((oCh L t).view.emb y) := fun y => by
      unfold tile_body.sl.dma0_1
      rw [View.write_whole_univ]
      exact chunk_value tbl ix d L hr t fs _ rfl _ y
    have hw : ∀ j ∈ (oCh L t).view.set, (oCh L t).view.writes (Elt F) f [⟨Rect.whole S512x128, tile_body.sl.dma0_1 tbl ix d L hr t fs fr⟩] j
        = grown tbl ix d L t f j := fun j hj => by
      obtain ⟨y, -, rfl⟩ := Finset.mem_map.mp hj
      refine (chunk_written (oCh L t).view f _ y).trans ((hpay y).trans ?_)
      have h := oCh_emb0 L t y
      have hy : (y 0).val < 512 := (y 0).isLt
      exact (if_pos ⟨by show 8192 * (2 * (L 1).val + (L 0).val) ≤ ((oCh L t).view.emb y 0).val; omega,
        by show ((oCh L t).view.emb y 0).val < 8192 * (2 * (L 1).val + (L 0).val) + 512 * (t.val + 1); omega⟩).symm
    have hk : ∀ j ∈ blkSet (wL L) \ (oCh L t).view.set, f j = grown tbl ix d L t f j := fun j hj => by
      unfold grown
      split
      · rename_i h
        refine hf j h.1 ?_
        by_contra hc
        have h2 : (j 0).val < 8192 * (2 * (L 1).val + (L 0).val) + 512 * (t.val + 1) := h.2
        have h3 : ¬(j 0).val < 8192 * (2 * (L 1).val + (L 0).val) + 512 * t.val := hc
        exact (Finset.mem_sdiff.mp hj).2 (mem_oCh L t j (by omega) (by omega))
      · rfl
    ihave Hoc := (Entails.of_eq (show ((oCh L t).view.loc (V d (cV L) (jV L)) ↦[(oCh L t).view.set]{fullShare} _ : sProp 𝕄)
        = oLoc d ↦[(oCh L t).view.set]{fullShare} grown tbl ix d L t f from pointsTo_congr hw)) $$ Hoc'
    ihave Hor' := (Entails.of_eq (pointsTo_congr (ℓ := oLoc d) (q := fullShare) hk)) $$ Hor
    ihave Ho := (pointsTo_split_subset (q := fullShare) (f := grown tbl ix d L t f) (oCh_subset L t)).2 $$ [Hoc Hor']
    · isplitl [Hoc] <;> iassumption
    isplitr; · iexact Hmw
    isplitl [Hi]; · iexact Hi
    isplitl [Ht]; · iexact Ht
    isplitl [Ho]
    · iexists _; isplitr
      swap; · iexact Ho
      ipureintro
      exact fun j h1 h2 => if_pos ⟨h1, h2⟩
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Ht]; · iexact Ht
    isplitl [Ho]
    · iexists f0; isplitr
      · ipureintro; intro j h1 h2; omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hi, Ht, ⟨%f, %hf, Ho⟩, Hs, Hr, HsemA, HsemB, HsemC, HO⟩
  sl_step
  have hfin : ∀ j ∈ blkSet (wL L), f j = gath (tbl d) (ix d) j := fun j hj => by
    simp only [blkSet, Finset.mem_filter, Finset.mem_univ, _root_.true_and] at hj
    have h : (j 0).val < 262144 := (j 0).isLt
    have e : Scf.trips k5_t1_loop.lb k5_t1_loop.ub k5_t1_loop.st = 16 := trips_eq
    exact hf j (by omega) (by rw [e]; omega)
  ihave Ho := (Entails.of_eq (show ((oV).view.loc (V d (cV L) (jV L)) ↦[blkSet (wL L)]{fullShare} f : sProp 𝕄)
      = oLoc d ↦[blkSet (wL L)]{fullShare} gath (tbl d) (ix d) from pointsTo_congr hfin)) $$ Ho
  isplitl [Hi Ht Ho]
  · isplitl [Hi]; · iexact Hi
    isplitl [Ht]; · iexact Ht
    iexact Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HO

/-! ## The obligation -/

def coordsV (c : Fin (grid5.bound 0)) (s : Fin (grid5.bound 1)) : grid5.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 5 ()
      = SparseCore.onTile hcore5 hsub5 (fun c s => cc5__gather_sc_body (coordsV c s)
          tV (Memref.isWhole_whole _) iV (Memref.isWhole_whole _) oV (Memref.isWhole_whole _)
          sV (Memref.isWhole_whole _) rV (Memref.isWhole_whole _) cc5_scratch2 cc5_scoped0 cc5_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : InRange ix) : (K (F := F)).TileObl (D (F := F)) 𝒱 (P tbl ix) v₀ 0 := by
  intro d c i O W hO _ _
  simp only [show (P tbl ix).ox = fun _ _ => 0 from rfl, add_zero]
  have hci : ((K (F := F)).core 0 c).val < grid5.bound 0 ∧ ((K (F := F)).sub 0 i).val < grid5.bound 1 := ⟨c.isLt, i.isLt⟩
  change _ ⊢ wp _ _ _ (Pipeline.liftProg (defs₀ (F := F) (.scVector ((K (F := F)).core 0 c) ((K (F := F)).sub 0 i)) 5 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tbl ix d (coordsV ⟨_, hci.1⟩ ⟨_, hci.2⟩) hF hr O W hO).trans (wp_mono frame _ _ fun _ => obl_post)

end Tile

end Cert.Proof.KernelRun

end
-- ==== Proof.KernelRegion.lean ====
/-
  One TensorCore call of the kernel, run before the SparseCore call. The core's host buffers are held at a valuation `W`;
  the call leaves them at `W` with its windows' arrays at what its proof data say they end at. The core meanwhile owes the
  SparseCores the start signals of the call to come, which no wait of these calls is behind.
-/
module

public import proofs.«01_k».proof.Proof.KernelTile
public import proofs.«01_k».proof.Proof.Gen.KernelIdeal.Launch
public import Idealize.ShloMosaic.Lib.Pipeline.Frame
public import Idealize.ShloMosaic.Lib.Pipeline.FrameTail

@[expose] public section

noncomputable section

namespace Cert.Proof.KernelRun

open Cert.KernelIdeal Cert.KernelIdeal.Gen

open Idealize.ShloMosaic Idealize.ShloMosaic.TcCoe
open Idealize.ShloMosaic.StableHlo (after held)
open Idealize.ShloMosaic.Pipeline (ucRefs sub_ucRefs Dat BodyObligationLoose afterRegion arrRef unscopedRest)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The tallies a core owes while the TensorCore calls run: the start signals of the SparseCore call. -/
abbrev debt (c : Dev nD) : CellTallies nD τ sig (HIx 1) := (K (F := F)).Otc c 0

omit [FloatOps F] in
theorem debt_none (c : Dev nD) (g : GSem nD τ sig) : debt (F := F) c g none = 0 := by
  rcases Nat.eq_zero_or_pos (debt (F := F) c g none) with h | h
  · exact h
  · exact absurd ((K (F := F)).lev_of_Otc_pos h) (by simp)

/-- The waits a core may have recorded by then: those at level 0. -/
abbrev recd (c : Dev nD) : Set (SemLoc sig × HIx 1) := {p | (K (F := F)).lev (T c, p.1) p.2 ≤ 0}

abbrev DATS : Type := (p : Fin 5) → (c : Dev nD) → Dat τ (Elt F) (HIx 1) ℕ UU ℕ (cfgs p) c

abbrev adm (q : Fin 5) : (pcfgs (F := F) q).Adm := (cfgs q).toPCfg_adm

/-- What a call's body keeps beside its windows: the scoped buffers that no window stages, and the random-number
    generator's register. -/
def restInv {gr n : Nat} (win : Fin n → Pipeline.WinSpec sig gr) (c : Dev nD) : sProp 𝕄 :=
  iprop(Pipeline.scopedRest win c ∗ ∃ r, prngReg c r)

omit [FloatOps F] in
theorem assoc_eq (P Q R : sProp 𝕄) : iprop((P ∗ Q) ∗ R) = iprop(P ∗ Q ∗ R) :=
  Idealize.SL.BI.Entails.antisymm Idealize.SL.BI.sep_assoc Idealize.SL.BI.sep_assoc'

/-- What a core carries between the TensorCore calls beside its host buffers: the random-number generator's register, and
    its debt with waits at level 0 recorded. -/
def side (c : Dev nD) : sProp 𝕄 :=
  iprop((∃ r, prngReg c r) ∗ ∃ Wt, ⌜(K (F := F)).WBelow (T c) Wt 0⌝ ∗ owes (c.tc : Thread nD τ) (debt (F := F) c) Wt)

/-- A TensorCore call from its proof data: pipeline `p`'s, whose arrays enter at `W`. -/
def regionSeg (dats : DATS (F := F)) (p : Fin 5) (kit : Pipeline.LaunchFacts (nD := nD) (τ := τ) cfgs p)
    (W : Dev nD → Valuation τ sig (Elt F))
    (hbody : ∀ c, BodyObligationLoose (dats p c) (defs₀ (F := F)) 𝒱₀ none Set.univ)
    (hshare : ∀ c w, (dats p c).share w = fullShare) (howed : ∀ c t, (dats p c).owed t = debt (F := F) c)
    (hrec : ∀ c t, (dats p c).recorded t = recd (F := F) c)
    (hA : ∀ c w, (dats p c).A w = W c (Proc.devRef .tc (arrRef (cfgs p).spec w)))
    (hin : ∀ c, restInv (cfgs p).spec c ⊢ (dats p c).Φ 0) (hout : ∀ c, (dats p c).Φ (Fin.last (cfgs p).N) ⊢ restInv (cfgs p).spec c) :
    Pipeline.RegionSeg (pcfgs (F := F)) adm dats none (defs₀ (F := F)) 𝒱₀ (K (F := F)).L (K (F := F)).lev p :=
  have kitP : Pipeline.PLaunchFacts (nD := nD) (τ := τ) (pcfgs (F := F)) p := kit.toP
  { win := kitP.win.to₀
    block_pos := kitP.block_pos
    stage_whole := kitP.stage_whole
    K := PEmpty
    osem := fun k => k.elim
    ho := Pipeline.OwnSemFacts.none _
    hbody := hbody
    hwaits := fun c => Pipeline.cellsWaits_intro (Pipeline.pin (pcfgs (F := F)) adm) dats none p c fun w s t =>
      (K (F := F)).mayWait_none _ fun g => by rw [howed c t]; exact debt_none c g
    pre := fun c => iprop(held (c.tc : Thread nD τ) (ucRefs τ sig) (W c) ∗ side c)
    post := fun c => iprop(held (c.tc : Thread nD τ) (ucRefs τ sig) (afterRegion (dats p c) (W c)) ∗ side c)
    X := fun c => iprop(∃ r, prngReg c r)
    Y := fun c => iprop(∃ r, prngReg c r)
    Z := fun c => unscopedRest (cfgs p).spec c (fun b => W c (Proc.devRef .tc b))
    hentry := fun c => by
      rw [Pipeline.ownSems0_none,
        show (held (c.tc : Thread nD τ) (ucRefs τ sig) (W c) : sProp 𝕄) = unscopedBufs c (fun b => W c (Proc.devRef .tc b))
          from (Pipeline.unscopedBufs_held c (W c)).symm]
      have hsplit := Pipeline.arrays_of_unscopedBufs (p := p) (pcfgs (F := F)) adm dats kitP.win kitP.arr_whole c (hshare c)
        (fun b => W c (Proc.devRef .tc b)) (fun w => hA c w)
      unfold side
      iintro ⟨⟨Hub, Hp, ⟨%Wt, %hWt, HO⟩⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        iexists Wt; isplitr
        · ipureintro
          intro q hq
          refine Or.inl ?_
          rw [hrec c 0]
          exact hWt q hq
        iexact HO
      isplitl [Hp]; · iexact Hp
      iexact Hrest
    hin := fun c => (show _ ⊢ restInv (cfgs p).spec c from by
      unfold restInv; iintro ⟨Hp, -, Hr⟩
      isplitl [Hr] <;> iassumption).trans (hin c)
    hout := fun c => (hout c).trans (by
      rw [Pipeline.ownSems0_none]; unfold restInv
      iintro ⟨Hr, Hp⟩
      isplitl [Hp]; · iexact Hp
      isplitr; · iempintro
      iexact Hr)
    hexit := fun c => by
      have hjoin := Pipeline.unscopedBufs_of_arrays (p := p) (pcfgs (F := F)) adm (Ix := HIx 1) (Name := ℕ) (U := UU) (Lvl := ℕ)
        kitP.win kitP.arr_whole c dats (hshare c)
        (fun b => W c (Proc.devRef .tc b)) (fun b => afterRegion (dats p c) (W c) (Proc.devRef .tc b)) ((dats p c).arrAt · (cfgs p).N)
        (fun w => (Pipeline.afterRegion_arr (dats p c) (W c) kit.win.arr_inj w).symm)
        (fun b hb => Pipeline.afterRegion_of_not_arr (dats p c) (W c)
          fun w h => hb (h ▸ Finset.mem_image.mpr ⟨w, Finset.mem_univ _, rfl⟩))
      rw [show (held (c.tc : Thread nD τ) (ucRefs τ sig) (afterRegion (dats p c) (W c)) : sProp 𝕄)
            = unscopedBufs c (fun b => afterRegion (dats p c) (W c) (Proc.devRef .tc b))
          from (Pipeline.unscopedBufs_held c (afterRegion (dats p c) (W c))).symm]
      iintro ⟨Ha, HO, Hp, Hrest⟩
      imodintro
      isplitl [Ha Hrest]
      · iapply hjoin; isplitl [Ha] <;> iassumption
      unfold side
      isplitl [Hp]; · iexact Hp
      unfold Dat.owesAt Pipeline.owesWithin
      rw [howed c (Fin.last _)]
      icases HO with ⟨%Wt, %hWt, HO⟩; iexists Wt
      isplitr
      · ipureintro
        intro q hq
        rcases hWt hq with h | ⟨w, s, h⟩
        · rw [hrec c] at h; exact h
        · rw [h]; exact le_rfl
      iexact HO }

theorem ghost_inj : Function.Injective (Pipeline.cellOf (nD := nD) (τ := τ) (Pipeline.pin (pcfgs (F := F)) adm)) :=
  (Pipeline.LaunchFacts.toP (Val := Elt F) launch0).cellOf_inj adm

/-- The staging cells' ghost state of a set of calls still to run. -/
abbrev ghost (S : Finset (Fin 5)) (c : Dev nD) : sProp 𝕄 :=
  bigSep S fun p => iprop(Pipeline.cellsGhost (Pipeline.pin (pcfgs (F := F)) adm) EP p c ∗ Pipeline.toksInit (Pipeline.pin (pcfgs (F := F)) adm) EP p c)

/-- A TensorCore call run inside @main: from the held buffers at `W` to the held buffers at what the call leaves. -/
theorem wp_region [∀ e, Nonempty (Elt F e)] (dats : DATS (F := F)) (p : Fin 5) (S : Finset (Fin 5)) (hp : p ∈ S)
    (kit : Pipeline.LaunchFacts (nD := nD) (τ := τ) cfgs p)
    (W : Dev nD → Valuation τ sig (Elt F))
    (hbody : ∀ c, BodyObligationLoose (dats p c) (defs₀ (F := F)) 𝒱₀ none Set.univ)
    (hshare : ∀ c w, (dats p c).share w = fullShare) (howed : ∀ c t, (dats p c).owed t = debt (F := F) c)
    (hrec : ∀ c t, (dats p c).recorded t = recd (F := F) c)
    (hA : ∀ c w, (dats p c).A w = W c (Proc.devRef .tc (arrRef (cfgs p).spec w)))
    (hin : ∀ c, restInv (cfgs p).spec c ⊢ (dats p c).Φ 0) (hout : ∀ c, (dats p c).Φ (Fin.last (cfgs p).N) ⊢ restInv (cfgs p).spec c)
    (d : Dev nD) (Q : PUnit → sProp 𝕄) :
    iprop((iprop(boundary (d.tc : Thread nD τ) ∗ held (d.tc : Thread nD τ) (ucRefs τ sig) (afterRegion (dats p d) (W d)) ∗ side d ∗ ghost (S.erase p) d) -∗ Q ⟨⟩)
        ∗ boundary (d.tc : Thread nD τ) ∗ held (d.tc : Thread nD τ) (ucRefs τ sig) (W d) ∗ side d ∗ ghost S d ∗ levAts (K (F := F)).L (K (F := F)).lev)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  refine BIBase.Entails.trans ?_ (Pipeline.RegionSeg.wp (pcfgs (F := F)) adm dats none ghost_inj EP (defs₀ (F := F)) 𝒱₀ (K (F := F)).L (K (F := F)).lev
    (regionSeg dats p kit W hbody hshare howed hrec hA hin hout) d none (fun u hu => nomatch hu) (fun u => .ret u) Q)
  unfold ghost
  rw [SparseCore.bigSep_erase' hp]
  rw [show (regionSeg dats p kit W hbody hshare howed hrec hA hin hout).post d
      = iprop(held (d.tc : Thread nD τ) (ucRefs τ sig) (afterRegion (dats p d) (W d)) ∗ side d) from rfl,
    show (regionSeg dats p kit W hbody hshare howed hrec hA hin hout).pre d
      = iprop(held (d.tc : Thread nD τ) (ucRefs τ sig) (W d) ∗ side d) from rfl]
  iintro ⟨Hk, Hb, Hh, Hs, ⟨⟨Hg, Ht⟩, Hgs⟩, Hl⟩
  isplitl [Hk Hgs]
  · iintro ⟨Hb, ⟨Hh, Hs⟩⟩
    rw [show (Prog.ret PUnit.unit : Prog (TpuEff nD τ sig (Elt F) (ΛP (F := F)) .tc) PUnit) = Pure.pure PUnit.unit from rfl, wp_pure]; imodintro
    iapply Hk
    isplitl [Hb]; · iexact Hb
    isplitl [Hh]; · iexact Hh
    isplitl [Hs]; · iexact Hs
    iexact Hgs
  isplitl [Hb]; · iexact Hb
  isplitl [Hh Hs]
  · isplitl [Hh]; · iexact Hh
    iexact Hs
  isplitl [Hl]; · iexact Hl
  isplitl [Hg] <;> iassumption

end Cert.Proof.KernelRun

end
-- ==== Proof.KernelStat0.lean ====
/-
  The first statistics call: sums of the convolved coordinates and of their squares, carried over the grid.
-/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelRun.Stat0

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- What the body never touches: the scoped buffers that are neither staging nor its scratch, and the generator's register. -/
abbrev genRest (c : Dev nD) : sProp 𝕄 :=
  iprop(Pipeline.scopedRestBut (Ix := HIx 1) (Name := ℕ) (U := UU) (Lvl := ℕ) (Val := Elt F) spec0 c [cc0_scratch0, cc0_scratch1] ∗ ∃ r, prngReg c r)

def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem before0_0_of {c : Dev nD} (dat : Dat τ (Elt F) (HIx 1) ℕ UU ℕ cfg0 c) (hA : dat.A 0 = V c (Proc.devRef .tc (Pipeline.arrRef spec0 0)))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 1) ℕ UU ℕ cfg0 c) (hA : dat.A 1 = V c (Proc.devRef .tc (Pipeline.arrRef spec0 1)))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) (HIx 1) ℕ UU ℕ cfg0 c) (hA : dat.A 2 = V c (Proc.devRef .tc (Pipeline.arrRef spec0 2)))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

abbrev VO0_3 : View sig .tc .vmem S32x1 .f32 := (Memref.whole cc0_stg3_0 : Memref sig .tc .vmem S32x1 .f32).view
abbrev VO0_4 : View sig .tc .vmem S32x1 .f32 := (Memref.whole cc0_stg4_0 : Memref sig .tc .vmem S32x1 .f32).view
abbrev ms0_0 (t : Fin cfg0.N) : Memref sig .tc .vmem S8x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1 .f32 := win0_4.stage (cfg0.slots t 4)
abbrev hs0_4 (t : Fin cfg0.N) : (ms0_4 t).IsWhole := hstage0_4 ((cfg0.slots t 4).cast nbuf0_4)
abbrev scM0_0 : Memref sig .tc .vmem S32x1 .f32 := Memref.whole cc0_scratch0
abbrev scM0_1 : Memref sig .tc .vmem S32x1 .f32 := Memref.whole cc0_scratch1
abbrev VS0_0 : View sig .tc .vmem S32x1 .f32 := scM0_0.view
abbrev VS0_1 : View sig .tc .vmem S32x1 .f32 := scM0_1.view

theorem PhiA0_eq (c : Dev nD) :
    (restInv (F := F) spec0 c : sProp 𝕄)
      = iprop(iprop((∃ d, owns (c : Thread nD τ) scM0_0 fullShare d) ∗ (∃ d, owns (c : Thread nD τ) scM0_1 fullShare d)) ∗ genRest (F := F) c) := by
  unfold restInv genRest; rw [scopedRest0_split, assoc_eq]; simp only [scM0_0, scM0_1, owns_whole]; try rfl

section Runs

variable (c : Dev nD) (i : grid0.Coords)
  (arg1 : Memref sig .tc .vmem S8x2048 .f32) (harg1 : arg1.IsWhole)
  (arg2 : Memref sig .tc .vmem S32x8 .f32) (harg2 : arg2.IsWhole)
  (arg3 : Memref sig .tc .vmem S32x1 .f32) (harg3 : arg3.IsWhole)
  (arg4 : Memref sig .tc .vmem S32x1 .f32) (harg4 : arg4.IsWhole)
  (arg5 : Memref sig .tc .vmem S32x1 .f32) (harg5 : arg5.IsWhole)
  (arg6 : Memref sig .tc .vmem S32x1 .f32) (harg6 : arg6.IsWhole)
  (arg7 : Memref sig .tc .vmem S32x1 .f32) (harg7 : arg7.IsWhole)

set_option maxHeartbeats 4000000 in
noncomputable def kernelRun0_A (hc0 : cond0_0 i) (hc1 : ¬cond0_1 i)
    (x0 : Vec F S8x2048 .f32) (x1 : Vec F S32x8 .f32) (x2 : Vec F S32x1 .f32) :
    Σ' (L3 : List (View.Piece (Elt F) S32x1 .f32)), Σ' (L4 : List (View.Piece (Elt F) S32x1 .f32)), Σ' (LS0 : List (View.Piece (Elt F) S32x1 .f32)), { LS1 : List (View.Piece (Elt F) S32x1 .f32) //
      ∀ (xi3 xi4 : Vec F S32x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__p0_body i arg1 harg1 arg2 harg2 arg3 harg3 arg4 harg4 arg5 harg5 arg6 harg6 arg7 harg7) K } := by
  refine ⟨[], [], ?_, ?_, fun xi3 xi4 E K => ?run⟩
  case run =>
    simp only [cc0__p0_body_eq_skeleton]; unfold cc0__p0_body_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun0_B (hc0 : ¬cond0_0 i) (hc1 : ¬cond0_1 i)
    (x0 : Vec F S8x2048 .f32) (x1 : Vec F S32x8 .f32) (x2 xs0 xs1 : Vec F S32x1 .f32) :
    Σ' (L3 : List (View.Piece (Elt F) S32x1 .f32)), Σ' (L4 : List (View.Piece (Elt F) S32x1 .f32)), Σ' (LS0 : List (View.Piece (Elt F) S32x1 .f32)), { LS1 : List (View.Piece (Elt F) S32x1 .f32) //
      ∀ (xi3 xi4 : Vec F S32x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__p0_body i arg1 harg1 arg2 harg2 arg3 harg3 arg4 harg4 arg5 harg5 arg6 harg6 arg7 harg7) K } := by
  refine ⟨[], [], ?_, ?_, fun xi3 xi4 E K => ?run⟩
  case run =>
    simp only [cc0__p0_body_eq_skeleton]; unfold cc0__p0_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
noncomputable def kernelRun0_C (hc0 : ¬cond0_0 i) (hc1 : cond0_1 i)
    (x0 : Vec F S8x2048 .f32) (x1 : Vec F S32x8 .f32) (x2 xs0 xs1 : Vec F S32x1 .f32) :
    Σ' (L3 : List (View.Piece (Elt F) S32x1 .f32)), Σ' (L4 : List (View.Piece (Elt F) S32x1 .f32)), Σ' (LS0 : List (View.Piece (Elt F) S32x1 .f32)), { LS1 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__p0_body i arg1 harg1 arg2 harg2 arg3 harg3 arg4 harg4 arg5 harg5 arg6 harg6 arg7 harg7) K } := by
  refine ⟨?_, ?_, ?_, ?_, fun E K => ?run⟩
  case run =>
    simp only [cc0__p0_body_eq_skeleton]; unfold cc0__p0_body_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

def out0_A_3 (hc0 : cond0_0 i) (hc1 : ¬cond0_1 i)
    (x0 : Vec F S8x2048 .f32) (x1 : Vec F S32x8 .f32) (x2 : Vec F S32x1 .f32) : Vec F S32x1 .f32 :=
  VO0_3.read (Elt F) (VO0_3.writes (Elt F) VO0_3.junk (kernelRun0_A c i arg1 harg1 arg2 harg2 arg3 harg3 arg4 harg4 arg5 harg5 arg6 harg6 arg7 harg7 hc0 hc1 x0 x1 x2).1)

def out0_A_4 (hc0 : cond0_0 i) (hc1 : ¬cond0_1 i)
    (x0 : Vec F S8x2048 .f32) (x1 : Vec F S32x8 .f32) (x2 : Vec F S32x1 .f32) : Vec F S32x1 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2).2.1)

theorem scover0_A_0 (hc0 : cond0_0 i) (hc1 : ¬cond0_1 i)
    (x0 : Vec F S8x2048 .f32) (x1 : Vec F S32x8 .f32) (x2 : Vec F S32x1 .f32) (y : S32x1.Idx) :
    ∃ pc ∈ (kernelRun0_A c i arg1 harg1 arg2 harg2 arg3 harg3 arg4 harg4 arg5 harg5 arg6 harg6 arg7 harg7 hc0 hc1 x0 x1 x2).2.2.1, y ∈ pc.1.set :=
  View.cover_of_tiledL (kernelRun0_A c i arg1 harg1 arg2 harg2 arg3 harg3 arg4 harg4 arg5 harg5 arg6 harg6 arg7 harg7 hc0 hc1 x0 x1 x2).2.2.1 S32x1.size (by sl_kernel_rfl) y

def sout0_A_0 (hc0 : cond0_0 i) (hc1 : ¬cond0_1 i)
    (x0 : Vec F S8x2048 .f32) (x1 : Vec F S32x8 .f32) (x2 : Vec F S32x1 .f32) : Vec F S32x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2).2.2.1)

theorem scover0_A_1 (hc0 : cond0_0 i) (hc1 : ¬cond0_1 i)
    (x0 : Vec F S8x2048 .f32) (x1 : Vec F S32x8 .f32) (x2 : Vec F S32x1 .f32) (y : S32x1.Idx) :
    ∃ pc ∈ (kernelRun0_A c i arg1 harg1 arg2 harg2 arg3 harg3 arg4 harg4 arg5 harg5 arg6 harg6 arg7 harg7 hc0 hc1 x0 x1 x2).2.2.2.1, y ∈ pc.1.set :=
  View.cover_of_tiledL (kernelRun0_A c i arg1 harg1 arg2 harg2 arg3 harg3 arg4 harg4 arg5 harg5 arg6 harg6 arg7 harg7 hc0 hc1 x0 x1 x2).2.2.2.1 S32x1.size (by sl_kernel_rfl) y

def sout0_A_1 (hc0 : cond0_0 i) (hc1 : ¬cond0_1 i)
    (x0 : Vec F S8x2048 .f32) (x1 : Vec F S32x8 .f32) (x2 : Vec F S32x1 .f32) : Vec F S32x1 .f32 :=
  VS0_1.read (Elt F) (VS0_1.writes (Elt F) VS0_1.junk (kernelRun0_A c i arg1 harg1 arg2 harg2 arg3 harg3 arg4 harg4 arg5 harg5 arg6 harg6 arg7 harg7 hc0 hc1 x0 x1 x2).2.2.2.1)

def out0_B_3 (hc0 : ¬cond0_0 i) (hc1 : ¬cond0_1 i)
    (x0 : Vec F S8x2048 .f32) (x1 : Vec F S32x8 .f32) (x2 xs0 xs1 : Vec F S32x1 .f32) : Vec F S32x1 .f32 :=
  VO0_3.read (Elt F) (VO0_3.writes (Elt F) VO0_3.junk (kernelRun0_B c i arg1 harg1 arg2 harg2 arg3 harg3 arg4 harg4 arg5 harg5 arg6 harg6 arg7 harg7 hc0 hc1 x0 x1 x2 xs0 xs1).1)

def out0_B_4 (hc0 : ¬cond0_0 i) (hc1 : ¬cond0_1 i)
    (x0 : Vec F S8x2048 .f32) (x1 : Vec F S32x8 .f32) (x2 xs0 xs1 : Vec F S32x1 .f32) : Vec F S32x1 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 xs0 xs1).2.1)

theorem scover0_B_0 (hc0 : ¬cond0_0 i) (hc1 : ¬cond0_1 i)
    (x0 : Vec F S8x2048 .f32) (x1 : Vec F S32x8 .f32) (x2 xs0 xs1 : Vec F S32x1 .f32) (y : S32x1.Idx) :
    ∃ pc ∈ (kernelRun0_B c i arg1 harg1 arg2 harg2 arg3 harg3 arg4 harg4 arg5 harg5 arg6 harg6 arg7 harg7 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.1 S32x1.size (by sl_kernel_rfl) y

def sout0_B_0 (hc0 : ¬cond0_0 i) (hc1 : ¬cond0_1 i)
    (x0 : Vec F S8x2048 .f32) (x1 : Vec F S32x8 .f32) (x2 xs0 xs1 : Vec F S32x1 .f32) : Vec F S32x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 xs0 xs1).2.2.1)

theorem scover0_B_1 (hc0 : ¬cond0_0 i) (hc1 : ¬cond0_1 i)
    (x0 : Vec F S8x2048 .f32) (x1 : Vec F S32x8 .f32) (x2 xs0 xs1 : Vec F S32x1 .f32) (y : S32x1.Idx) :
    ∃ pc ∈ (kernelRun0_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_B c i arg1 harg1 arg2 harg2 arg3 harg3 arg4 harg4 arg5 harg5 arg6 harg6 arg7 harg7 hc0 hc1 x0 x1 x2 xs0 xs1).2.2.2.1 S32x1.size (by sl_kernel_rfl) y

def sout0_B_1 (hc0 : ¬cond0_0 i) (hc1 : ¬cond0_1 i)
    (x0 : Vec F S8x2048 .f32) (x1 : Vec F S32x8 .f32) (x2 xs0 xs1 : Vec F S32x1 .f32) : Vec F S32x1 .f32 :=
  VS0_1.read (Elt F) (VS0_1.writes (Elt F) VS0_1.junk (kernelRun0_B c i arg1 harg1 arg2 harg2 arg3 harg3 arg4 harg4 arg5 harg5 arg6 harg6 arg7 harg7 hc0 hc1 x0 x1 x2 xs0 xs1).2.2.2.1)

theorem cover0_C_3 (hc0 : ¬cond0_0 i) (hc1 : cond0_1 i)
    (x0 : Vec F S8x2048 .f32) (x1 : Vec F S32x8 .f32) (x2 xs0 xs1 : Vec F S32x1 .f32) (y : S32x1.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL (kernelRun0_C c i arg1 harg1 arg2 harg2 arg3 harg3 arg4 harg4 arg5 harg5 arg6 harg6 arg7 harg7 hc0 hc1 x0 x1 x2 xs0 xs1).1 S32x1.size (by sl_kernel_rfl) y

def out0_C_3 (hc0 : ¬cond0_0 i) (hc1 : cond0_1 i)
    (x0 : Vec F S8x2048 .f32) (x1 : Vec F S32x8 .f32) (x2 xs0 xs1 : Vec F S32x1 .f32) : Vec F S32x1 .f32 :=
  VO0_3.read (Elt F) (VO0_3.writes (Elt F) VO0_3.junk (kernelRun0_C c i arg1 harg1 arg2 harg2 arg3 harg3 arg4 harg4 arg5 harg5 arg6 harg6 arg7 harg7 hc0 hc1 x0 x1 x2 xs0 xs1).1)

theorem cover0_C_4 (hc0 : ¬cond0_0 i) (hc1 : cond0_1 i)
    (x0 : Vec F S8x2048 .f32) (x1 : Vec F S32x8 .f32) (x2 xs0 xs1 : Vec F S32x1 .f32) (y : S32x1.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL (kernelRun0_C c i arg1 harg1 arg2 harg2 arg3 harg3 arg4 harg4 arg5 harg5 arg6 harg6 arg7 harg7 hc0 hc1 x0 x1 x2 xs0 xs1).2.1 S32x1.size (by sl_kernel_rfl) y

def out0_C_4 (hc0 : ¬cond0_0 i) (hc1 : cond0_1 i)
    (x0 : Vec F S8x2048 .f32) (x1 : Vec F S32x8 .f32) (x2 xs0 xs1 : Vec F S32x1 .f32) : Vec F S32x1 .f32 :=
  VO0_4.read (Elt F) (VO0_4.writes (Elt F) VO0_4.junk (kernelRun0_C c i arg1 harg1 arg2 harg2 arg3 harg3 arg4 harg4 arg5 harg5 arg6 harg6 arg7 harg7 hc0 hc1 x0 x1 x2 xs0 xs1).2.1)

theorem scover0_C_0 (hc0 : ¬cond0_0 i) (hc1 : cond0_1 i)
    (x0 : Vec F S8x2048 .f32) (x1 : Vec F S32x8 .f32) (x2 xs0 xs1 : Vec F S32x1 .f32) (y : S32x1.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.1 S32x1.size (by sl_kernel_rfl) y

def sout0_C_0 (hc0 : ¬cond0_0 i) (hc1 : cond0_1 i)
    (x0 : Vec F S8x2048 .f32) (x1 : Vec F S32x8 .f32) (x2 xs0 xs1 : Vec F S32x1 .f32) : Vec F S32x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 xs0 xs1).2.2.1)

theorem scover0_C_1 (hc0 : ¬cond0_0 i) (hc1 : cond0_1 i)
    (x0 : Vec F S8x2048 .f32) (x1 : Vec F S32x8 .f32) (x2 xs0 xs1 : Vec F S32x1 .f32) (y : S32x1.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 hc0 hc1 x0 x1 x2 xs0 xs1).2.2.2.1 S32x1.size (by sl_kernel_rfl) y

def sout0_C_1 (hc0 : ¬cond0_0 i) (hc1 : cond0_1 i)
    (x0 : Vec F S8x2048 .f32) (x1 : Vec F S32x8 .f32) (x2 xs0 xs1 : Vec F S32x1 .f32) : Vec F S32x1 .f32 :=
  VS0_1.read (Elt F) (VS0_1.writes (Elt F) VS0_1.junk (kernelRun0_C c i arg1 harg1 arg2 harg2 arg3 harg3 arg4 harg4 arg5 harg5 arg6 harg6 arg7 harg7 hc0 hc1 x0 x1 x2 xs0 xs1).2.2.2.1)

end Runs

/-- What the first visit to a block leaves. -/
def atA (c : Dev nD) (t : Fin cfg0.N) (h0 : t.val % 32 = 0) (h1 : ¬t.val % 32 = 31) :
    Vec F S32x1 .f32 × Vec F S32x1 .f32 × Vec F S32x1 .f32 × Vec F S32x1 .f32 :=
  (out0_A_3 c (grid0.coords t) _ (hs0_0 t) _ (hs0_1 t) _ (hs0_2 t) _ (hs0_3 t) _ (hs0_4 t) scM0_0 (Memref.isWhole_whole _) scM0_1 (Memref.isWhole_whole _) ((hcond0_0 t).mpr h0) (fun h => h1 ((hcond0_1 t).mp h)) (iblk V c 0 t) (iblk V c 1 t) (iblk V c 2 t),
   out0_A_4 c (grid0.coords t) _ (hs0_0 t) _ (hs0_1 t) _ (hs0_2 t) _ (hs0_3 t) _ (hs0_4 t) scM0_0 (Memref.isWhole_whole _) scM0_1 (Memref.isWhole_whole _) ((hcond0_0 t).mpr h0) (fun h => h1 ((hcond0_1 t).mp h)) (iblk V c 0 t) (iblk V c 1 t) (iblk V c 2 t),
   sout0_A_0 c (grid0.coords t) _ (hs0_0 t) _ (hs0_1 t) _ (hs0_2 t) _ (hs0_3 t) _ (hs0_4 t) scM0_0 (Memref.isWhole_whole _) scM0_1 (Memref.isWhole_whole _) ((hcond0_0 t).mpr h0) (fun h => h1 ((hcond0_1 t).mp h)) (iblk V c 0 t) (iblk V c 1 t) (iblk V c 2 t),
   sout0_A_1 c (grid0.coords t) _ (hs0_0 t) _ (hs0_1 t) _ (hs0_2 t) _ (hs0_3 t) _ (hs0_4 t) scM0_0 (Memref.isWhole_whole _) scM0_1 (Memref.isWhole_whole _) ((hcond0_0 t).mpr h0) (fun h => h1 ((hcond0_1 t).mp h)) (iblk V c 0 t) (iblk V c 1 t) (iblk V c 2 t))

/-- What a middle visit leaves, after `p`. -/
def atB (c : Dev nD) (t : Fin cfg0.N) (h0 : ¬t.val % 32 = 0) (h1 : ¬t.val % 32 = 31) (p : Vec F S32x1 .f32 × Vec F S32x1 .f32 × Vec F S32x1 .f32 × Vec F S32x1 .f32) :
    Vec F S32x1 .f32 × Vec F S32x1 .f32 × Vec F S32x1 .f32 × Vec F S32x1 .f32 :=
  (out0_B_3 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) p.2.2.1 p.2.2.2,
   out0_B_4 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) p.2.2.1 p.2.2.2,
   sout0_B_0 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) p.2.2.1 p.2.2.2,
   sout0_B_1 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) p.2.2.1 p.2.2.2)

/-- What the last visit leaves, after `p`. -/
def atC (c : Dev nD) (t : Fin cfg0.N) (h0 : ¬t.val % 32 = 0) (h1 : t.val % 32 = 31) (p : Vec F S32x1 .f32 × Vec F S32x1 .f32 × Vec F S32x1 .f32 × Vec F S32x1 .f32) :
    Vec F S32x1 .f32 × Vec F S32x1 .f32 × Vec F S32x1 .f32 × Vec F S32x1 .f32 :=
  (out0_C_3 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) ((hcond0_1 t).mpr h1) (iblk V c 0 t) (iblk V c 1 t) (iblk V c 2 t) p.2.2.1 p.2.2.2,
   out0_C_4 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) ((hcond0_1 t).mpr h1) (iblk V c 0 t) (iblk V c 1 t) (iblk V c 2 t) p.2.2.1 p.2.2.2,
   sout0_C_0 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) ((hcond0_1 t).mpr h1) (iblk V c 0 t) (iblk V c 1 t) (iblk V c 2 t) p.2.2.1 p.2.2.2,
   sout0_C_1 c (grid0.coords t) _ (hs0_0 t) _ (hs0_1 t) _ (hs0_2 t) _ (hs0_3 t) _ (hs0_4 t) scM0_0 (Memref.isWhole_whole _) scM0_1 (Memref.isWhole_whole _) (fun h => h0 ((hcond0_0 t).mp h)) ((hcond0_1 t).mpr h1) (iblk V c 0 t) (iblk V c 1 t) (iblk V c 2 t) p.2.2.1 p.2.2.2)

def outsAt0 (c : Dev nD) : (n : ℕ) → n < cfg0.N → Vec F S32x1 .f32 × Vec F S32x1 .f32 × Vec F S32x1 .f32 × Vec F S32x1 .f32
  | 0, hn => atA V c ⟨0, hn⟩ (Nat.zero_mod _) (fun h => by (try dsimp only at h); omega)
  | n + 1, hn =>
    if h0 : (n + 1) % 32 = 0 then
      if h1 : (n + 1) % 32 = 31 then
        False.elim (by have hN : n + 1 < 32 := lt_of_lt_of_eq hn (show cfg0.N = 32 from N_0); omega)
      else atA V c ⟨n + 1, hn⟩ h0 h1
    else
      if h1 : (n + 1) % 32 = 31 then atC V c ⟨n + 1, hn⟩ h0 h1 (outsAt0 c n (Nat.lt_of_succ_lt hn))
      else atB V c ⟨n + 1, hn⟩ h0 h1 (outsAt0 c n (Nat.lt_of_succ_lt hn))

theorem outsAt0_A (c : Dev nD) (t : Fin cfg0.N) (h0 : t.val % 32 = 0) (h1 : ¬t.val % 32 = 31) :
    outsAt0 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = atB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = atC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => restInv (F := F) spec0 c
  | n + 1, hn => iprop(iprop(owns (c : Thread nD τ) scM0_0 fullShare ((outsAt0 V c n hn).2.2.1) ∗ owns (c : Thread nD τ) scM0_1 fullShare ((outsAt0 V c n hn).2.2.2)) ∗ genRest (F := F) c)

theorem PhiS_zero (c : Dev nD) (n : ℕ) (h : n ≤ cfg0.N) (hz : n = 0) : PhiS V c n h = restInv (F := F) spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ genRest (F := F) c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ genRest (F := F) c) := by
  cases n with
  | zero => exact absurd rfl hz
  | succ n => rfl

def dat (c : Dev nD) : Dat τ (Elt F) (HIx 1) ℕ UU ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := debt (F := F) c
  recorded _ := recd (F := F) c

theorem A_eq (c : Dev nD) (w : Fin cfg0.W) : (dat V c).A w = V c (Proc.devRef .tc (Pipeline.arrRef spec0 w)) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = (outsAt0 V c t.val t.isLt).1 := by dsimp only [dat]
theorem after0_4 (c : Dev nD) (t : Fin cfg0.N) : (dat V c).after 4 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

def bodyPre (c : Dev nD) (t : Fin cfg0.N) : sProp 𝕄 :=
  iprop((dat V c).Φ t.castSucc ∗ (dat V c).owesAt none t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

def bodyPost (c : Dev nD) (t : Fin cfg0.N) : sProp 𝕄 :=
  iprop((dat V c).Φ t.succ ∗ (dat V c).owesAt none t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt none t.succ = (dat V c).owesAt none t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [Dat.leavesExact_idle (dat V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat V c) 4 t (idleAt0_4_A t ((hcond0_0 t).mpr h0) (fun h => h1 ((hcond0_1 t).mp h))) (noFlush0_4_A t ((hcond0_0 t).mpr h0) (fun h => h1 ((hcond0_1 t).mp h)))]
      by_cases hz : t.val = 0
      · rw [PhiS_castSucc V c t, PhiS_zero V c _ _ hz, PhiA0_eq]
        rw [outsAt0_A V c t h0 h1, atA]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk V c 0 t) (iblk V c 1 t) (iblk V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · exfalso; have hN : t.val < 32 := lt_of_lt_of_eq t.isLt (show cfg0.N = 32 from N_0); omega
  · by_cases h1 : t.val % 32 = 31
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3_C t (fun h => h0 ((hcond0_0 t).mp h)) ((hcond0_1 t).mpr h1)], after0_3]
      rw [show (dat V c).leavesExact 4 t = owns (c : Thread nD τ) (ms0_4 t) fullShare ((dat V c).after 4 t) from by
      unfold Dat.leavesExact; rw [liveAt0_4_C t (fun h => h0 ((hcond0_0 t).mp h)) ((hcond0_1 t).mpr h1)], after0_4]
      by_cases hz : t.val = 0
      · exfalso; have hN : t.val < 32 := lt_of_lt_of_eq t.isLt (show cfg0.N = 32 from N_0); omega
      · rw [PhiS_castSucc V c t, PhiS_pos V c _ _ hz]
        rw [outsAt0_C V c t h0 h1, atC]
        unfold out0_C_3 out0_C_4 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk V c 0 t) (iblk V c 1 t) (iblk V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [Dat.leavesExact_idle (dat V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc V c t, PhiS_pos V c _ _ hz]
        rw [outsAt0_B V c t h0 h1, atB]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk V c 0 t) (iblk V c 1 t) (iblk V c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

theorem defs₀_row (t : Fin cfg0.N) :
    defs₀ (F := F) .tc cfg0.body (cfg0.bodyArgs t (cfg0.slots t)) = bodyAt0 t := by
  rfl

theorem body_obligation (c : Dev nD) : BodyObligation (dat V c) (defs₀ (F := F)) Variants.none none Set.univ := fun t => by
  rw [bigSep_W0, bigSep_W0, defs₀_row]
  exact triple_restated (sound_body V c t) rfl .rfl fun _ => .rfl

theorem hin (c : Dev nD) : restInv (F := F) spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ restInv (F := F) spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dat V c).Φ (Fin.last cfg0.N) ⊢ restInv (F := F) spec0 c :=
  Phi_out V c _ (by rw [Fin.val_last]; have : cfg0.N = 32 := N_0; omega)

end Cert.Proof.KernelRun.Stat0

end
-- ==== Proof.KernelStat1.lean ====
/-
  The second statistics call.
-/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelRun.Stat1

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- What the body never touches: the scoped buffers that are neither staging nor its scratch, and the generator's register. -/
abbrev genRest (c : Dev nD) : sProp 𝕄 :=
  iprop(Pipeline.scopedRestBut (Ix := HIx 1) (Name := ℕ) (U := UU) (Lvl := ℕ) (Val := Elt F) spec1 c [cc1_scratch0, cc1_scratch1] ∗ ∃ r, prngReg c r)

def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem before1_0_of {c : Dev nD} (dat : Dat τ (Elt F) (HIx 1) ℕ UU ℕ cfg1 c) (hA : dat.A 0 = V c (Proc.devRef .tc (Pipeline.arrRef spec1 0)))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) (HIx 1) ℕ UU ℕ cfg1 c) (hA : dat.A 1 = V c (Proc.devRef .tc (Pipeline.arrRef spec1 1)))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) (HIx 1) ℕ UU ℕ cfg1 c) (hA : dat.A 2 = V c (Proc.devRef .tc (Pipeline.arrRef spec1 2)))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) (HIx 1) ℕ UU ℕ cfg1 c) (hA : dat.A 3 = V c (Proc.devRef .tc (Pipeline.arrRef spec1 3)))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) (HIx 1) ℕ UU ℕ cfg1 c) (hA : dat.A 4 = V c (Proc.devRef .tc (Pipeline.arrRef spec1 4)))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) (HIx 1) ℕ UU ℕ cfg1 c) (hA : dat.A 5 = V c (Proc.devRef .tc (Pipeline.arrRef spec1 5)))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) (HIx 1) ℕ UU ℕ cfg1 c) (hA : dat.A 6 = V c (Proc.devRef .tc (Pipeline.arrRef spec1 6)))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) (HIx 1) ℕ UU ℕ cfg1 c) (hA : dat.A 7 = V c (Proc.devRef .tc (Pipeline.arrRef spec1 7)))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before1_8_of {c : Dev nD} (dat : Dat τ (Elt F) (HIx 1) ℕ UU ℕ cfg1 c) (hA : dat.A 8 = V c (Proc.devRef .tc (Pipeline.arrRef spec1 8)))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid1.Coords) : Prop := (Scalar.cmpi .ne (Scalar.extui (Scalar.cmpi .eq (BitVec.ofNat 32 (i 0).val) 0#32)) 0#32) = 1#1
theorem hcond1_0 : ∀ t : Fin cfg1.N, cond0_0 (grid1.coords t) ↔ t.val % 32 = 0 :=
  (fun t => by
    have ht : t.val < 32 := Nat.lt_of_lt_of_eq t.isLt N_0
    have e0 : (grid1.coords t 0).val = t.val / 1 % 32 := Pipeline.Grid.coords_val t 0 (by decide) rfl
    simp only [cond0_0, e0]
    word_cmp
   : ∀ t : Fin grid1.N, cond0_0 (grid1.coords t) ↔ t.val % 32 = 0)

abbrev cond0_1 (i : grid1.Coords) : Prop := k1_cond2 i = 1#1
theorem hcond1_1 : ∀ t : Fin cfg1.N, cond0_1 (grid1.coords t) ↔ t.val % 32 = 31 :=
  (fun t => by
    have ht : t.val < 32 := Nat.lt_of_lt_of_eq t.isLt N_0
    have e0 : (grid1.coords t 0).val = t.val / 1 % 32 := Pipeline.Grid.coords_val t 0 (by decide) rfl
    simp only [cond0_1, k1_cond2, e0]
    word_cmp
   : ∀ t : Fin grid1.N, cond0_1 (grid1.coords t) ↔ t.val % 32 = 31)

theorem liveAt0_0 : ∀ t : Fin cfg1.N, cfg1.idle 0 (grid1.coords t) = false := fun _ => rfl
theorem liveAt0_1 : ∀ t : Fin cfg1.N, cfg1.idle 1 (grid1.coords t) = false := fun _ => rfl
theorem liveAt0_2 : ∀ t : Fin cfg1.N, cfg1.idle 2 (grid1.coords t) = false := fun _ => rfl
theorem liveAt0_3 : ∀ t : Fin cfg1.N, cfg1.idle 3 (grid1.coords t) = false := fun _ => rfl
theorem liveAt0_4 : ∀ t : Fin cfg1.N, cfg1.idle 4 (grid1.coords t) = false := fun _ => rfl
theorem liveAt0_5 : ∀ t : Fin cfg1.N, cfg1.idle 5 (grid1.coords t) = false := fun _ => rfl
theorem liveAt0_6 : ∀ t : Fin cfg1.N, cfg1.idle 6 (grid1.coords t) = false := fun _ => rfl
theorem liveAt0_7 : ∀ t : Fin cfg1.N, cfg1.idle 7 (grid1.coords t) = false := fun _ => rfl
theorem liveAt0_8 : ∀ t : Fin cfg1.N, cfg1.idle 8 (grid1.coords t) = false := fun _ => rfl
theorem idleAt0_9_A : ∀ t : Fin cfg1.N, cond0_0 (grid1.coords t) → ¬cond0_1 (grid1.coords t) → cfg1.idle 9 (grid1.coords t) = true := by decide +kernel
theorem noFlush0_9_A : ∀ t : Fin cfg1.N, cond0_0 (grid1.coords t) → ¬cond0_1 (grid1.coords t) → (cfg1.win 9).flush t = false := by decide +kernel
theorem idleAt0_9_B : ∀ t : Fin cfg1.N, ¬cond0_0 (grid1.coords t) → ¬cond0_1 (grid1.coords t) → cfg1.idle 9 (grid1.coords t) = true := by decide +kernel
theorem noFlush0_9_B : ∀ t : Fin cfg1.N, ¬cond0_0 (grid1.coords t) → ¬cond0_1 (grid1.coords t) → (cfg1.win 9).flush t = false := by decide +kernel
theorem liveAt0_9_C : ∀ t : Fin cfg1.N, ¬cond0_0 (grid1.coords t) → cond0_1 (grid1.coords t) → cfg1.idle 9 (grid1.coords t) = false := by decide +kernel
theorem idleAt0_10_A : ∀ t : Fin cfg1.N, cond0_0 (grid1.coords t) → ¬cond0_1 (grid1.coords t) → cfg1.idle 10 (grid1.coords t) = true := by decide +kernel
theorem noFlush0_10_A : ∀ t : Fin cfg1.N, cond0_0 (grid1.coords t) → ¬cond0_1 (grid1.coords t) → (cfg1.win 10).flush t = false := by decide +kernel
theorem idleAt0_10_B : ∀ t : Fin cfg1.N, ¬cond0_0 (grid1.coords t) → ¬cond0_1 (grid1.coords t) → cfg1.idle 10 (grid1.coords t) = true := by decide +kernel
theorem noFlush0_10_B : ∀ t : Fin cfg1.N, ¬cond0_0 (grid1.coords t) → ¬cond0_1 (grid1.coords t) → (cfg1.win 10).flush t = false := by decide +kernel
theorem liveAt0_10_C : ∀ t : Fin cfg1.N, ¬cond0_0 (grid1.coords t) → cond0_1 (grid1.coords t) → cfg1.idle 10 (grid1.coords t) = false := by decide +kernel

abbrev VO1_9 : View sig .tc .vmem S64x1 .f32 := (Memref.whole cc1_stg9_0 : Memref sig .tc .vmem S64x1 .f32).view
abbrev VO1_10 : View sig .tc .vmem S64x1 .f32 := (Memref.whole cc1_stg10_0 : Memref sig .tc .vmem S64x1 .f32).view
abbrev ms1_0 (t : Fin cfg1.N) : Memref sig .tc .vmem S8x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x1 .f32 := win1_10.stage (cfg1.slots t 10)
abbrev hs1_10 (t : Fin cfg1.N) : (ms1_10 t).IsWhole := hstage1_10 ((cfg1.slots t 10).cast nbuf1_10)
abbrev scM1_0 : Memref sig .tc .vmem S64x1 .f32 := Memref.whole cc1_scratch0
abbrev scM1_1 : Memref sig .tc .vmem S64x1 .f32 := Memref.whole cc1_scratch1
abbrev VS0_0 : View sig .tc .vmem S64x1 .f32 := scM1_0.view
abbrev VS0_1 : View sig .tc .vmem S64x1 .f32 := scM1_1.view

theorem PhiA1_eq (c : Dev nD) :
    (restInv (F := F) spec1 c : sProp 𝕄)
      = iprop(iprop((∃ d, owns (c : Thread nD τ) scM1_0 fullShare d) ∗ (∃ d, owns (c : Thread nD τ) scM1_1 fullShare d)) ∗ genRest (F := F) c) := by
  unfold restInv genRest; rw [scopedRest1_split, assoc_eq]; simp only [scM1_0, scM1_1, owns_whole]; try rfl

section Runs

variable (c : Dev nD) (i : grid1.Coords)
  (arg1 : Memref sig .tc .vmem S8x2048 .f32) (harg1 : arg1.IsWhole)
  (arg2 : Memref sig .tc .vmem S32x8 .f32) (harg2 : arg2.IsWhole)
  (arg3 : Memref sig .tc .vmem S32x1 .f32) (harg3 : arg3.IsWhole)
  (arg4 : Memref sig .tc .vmem S32x1 .f32) (harg4 : arg4.IsWhole)
  (arg5 : Memref sig .tc .vmem S32x1 .f32) (harg5 : arg5.IsWhole)
  (arg6 : Memref sig .tc .vmem S32x1 .f32) (harg6 : arg6.IsWhole)
  (arg7 : Memref sig .tc .vmem S32x1 .f32) (harg7 : arg7.IsWhole)
  (arg8 : Memref sig .tc .vmem S64x32 .f32) (harg8 : arg8.IsWhole)
  (arg9 : Memref sig .tc .vmem S64x1 .f32) (harg9 : arg9.IsWhole)
  (arg10 : Memref sig .tc .vmem S64x1 .f32) (harg10 : arg10.IsWhole)
  (arg11 : Memref sig .tc .vmem S64x1 .f32) (harg11 : arg11.IsWhole)
  (arg12 : Memref sig .tc .vmem S64x1 .f32) (harg12 : arg12.IsWhole)
  (arg13 : Memref sig .tc .vmem S64x1 .f32) (harg13 : arg13.IsWhole)

set_option maxHeartbeats 4000000 in
noncomputable def kernelRun1_A (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) :
    Σ' (L9 : List (View.Piece (Elt F) S64x1 .f32)), Σ' (L10 : List (View.Piece (Elt F) S64x1 .f32)), Σ' (LS0 : List (View.Piece (Elt F) S64x1 .f32)), { LS1 : List (View.Piece (Elt F) S64x1 .f32) //
      ∀ (xi9 xi10 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__p1_body i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 xi10 E K => ?run⟩
  case run =>
    simp only [cc1__p1_body_eq_skeleton]; unfold cc1__p1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

set_option maxHeartbeats 4000000 in
noncomputable def kernelRun1_B (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) :
    Σ' (L9 : List (View.Piece (Elt F) S64x1 .f32)), Σ' (L10 : List (View.Piece (Elt F) S64x1 .f32)), Σ' (LS0 : List (View.Piece (Elt F) S64x1 .f32)), { LS1 : List (View.Piece (Elt F) S64x1 .f32) //
      ∀ (xi9 xi10 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__p1_body i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 xi10 E K => ?run⟩
  case run =>
    simp only [cc1__p1_body_eq_skeleton]; unfold cc1__p1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

set_option maxHeartbeats 4000000 in
noncomputable def kernelRun1_C (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) :
    Σ' (L9 : List (View.Piece (Elt F) S64x1 .f32)), Σ' (L10 : List (View.Piece (Elt F) S64x1 .f32)), Σ' (LS0 : List (View.Piece (Elt F) S64x1 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__p1_body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__p1_body_eq_skeleton]; unfold cc1__p1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

def out1_A_9 (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) : Vec F S64x1 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

def out1_A_10 (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) : Vec F S64x1 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

theorem scover0_A_0 (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) (y : S64x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S64x1.size (by sl_kernel_rfl) y

def sout0_A_0 (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) : Vec F S64x1 .f32 :=
  VS0_0.read (Elt F) (VS0_0.writes (Elt F) VS0_0.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)

theorem scover0_A_1 (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) (y : S64x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1 S64x1.size (by sl_kernel_rfl) y

def sout0_A_1 (hc0 : cond0_0 i) (hc1 : ¬cond0_1 i)
    (x0 : Vec F S8x2048 .f32) (x1 : Vec F S32x8 .f32) (x2 x3 x4 x5 x6 : Vec F S32x1 .f32) (x7 : Vec F S64x32 .f32) (x8 : Vec F S64x1 .f32) : Vec F S64x1 .f32 :=
  VS0_1.read (Elt F) (VS0_1.writes (Elt F) VS0_1.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1)

def out1_B_9 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1)

def out1_B_10 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1)

theorem scover0_B_0 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) (y : S64x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S64x1.size (by sl_kernel_rfl) y

def sout0_B_0 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VS0_0.read (Elt F) (VS0_0.writes (Elt F) VS0_0.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1)

theorem scover0_B_1 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) (y : S64x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S64x1.size (by sl_kernel_rfl) y

def sout0_B_1 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VS0_1.read (Elt F) (VS0_1.writes (Elt F) VS0_1.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1)

theorem cover1_C_9 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) (y : S64x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S64x1.size (by sl_kernel_rfl) y

def out1_C_9 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1)

theorem cover1_C_10 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) (y : S64x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S64x1.size (by sl_kernel_rfl) y

def out1_C_10 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1)

theorem scover0_C_0 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) (y : S64x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S64x1.size (by sl_kernel_rfl) y

def sout0_C_0 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VS0_0.read (Elt F) (VS0_0.writes (Elt F) VS0_0.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1)

theorem scover0_C_1 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) (y : S64x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S64x1.size (by sl_kernel_rfl) y

def sout0_C_1 (hc0 : ¬cond0_0 i) (hc1 : cond0_1 i)
    (x0 : Vec F S8x2048 .f32) (x1 : Vec F S32x8 .f32) (x2 x3 x4 x5 x6 : Vec F S32x1 .f32) (x7 : Vec F S64x32 .f32) (x8 xs0 xs1 : Vec F S64x1 .f32) : Vec F S64x1 .f32 :=
  VS0_1.read (Elt F) (VS0_1.writes (Elt F) VS0_1.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1)

end Runs

/-- What the first visit to a block leaves. -/
def atA (c : Dev nD) (t : Fin cfg1.N) (h0 : t.val % 32 = 0) (h1 : ¬t.val % 32 = 31) :
    Vec F S64x1 .f32 × Vec F S64x1 .f32 × Vec F S64x1 .f32 × Vec F S64x1 .f32 :=
  (out1_A_9 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t),
   out1_A_10 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t),
   sout0_A_0 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t),
   sout0_A_1 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t))

/-- What a middle visit leaves, after `p`. -/
def atB (c : Dev nD) (t : Fin cfg1.N) (h0 : ¬t.val % 32 = 0) (h1 : ¬t.val % 32 = 31) (p : Vec F S64x1 .f32 × Vec F S64x1 .f32 × Vec F S64x1 .f32 × Vec F S64x1 .f32) :
    Vec F S64x1 .f32 × Vec F S64x1 .f32 × Vec F S64x1 .f32 × Vec F S64x1 .f32 :=
  (out1_B_9 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) p.2.2.1 p.2.2.2,
   out1_B_10 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) p.2.2.1 p.2.2.2,
   sout0_B_0 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) p.2.2.1 p.2.2.2,
   sout0_B_1 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) p.2.2.1 p.2.2.2)

/-- What the last visit leaves, after `p`. -/
def atC (c : Dev nD) (t : Fin cfg1.N) (h0 : ¬t.val % 32 = 0) (h1 : t.val % 32 = 31) (p : Vec F S64x1 .f32 × Vec F S64x1 .f32 × Vec F S64x1 .f32 × Vec F S64x1 .f32) :
    Vec F S64x1 .f32 × Vec F S64x1 .f32 × Vec F S64x1 .f32 × Vec F S64x1 .f32 :=
  (out1_C_9 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) p.2.2.1 p.2.2.2,
   out1_C_10 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) p.2.2.1 p.2.2.2,
   sout0_C_0 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) p.2.2.1 p.2.2.2,
   sout0_C_1 c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) scM1_0 (Memref.isWhole_whole _) scM1_1 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) p.2.2.1 p.2.2.2)

def outsAt1 (c : Dev nD) : (n : ℕ) → n < cfg1.N → Vec F S64x1 .f32 × Vec F S64x1 .f32 × Vec F S64x1 .f32 × Vec F S64x1 .f32
  | 0, hn => atA V c ⟨0, hn⟩ (Nat.zero_mod _) (fun h => by (try dsimp only at h); omega)
  | n + 1, hn =>
    if h0 : (n + 1) % 32 = 0 then
      if h1 : (n + 1) % 32 = 31 then
        False.elim (by have hN : n + 1 < 32 := lt_of_lt_of_eq hn (show cfg1.N = 32 from N_0); omega)
      else atA V c ⟨n + 1, hn⟩ h0 h1
    else
      if h1 : (n + 1) % 32 = 31 then atC V c ⟨n + 1, hn⟩ h0 h1 (outsAt1 c n (Nat.lt_of_succ_lt hn))
      else atB V c ⟨n + 1, hn⟩ h0 h1 (outsAt1 c n (Nat.lt_of_succ_lt hn))

theorem outsAt0_A (c : Dev nD) (t : Fin cfg1.N) (h0 : t.val % 32 = 0) (h1 : ¬t.val % 32 = 31) :
    outsAt1 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg1.N) (h0 : ¬t.val % 32 = 0) (h1 : ¬t.val % 32 = 31) :
    outsAt1 V c t.val t.isLt = atB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg1.N) (h0 : ¬t.val % 32 = 0) (h1 : t.val % 32 = 31) :
    outsAt1 V c t.val t.isLt = atC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => restInv (F := F) spec1 c
  | n + 1, hn => iprop(iprop(owns (c : Thread nD τ) scM1_0 fullShare ((outsAt1 V c n hn).2.2.1) ∗ owns (c : Thread nD τ) scM1_1 fullShare ((outsAt1 V c n hn).2.2.2)) ∗ genRest (F := F) c)

theorem PhiS_zero (c : Dev nD) (n : ℕ) (h : n ≤ cfg1.N) (hz : n = 0) : PhiS V c n h = restInv (F := F) spec1 c := by
  subst hz; rfl

theorem PhiS_succ (c : Dev nD) (n : ℕ) (hn : n < cfg1.N) :
    PhiS V c (n + 1) hn = iprop(iprop(owns (c : Thread nD τ) scM1_0 fullShare ((outsAt1 V c n hn).2.2.1) ∗ owns (c : Thread nD τ) scM1_1 fullShare ((outsAt1 V c n hn).2.2.2)) ∗ genRest (F := F) c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2.1) ∗ owns (c : Thread nD τ) scM1_1 fullShare ((outsAt1 V c (n - 1) (by omega)).2.2.2)) ∗ genRest (F := F) c) := by
  cases n with
  | zero => exact absurd rfl hz
  | succ n => rfl

def dat (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt1 V c t.val t.isLt).1
    | ⟨10, _⟩ => (outsAt1 V c t.val t.isLt).2.1
  Φ t := PhiS V c t.val (Nat.le_of_lt_succ t.isLt)
  q _ := fullShare
  owed _ := debt (F := F) c
  recorded _ := recd (F := F) c

theorem A_eq (c : Dev nD) (w : Fin cfg1.W) : (dat V c).A w = V c (Proc.devRef .tc (Pipeline.arrRef spec1 w)) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = (outsAt1 V c t.val t.isLt).1 := by dsimp only [dat]
theorem after1_10 (c : Dev nD) (t : Fin cfg1.N) : (dat V c).after 10 t = (outsAt1 V c t.val t.isLt).2.1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d
theorem before1_8 (c : Dev nD) (t : Fin cfg1.N) (d) : (dat V c).before 8 t d = iblk V c 8 t :=
  before1_8_of V (dat V c) (A_eq V c 8) (after1_8 V c) t d

def bodyPre (c : Dev nD) (t : Fin cfg1.N) : sProp 𝕄 :=
  iprop((dat V c).Φ t.castSucc ∗ (dat V c).owesAt none t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

def bodyPost (c : Dev nD) (t : Fin cfg1.N) : sProp 𝕄 :=
  iprop((dat V c).Φ t.succ ∗ (dat V c).owesAt none t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 14400000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8]
  rw [show (dat V c).owesAt none t.succ = (dat V c).owesAt none t.castSucc from rfl]
  rw [show (dat V c).Φ t.succ = PhiS V c (t.val + 1) t.isLt from rfl, PhiS_succ]
  have hN : t.val < 32 := lt_of_lt_of_eq t.isLt (show cfg1.N = 32 from N_0)
  by_cases h0 : t.val % 32 = 0
  · by_cases h1 : t.val % 32 = 31
    · exfalso; omega
    · rw [show (dat V c).leavesExact 0 t = owns (c : Thread nD τ) (ms1_0 t) fullShare ((dat V c).after 0 t) from by
      unfold Dat.leavesExact; rw [liveAt0_0 t], after1_0]
      rw [show (dat V c).leavesExact 1 t = owns (c : Thread nD τ) (ms1_1 t) fullShare ((dat V c).after 1 t) from by
      unfold Dat.leavesExact; rw [liveAt0_1 t], after1_1]
      rw [show (dat V c).leavesExact 2 t = owns (c : Thread nD τ) (ms1_2 t) fullShare ((dat V c).after 2 t) from by
      unfold Dat.leavesExact; rw [liveAt0_2 t], after1_2]
      rw [show (dat V c).leavesExact 3 t = owns (c : Thread nD τ) (ms1_3 t) fullShare ((dat V c).after 3 t) from by
      unfold Dat.leavesExact; rw [liveAt0_3 t], after1_3]
      rw [show (dat V c).leavesExact 4 t = owns (c : Thread nD τ) (ms1_4 t) fullShare ((dat V c).after 4 t) from by
      unfold Dat.leavesExact; rw [liveAt0_4 t], after1_4]
      rw [show (dat V c).leavesExact 5 t = owns (c : Thread nD τ) (ms1_5 t) fullShare ((dat V c).after 5 t) from by
      unfold Dat.leavesExact; rw [liveAt0_5 t], after1_5]
      rw [show (dat V c).leavesExact 6 t = owns (c : Thread nD τ) (ms1_6 t) fullShare ((dat V c).after 6 t) from by
      unfold Dat.leavesExact; rw [liveAt0_6 t], after1_6]
      rw [show (dat V c).leavesExact 7 t = owns (c : Thread nD τ) (ms1_7 t) fullShare ((dat V c).after 7 t) from by
      unfold Dat.leavesExact; rw [liveAt0_7 t], after1_7]
      rw [show (dat V c).leavesExact 8 t = owns (c : Thread nD τ) (ms1_8 t) fullShare ((dat V c).after 8 t) from by
      unfold Dat.leavesExact; rw [liveAt0_8 t], after1_8]
      rw [Dat.leavesExact_idle (dat V c) 9 t (idleAt0_9_A t ((hcond1_0 t).mpr h0) (fun h => h1 ((hcond1_1 t).mp h))) (noFlush0_9_A t ((hcond1_0 t).mpr h0) (fun h => h1 ((hcond1_1 t).mp h)))]
      rw [Dat.leavesExact_idle (dat V c) 10 t (idleAt0_10_A t ((hcond1_0 t).mpr h0) (fun h => h1 ((hcond1_1 t).mp h))) (noFlush0_10_A t ((hcond1_0 t).mpr h0) (fun h => h1 ((hcond1_1 t).mp h)))]
      by_cases hz : t.val = 0
      · rw [PhiS_castSucc V c t, PhiS_zero V c _ _ hz, PhiA1_eq]
        rw [outsAt0_A V c t h0 h1, atA]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        iintro ⟨H0, H1, H2, H3, H4, H5, H6, H7, H8, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
      · exfalso; have hN : t.val < 32 := lt_of_lt_of_eq t.isLt (show cfg1.N = 32 from N_0); omega
  · by_cases h1 : t.val % 32 = 31
    · rw [show (dat V c).leavesExact 0 t = owns (c : Thread nD τ) (ms1_0 t) fullShare ((dat V c).after 0 t) from by
      unfold Dat.leavesExact; rw [liveAt0_0 t], after1_0]
      rw [show (dat V c).leavesExact 1 t = owns (c : Thread nD τ) (ms1_1 t) fullShare ((dat V c).after 1 t) from by
      unfold Dat.leavesExact; rw [liveAt0_1 t], after1_1]
      rw [show (dat V c).leavesExact 2 t = owns (c : Thread nD τ) (ms1_2 t) fullShare ((dat V c).after 2 t) from by
      unfold Dat.leavesExact; rw [liveAt0_2 t], after1_2]
      rw [show (dat V c).leavesExact 3 t = owns (c : Thread nD τ) (ms1_3 t) fullShare ((dat V c).after 3 t) from by
      unfold Dat.leavesExact; rw [liveAt0_3 t], after1_3]
      rw [show (dat V c).leavesExact 4 t = owns (c : Thread nD τ) (ms1_4 t) fullShare ((dat V c).after 4 t) from by
      unfold Dat.leavesExact; rw [liveAt0_4 t], after1_4]
      rw [show (dat V c).leavesExact 5 t = owns (c : Thread nD τ) (ms1_5 t) fullShare ((dat V c).after 5 t) from by
      unfold Dat.leavesExact; rw [liveAt0_5 t], after1_5]
      rw [show (dat V c).leavesExact 6 t = owns (c : Thread nD τ) (ms1_6 t) fullShare ((dat V c).after 6 t) from by
      unfold Dat.leavesExact; rw [liveAt0_6 t], after1_6]
      rw [show (dat V c).leavesExact 7 t = owns (c : Thread nD τ) (ms1_7 t) fullShare ((dat V c).after 7 t) from by
      unfold Dat.leavesExact; rw [liveAt0_7 t], after1_7]
      rw [show (dat V c).leavesExact 8 t = owns (c : Thread nD τ) (ms1_8 t) fullShare ((dat V c).after 8 t) from by
      unfold Dat.leavesExact; rw [liveAt0_8 t], after1_8]
      rw [show (dat V c).leavesExact 9 t = owns (c : Thread nD τ) (ms1_9 t) fullShare ((dat V c).after 9 t) from by
      unfold Dat.leavesExact; rw [liveAt0_9_C t (fun h => h0 ((hcond1_0 t).mp h)) ((hcond1_1 t).mpr h1)], after1_9]
      rw [show (dat V c).leavesExact 10 t = owns (c : Thread nD τ) (ms1_10 t) fullShare ((dat V c).after 10 t) from by
      unfold Dat.leavesExact; rw [liveAt0_10_C t (fun h => h0 ((hcond1_0 t).mp h)) ((hcond1_1 t).mpr h1)], after1_10]
      by_cases hz : t.val = 0
      · exfalso; have hN : t.val < 32 := lt_of_lt_of_eq t.isLt (show cfg1.N = 32 from N_0); omega
      · rw [PhiS_castSucc V c t, PhiS_pos V c _ _ hz]
        rw [outsAt0_C V c t h0 h1, atC]
        unfold out1_C_9 out1_C_10 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ _ _ (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover1_C_9 c _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _)
    · rw [show (dat V c).leavesExact 0 t = owns (c : Thread nD τ) (ms1_0 t) fullShare ((dat V c).after 0 t) from by
      unfold Dat.leavesExact; rw [liveAt0_0 t], after1_0]
      rw [show (dat V c).leavesExact 1 t = owns (c : Thread nD τ) (ms1_1 t) fullShare ((dat V c).after 1 t) from by
      unfold Dat.leavesExact; rw [liveAt0_1 t], after1_1]
      rw [show (dat V c).leavesExact 2 t = owns (c : Thread nD τ) (ms1_2 t) fullShare ((dat V c).after 2 t) from by
      unfold Dat.leavesExact; rw [liveAt0_2 t], after1_2]
      rw [show (dat V c).leavesExact 3 t = owns (c : Thread nD τ) (ms1_3 t) fullShare ((dat V c).after 3 t) from by
      unfold Dat.leavesExact; rw [liveAt0_3 t], after1_3]
      rw [show (dat V c).leavesExact 4 t = owns (c : Thread nD τ) (ms1_4 t) fullShare ((dat V c).after 4 t) from by
      unfold Dat.leavesExact; rw [liveAt0_4 t], after1_4]
      rw [show (dat V c).leavesExact 5 t = owns (c : Thread nD τ) (ms1_5 t) fullShare ((dat V c).after 5 t) from by
      unfold Dat.leavesExact; rw [liveAt0_5 t], after1_5]
      rw [show (dat V c).leavesExact 6 t = owns (c : Thread nD τ) (ms1_6 t) fullShare ((dat V c).after 6 t) from by
      unfold Dat.leavesExact; rw [liveAt0_6 t], after1_6]
      rw [show (dat V c).leavesExact 7 t = owns (c : Thread nD τ) (ms1_7 t) fullShare ((dat V c).after 7 t) from by
      unfold Dat.leavesExact; rw [liveAt0_7 t], after1_7]
      rw [show (dat V c).leavesExact 8 t = owns (c : Thread nD τ) (ms1_8 t) fullShare ((dat V c).after 8 t) from by
      unfold Dat.leavesExact; rw [liveAt0_8 t], after1_8]
      rw [Dat.leavesExact_idle (dat V c) 9 t (idleAt0_9_B t (fun h => h0 ((hcond1_0 t).mp h)) (fun h => h1 ((hcond1_1 t).mp h))) (noFlush0_9_B t (fun h => h0 ((hcond1_0 t).mp h)) (fun h => h1 ((hcond1_1 t).mp h)))]
      rw [Dat.leavesExact_idle (dat V c) 10 t (idleAt0_10_B t (fun h => h0 ((hcond1_0 t).mp h)) (fun h => h1 ((hcond1_1 t).mp h))) (noFlush0_10_B t (fun h => h0 ((hcond1_0 t).mp h)) (fun h => h1 ((hcond1_1 t).mp h)))]
      by_cases hz : t.val = 0
      · exfalso; have hN : t.val < 32 := lt_of_lt_of_eq t.isLt (show cfg1.N = 32 from N_0); omega
      · rw [PhiS_castSucc V c t, PhiS_pos V c _ _ hz]
        rw [outsAt0_B V c t h0 h1, atB]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        iintro ⟨H0, H1, H2, H3, H4, H5, H6, H7, H8, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10

theorem defs₀_row (t : Fin cfg1.N) :
    defs₀ (F := F) .tc cfg1.body (cfg1.bodyArgs t (cfg1.slots t)) = bodyAt1 t := by
  rfl

theorem body_obligation (c : Dev nD) : BodyObligation (dat V c) (defs₀ (F := F)) Variants.none none Set.univ := fun t => by
  rw [bigSep_W1, bigSep_W1, defs₀_row]
  exact triple_restated (sound_body V c t) rfl .rfl fun _ => .rfl

theorem hin (c : Dev nD) : restInv (F := F) spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ restInv (F := F) spec1 c := by
  rw [show (dat V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexists _; iexact HS0
    iexists _; iexact HS1
  iexact Hg

theorem hout (c : Dev nD) : (dat V c).Φ (Fin.last cfg1.N) ⊢ restInv (F := F) spec1 c :=
  Phi_out V c _ (by rw [Fin.val_last]; have : cfg1.N = 32 := N_0; omega)

end Cert.Proof.KernelRun.Stat1

end
-- ==== Proof.KernelStat2.lean ====
/-
  The third statistics call.
-/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelRun.Stat2

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

/-- What the body never touches: the scoped buffers that are neither staging nor its scratch, and the generator's register. -/
abbrev genRest (c : Dev nD) : sProp 𝕄 :=
  iprop(Pipeline.scopedRestBut (Ix := HIx 1) (Name := ℕ) (U := UU) (Lvl := ℕ) (Val := Elt F) spec2 c [cc2_scratch0, cc2_scratch1] ∗ ∃ r, prngReg c r)

def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

theorem before2_0_of {c : Dev nD} (dat : Dat τ (Elt F) (HIx 1) ℕ UU ℕ cfg2 c) (hA : dat.A 0 = V c (Proc.devRef .tc (Pipeline.arrRef spec2 0)))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) (HIx 1) ℕ UU ℕ cfg2 c) (hA : dat.A 1 = V c (Proc.devRef .tc (Pipeline.arrRef spec2 1)))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) (HIx 1) ℕ UU ℕ cfg2 c) (hA : dat.A 2 = V c (Proc.devRef .tc (Pipeline.arrRef spec2 2)))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) (HIx 1) ℕ UU ℕ cfg2 c) (hA : dat.A 3 = V c (Proc.devRef .tc (Pipeline.arrRef spec2 3)))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) (HIx 1) ℕ UU ℕ cfg2 c) (hA : dat.A 4 = V c (Proc.devRef .tc (Pipeline.arrRef spec2 4)))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before2_5_of {c : Dev nD} (dat : Dat τ (Elt F) (HIx 1) ℕ UU ℕ cfg2 c) (hA : dat.A 5 = V c (Proc.devRef .tc (Pipeline.arrRef spec2 5)))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before2_6_of {c : Dev nD} (dat : Dat τ (Elt F) (HIx 1) ℕ UU ℕ cfg2 c) (hA : dat.A 6 = V c (Proc.devRef .tc (Pipeline.arrRef spec2 6)))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before2_7_of {c : Dev nD} (dat : Dat τ (Elt F) (HIx 1) ℕ UU ℕ cfg2 c) (hA : dat.A 7 = V c (Proc.devRef .tc (Pipeline.arrRef spec2 7)))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before2_8_of {c : Dev nD} (dat : Dat τ (Elt F) (HIx 1) ℕ UU ℕ cfg2 c) (hA : dat.A 8 = V c (Proc.devRef .tc (Pipeline.arrRef spec2 8)))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before2_9_of {c : Dev nD} (dat : Dat τ (Elt F) (HIx 1) ℕ UU ℕ cfg2 c) (hA : dat.A 9 = V c (Proc.devRef .tc (Pipeline.arrRef spec2 9)))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before2_10_of {c : Dev nD} (dat : Dat τ (Elt F) (HIx 1) ℕ UU ℕ cfg2 c) (hA : dat.A 10 = V c (Proc.devRef .tc (Pipeline.arrRef spec2 10)))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before2_11_of {c : Dev nD} (dat : Dat τ (Elt F) (HIx 1) ℕ UU ℕ cfg2 c) (hA : dat.A 11 = V c (Proc.devRef .tc (Pipeline.arrRef spec2 11)))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before2_12_of {c : Dev nD} (dat : Dat τ (Elt F) (HIx 1) ℕ UU ℕ cfg2 c) (hA : dat.A 12 = V c (Proc.devRef .tc (Pipeline.arrRef spec2 12)))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before2_13_of {c : Dev nD} (dat : Dat τ (Elt F) (HIx 1) ℕ UU ℕ cfg2 c) (hA : dat.A 13 = V c (Proc.devRef .tc (Pipeline.arrRef spec2 13)))
    (hafter : ∀ t, dat.after 13 t = iblk V c 13 t) (t : Fin cfg2.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before2_14_of {c : Dev nD} (dat : Dat τ (Elt F) (HIx 1) ℕ UU ℕ cfg2 c) (hA : dat.A 14 = V c (Proc.devRef .tc (Pipeline.arrRef spec2 14)))
    (hafter : ∀ t, dat.after 14 t = iblk V c 14 t) (t : Fin cfg2.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid2.Coords) : Prop := (Scalar.cmpi .ne (Scalar.extui (Scalar.cmpi .eq (BitVec.ofNat 32 (i 0).val) 0#32)) 0#32) = 1#1
theorem hcond2_0 : ∀ t : Fin cfg2.N, cond0_0 (grid2.coords t) ↔ t.val % 32 = 0 :=
  (fun t => by
    have ht : t.val < 32 := Nat.lt_of_lt_of_eq t.isLt N_0
    have e0 : (grid2.coords t 0).val = t.val / 1 % 32 := Pipeline.Grid.coords_val t 0 (by decide) rfl
    simp only [cond0_0, e0]
    word_cmp
   : ∀ t : Fin grid2.N, cond0_0 (grid2.coords t) ↔ t.val % 32 = 0)

abbrev cond0_1 (i : grid2.Coords) : Prop := k2_cond2 i = 1#1
theorem hcond2_1 : ∀ t : Fin cfg2.N, cond0_1 (grid2.coords t) ↔ t.val % 32 = 31 :=
  (fun t => by
    have ht : t.val < 32 := Nat.lt_of_lt_of_eq t.isLt N_0
    have e0 : (grid2.coords t 0).val = t.val / 1 % 32 := Pipeline.Grid.coords_val t 0 (by decide) rfl
    simp only [cond0_1, k2_cond2, e0]
    word_cmp
   : ∀ t : Fin grid2.N, cond0_1 (grid2.coords t) ↔ t.val % 32 = 31)

theorem liveAt0_0 : ∀ t : Fin cfg2.N, cfg2.idle 0 (grid2.coords t) = false := fun _ => rfl
theorem liveAt0_1 : ∀ t : Fin cfg2.N, cfg2.idle 1 (grid2.coords t) = false := fun _ => rfl
theorem liveAt0_2 : ∀ t : Fin cfg2.N, cfg2.idle 2 (grid2.coords t) = false := fun _ => rfl
theorem liveAt0_3 : ∀ t : Fin cfg2.N, cfg2.idle 3 (grid2.coords t) = false := fun _ => rfl
theorem liveAt0_4 : ∀ t : Fin cfg2.N, cfg2.idle 4 (grid2.coords t) = false := fun _ => rfl
theorem liveAt0_5 : ∀ t : Fin cfg2.N, cfg2.idle 5 (grid2.coords t) = false := fun _ => rfl
theorem liveAt0_6 : ∀ t : Fin cfg2.N, cfg2.idle 6 (grid2.coords t) = false := fun _ => rfl
theorem liveAt0_7 : ∀ t : Fin cfg2.N, cfg2.idle 7 (grid2.coords t) = false := fun _ => rfl
theorem liveAt0_8 : ∀ t : Fin cfg2.N, cfg2.idle 8 (grid2.coords t) = false := fun _ => rfl
theorem liveAt0_9 : ∀ t : Fin cfg2.N, cfg2.idle 9 (grid2.coords t) = false := fun _ => rfl
theorem liveAt0_10 : ∀ t : Fin cfg2.N, cfg2.idle 10 (grid2.coords t) = false := fun _ => rfl
theorem liveAt0_11 : ∀ t : Fin cfg2.N, cfg2.idle 11 (grid2.coords t) = false := fun _ => rfl
theorem liveAt0_12 : ∀ t : Fin cfg2.N, cfg2.idle 12 (grid2.coords t) = false := fun _ => rfl
theorem liveAt0_13 : ∀ t : Fin cfg2.N, cfg2.idle 13 (grid2.coords t) = false := fun _ => rfl
theorem liveAt0_14 : ∀ t : Fin cfg2.N, cfg2.idle 14 (grid2.coords t) = false := fun _ => rfl
theorem idleAt0_15_A : ∀ t : Fin cfg2.N, cond0_0 (grid2.coords t) → ¬cond0_1 (grid2.coords t) → cfg2.idle 15 (grid2.coords t) = true := by decide +kernel
theorem noFlush0_15_A : ∀ t : Fin cfg2.N, cond0_0 (grid2.coords t) → ¬cond0_1 (grid2.coords t) → (cfg2.win 15).flush t = false := by decide +kernel
theorem idleAt0_15_B : ∀ t : Fin cfg2.N, ¬cond0_0 (grid2.coords t) → ¬cond0_1 (grid2.coords t) → cfg2.idle 15 (grid2.coords t) = true := by decide +kernel
theorem noFlush0_15_B : ∀ t : Fin cfg2.N, ¬cond0_0 (grid2.coords t) → ¬cond0_1 (grid2.coords t) → (cfg2.win 15).flush t = false := by decide +kernel
theorem liveAt0_15_C : ∀ t : Fin cfg2.N, ¬cond0_0 (grid2.coords t) → cond0_1 (grid2.coords t) → cfg2.idle 15 (grid2.coords t) = false := by decide +kernel
theorem idleAt0_16_A : ∀ t : Fin cfg2.N, cond0_0 (grid2.coords t) → ¬cond0_1 (grid2.coords t) → cfg2.idle 16 (grid2.coords t) = true := by decide +kernel
theorem noFlush0_16_A : ∀ t : Fin cfg2.N, cond0_0 (grid2.coords t) → ¬cond0_1 (grid2.coords t) → (cfg2.win 16).flush t = false := by decide +kernel
theorem idleAt0_16_B : ∀ t : Fin cfg2.N, ¬cond0_0 (grid2.coords t) → ¬cond0_1 (grid2.coords t) → cfg2.idle 16 (grid2.coords t) = true := by decide +kernel
theorem noFlush0_16_B : ∀ t : Fin cfg2.N, ¬cond0_0 (grid2.coords t) → ¬cond0_1 (grid2.coords t) → (cfg2.win 16).flush t = false := by decide +kernel
theorem liveAt0_16_C : ∀ t : Fin cfg2.N, ¬cond0_0 (grid2.coords t) → cond0_1 (grid2.coords t) → cfg2.idle 16 (grid2.coords t) = false := by decide +kernel

abbrev VO2_15 : View sig .tc .vmem S256x1 .f32 := (Memref.whole cc2_stg15_0 : Memref sig .tc .vmem S256x1 .f32).view
abbrev VO2_16 : View sig .tc .vmem S256x1 .f32 := (Memref.whole cc2_stg16_0 : Memref sig .tc .vmem S256x1 .f32).view
abbrev ms2_0 (t : Fin cfg2.N) : Memref sig .tc .vmem S8x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S32x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S32x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S64x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x1 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S64x1 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64x1 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S64x1 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S64x1 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S256x64 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S256x1 .f32 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S256x1 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S256x1 .f32 := win2_16.stage (cfg2.slots t 16)
abbrev hs2_16 (t : Fin cfg2.N) : (ms2_16 t).IsWhole := hstage2_16 ((cfg2.slots t 16).cast nbuf2_16)
abbrev scM2_0 : Memref sig .tc .vmem S256x1 .f32 := Memref.whole cc2_scratch0
abbrev scM2_1 : Memref sig .tc .vmem S256x1 .f32 := Memref.whole cc2_scratch1
abbrev VS0_0 : View sig .tc .vmem S256x1 .f32 := scM2_0.view
abbrev VS0_1 : View sig .tc .vmem S256x1 .f32 := scM2_1.view

theorem PhiA2_eq (c : Dev nD) :
    (restInv (F := F) spec2 c : sProp 𝕄)
      = iprop(iprop((∃ d, owns (c : Thread nD τ) scM2_0 fullShare d) ∗ (∃ d, owns (c : Thread nD τ) scM2_1 fullShare d)) ∗ genRest (F := F) c) := by
  unfold restInv genRest; rw [scopedRest2_split, assoc_eq]; simp only [scM2_0, scM2_1, owns_whole]; try rfl

section Runs

variable (c : Dev nD) (i : grid2.Coords)
  (arg1 : Memref sig .tc .vmem S8x2048 .f32) (harg1 : arg1.IsWhole)
  (arg2 : Memref sig .tc .vmem S32x8 .f32) (harg2 : arg2.IsWhole)
  (arg3 : Memref sig .tc .vmem S32x1 .f32) (harg3 : arg3.IsWhole)
  (arg4 : Memref sig .tc .vmem S32x1 .f32) (harg4 : arg4.IsWhole)
  (arg5 : Memref sig .tc .vmem S32x1 .f32) (harg5 : arg5.IsWhole)
  (arg6 : Memref sig .tc .vmem S32x1 .f32) (harg6 : arg6.IsWhole)
  (arg7 : Memref sig .tc .vmem S32x1 .f32) (harg7 : arg7.IsWhole)
  (arg8 : Memref sig .tc .vmem S64x32 .f32) (harg8 : arg8.IsWhole)
  (arg9 : Memref sig .tc .vmem S64x1 .f32) (harg9 : arg9.IsWhole)
  (arg10 : Memref sig .tc .vmem S64x1 .f32) (harg10 : arg10.IsWhole)
  (arg11 : Memref sig .tc .vmem S64x1 .f32) (harg11 : arg11.IsWhole)
  (arg12 : Memref sig .tc .vmem S64x1 .f32) (harg12 : arg12.IsWhole)
  (arg13 : Memref sig .tc .vmem S64x1 .f32) (harg13 : arg13.IsWhole)
  (arg14 : Memref sig .tc .vmem S256x64 .f32) (harg14 : arg14.IsWhole)
  (arg15 : Memref sig .tc .vmem S256x1 .f32) (harg15 : arg15.IsWhole)
  (arg16 : Memref sig .tc .vmem S256x1 .f32) (harg16 : arg16.IsWhole)
  (arg17 : Memref sig .tc .vmem S256x1 .f32) (harg17 : arg17.IsWhole)
  (arg18 : Memref sig .tc .vmem S256x1 .f32) (harg18 : arg18.IsWhole)
  (arg19 : Memref sig .tc .vmem S256x1 .f32) (harg19 : arg19.IsWhole)

set_option maxHeartbeats 4000000 in
noncomputable def kernelRun2_A (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) :
    Σ' (L15 : List (View.Piece (Elt F) S256x1 .f32)), Σ' (L16 : List (View.Piece (Elt F) S256x1 .f32)), Σ' (LS0 : List (View.Piece (Elt F) S256x1 .f32)), { LS1 : List (View.Piece (Elt F) S256x1 .f32) //
      ∀ (xi15 xi16 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xi15 ∗ owns (c : Thread nD τ) arg17 fullShare xi16 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xi15 ∗ owns (c : Thread nD τ) arg17 fullShare xi16 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, ?_, fun xi15 xi16 E K => ?run⟩
  case run =>
    simp only [cc2__p2_body_eq_skeleton]; unfold cc2__p2_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [HS0]; · iexists _; iexact HS0
    iexists _; iexact HS1

set_option maxHeartbeats 4000000 in
noncomputable def kernelRun2_B (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) :
    Σ' (L15 : List (View.Piece (Elt F) S256x1 .f32)), Σ' (L16 : List (View.Piece (Elt F) S256x1 .f32)), Σ' (LS0 : List (View.Piece (Elt F) S256x1 .f32)), { LS1 : List (View.Piece (Elt F) S256x1 .f32) //
      ∀ (xi15 xi16 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xi15 ∗ owns (c : Thread nD τ) arg17 fullShare xi16 ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xi15 ∗ owns (c : Thread nD τ) arg17 fullShare xi16 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, ?_, fun xi15 xi16 E K => ?run⟩
  case run =>
    simp only [cc2__p2_body_eq_skeleton]; unfold cc2__p2_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hfs0; obtain rfl := harg19.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [HS0]; · iexists _; iexact HS0
    iexists _; iexact HS1

set_option maxHeartbeats 4000000 in
noncomputable def kernelRun2_C (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) :
    Σ' (L15 : List (View.Piece (Elt F) S256x1 .f32)), Σ' (L16 : List (View.Piece (Elt F) S256x1 .f32)), Σ' (LS0 : List (View.Piece (Elt F) S256x1 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc2__p2_body_eq_skeleton]; unfold cc2__p2_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg18.eq_unread hfs0; obtain rfl := harg19.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [HS0]; · iexists _; iexact HS0
    iexists _; iexact HS1

def out2_A_15 (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) : Vec F S256x1 .f32 :=
  VO2_15.read (Elt F) (VO2_15.writes (Elt F) VO2_15.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).1)

def out2_A_16 (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) : Vec F S256x1 .f32 :=
  VO2_16.read (Elt F) (VO2_16.writes (Elt F) VO2_16.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.1)

theorem scover0_A_0 (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) (y : S256x1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.1 S256x1.size (by sl_kernel_rfl) y

def sout0_A_0 (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) : Vec F S256x1 .f32 :=
  VS0_0.read (Elt F) (VS0_0.writes (Elt F) VS0_0.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.1)

theorem scover0_A_1 (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) (y : S256x1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.2.1 S256x1.size (by sl_kernel_rfl) y

def sout0_A_1 (hc0 : cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 : Vec F S256x1 .f32) : Vec F S256x1 .f32 :=
  VS0_1.read (Elt F) (VS0_1.writes (Elt F) VS0_1.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14).2.2.2.1)

def out2_B_15 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VO2_15.read (Elt F) (VO2_15.writes (Elt F) VO2_15.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).1)

def out2_B_16 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VO2_16.read (Elt F) (VO2_16.writes (Elt F) VO2_16.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1)

theorem scover0_B_0 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) (y : S256x1.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1 S256x1.size (by sl_kernel_rfl) y

def sout0_B_0 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VS0_0.read (Elt F) (VS0_0.writes (Elt F) VS0_0.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1)

theorem scover0_B_1 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) (y : S256x1.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.2.1 S256x1.size (by sl_kernel_rfl) y

def sout0_B_1 (hc0 : ¬cond0_0 i) (hc1 : ¬cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VS0_1.read (Elt F) (VS0_1.writes (Elt F) VS0_1.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.2.1)

theorem cover2_C_15 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) (y : S256x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).1 S256x1.size (by sl_kernel_rfl) y

def out2_C_15 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VO2_15.read (Elt F) (VO2_15.writes (Elt F) VO2_15.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).1)

theorem cover2_C_16 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) (y : S256x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1 S256x1.size (by sl_kernel_rfl) y

def out2_C_16 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VO2_16.read (Elt F) (VO2_16.writes (Elt F) VO2_16.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.1)

theorem scover0_C_0 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) (y : S256x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1 S256x1.size (by sl_kernel_rfl) y

def sout0_C_0 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VS0_0.read (Elt F) (VS0_0.writes (Elt F) VS0_0.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.1)

theorem scover0_C_1 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) (y : S256x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.2.1 S256x1.size (by sl_kernel_rfl) y

def sout0_C_1 (hc0 : ¬cond0_0 i) (hc1 : cond0_1 i)
    (x0 : Vec F S8x2048 .f32) (x1 : Vec F S32x8 .f32) (x2 x3 x4 x5 x6 : Vec F S32x1 .f32) (x7 : Vec F S64x32 .f32) (x8 x9 x10 x11 x12 : Vec F S64x1 .f32) (x13 : Vec F S256x64 .f32) (x14 xs0 xs1 : Vec F S256x1 .f32) : Vec F S256x1 .f32 :=
  VS0_1.read (Elt F) (VS0_1.writes (Elt F) VS0_1.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 xs0 xs1).2.2.2.1)

end Runs

/-- What the first visit to a block leaves. -/
def atA (c : Dev nD) (t : Fin cfg2.N) (h0 : t.val % 32 = 0) (h1 : ¬t.val % 32 = 31) :
    Vec F S256x1 .f32 × Vec F S256x1 .f32 × Vec F S256x1 .f32 × Vec F S256x1 .f32 :=
  (out2_A_15 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t),
   out2_A_16 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t),
   sout0_A_0 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t),
   sout0_A_1 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t))

/-- What a middle visit leaves, after `p`. -/
def atB (c : Dev nD) (t : Fin cfg2.N) (h0 : ¬t.val % 32 = 0) (h1 : ¬t.val % 32 = 31) (p : Vec F S256x1 .f32 × Vec F S256x1 .f32 × Vec F S256x1 .f32 × Vec F S256x1 .f32) :
    Vec F S256x1 .f32 × Vec F S256x1 .f32 × Vec F S256x1 .f32 × Vec F S256x1 .f32 :=
  (out2_B_15 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2,
   out2_B_16 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2,
   sout0_B_0 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2,
   sout0_B_1 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2)

/-- What the last visit leaves, after `p`. -/
def atC (c : Dev nD) (t : Fin cfg2.N) (h0 : ¬t.val % 32 = 0) (h1 : t.val % 32 = 31) (p : Vec F S256x1 .f32 × Vec F S256x1 .f32 × Vec F S256x1 .f32 × Vec F S256x1 .f32) :
    Vec F S256x1 .f32 × Vec F S256x1 .f32 × Vec F S256x1 .f32 × Vec F S256x1 .f32 :=
  (out2_C_15 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2,
   out2_C_16 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2,
   sout0_C_0 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2,
   sout0_C_1 c (grid2.coords t) _ (hs2_0 t) _ (hs2_1 t) _ (hs2_2 t) _ (hs2_3 t) _ (hs2_4 t) _ (hs2_5 t) _ (hs2_6 t) _ (hs2_7 t) _ (hs2_8 t) _ (hs2_9 t) _ (hs2_10 t) _ (hs2_11 t) _ (hs2_12 t) _ (hs2_13 t) _ (hs2_14 t) _ (hs2_15 t) _ (hs2_16 t) scM2_0 (Memref.isWhole_whole _) scM2_1 (Memref.isWhole_whole _) (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) p.2.2.1 p.2.2.2)

def outsAt2 (c : Dev nD) : (n : ℕ) → n < cfg2.N → Vec F S256x1 .f32 × Vec F S256x1 .f32 × Vec F S256x1 .f32 × Vec F S256x1 .f32
  | 0, hn => atA V c ⟨0, hn⟩ (Nat.zero_mod _) (fun h => by (try dsimp only at h); omega)
  | n + 1, hn =>
    if h0 : (n + 1) % 32 = 0 then
      if h1 : (n + 1) % 32 = 31 then
        False.elim (by have hN : n + 1 < 32 := lt_of_lt_of_eq hn (show cfg2.N = 32 from N_0); omega)
      else atA V c ⟨n + 1, hn⟩ h0 h1
    else
      if h1 : (n + 1) % 32 = 31 then atC V c ⟨n + 1, hn⟩ h0 h1 (outsAt2 c n (Nat.lt_of_succ_lt hn))
      else atB V c ⟨n + 1, hn⟩ h0 h1 (outsAt2 c n (Nat.lt_of_succ_lt hn))

theorem outsAt0_A (c : Dev nD) (t : Fin cfg2.N) (h0 : t.val % 32 = 0) (h1 : ¬t.val % 32 = 31) :
    outsAt2 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg2.N) (h0 : ¬t.val % 32 = 0) (h1 : ¬t.val % 32 = 31) :
    outsAt2 V c t.val t.isLt = atB V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg2.N) (h0 : ¬t.val % 32 = 0) (h1 : t.val % 32 = 31) :
    outsAt2 V c t.val t.isLt = atC V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg2.N → sProp 𝕄
  | 0, _ => restInv (F := F) spec2 c
  | n + 1, hn => iprop(iprop(owns (c : Thread nD τ) scM2_0 fullShare ((outsAt2 V c n hn).2.2.1) ∗ owns (c : Thread nD τ) scM2_1 fullShare ((outsAt2 V c n hn).2.2.2)) ∗ genRest (F := F) c)

theorem PhiS_zero (c : Dev nD) (n : ℕ) (h : n ≤ cfg2.N) (hz : n = 0) : PhiS V c n h = restInv (F := F) spec2 c := by
  subst hz; rfl

theorem PhiS_succ (c : Dev nD) (n : ℕ) (hn : n < cfg2.N) :
    PhiS V c (n + 1) hn = iprop(iprop(owns (c : Thread nD τ) scM2_0 fullShare ((outsAt2 V c n hn).2.2.1) ∗ owns (c : Thread nD τ) scM2_1 fullShare ((outsAt2 V c n hn).2.2.2)) ∗ genRest (F := F) c) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2.2.1) ∗ owns (c : Thread nD τ) scM2_1 fullShare ((outsAt2 V c (n - 1) (by omega)).2.2.2)) ∗ genRest (F := F) c) := by
  cases n with
  | zero => exact absurd rfl hz
  | succ n => rfl

def dat (c : Dev nD) : Dat τ (Elt F) (HIx 1) ℕ UU ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => (outsAt2 V c t.val t.isLt).1
    | ⟨16, _⟩ => (outsAt2 V c t.val t.isLt).2.1
    | ⟨_ + 17, h⟩ => absurd h (Nat.not_lt.2 (Nat.le_add_left _ _))
  Φ t := PhiS V c t.val (Nat.le_of_lt_succ t.isLt)
  q _ := fullShare
  owed _ := debt (F := F) c
  recorded _ := recd (F := F) c

theorem A_eq (c : Dev nD) (w : Fin cfg2.W) : (dat V c).A w = V c (Proc.devRef .tc (Pipeline.arrRef spec2 w)) := by
  dsimp only [dat]

theorem PhiS_castSucc (c : Dev nD) (t : Fin cfg2.N) :
    (dat V c).Φ t.castSucc = PhiS V c t.val (Nat.le_of_lt t.isLt) := by
  dsimp only [dat]; exact Pipeline.Dat.Φ_castSucc (PhiS V c) t

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = iblk V c 5 t := by dsimp only [dat]
theorem after2_6 (c : Dev nD) (t : Fin cfg2.N) : (dat V c).after 6 t = iblk V c 6 t := by dsimp only [dat]
theorem after2_7 (c : Dev nD) (t : Fin cfg2.N) : (dat V c).after 7 t = iblk V c 7 t := by dsimp only [dat]
theorem after2_8 (c : Dev nD) (t : Fin cfg2.N) : (dat V c).after 8 t = iblk V c 8 t := by dsimp only [dat]
theorem after2_9 (c : Dev nD) (t : Fin cfg2.N) : (dat V c).after 9 t = iblk V c 9 t := by dsimp only [dat]
theorem after2_10 (c : Dev nD) (t : Fin cfg2.N) : (dat V c).after 10 t = iblk V c 10 t := by dsimp only [dat]
theorem after2_11 (c : Dev nD) (t : Fin cfg2.N) : (dat V c).after 11 t = iblk V c 11 t := by dsimp only [dat]
theorem after2_12 (c : Dev nD) (t : Fin cfg2.N) : (dat V c).after 12 t = iblk V c 12 t := by dsimp only [dat]
theorem after2_13 (c : Dev nD) (t : Fin cfg2.N) : (dat V c).after 13 t = iblk V c 13 t := by dsimp only [dat]
theorem after2_14 (c : Dev nD) (t : Fin cfg2.N) : (dat V c).after 14 t = iblk V c 14 t := by dsimp only [dat]
theorem after2_15 (c : Dev nD) (t : Fin cfg2.N) : (dat V c).after 15 t = (outsAt2 V c t.val t.isLt).1 := by dsimp only [dat]
theorem after2_16 (c : Dev nD) (t : Fin cfg2.N) : (dat V c).after 16 t = (outsAt2 V c t.val t.isLt).2.1 := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d
theorem before2_5 (c : Dev nD) (t : Fin cfg2.N) (d) : (dat V c).before 5 t d = iblk V c 5 t :=
  before2_5_of V (dat V c) (A_eq V c 5) (after2_5 V c) t d
theorem before2_6 (c : Dev nD) (t : Fin cfg2.N) (d) : (dat V c).before 6 t d = iblk V c 6 t :=
  before2_6_of V (dat V c) (A_eq V c 6) (after2_6 V c) t d
theorem before2_7 (c : Dev nD) (t : Fin cfg2.N) (d) : (dat V c).before 7 t d = iblk V c 7 t :=
  before2_7_of V (dat V c) (A_eq V c 7) (after2_7 V c) t d
theorem before2_8 (c : Dev nD) (t : Fin cfg2.N) (d) : (dat V c).before 8 t d = iblk V c 8 t :=
  before2_8_of V (dat V c) (A_eq V c 8) (after2_8 V c) t d
theorem before2_9 (c : Dev nD) (t : Fin cfg2.N) (d) : (dat V c).before 9 t d = iblk V c 9 t :=
  before2_9_of V (dat V c) (A_eq V c 9) (after2_9 V c) t d
theorem before2_10 (c : Dev nD) (t : Fin cfg2.N) (d) : (dat V c).before 10 t d = iblk V c 10 t :=
  before2_10_of V (dat V c) (A_eq V c 10) (after2_10 V c) t d
theorem before2_11 (c : Dev nD) (t : Fin cfg2.N) (d) : (dat V c).before 11 t d = iblk V c 11 t :=
  before2_11_of V (dat V c) (A_eq V c 11) (after2_11 V c) t d
theorem before2_12 (c : Dev nD) (t : Fin cfg2.N) (d) : (dat V c).before 12 t d = iblk V c 12 t :=
  before2_12_of V (dat V c) (A_eq V c 12) (after2_12 V c) t d
theorem before2_13 (c : Dev nD) (t : Fin cfg2.N) (d) : (dat V c).before 13 t d = iblk V c 13 t :=
  before2_13_of V (dat V c) (A_eq V c 13) (after2_13 V c) t d
theorem before2_14 (c : Dev nD) (t : Fin cfg2.N) (d) : (dat V c).before 14 t d = iblk V c 14 t :=
  before2_14_of V (dat V c) (A_eq V c 14) (after2_14 V c) t d

def bodyPre (c : Dev nD) (t : Fin cfg2.N) : sProp 𝕄 :=
  iprop((dat V c).Φ t.castSucc ∗ (dat V c).owesAt none t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d))
    ∗ (∃ d, owns (c : Thread nD τ) (ms2_6 t) fullShare ((dat V c).before 6 t d))
    ∗ (∃ d, owns (c : Thread nD τ) (ms2_7 t) fullShare ((dat V c).before 7 t d))
    ∗ (∃ d, owns (c : Thread nD τ) (ms2_8 t) fullShare ((dat V c).before 8 t d))
    ∗ (∃ d, owns (c : Thread nD τ) (ms2_9 t) fullShare ((dat V c).before 9 t d))
    ∗ (∃ d, owns (c : Thread nD τ) (ms2_10 t) fullShare ((dat V c).before 10 t d))
    ∗ (∃ d, owns (c : Thread nD τ) (ms2_11 t) fullShare ((dat V c).before 11 t d))
    ∗ (∃ d, owns (c : Thread nD τ) (ms2_12 t) fullShare ((dat V c).before 12 t d))
    ∗ (∃ d, owns (c : Thread nD τ) (ms2_13 t) fullShare ((dat V c).before 13 t d))
    ∗ (∃ d, owns (c : Thread nD τ) (ms2_14 t) fullShare ((dat V c).before 14 t d))
    ∗ (∃ d, owns (c : Thread nD τ) (ms2_15 t) fullShare ((dat V c).before 15 t d))
    ∗ (∃ d, owns (c : Thread nD τ) (ms2_16 t) fullShare ((dat V c).before 16 t d)))

def bodyPost (c : Dev nD) (t : Fin cfg2.N) : sProp 𝕄 :=
  iprop((dat V c).Φ t.succ ∗ (dat V c).owesAt none t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t
    ∗ (dat V c).leavesExact 16 t)

set_option maxHeartbeats 19200000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6, before2_7, before2_8, before2_9, before2_10, before2_11, before2_12, before2_13, before2_14]
  rw [show (dat V c).owesAt none t.succ = (dat V c).owesAt none t.castSucc from rfl]
  rw [show (dat V c).Φ t.succ = PhiS V c (t.val + 1) t.isLt from rfl, PhiS_succ]
  have hN : t.val < 32 := lt_of_lt_of_eq t.isLt (show cfg2.N = 32 from N_0)
  by_cases h0 : t.val % 32 = 0
  · by_cases h1 : t.val % 32 = 31
    · exfalso; omega
    · rw [show (dat V c).leavesExact 0 t = owns (c : Thread nD τ) (ms2_0 t) fullShare ((dat V c).after 0 t) from by
      unfold Dat.leavesExact; rw [liveAt0_0 t], after2_0]
      rw [show (dat V c).leavesExact 1 t = owns (c : Thread nD τ) (ms2_1 t) fullShare ((dat V c).after 1 t) from by
      unfold Dat.leavesExact; rw [liveAt0_1 t], after2_1]
      rw [show (dat V c).leavesExact 2 t = owns (c : Thread nD τ) (ms2_2 t) fullShare ((dat V c).after 2 t) from by
      unfold Dat.leavesExact; rw [liveAt0_2 t], after2_2]
      rw [show (dat V c).leavesExact 3 t = owns (c : Thread nD τ) (ms2_3 t) fullShare ((dat V c).after 3 t) from by
      unfold Dat.leavesExact; rw [liveAt0_3 t], after2_3]
      rw [show (dat V c).leavesExact 4 t = owns (c : Thread nD τ) (ms2_4 t) fullShare ((dat V c).after 4 t) from by
      unfold Dat.leavesExact; rw [liveAt0_4 t], after2_4]
      rw [show (dat V c).leavesExact 5 t = owns (c : Thread nD τ) (ms2_5 t) fullShare ((dat V c).after 5 t) from by
      unfold Dat.leavesExact; rw [liveAt0_5 t], after2_5]
      rw [show (dat V c).leavesExact 6 t = owns (c : Thread nD τ) (ms2_6 t) fullShare ((dat V c).after 6 t) from by
      unfold Dat.leavesExact; rw [liveAt0_6 t], after2_6]
      rw [show (dat V c).leavesExact 7 t = owns (c : Thread nD τ) (ms2_7 t) fullShare ((dat V c).after 7 t) from by
      unfold Dat.leavesExact; rw [liveAt0_7 t], after2_7]
      rw [show (dat V c).leavesExact 8 t = owns (c : Thread nD τ) (ms2_8 t) fullShare ((dat V c).after 8 t) from by
      unfold Dat.leavesExact; rw [liveAt0_8 t], after2_8]
      rw [show (dat V c).leavesExact 9 t = owns (c : Thread nD τ) (ms2_9 t) fullShare ((dat V c).after 9 t) from by
      unfold Dat.leavesExact; rw [liveAt0_9 t], after2_9]
      rw [show (dat V c).leavesExact 10 t = owns (c : Thread nD τ) (ms2_10 t) fullShare ((dat V c).after 10 t) from by
      unfold Dat.leavesExact; rw [liveAt0_10 t], after2_10]
      rw [show (dat V c).leavesExact 11 t = owns (c : Thread nD τ) (ms2_11 t) fullShare ((dat V c).after 11 t) from by
      unfold Dat.leavesExact; rw [liveAt0_11 t], after2_11]
      rw [show (dat V c).leavesExact 12 t = owns (c : Thread nD τ) (ms2_12 t) fullShare ((dat V c).after 12 t) from by
      unfold Dat.leavesExact; rw [liveAt0_12 t], after2_12]
      rw [show (dat V c).leavesExact 13 t = owns (c : Thread nD τ) (ms2_13 t) fullShare ((dat V c).after 13 t) from by
      unfold Dat.leavesExact; rw [liveAt0_13 t], after2_13]
      rw [show (dat V c).leavesExact 14 t = owns (c : Thread nD τ) (ms2_14 t) fullShare ((dat V c).after 14 t) from by
      unfold Dat.leavesExact; rw [liveAt0_14 t], after2_14]
      rw [Dat.leavesExact_idle (dat V c) 15 t (idleAt0_15_A t ((hcond2_0 t).mpr h0) (fun h => h1 ((hcond2_1 t).mp h))) (noFlush0_15_A t ((hcond2_0 t).mpr h0) (fun h => h1 ((hcond2_1 t).mp h)))]
      rw [Dat.leavesExact_idle (dat V c) 16 t (idleAt0_16_A t ((hcond2_0 t).mpr h0) (fun h => h1 ((hcond2_1 t).mp h))) (noFlush0_16_A t ((hcond2_0 t).mpr h0) (fun h => h1 ((hcond2_1 t).mp h)))]
      by_cases hz : t.val = 0
      · rw [PhiS_castSucc V c t, PhiS_zero V c _ _ hz, PhiA2_eq]
        rw [outsAt0_A V c t h0 h1, atA]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun2_A c (grid2.coords t) _ _ _ _ _ _ _ _ _ _ _ _ _ _ _ _ _ _ _ _ _ _ _ _ _ _ _ _ _ _ _ _ _ _ _ _ _ _ ((hcond2_0 t).mpr h0) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        isplitl [HS1]; · iexact HS1
        iintro ⟨H0, H1, H2, H3, H4, H5, H6, H7, H8, H9, H10, H11, H12, H13, H14, H15, H16, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        iexists _; iexact H16
      · exfalso; have hN : t.val < 32 := lt_of_lt_of_eq t.isLt (show cfg2.N = 32 from N_0); omega
  · by_cases h1 : t.val % 32 = 31
    · rw [show (dat V c).leavesExact 0 t = owns (c : Thread nD τ) (ms2_0 t) fullShare ((dat V c).after 0 t) from by
      unfold Dat.leavesExact; rw [liveAt0_0 t], after2_0]
      rw [show (dat V c).leavesExact 1 t = owns (c : Thread nD τ) (ms2_1 t) fullShare ((dat V c).after 1 t) from by
      unfold Dat.leavesExact; rw [liveAt0_1 t], after2_1]
      rw [show (dat V c).leavesExact 2 t = owns (c : Thread nD τ) (ms2_2 t) fullShare ((dat V c).after 2 t) from by
      unfold Dat.leavesExact; rw [liveAt0_2 t], after2_2]
      rw [show (dat V c).leavesExact 3 t = owns (c : Thread nD τ) (ms2_3 t) fullShare ((dat V c).after 3 t) from by
      unfold Dat.leavesExact; rw [liveAt0_3 t], after2_3]
      rw [show (dat V c).leavesExact 4 t = owns (c : Thread nD τ) (ms2_4 t) fullShare ((dat V c).after 4 t) from by
      unfold Dat.leavesExact; rw [liveAt0_4 t], after2_4]
      rw [show (dat V c).leavesExact 5 t = owns (c : Thread nD τ) (ms2_5 t) fullShare ((dat V c).after 5 t) from by
      unfold Dat.leavesExact; rw [liveAt0_5 t], after2_5]
      rw [show (dat V c).leavesExact 6 t = owns (c : Thread nD τ) (ms2_6 t) fullShare ((dat V c).after 6 t) from by
      unfold Dat.leavesExact; rw [liveAt0_6 t], after2_6]
      rw [show (dat V c).leavesExact 7 t = owns (c : Thread nD τ) (ms2_7 t) fullShare ((dat V c).after 7 t) from by
      unfold Dat.leavesExact; rw [liveAt0_7 t], after2_7]
      rw [show (dat V c).leavesExact 8 t = owns (c : Thread nD τ) (ms2_8 t) fullShare ((dat V c).after 8 t) from by
      unfold Dat.leavesExact; rw [liveAt0_8 t], after2_8]
      rw [show (dat V c).leavesExact 9 t = owns (c : Thread nD τ) (ms2_9 t) fullShare ((dat V c).after 9 t) from by
      unfold Dat.leavesExact; rw [liveAt0_9 t], after2_9]
      rw [show (dat V c).leavesExact 10 t = owns (c : Thread nD τ) (ms2_10 t) fullShare ((dat V c).after 10 t) from by
      unfold Dat.leavesExact; rw [liveAt0_10 t], after2_10]
      rw [show (dat V c).leavesExact 11 t = owns (c : Thread nD τ) (ms2_11 t) fullShare ((dat V c).after 11 t) from by
      unfold Dat.leavesExact; rw [liveAt0_11 t], after2_11]
      rw [show (dat V c).leavesExact 12 t = owns (c : Thread nD τ) (ms2_12 t) fullShare ((dat V c).after 12 t) from by
      unfold Dat.leavesExact; rw [liveAt0_12 t], after2_12]
      rw [show (dat V c).leavesExact 13 t = owns (c : Thread nD τ) (ms2_13 t) fullShare ((dat V c).after 13 t) from by
      unfold Dat.leavesExact; rw [liveAt0_13 t], after2_13]
      rw [show (dat V c).leavesExact 14 t = owns (c : Thread nD τ) (ms2_14 t) fullShare ((dat V c).after 14 t) from by
      unfold Dat.leavesExact; rw [liveAt0_14 t], after2_14]
      rw [show (dat V c).leavesExact 15 t = owns (c : Thread nD τ) (ms2_15 t) fullShare ((dat V c).after 15 t) from by
      unfold Dat.leavesExact; rw [liveAt0_15_C t (fun h => h0 ((hcond2_0 t).mp h)) ((hcond2_1 t).mpr h1)], after2_15]
      rw [show (dat V c).leavesExact 16 t = owns (c : Thread nD τ) (ms2_16 t) fullShare ((dat V c).after 16 t) from by
      unfold Dat.leavesExact; rw [liveAt0_16_C t (fun h => h0 ((hcond2_0 t).mp h)) ((hcond2_1 t).mpr h1)], after2_16]
      by_cases hz : t.val = 0
      · exfalso; have hN : t.val < 32 := lt_of_lt_of_eq t.isLt (show cfg2.N = 32 from N_0); omega
      · rw [PhiS_castSucc V c t, PhiS_pos V c _ _ hz]
        rw [outsAt0_C V c t h0 h1, atC]
        unfold out2_C_15 out2_C_16 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun2_C c (grid2.coords t) _ _ _ _ _ _ _ _ _ _ _ _ _ _ _ _ _ _ _ _ _ _ _ _ _ _ _ _ _ _ _ _ _ _ _ _ _ _ (fun h => h0 ((hcond2_0 t).mp h)) ((hcond2_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        iintro ⟨H0, H1, H2, H3, H4, H5, H6, H7, H8, H9, H10, H11, H12, H13, H14, ⟨%e15, H15⟩, ⟨%e16, H16⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover2_C_15 c _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover2_C_16 c _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dat V c).leavesExact 0 t = owns (c : Thread nD τ) (ms2_0 t) fullShare ((dat V c).after 0 t) from by
      unfold Dat.leavesExact; rw [liveAt0_0 t], after2_0]
      rw [show (dat V c).leavesExact 1 t = owns (c : Thread nD τ) (ms2_1 t) fullShare ((dat V c).after 1 t) from by
      unfold Dat.leavesExact; rw [liveAt0_1 t], after2_1]
      rw [show (dat V c).leavesExact 2 t = owns (c : Thread nD τ) (ms2_2 t) fullShare ((dat V c).after 2 t) from by
      unfold Dat.leavesExact; rw [liveAt0_2 t], after2_2]
      rw [show (dat V c).leavesExact 3 t = owns (c : Thread nD τ) (ms2_3 t) fullShare ((dat V c).after 3 t) from by
      unfold Dat.leavesExact; rw [liveAt0_3 t], after2_3]
      rw [show (dat V c).leavesExact 4 t = owns (c : Thread nD τ) (ms2_4 t) fullShare ((dat V c).after 4 t) from by
      unfold Dat.leavesExact; rw [liveAt0_4 t], after2_4]
      rw [show (dat V c).leavesExact 5 t = owns (c : Thread nD τ) (ms2_5 t) fullShare ((dat V c).after 5 t) from by
      unfold Dat.leavesExact; rw [liveAt0_5 t], after2_5]
      rw [show (dat V c).leavesExact 6 t = owns (c : Thread nD τ) (ms2_6 t) fullShare ((dat V c).after 6 t) from by
      unfold Dat.leavesExact; rw [liveAt0_6 t], after2_6]
      rw [show (dat V c).leavesExact 7 t = owns (c : Thread nD τ) (ms2_7 t) fullShare ((dat V c).after 7 t) from by
      unfold Dat.leavesExact; rw [liveAt0_7 t], after2_7]
      rw [show (dat V c).leavesExact 8 t = owns (c : Thread nD τ) (ms2_8 t) fullShare ((dat V c).after 8 t) from by
      unfold Dat.leavesExact; rw [liveAt0_8 t], after2_8]
      rw [show (dat V c).leavesExact 9 t = owns (c : Thread nD τ) (ms2_9 t) fullShare ((dat V c).after 9 t) from by
      unfold Dat.leavesExact; rw [liveAt0_9 t], after2_9]
      rw [show (dat V c).leavesExact 10 t = owns (c : Thread nD τ) (ms2_10 t) fullShare ((dat V c).after 10 t) from by
      unfold Dat.leavesExact; rw [liveAt0_10 t], after2_10]
      rw [show (dat V c).leavesExact 11 t = owns (c : Thread nD τ) (ms2_11 t) fullShare ((dat V c).after 11 t) from by
      unfold Dat.leavesExact; rw [liveAt0_11 t], after2_11]
      rw [show (dat V c).leavesExact 12 t = owns (c : Thread nD τ) (ms2_12 t) fullShare ((dat V c).after 12 t) from by
      unfold Dat.leavesExact; rw [liveAt0_12 t], after2_12]
      rw [show (dat V c).leavesExact 13 t = owns (c : Thread nD τ) (ms2_13 t) fullShare ((dat V c).after 13 t) from by
      unfold Dat.leavesExact; rw [liveAt0_13 t], after2_13]
      rw [show (dat V c).leavesExact 14 t = owns (c : Thread nD τ) (ms2_14 t) fullShare ((dat V c).after 14 t) from by
      unfold Dat.leavesExact; rw [liveAt0_14 t], after2_14]
      rw [Dat.leavesExact_idle (dat V c) 15 t (idleAt0_15_B t (fun h => h0 ((hcond2_0 t).mp h)) (fun h => h1 ((hcond2_1 t).mp h))) (noFlush0_15_B t (fun h => h0 ((hcond2_0 t).mp h)) (fun h => h1 ((hcond2_1 t).mp h)))]
      rw [Dat.leavesExact_idle (dat V c) 16 t (idleAt0_16_B t (fun h => h0 ((hcond2_0 t).mp h)) (fun h => h1 ((hcond2_1 t).mp h))) (noFlush0_16_B t (fun h => h0 ((hcond2_0 t).mp h)) (fun h => h1 ((hcond2_1 t).mp h)))]
      by_cases hz : t.val = 0
      · exfalso; have hN : t.val < 32 := lt_of_lt_of_eq t.isLt (show cfg2.N = 32 from N_0); omega
      · rw [PhiS_castSucc V c t, PhiS_pos V c _ _ hz]
        rw [outsAt0_B V c t h0 h1, atB]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun2_B c (grid2.coords t) _ _ _ _ _ _ _ _ _ _ _ _ _ _ _ _ _ _ _ _ _ _ _ _ _ _ _ _ _ _ _ _ _ _ _ _ _ _ (fun h => h0 ((hcond2_0 t).mp h)) (fun h => h1 ((hcond2_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        isplitl [HS1]; · iexact HS1
        iintro ⟨H0, H1, H2, H3, H4, H5, H6, H7, H8, H9, H10, H11, H12, H13, H14, H15, H16, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        iexists _; iexact H16

theorem defs₀_row (t : Fin cfg2.N) :
    defs₀ (F := F) .tc cfg2.body (cfg2.bodyArgs t (cfg2.slots t)) = bodyAt2 t := by
  rfl

theorem body_obligation (c : Dev nD) : BodyObligation (dat V c) (defs₀ (F := F)) Variants.none none Set.univ := fun t => by
  rw [bigSep_W2, bigSep_W2, defs₀_row]
  exact triple_restated (sound_body V c t) rfl .rfl fun _ => .rfl

theorem hin (c : Dev nD) : restInv (F := F) spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ restInv (F := F) spec2 c := by
  rw [show (dat V c).Φ t = PhiS V c t.val (Nat.le_of_lt_succ t.isLt) from rfl, PhiS_pos V c _ _ ht, PhiA2_eq]
  iintro ⟨⟨HS0, HS1⟩, Hg⟩
  isplitl [HS0 HS1]
  · isplitl [HS0]
    · iexists _; iexact HS0
    iexists _; iexact HS1
  iexact Hg

theorem hout (c : Dev nD) : (dat V c).Φ (Fin.last cfg2.N) ⊢ restInv (F := F) spec2 c :=
  Phi_out V c _ (by rw [Fin.val_last]; have : cfg2.N = 32 := N_0; omega)

end Cert.Proof.KernelRun.Stat2

end
-- ==== Proof.KernelScore.lean ====
/-
  The scores call.
-/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelRun.Score

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Dev nD → Valuation τ sig (Elt F))

def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

theorem before3_0_of {c : Dev nD} (dat : Dat τ (Elt F) (HIx 1) ℕ UU ℕ cfg3 c) (hA : dat.A 0 = V c (Proc.devRef .tc (Pipeline.arrRef spec3 0)))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) (HIx 1) ℕ UU ℕ cfg3 c) (hA : dat.A 1 = V c (Proc.devRef .tc (Pipeline.arrRef spec3 1)))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) (HIx 1) ℕ UU ℕ cfg3 c) (hA : dat.A 2 = V c (Proc.devRef .tc (Pipeline.arrRef spec3 2)))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) (HIx 1) ℕ UU ℕ cfg3 c) (hA : dat.A 3 = V c (Proc.devRef .tc (Pipeline.arrRef spec3 3)))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) (HIx 1) ℕ UU ℕ cfg3 c) (hA : dat.A 4 = V c (Proc.devRef .tc (Pipeline.arrRef spec3 4)))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before3_5_of {c : Dev nD} (dat : Dat τ (Elt F) (HIx 1) ℕ UU ℕ cfg3 c) (hA : dat.A 5 = V c (Proc.devRef .tc (Pipeline.arrRef spec3 5)))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before3_6_of {c : Dev nD} (dat : Dat τ (Elt F) (HIx 1) ℕ UU ℕ cfg3 c) (hA : dat.A 6 = V c (Proc.devRef .tc (Pipeline.arrRef spec3 6)))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before3_7_of {c : Dev nD} (dat : Dat τ (Elt F) (HIx 1) ℕ UU ℕ cfg3 c) (hA : dat.A 7 = V c (Proc.devRef .tc (Pipeline.arrRef spec3 7)))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before3_8_of {c : Dev nD} (dat : Dat τ (Elt F) (HIx 1) ℕ UU ℕ cfg3 c) (hA : dat.A 8 = V c (Proc.devRef .tc (Pipeline.arrRef spec3 8)))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before3_9_of {c : Dev nD} (dat : Dat τ (Elt F) (HIx 1) ℕ UU ℕ cfg3 c) (hA : dat.A 9 = V c (Proc.devRef .tc (Pipeline.arrRef spec3 9)))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before3_10_of {c : Dev nD} (dat : Dat τ (Elt F) (HIx 1) ℕ UU ℕ cfg3 c) (hA : dat.A 10 = V c (Proc.devRef .tc (Pipeline.arrRef spec3 10)))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before3_11_of {c : Dev nD} (dat : Dat τ (Elt F) (HIx 1) ℕ UU ℕ cfg3 c) (hA : dat.A 11 = V c (Proc.devRef .tc (Pipeline.arrRef spec3 11)))
    (hafter : ∀ t, dat.after 11 t = iblk V c 11 t) (t : Fin cfg3.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before3_12_of {c : Dev nD} (dat : Dat τ (Elt F) (HIx 1) ℕ UU ℕ cfg3 c) (hA : dat.A 12 = V c (Proc.devRef .tc (Pipeline.arrRef spec3 12)))
    (hafter : ∀ t, dat.after 12 t = iblk V c 12 t) (t : Fin cfg3.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before3_13_of {c : Dev nD} (dat : Dat τ (Elt F) (HIx 1) ℕ UU ℕ cfg3 c) (hA : dat.A 13 = V c (Proc.devRef .tc (Pipeline.arrRef spec3 13)))
    (hafter : ∀ t, dat.after 13 t = iblk V c 13 t) (t : Fin cfg3.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before3_14_of {c : Dev nD} (dat : Dat τ (Elt F) (HIx 1) ℕ UU ℕ cfg3 c) (hA : dat.A 14 = V c (Proc.devRef .tc (Pipeline.arrRef spec3 14)))
    (hafter : ∀ t, dat.after 14 t = iblk V c 14 t) (t : Fin cfg3.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before3_15_of {c : Dev nD} (dat : Dat τ (Elt F) (HIx 1) ℕ UU ℕ cfg3 c) (hA : dat.A 15 = V c (Proc.devRef .tc (Pipeline.arrRef spec3 15)))
    (hafter : ∀ t, dat.after 15 t = iblk V c 15 t) (t : Fin cfg3.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before3_16_of {c : Dev nD} (dat : Dat τ (Elt F) (HIx 1) ℕ UU ℕ cfg3 c) (hA : dat.A 16 = V c (Proc.devRef .tc (Pipeline.arrRef spec3 16)))
    (hafter : ∀ t, dat.after 16 t = iblk V c 16 t) (t : Fin cfg3.N) (d) : dat.before 16 t d = iblk V c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before3_17_of {c : Dev nD} (dat : Dat τ (Elt F) (HIx 1) ℕ UU ℕ cfg3 c) (hA : dat.A 17 = V c (Proc.devRef .tc (Pipeline.arrRef spec3 17)))
    (hafter : ∀ t, dat.after 17 t = iblk V c 17 t) (t : Fin cfg3.N) (d) : dat.before 17 t d = iblk V c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before3_18_of {c : Dev nD} (dat : Dat τ (Elt F) (HIx 1) ℕ UU ℕ cfg3 c) (hA : dat.A 18 = V c (Proc.devRef .tc (Pipeline.arrRef spec3 18)))
    (hafter : ∀ t, dat.after 18 t = iblk V c 18 t) (t : Fin cfg3.N) (d) : dat.before 18 t d = iblk V c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before3_19_of {c : Dev nD} (dat : Dat τ (Elt F) (HIx 1) ℕ UU ℕ cfg3 c) (hA : dat.A 19 = V c (Proc.devRef .tc (Pipeline.arrRef spec3 19)))
    (hafter : ∀ t, dat.after 19 t = iblk V c 19 t) (t : Fin cfg3.N) (d) : dat.before 19 t d = iblk V c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before3_20_of {c : Dev nD} (dat : Dat τ (Elt F) (HIx 1) ℕ UU ℕ cfg3 c) (hA : dat.A 20 = V c (Proc.devRef .tc (Pipeline.arrRef spec3 20)))
    (hafter : ∀ t, dat.after 20 t = iblk V c 20 t) (t : Fin cfg3.N) (d) : dat.before 20 t d = iblk V c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S8x1024 := Rect.unit (s := S8x1024) ![0, 0] S8x1024.size inb_S8x1024_S8x1024_0_0
abbrev r0_1 : Rect S32x8 := Rect.unit (s := S32x8) ![0, 0] S32x8.size inb_S32x8_S32x8_0_0
abbrev r0_2 : Rect S32x1 := Rect.unit (s := S32x1) ![0, 0] S32x1.size inb_S32x1_S32x1_0_0
abbrev r0_3 : Rect S64x32 := Rect.unit (s := S64x32) ![0, 0] S64x32.size inb_S64x32_S64x32_0_0
abbrev r0_4 : Rect S64x1 := Rect.unit (s := S64x1) ![0, 0] S64x1.size inb_S64x1_S64x1_0_0
abbrev r0_5 : Rect S256x64 := Rect.unit (s := S256x64) ![0, 0] S256x64.size inb_S256x64_S256x64_0_0
abbrev r0_6 : Rect S256x1 := Rect.unit (s := S256x1) ![0, 0] S256x1.size inb_S256x1_S256x1_0_0
abbrev r0_7 : Rect S512x256 := Rect.unit (s := S512x256) ![0, 0] S512x256.size inb_S512x256_S512x256_0_0
abbrev r0_8 : Rect S512x1 := Rect.unit (s := S512x1) ![0, 0] S512x1.size inb_S512x1_S512x1_0_0
abbrev r0_9 : Rect S1x512x1024 := Rect.unit (s := S1x512x1024) ![0, 0, 0] S1x512x1024.size inb_S1x512x1024_S1x512x1024_0_0_0

def out3_21 (x0 : Vec F S8x1024 .f32) (x1 : Vec F S32x8 .f32) (x2 : Vec F S32x1 .f32) (x3 : Vec F S32x1 .f32) (x4 : Vec F S32x1 .f32) (x5 : Vec F S32x1 .f32) (x6 : Vec F S32x1 .f32) (x7 : Vec F S64x32 .f32) (x8 : Vec F S64x1 .f32) (x9 : Vec F S64x1 .f32) (x10 : Vec F S64x1 .f32) (x11 : Vec F S64x1 .f32) (x12 : Vec F S64x1 .f32) (x13 : Vec F S256x64 .f32) (x14 : Vec F S256x1 .f32) (x15 : Vec F S256x1 .f32) (x16 : Vec F S256x1 .f32) (x17 : Vec F S256x1 .f32) (x18 : Vec F S256x1 .f32) (x19 : Vec F S512x256 .f32) (x20 : Vec F S512x1 .f32) : Vec F S1x512x1024 .f32 :=
  View.canon [⟨r0_9, k3_pay1 (k3_pay3 (k3_pay2 (View.ld x0 r0_0) (View.ld x1 r0_1) (View.ld x2 r0_2) (View.ld x3 r0_2) (View.ld x4 r0_2) (View.ld x5 r0_2) (View.ld x6 r0_2) (View.ld x7 r0_3) (View.ld x8 r0_4)) (View.ld x9 r0_4) (View.ld x10 r0_4) (View.ld x11 r0_4) (View.ld x12 r0_4) (View.ld x13 r0_5) (View.ld x14 r0_6) (View.ld x15 r0_6) (View.ld x16 r0_6)) (View.ld x17 r0_6) (View.ld x18 r0_6) (View.ld x19 r0_7) (View.ld x20 r0_8)⟩]

theorem cover3_21 (p0 : Vec F S1x512x1024 .f32) (y : S1x512x1024.Idx) :
    ∃ pc ∈ ([⟨r0_9, p0⟩] : List (View.Piece (Elt F) S1x512x1024 .f32)), y ∈ pc.1.set :=
  View.cover_of_tiled [⟨r0_9, p0⟩] S1x512x1024.size (by rfl) y

set_option maxHeartbeats 1000000 in
theorem sound_kernel (c : Dev nD) (E : Set ℕ) (i : grid3.Coords) (arg1 : Memref sig .tc .vmem S8x1024 .f32) (harg1 : arg1.IsWhole) (arg2 : Memref sig .tc .vmem S32x8 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S64x32 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x1 .f32) (harg13 : arg13.IsWhole) (arg14 : Memref sig .tc .vmem S256x64 .f32) (harg14 : arg14.IsWhole) (arg15 : Memref sig .tc .vmem S256x1 .f32) (harg15 : arg15.IsWhole) (arg16 : Memref sig .tc .vmem S256x1 .f32) (harg16 : arg16.IsWhole) (arg17 : Memref sig .tc .vmem S256x1 .f32) (harg17 : arg17.IsWhole) (arg18 : Memref sig .tc .vmem S256x1 .f32) (harg18 : arg18.IsWhole) (arg19 : Memref sig .tc .vmem S256x1 .f32) (harg19 : arg19.IsWhole) (arg20 : Memref sig .tc .vmem S512x256 .f32) (harg20 : arg20.IsWhole) (arg21 : Memref sig .tc .vmem S512x1 .f32) (harg21 : arg21.IsWhole) (arg22 : Memref sig .tc .vmem S1x512x1024 .f32) (harg22 : arg22.IsWhole)
    (x0 : Vec F S8x1024 .f32) (x1 : Vec F S32x8 .f32) (x2 : Vec F S32x1 .f32) (x3 : Vec F S32x1 .f32) (x4 : Vec F S32x1 .f32) (x5 : Vec F S32x1 .f32) (x6 : Vec F S32x1 .f32) (x7 : Vec F S64x32 .f32) (x8 : Vec F S64x1 .f32) (x9 : Vec F S64x1 .f32) (x10 : Vec F S64x1 .f32) (x11 : Vec F S64x1 .f32) (x12 : Vec F S64x1 .f32) (x13 : Vec F S256x64 .f32) (x14 : Vec F S256x1 .f32) (x15 : Vec F S256x1 .f32) (x16 : Vec F S256x1 .f32) (x17 : Vec F S256x1 .f32) (x18 : Vec F S256x1 .f32) (x19 : Vec F S512x256 .f32) (x20 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out3_21 x0 x1 x2 x3 x4 x5 x6 x7 x8 x9 x10 x11 x12 x13 x14 x15 x16 x17 x18 x19 x20)) -∗ K ⟨⟩))
      ⊢ wp frame (wpE (defs₀ (F := F)) Variants.none c none) E (cc3__p3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc3__p3_body_eq_skeleton]; unfold cc3__p3_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  exact View.read_writes_eq_canon _ _ _ (cover3_21 _)

def dat (c : Dev nD) : Dat τ (Elt F) (HIx 1) ℕ UU ℕ cfg3 c where
  A w := V c (Proc.devRef .tc (Pipeline.arrRef spec3 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => out3_21 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) (iblk V c 20 t)
    | ⟨_ + 22, h⟩ => absurd h (Nat.not_lt.2 (Nat.le_add_left _ _))
  Φ _ := restInv (F := F) spec3 c
  q _ := fullShare
  owed _ := debt (F := F) c
  recorded _ := recd (F := F) c

theorem A_eq (c : Dev nD) (w : Fin cfg3.W) : (dat V c).A w = V c (Proc.devRef .tc (Pipeline.arrRef spec3 w)) := by
  dsimp only [dat]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = iblk V c 4 t := by dsimp only [dat]
theorem after3_5 (c : Dev nD) (t : Fin cfg3.N) : (dat V c).after 5 t = iblk V c 5 t := by dsimp only [dat]
theorem after3_6 (c : Dev nD) (t : Fin cfg3.N) : (dat V c).after 6 t = iblk V c 6 t := by dsimp only [dat]
theorem after3_7 (c : Dev nD) (t : Fin cfg3.N) : (dat V c).after 7 t = iblk V c 7 t := by dsimp only [dat]
theorem after3_8 (c : Dev nD) (t : Fin cfg3.N) : (dat V c).after 8 t = iblk V c 8 t := by dsimp only [dat]
theorem after3_9 (c : Dev nD) (t : Fin cfg3.N) : (dat V c).after 9 t = iblk V c 9 t := by dsimp only [dat]
theorem after3_10 (c : Dev nD) (t : Fin cfg3.N) : (dat V c).after 10 t = iblk V c 10 t := by dsimp only [dat]
theorem after3_11 (c : Dev nD) (t : Fin cfg3.N) : (dat V c).after 11 t = iblk V c 11 t := by dsimp only [dat]
theorem after3_12 (c : Dev nD) (t : Fin cfg3.N) : (dat V c).after 12 t = iblk V c 12 t := by dsimp only [dat]
theorem after3_13 (c : Dev nD) (t : Fin cfg3.N) : (dat V c).after 13 t = iblk V c 13 t := by dsimp only [dat]
theorem after3_14 (c : Dev nD) (t : Fin cfg3.N) : (dat V c).after 14 t = iblk V c 14 t := by dsimp only [dat]
theorem after3_15 (c : Dev nD) (t : Fin cfg3.N) : (dat V c).after 15 t = iblk V c 15 t := by dsimp only [dat]
theorem after3_16 (c : Dev nD) (t : Fin cfg3.N) : (dat V c).after 16 t = iblk V c 16 t := by dsimp only [dat]
theorem after3_17 (c : Dev nD) (t : Fin cfg3.N) : (dat V c).after 17 t = iblk V c 17 t := by dsimp only [dat]
theorem after3_18 (c : Dev nD) (t : Fin cfg3.N) : (dat V c).after 18 t = iblk V c 18 t := by dsimp only [dat]
theorem after3_19 (c : Dev nD) (t : Fin cfg3.N) : (dat V c).after 19 t = iblk V c 19 t := by dsimp only [dat]
theorem after3_20 (c : Dev nD) (t : Fin cfg3.N) : (dat V c).after 20 t = iblk V c 20 t := by dsimp only [dat]
theorem after3_21 (c : Dev nD) (t : Fin cfg3.N) : (dat V c).after 21 t = out3_21 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) (iblk V c 20 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d
theorem before3_4 (c : Dev nD) (t : Fin cfg3.N) (d) : (dat V c).before 4 t d = iblk V c 4 t :=
  before3_4_of V (dat V c) (A_eq V c 4) (after3_4 V c) t d
theorem before3_5 (c : Dev nD) (t : Fin cfg3.N) (d) : (dat V c).before 5 t d = iblk V c 5 t :=
  before3_5_of V (dat V c) (A_eq V c 5) (after3_5 V c) t d
theorem before3_6 (c : Dev nD) (t : Fin cfg3.N) (d) : (dat V c).before 6 t d = iblk V c 6 t :=
  before3_6_of V (dat V c) (A_eq V c 6) (after3_6 V c) t d
theorem before3_7 (c : Dev nD) (t : Fin cfg3.N) (d) : (dat V c).before 7 t d = iblk V c 7 t :=
  before3_7_of V (dat V c) (A_eq V c 7) (after3_7 V c) t d
theorem before3_8 (c : Dev nD) (t : Fin cfg3.N) (d) : (dat V c).before 8 t d = iblk V c 8 t :=
  before3_8_of V (dat V c) (A_eq V c 8) (after3_8 V c) t d
theorem before3_9 (c : Dev nD) (t : Fin cfg3.N) (d) : (dat V c).before 9 t d = iblk V c 9 t :=
  before3_9_of V (dat V c) (A_eq V c 9) (after3_9 V c) t d
theorem before3_10 (c : Dev nD) (t : Fin cfg3.N) (d) : (dat V c).before 10 t d = iblk V c 10 t :=
  before3_10_of V (dat V c) (A_eq V c 10) (after3_10 V c) t d
theorem before3_11 (c : Dev nD) (t : Fin cfg3.N) (d) : (dat V c).before 11 t d = iblk V c 11 t :=
  before3_11_of V (dat V c) (A_eq V c 11) (after3_11 V c) t d
theorem before3_12 (c : Dev nD) (t : Fin cfg3.N) (d) : (dat V c).before 12 t d = iblk V c 12 t :=
  before3_12_of V (dat V c) (A_eq V c 12) (after3_12 V c) t d
theorem before3_13 (c : Dev nD) (t : Fin cfg3.N) (d) : (dat V c).before 13 t d = iblk V c 13 t :=
  before3_13_of V (dat V c) (A_eq V c 13) (after3_13 V c) t d
theorem before3_14 (c : Dev nD) (t : Fin cfg3.N) (d) : (dat V c).before 14 t d = iblk V c 14 t :=
  before3_14_of V (dat V c) (A_eq V c 14) (after3_14 V c) t d
theorem before3_15 (c : Dev nD) (t : Fin cfg3.N) (d) : (dat V c).before 15 t d = iblk V c 15 t :=
  before3_15_of V (dat V c) (A_eq V c 15) (after3_15 V c) t d
theorem before3_16 (c : Dev nD) (t : Fin cfg3.N) (d) : (dat V c).before 16 t d = iblk V c 16 t :=
  before3_16_of V (dat V c) (A_eq V c 16) (after3_16 V c) t d
theorem before3_17 (c : Dev nD) (t : Fin cfg3.N) (d) : (dat V c).before 17 t d = iblk V c 17 t :=
  before3_17_of V (dat V c) (A_eq V c 17) (after3_17 V c) t d
theorem before3_18 (c : Dev nD) (t : Fin cfg3.N) (d) : (dat V c).before 18 t d = iblk V c 18 t :=
  before3_18_of V (dat V c) (A_eq V c 18) (after3_18 V c) t d
theorem before3_19 (c : Dev nD) (t : Fin cfg3.N) (d) : (dat V c).before 19 t d = iblk V c 19 t :=
  before3_19_of V (dat V c) (A_eq V c 19) (after3_19 V c) t d
theorem before3_20 (c : Dev nD) (t : Fin cfg3.N) (d) : (dat V c).before 20 t d = iblk V c 20 t :=
  before3_20_of V (dat V c) (A_eq V c 20) (after3_20 V c) t d

def bodyPre (c : Dev nD) (t : Fin cfg3.N) : sProp 𝕄 :=
  iprop((dat V c).Φ t.castSucc ∗ (dat V c).owesAt none t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d))
    ∗ (∃ d, owns (c : Thread nD τ) (st3_14 t) fullShare ((dat V c).before 14 t d))
    ∗ (∃ d, owns (c : Thread nD τ) (st3_15 t) fullShare ((dat V c).before 15 t d))
    ∗ (∃ d, owns (c : Thread nD τ) (st3_16 t) fullShare ((dat V c).before 16 t d))
    ∗ (∃ d, owns (c : Thread nD τ) (st3_17 t) fullShare ((dat V c).before 17 t d))
    ∗ (∃ d, owns (c : Thread nD τ) (st3_18 t) fullShare ((dat V c).before 18 t d))
    ∗ (∃ d, owns (c : Thread nD τ) (st3_19 t) fullShare ((dat V c).before 19 t d))
    ∗ (∃ d, owns (c : Thread nD τ) (st3_20 t) fullShare ((dat V c).before 20 t d))
    ∗ (∃ d, owns (c : Thread nD τ) (st3_21 t) fullShare ((dat V c).before 21 t d)))

def bodyPost (c : Dev nD) (t : Fin cfg3.N) : sProp 𝕄 :=
  iprop((dat V c).Φ t.succ ∗ (dat V c).owesAt none t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t)
    ∗ owns (c : Thread nD τ) (st3_14 t) fullShare ((dat V c).after 14 t)
    ∗ owns (c : Thread nD τ) (st3_15 t) fullShare ((dat V c).after 15 t)
    ∗ owns (c : Thread nD τ) (st3_16 t) fullShare ((dat V c).after 16 t)
    ∗ owns (c : Thread nD τ) (st3_17 t) fullShare ((dat V c).after 17 t)
    ∗ owns (c : Thread nD τ) (st3_18 t) fullShare ((dat V c).after 18 t)
    ∗ owns (c : Thread nD τ) (st3_19 t) fullShare ((dat V c).after 19 t)
    ∗ owns (c : Thread nD τ) (st3_20 t) fullShare ((dat V c).after 20 t)
    ∗ owns (c : Thread nD τ) (st3_21 t) fullShare ((dat V c).after 21 t))

set_option maxHeartbeats 4000000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9, before3_10, before3_11, before3_12, before3_13, before3_14, before3_15, before3_16, before3_17, before3_18, before3_19, before3_20]
  rw [show (dat V c).Φ t.succ = (dat V c).Φ t.castSucc from rfl,
    show (dat V c).owesAt none t.succ = (dat V c).owesAt none t.castSucc from rfl,
    after3_0, after3_1, after3_2, after3_3, after3_4, after3_5, after3_6, after3_7, after3_8, after3_9, after3_10, after3_11, after3_12, after3_13, after3_14, after3_15, after3_16, after3_17, after3_18, after3_19, after3_20, after3_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid3.coords t) _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) (iblk V c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg3.N) :
    defs₀ (F := F) .tc cfg3.body (cfg3.bodyArgs t (cfg3.slots t)) = bodyAt3 t := by
  rfl

set_option maxHeartbeats 4000000 in
theorem body_obligation (c : Dev nD) : BodyObligation (dat V c) (defs₀ (F := F)) Variants.none none Set.univ := fun t => by
  rw [bigSep_W3, bigSep_W3, defs₀_row]
  exact triple_restated (sound_body V c t) rfl .rfl fun _ => .rfl

end Cert.Proof.KernelRun.Score

end
-- ==== Proof.KernelTopk.lean ====
/-
  The selection call: 64 rounds over eight rows at a time, each marking every row's largest entry and recording its position.
-/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelRun.Topk

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The rows of the scratch buffer, as a load of the whole of it finds them. -/
abbrev rowsOf (arg3 : Memref sig .tc .vmem S8x8192 .f32) (f : BufTy.Contents (Elt F) arg3.view.ty) : Vec F S8x8192 .f32 :=
  View.readAt (Elt F) arg3.view (Rect.unit (s := S8x8192) ![0, 0] S8x8192.size inb_S8x8192_S8x8192_0_0).toLoadRect f

/-- The rows after a trip: each row's chosen position marked. -/
abbrev markPiece (rows : Vec F S8x8192 .f32) : View.Piece (Elt F) S8x8192 .f32 :=
  ⟨Rect.unit (s := S8x8192) ![0, 0] S8x8192.size inb_S8x8192_S8x8192_0_0, k4_pay4 rows⟩

/-- One trip of the selection loop: it reads the rows, marks in each the position of its largest entry and yields the
    indices with that position put in column `k`. -/
theorem trip_rows (𝒱 : Variants) (c : Dev nD) (bd : Option 𝒱.V) (i : grid4.Coords) (arg1 : Memref sig .tc .vmem S8x8192 .f32) (harg1 : arg1.IsWhole) (arg2 : Memref sig .tc .vmem S8x64 .i32) (harg2 : arg2.IsWhole) (arg3 : Memref sig .tc .vmem S8x8192 .f32) (harg3 : arg3.IsWhole) (k : Fin k4_t1_loop.trips)
    (E : Set ℕ) (acc : IVec S8x64 32) (f : BufTy.Contents (Elt F) arg3.view.ty) :
    (iprop((arg3.view.loc (c : Thread nD τ) ↦[arg3.view.set]{fullShare} f)) : sProp 𝕄)
      ⊢ wp frame (wpE (defs₀ (F := F)) 𝒱 (c : Thread nD τ) bd) E (k4_t1_body (F := F) i arg1 harg1 arg2 harg2 arg3 harg3 k acc)
          (fun yld => iprop(⌜yld = k4_pay5 k acc (rowsOf arg3 f)⌝
            ∗ (arg3.view.loc (c : Thread nD τ) ↦[arg3.view.set]{fullShare} arg3.view.writes (Elt F) f [markPiece (rowsOf arg3 f)]))) := by
  have hk : k.val < 64 := Nat.lt_of_lt_of_le k.isLt k4_t1_abs.2.1
  unfold k4_t1_body
  iintro HW_arg3
  sl_exec
  sl_step
  sl_close

/-- The indices chosen and the marks written before trip `k`, from the buffer's contents `G` at the loop's entry. -/
def stateAt (arg3 : Memref sig .tc .vmem S8x8192 .f32) (G : BufTy.Contents (Elt F) arg3.view.ty) (init : IVec S8x64 32) :
    ℕ → IVec S8x64 32 × List (View.Piece (Elt F) S8x8192 .f32)
  | 0 => (init, [])
  | k + 1 =>
    let p := stateAt arg3 G init k
    let rows := rowsOf arg3 (arg3.view.writes (Elt F) G p.2)
    if h : k < k4_t1_loop.trips then (k4_pay5 ⟨k, h⟩ p.1 rows, markPiece rows :: p.2) else p

theorem stateAt_succ (arg3 : Memref sig .tc .vmem S8x8192 .f32) (G : BufTy.Contents (Elt F) arg3.view.ty) (init : IVec S8x64 32)
    (k : Fin k4_t1_loop.trips) :
    stateAt arg3 G init (k.val + 1)
      = (k4_pay5 k (stateAt arg3 G init k).1 (rowsOf arg3 (arg3.view.writes (Elt F) G (stateAt arg3 G init k).2)),
          markPiece (rowsOf arg3 (arg3.view.writes (Elt F) G (stateAt arg3 G init k).2)) :: (stateAt arg3 G init k).2) := by
  rw [stateAt]; exact dif_pos k.isLt

/-- Before trip `k` the scratch buffer holds the marks of the trips before it, and the indices are the ones they chose. -/
abbrev rounds (c : Dev nD) (arg3 : Memref sig .tc .vmem S8x8192 .f32) (G : BufTy.Contents (Elt F) arg3.view.ty)
    (init : IVec S8x64 32) (k : ℕ) (acc : IVec S8x64 32) : sProp 𝕄 :=
  iprop((∃ f, (arg3.view.loc (c : Thread nD τ) ↦[arg3.view.set]{fullShare} f)
      ∗ ⌜f = arg3.view.writes (Elt F) G (stateAt arg3 G init k).2⌝) ∗ ⌜acc = (stateAt arg3 G init k).1⌝)

set_option warn.classDefReducibility false in
/-- The selection loop by that invariant. -/
@[sl_loop] def rounds_loop (𝒱 : Variants) (c : Dev nD) (bd : Option 𝒱.V) (E : Set ℕ) (i : grid4.Coords) (arg1 : Memref sig .tc .vmem S8x8192 .f32) (harg1 : arg1.IsWhole) (arg2 : Memref sig .tc .vmem S8x64 .i32) (harg2 : arg2.IsWhole) (arg3 : Memref sig .tc .vmem S8x8192 .f32) (harg3 : arg3.IsWhole)
    (G : BufTy.Contents (Elt F) arg3.view.ty) (init : IVec S8x64 32) :
    LoopInvTy_k4_t1 (F := F) (HIx 1) ℕ UU ℕ 𝒱 c bd E i arg1 harg1 arg2 harg2 arg3 harg3 init where
  inv := rounds (F := F) c arg3 G init
  step k acc := by
    iintro ⟨⟨%f, HW, %hf⟩, %hacc⟩
    subst hacc
    iapply (wp_wand_r Idealize.ShloMosaic.frame (wpE (defs₀ (F := F)) 𝒱 (c : Thread nD τ) bd) E)
    isplitl [HW]
    · iapply (trip_rows (F := F) 𝒱 c bd i arg1 harg1 arg2 harg2 arg3 harg3 k E (stateAt arg3 G init k).1 f)
      iexact HW
    · iintro %yld ⟨%hres, HW⟩
      unfold rounds
      simp only [stateAt_succ]
      isplitl [HW]
      · iexists _; isplitl [HW]; · iexact HW
        ipureintro; subst hf; rfl
      ipureintro; rw [hres, hf]

variable (V : Dev nD → Valuation τ sig (Elt F))

/-- What the body never touches: the scoped buffers that are neither staging nor its scratch, and the generator's register. -/
abbrev genRest (c : Dev nD) : sProp 𝕄 :=
  iprop(Pipeline.scopedRestBut (Ix := HIx 1) (Name := ℕ) (U := UU) (Lvl := ℕ) (Val := Elt F) spec4 c [cc4_scratch0] ∗ ∃ r, prngReg c r)

def iblk (c : Dev nD) (w : Fin cfg4.W) (t : Fin cfg4.N) : ((cfg4.win w).xblock (cfg4.grid.coords t)).Idx → Elt F (cfg4.win w).elt :=
  ((cfg4.win w).blk t).view.read (Elt F) (V c (Proc.devRef .tc (Pipeline.arrRef spec4 w)))

theorem before4_0_of {c : Dev nD} (dat : Dat τ (Elt F) (HIx 1) ℕ UU ℕ cfg4 c) (hA : dat.A 0 = V c (Proc.devRef .tc (Pipeline.arrRef spec4 0)))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev VO4_1 : View sig .tc .vmem S8x64 .i32 := (Memref.whole cc4_stg1_0 : Memref sig .tc .vmem S8x64 .i32).view
abbrev ms4_0 (t : Fin cfg4.N) : Memref sig .tc .vmem S8x8192 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x64 .i32 := win4_1.stage (cfg4.slots t 1)
abbrev hs4_1 (t : Fin cfg4.N) : (ms4_1 t).IsWhole := hstage4_1 ((cfg4.slots t 1).cast nbuf4_1)
abbrev scM4_0 : Memref sig .tc .vmem S8x8192 .f32 := Memref.whole cc4_scratch0

theorem PhiA4_eq (c : Dev nD) :
    (restInv (F := F) spec4 c : sProp 𝕄)
      = iprop(iprop((∃ d, owns (c : Thread nD τ) scM4_0 fullShare d)) ∗ genRest (F := F) c) := by
  unfold restInv genRest; rw [scopedRest4_split, assoc_eq]; simp only [scM4_0, owns_whole]; try rfl

set_option maxHeartbeats 1000000 in
noncomputable def kernelRun4_A (c : Dev nD) (i : grid4.Coords) (arg1 : Memref sig .tc .vmem S8x8192 .f32) (harg1 : arg1.IsWhole) (arg2 : Memref sig .tc .vmem S8x64 .i32) (harg2 : arg2.IsWhole) (arg3 : Memref sig .tc .vmem S8x8192 .f32) (harg3 : arg3.IsWhole)
    (x0 : Vec F S8x8192 .f32) :
    { L1 : List (View.Piece (Elt F) S8x64 .i32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ d, owns (c : Thread nD τ) arg3 fullShare d)) -∗ K ⟨⟩))
          ⊢ wp frame (wpE (defs₀ (F := F)) Variants.none c none) E (cc4__topk_body i arg1 harg1 arg2 harg2 arg3 harg3) K } := by
  refine ⟨?_, fun E K => ?run⟩
  case run =>
    simp only [cc4__topk_body_eq_skeleton]; unfold cc4__topk_body_skel
    unfold owns
    iintro ⟨⟨%f0, %hf0, H0⟩, ⟨%d1, %f1, -, H1⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]; · iexists _; iexact H1
    iexists _, _; isplitr; swap; · iexact HS0
    ipureintro; rfl

theorem cover4_A_1 (c : Dev nD) (i : grid4.Coords) (arg1 : Memref sig .tc .vmem S8x8192 .f32) (harg1 : arg1.IsWhole) (arg2 : Memref sig .tc .vmem S8x64 .i32) (harg2 : arg2.IsWhole) (arg3 : Memref sig .tc .vmem S8x8192 .f32) (harg3 : arg3.IsWhole)
    (x0 : Vec F S8x8192 .f32) (y : S8x64.Idx) :
    ∃ pc ∈ (kernelRun4_A c i arg1 harg1 arg2 harg2 arg3 harg3 x0).1, y ∈ pc.1.set :=
  View.cover_of_tiledL (kernelRun4_A c i arg1 harg1 arg2 harg2 arg3 harg3 x0).1 S8x64.size (by sl_kernel_rfl) y

def out4_A_1 (c : Dev nD) (i : grid4.Coords) (arg1 : Memref sig .tc .vmem S8x8192 .f32) (harg1 : arg1.IsWhole) (arg2 : Memref sig .tc .vmem S8x64 .i32) (harg2 : arg2.IsWhole) (arg3 : Memref sig .tc .vmem S8x8192 .f32) (harg3 : arg3.IsWhole)
    (x0 : Vec F S8x8192 .f32) : Vec F S8x64 .i32 :=
  VO4_1.read (Elt F) (VO4_1.writes (Elt F) VO4_1.junk (kernelRun4_A c i arg1 harg1 arg2 harg2 arg3 harg3 x0).1)

def outsAt4 (c : Dev nD) (t : Fin cfg4.N) : Vec F S8x64 .i32 :=
  out4_A_1 c (grid4.coords t) (ms4_0 t) (hs4_0 t) (ms4_1 t) (hs4_1 t) scM4_0 (Memref.isWhole_whole _) (iblk V c 0 t)

def dat (c : Dev nD) : Dat τ (Elt F) (HIx 1) ℕ UU ℕ cfg4 c where
  A w := V c (Proc.devRef .tc (Pipeline.arrRef spec4 w))
  after w t := match w with
    | ⟨0, _⟩ => iblk V c 0 t
    | ⟨1, _⟩ => (outsAt4 V c t)
  Φ _ := restInv (F := F) spec4 c
  q _ := fullShare
  owed _ := debt (F := F) c
  recorded _ := recd (F := F) c

theorem A_eq (c : Dev nD) (w : Fin cfg4.W) : (dat V c).A w = V c (Proc.devRef .tc (Pipeline.arrRef spec4 w)) := by
  dsimp only [dat]

theorem after4_0 (c : Dev nD) (t : Fin cfg4.N) : (dat V c).after 0 t = iblk V c 0 t := by dsimp only [dat]
theorem after4_1 (c : Dev nD) (t : Fin cfg4.N) : (dat V c).after 1 t = (outsAt4 V c t) := by dsimp only [dat]

theorem before4_0 (c : Dev nD) (t : Fin cfg4.N) (d) : (dat V c).before 0 t d = iblk V c 0 t :=
  before4_0_of V (dat V c) (A_eq V c 0) (after4_0 V c) t d

def bodyPre (c : Dev nD) (t : Fin cfg4.N) : sProp 𝕄 :=
  iprop((dat V c).Φ t.castSucc ∗ (dat V c).owesAt none t.castSucc
    ∗ (∃ d, owns (c : Thread nD τ) (ms4_0 t) fullShare ((dat V c).before 0 t d))
    ∗ (∃ d, owns (c : Thread nD τ) (ms4_1 t) fullShare ((dat V c).before 1 t d)))

def bodyPost (c : Dev nD) (t : Fin cfg4.N) : sProp 𝕄 :=
  iprop((dat V c).Φ t.succ ∗ (dat V c).owesAt none t.succ
    ∗ owns (c : Thread nD τ) (ms4_0 t) fullShare ((dat V c).after 0 t)
    ∗ owns (c : Thread nD τ) (ms4_1 t) fullShare ((dat V c).after 1 t))

theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before4_0]
  rw [show (dat V c).Φ t.succ = (dat V c).Φ t.castSucc from rfl,
    show (dat V c).owesAt none t.succ = (dat V c).owesAt none t.castSucc from rfl,
    after4_0, after4_1]
  rw [show (dat V c).Φ t.castSucc = restInv (F := F) spec4 c from rfl, PhiA4_eq]
  unfold outsAt4
  unfold out4_A_1
  iintro ⟨⟨HS0, Hg⟩, Ho, ⟨%d0, H0⟩, ⟨%d1, H1⟩⟩
  iapply ((kernelRun4_A c (grid4.coords t) _ _ _ _ _ _ (iblk V c 0 t)).2 Set.univ _)
  isplitl [H0]; · iexact H0
  isplitl [H1]; · iexists _; iexact H1
  isplitl [HS0]; · iexact HS0
  iintro ⟨H0, ⟨%e1, H1⟩, HS0⟩
  isplitl [HS0 Hg]
  · isplitl [HS0]
    · iexact HS0
    iexact Hg
  isplitl [Ho]; · iexact Ho
  isplitl [H0]; · iexact H0
  unfold owns; iexists _; isplitr
  swap; · iexact H1
  ipureintro; exact View.read_writes_of_cover _ _ _ _ _ (cover4_A_1 c _ _ _ _ _ _ _ _)

theorem defs₀_row (t : Fin cfg4.N) :
    defs₀ (F := F) .tc cfg4.body (cfg4.bodyArgs t (cfg4.slots t)) = bodyAt4 t := by
  rfl

theorem body_obligation (c : Dev nD) : BodyObligation (dat V c) (defs₀ (F := F)) Variants.none none Set.univ := fun t => by
  rw [bigSep_W4, bigSep_W4, defs₀_row]
  exact triple_restated (sound_body V c t) rfl .rfl fun _ => .rfl

end Cert.Proof.KernelRun.Topk

end
-- ==== Proof.KernelMain.lean ====
/-
  The whole run of the kernel's program: the host prepares the arrays of the scores, four TensorCore calls make the scores
  and a fifth selects each row's 64 largest, the host builds the gather's table and row numbers, the SparseCore call gathers
  the rows, and the host slices the six results off. `run_main` says that every host buffer ends at the contents these
  steps give it.
-/
module

public import proofs.«01_k».proof.Proof.KernelStat0
public import proofs.«01_k».proof.Proof.KernelStat1
public import proofs.«01_k».proof.Proof.KernelStat2
public import proofs.«01_k».proof.Proof.KernelScore
public import proofs.«01_k».proof.Proof.KernelTopk

@[expose] public section

noncomputable section

namespace Cert.Proof.KernelRun

open Cert.KernelIdeal Cert.KernelIdeal.Gen

open Idealize.ShloMosaic
open Idealize.ShloMosaic.ValueIdx (ix1 ix2)
open Idealize.ShloMosaic.StableHlo (after held)
open Idealize.ShloMosaic.Pipeline (ucRefs sub_ucRefs Dat BodyObligationLoose afterRegion)
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The thirty-two tasks, core by core -/

/-- A task number is a core and a subcore. -/
def widEquiv : Fin 2 × Fin 16 ≃ Fin 32 where
  toFun p := wid p.1 p.2
  invFun w := (⟨w.val % 2, by omega⟩, ⟨w.val / 2, by omega⟩)
  left_inv p := by
    have h := p.1.isLt
    refine Prod.ext (Fin.ext ?_) (Fin.ext ?_) <;> simp only [wid] <;> omega
  right_inv w := Fin.ext (by simp only [wid]; omega)

theorem bigSep_tasks (Ψ : Fin 32 → sProp 𝕄) :
    (bigSep Finset.univ fun c : Fin 2 => bigSep Finset.univ fun i : Fin 16 => Ψ (wid c i)) = bigSep Finset.univ Ψ := by
  rw [bigSep_univ_equiv widEquiv Ψ, bigSep_univ_prod]
  rfl

variable (tbl : ∀ d : Dev nD, Buf (Elt F) (tLoc d)) (ix : ∀ d : Dev nD, Buf (Elt F) (iLoc d))

/-- The three arrays held whole are what the call is handed. -/
theorem st_intro (d : Dev nD) (f : Buf (Elt F) (oLoc d)) :
    iprop((iLoc d ↦{fullShare} ix d) ∗ (tLoc d ↦{fullShare} tbl d) ∗ oLoc d ↦{fullShare} f)
      ⊢ (bigSep Finset.univ fun c : Fin ((K (F := F)).nCore 0) => (P tbl ix).st 0 d c : sProp 𝕄) := by
  show _ ⊢ (bigSep Finset.univ fun c : Fin 2 => bigSep Finset.univ fun i : Fin 16 => taskIn tbl ix d (wid c i) : sProp 𝕄)
  rw [bigSep_tasks (fun w => taskIn tbl ix d w), bigSep_sep', bigSep_sep', pointsTo_leaves Finset.univ (ix d) 5 fullShare,
    pointsTo_leaves Finset.univ (tbl d) 5 fullShare, ← blk_cover, pointsTo_biUnion Finset.univ (ℓ := oLoc d) blkSet blk_disjoint]
  refine sep_mono_right (sep_mono_right (bigSep_mono fun w _ => show iprop(oBlkPts d w f) ⊢ iprop(∃ f, oBlkPts d w f) from ?_))
  iintro H; iexists f; iexact H

/-- What it brings back joins to the three arrays whole, the result at the gather's value. -/
theorem dn_elim (d : Dev nD) :
    (bigSep Finset.univ fun c : Fin ((K (F := F)).nCore 0) => (P tbl ix).dn 0 d c : sProp 𝕄)
      ⊢ iprop((iLoc d ↦{fullShare} ix d) ∗ (tLoc d ↦{fullShare} tbl d) ∗ oLoc d ↦{fullShare} gath (tbl d) (ix d)) := by
  show (bigSep Finset.univ fun c : Fin 2 => bigSep Finset.univ fun i : Fin 16 => taskOut tbl ix d (wid c i) : sProp 𝕄) ⊢ _
  rw [bigSep_tasks (fun w => taskOut tbl ix d w), bigSep_sep', bigSep_sep', pointsTo_leaves Finset.univ (ix d) 5 fullShare,
    pointsTo_leaves Finset.univ (tbl d) 5 fullShare, ← blk_cover, pointsTo_biUnion Finset.univ (ℓ := oLoc d) blkSet blk_disjoint]
  exact .rfl

/-! ## The host's lines -/

variable [FloatOps F]

/-- Before the scores: the points as columns of a padded matrix, the first weights padded with it, and the layers' other
    parameters as columns. -/
def opsA : List (HloOp τ sig (Elt F)) :=
  [StableHlo.reshape main_arg0 main_v0 (rfl : (.f32 : EltTy) = .f32) shapeCasts_S8x8192x3_S65536x3,
   StableHlo.unary main_v0 main_v1 (transpose S3x65536 [1, 0] · transposes_S65536x3_S3x65536_1_0),
   StableHlo.nullary main_c (constantI S_ 32 0#32),
   StableHlo.unary main_c main_call0_v0 (sitofp .f32),
   StableHlo.binary main_v1 main_call0_v0 main_v2 (fun x v => pad S8x65536 ![0, 0] ![5, 0] ![0, 0] x v pads_S3x65536_S8x65536_050_000 h_S_),
   StableHlo.nullary main_c_0 (constantI S_ 32 0#32),
   StableHlo.unary main_c_0 main_call1_v0 (sitofp .f32),
   StableHlo.binary main_arg2 main_call1_v0 main_v3 (fun x v => pad S32x8 ![0, 0] ![0, 5] ![0, 0] x v pads_S32x3_S32x8_000_050 h_S_),
   StableHlo.reshape main_arg3 main_v4 (rfl : (.f32 : EltTy) = .f32) shapeCasts_S32_S32x1,
   StableHlo.reshape main_arg4 main_v5 (rfl : (.f32 : EltTy) = .f32) shapeCasts_S32_S32x1,
   StableHlo.reshape main_arg5 main_v6 (rfl : (.f32 : EltTy) = .f32) shapeCasts_S32_S32x1,
   StableHlo.reshape main_arg7 main_v7 (rfl : (.f32 : EltTy) = .f32) shapeCasts_S64_S64x1,
   StableHlo.reshape main_arg8 main_v8 (rfl : (.f32 : EltTy) = .f32) shapeCasts_S64_S64x1,
   StableHlo.reshape main_arg9 main_v9 (rfl : (.f32 : EltTy) = .f32) shapeCasts_S64_S64x1,
   StableHlo.reshape main_arg11 main_v10 (rfl : (.f32 : EltTy) = .f32) shapeCasts_S256_S256x1,
   StableHlo.reshape main_arg12 main_v11 (rfl : (.f32 : EltTy) = .f32) shapeCasts_S256_S256x1,
   StableHlo.reshape main_arg13 main_v12 (rfl : (.f32 : EltTy) = .f32) shapeCasts_S256_S256x1,
   StableHlo.reshape main_arg15 main_v13 (rfl : (.f32 : EltTy) = .f32) shapeCasts_S512_S512x1]

/-- Between the scores and the selection: every row of scores on one axis. -/
def opsM : List (HloOp τ sig (Elt F)) :=
  [StableHlo.reshape main_v17 main_v18 (rfl : (.f32 : EltTy) = .f32) shapeCasts_S8x512x8192_S4096x8192]

/-- Before the gather: the table and the flat row numbers. -/
def ops1 : List (HloOp τ sig (Elt F)) :=
  [StableHlo.reshape main_arg1 main_v20 (rfl : (.f32 : EltTy) = .f32) shapeCasts_S8x8192x64_S65536x64,
   StableHlo.reshape main_arg0 main_v21 (rfl : (.f32 : EltTy) = .f32) shapeCasts_S8x8192x3_S65536x3,
   StableHlo.binary main_v20 main_v21 main_v22 (fun a b => concatenate S65536x67 1 [⟨S65536x64, a⟩, ⟨S65536x3, b⟩] concatenates_S65536x64_S65536x3_S65536x67_d1),
   StableHlo.nullary main_c_1 (constantI S_ 32 0#32),
   StableHlo.unary main_c_1 main_call2_v0 (sitofp .f32),
   StableHlo.binary main_v22 main_call2_v0 main_v23 (fun x v => pad S65536x128 ![0, 0] ![0, 61] ![0, 0] x v pads_S65536x67_S65536x128_000_0610 h_S_),
   StableHlo.reshape main_v19 main_v24 (rfl : (.i32 : EltTy) = .i32) shapeCasts_S4096x64_S262144]

/-- After the gather: the six results. -/
def ops2 : List (HloOp τ sig (Elt F)) :=
  [StableHlo.unary main_v25 main_v26 (extractStridedSlice S262144x64 ![0, 0] · slices_S262144x128_S262144x64_0_0),
   StableHlo.reshape main_v26 main_v27 (rfl : (.f32 : EltTy) = .f32) shapeCasts_S262144x64_S8x512x64x64,
   StableHlo.unary main_v25 main_v28 (extractStridedSlice S262144x3 ![0, 64] · slices_S262144x128_S262144x3_0_64),
   StableHlo.reshape main_v28 main_v29 (rfl : (.f32 : EltTy) = .f32) shapeCasts_S262144x3_S8x512x64x3,
   StableHlo.unary main_v29 main_v30 (extractStridedSlice S8x512x32x3 ![0, 0, 0, 0] · slices_S8x512x64x3_S8x512x32x3_0_0_0_0),
   StableHlo.unary main_v27 main_v31 (extractStridedSlice S8x512x32x64 ![0, 0, 0, 0] · slices_S8x512x64x64_S8x512x32x64_0_0_0_0),
   StableHlo.unary main_v29 main_v32 (extractStridedSlice S8x512x1x3 ![0, 0, 0, 0] · slices_S8x512x64x3_S8x512x1x3_0_0_0_0),
   StableHlo.reshape main_v32 main_v33 (rfl : (.f32 : EltTy) = .f32) shapeCasts_S8x512x1x3_S8x512x3,
   StableHlo.unary main_v27 main_v34 (extractStridedSlice S8x512x1x64 ![0, 0, 0, 0] · slices_S8x512x64x64_S8x512x1x64_0_0_0_0),
   StableHlo.reshape main_v34 main_v35 (rfl : (.f32 : EltTy) = .f32) shapeCasts_S8x512x1x64_S8x512x64]

/-- The TensorCore call of pipeline `p`, as @main makes it. -/
abbrev callTc (p : Fin 5) : Prog (TpuEff nD τ sig (Elt F) (SparseCore.Sig (ΛP (F := F)) 1) .tc) PUnit :=
  Prog.lift (.customCall (SparseCore.inner (Pipeline.entry p)) ())

theorem main_eq (d : Dev nD) :
    main (F := F) d = StableHlo.seq opsA >>= fun _ => callTc 0 >>= fun _ => callTc 1 >>= fun _ => callTc 2 >>= fun _ => callTc 3
      >>= fun _ => StableHlo.seq opsM >>= fun _ => callTc 4 >>= fun _ => StableHlo.seq ops1 >>= fun _ => sc.run d 0
      >>= fun _ => StableHlo.seq ops2 := by
  rfl

theorem opsA_sub : ∀ op ∈ opsA (F := F), op.bufs ⊆ ucRefs τ sig :=
  List.forall_iff_forall_mem.mp (by
    refine ⟨?_, ?_, ?_, ?_, ?_, ?_, ?_, ?_, ?_, ?_, ?_, ?_, ?_, ?_, ?_, ?_, ?_, ?_⟩ <;> exact sub_ucRefs _ (by simp))
theorem opsA_fresh : ∀ op ∈ opsA (F := F), op.fresh = ∅ :=
  List.forall_iff_forall_mem.mp ⟨rfl, rfl, rfl, rfl, rfl, rfl, rfl, rfl, rfl, rfl, rfl, rfl, rfl, rfl, rfl, rfl, rfl, rfl⟩
theorem opsM_sub : ∀ op ∈ opsM (F := F), op.bufs ⊆ ucRefs τ sig :=
  List.forall_iff_forall_mem.mp (by
    refine ?_ <;> exact sub_ucRefs _ (by simp))
theorem opsM_fresh : ∀ op ∈ opsM (F := F), op.fresh = ∅ :=
  List.forall_iff_forall_mem.mp rfl
theorem ops1_sub : ∀ op ∈ ops1 (F := F), op.bufs ⊆ ucRefs τ sig :=
  List.forall_iff_forall_mem.mp (by
    refine ⟨?_, ?_, ?_, ?_, ?_, ?_, ?_⟩ <;> exact sub_ucRefs _ (by simp))
theorem ops1_fresh : ∀ op ∈ ops1 (F := F), op.fresh = ∅ :=
  List.forall_iff_forall_mem.mp ⟨rfl, rfl, rfl, rfl, rfl, rfl, rfl⟩
theorem ops2_sub : ∀ op ∈ ops2 (F := F), op.bufs ⊆ ucRefs τ sig :=
  List.forall_iff_forall_mem.mp (by
    refine ⟨?_, ?_, ?_, ?_, ?_, ?_, ?_, ?_, ?_, ?_⟩ <;> exact sub_ucRefs _ (by simp))
theorem ops2_fresh : ∀ op ∈ ops2 (F := F), op.fresh = ∅ :=
  List.forall_iff_forall_mem.mp ⟨rfl, rfl, rfl, rfl, rfl, rfl, rfl, rfl, rfl, rfl⟩

/-! ## The contents at each point -/

variable (m : (ℓ : Loc nD τ sig) → Buf (Elt F) ℓ) (ρ : Dev nD → PrngReg)

abbrev i' : DevRef τ sig := Proc.devRef .tc (main_v24 : Ref sig .tc)
abbrev t' : DevRef τ sig := Proc.devRef .tc (main_v23 : Ref sig .tc)
abbrev o' : DevRef τ sig := Proc.devRef .tc (main_v25 : Ref sig .tc)

def W0 (d : Dev nD) : Valuation τ sig (Elt F) := fun b => m (d, b)
/-- The contents entering call 0, then after each of the four calls of the scores, -/
def E0 (d : Dev nD) : Valuation τ sig (Elt F) := after opsA (W0 m d)
def E1 (d : Dev nD) : Valuation τ sig (Elt F) := afterRegion (Stat0.dat (E0 m) d) (E0 m d)
def E2 (d : Dev nD) : Valuation τ sig (Elt F) := afterRegion (Stat1.dat (E1 m) d) (E1 m d)
def E3 (d : Dev nD) : Valuation τ sig (Elt F) := afterRegion (Stat2.dat (E2 m) d) (E2 m d)
def E4 (d : Dev nD) : Valuation τ sig (Elt F) := afterRegion (Score.dat (E3 m) d) (E3 m d)
/-- entering the selection and after it. -/
def E5 (d : Dev nD) : Valuation τ sig (Elt F) := after opsM (E4 m d)
def E6 (d : Dev nD) : Valuation τ sig (Elt F) := afterRegion (Topk.dat (E5 m) d) (E5 m d)
def W1 (d : Dev nD) : Valuation τ sig (Elt F) := after ops1 (E6 m d)

/-- The five calls' proof data. -/
def dats : DATS (F := F) := fun p c => match p with
  | ⟨0, _⟩ => Stat0.dat (E0 m) c
  | ⟨1, _⟩ => Stat1.dat (E1 m) c
  | ⟨2, _⟩ => Stat2.dat (E2 m) c
  | ⟨3, _⟩ => Score.dat (E3 m) c
  | ⟨4, _⟩ => Topk.dat (E5 m) c

/-- The table and the row numbers the call reads. -/
def tblOf (d : Dev nD) : Buf (Elt F) (tLoc d) := W1 m d t'
def ixOf (d : Dev nD) : Buf (Elt F) (iLoc d) := W1 m d i'
def W2 (d : Dev nD) : Valuation τ sig (Elt F) := Function.update (W1 m d) o' (gath (tblOf m d) (ixOf m d))
def W3 (d : Dev nD) : Valuation τ sig (Elt F) := after ops2 (W2 m d)

/-- The call's three arrays. -/
abbrev S3 : Finset (DevRef τ sig) := {i', t', o'}

theorem S3_sub : S3 ⊆ ucRefs τ sig := by
  intro b hb
  simp only [S3, Finset.mem_insert, Finset.mem_singleton] at hb
  refine Finset.mem_filter.mpr ⟨?_, ?_⟩
  · rcases hb with rfl | rfl | rfl <;> exact StableHlo.devRef_mem_tcRefs _
  · rcases hb with rfl | rfl | rfl <;> decide

theorem held_S3 (d : Dev nD) (W : Valuation τ sig (Elt F)) :
    (held (T d) S3 W : sProp 𝕄)
      = iprop((iLoc d ↦{fullShare} W i') ∗ (tLoc d ↦{fullShare} W t') ∗ oLoc d ↦{fullShare} W o') := by
  unfold held S3
  rw [SparseCore.bigSep_insert' (by decide), SparseCore.bigSep_insert' (by decide), bigSep_singleton]

/-- The arrays outside the call are as it found them. -/
theorem held_rest (d : Dev nD) :
    (held (T d) (ucRefs τ sig \ S3) (W1 m d) : sProp 𝕄) = held (T d) (ucRefs τ sig \ S3) (W2 m d) :=
  StableHlo.held_congr (T d) fun b hb => by
    unfold W2
    refine (Function.update_of_ne ?_ _ _).symm
    rintro rfl
    exact (Finset.mem_sdiff.mp hb).2 (by simp [S3])

theorem held_after_call (d : Dev nD) :
    iprop(((iLoc d ↦{fullShare} ixOf m d) ∗ (tLoc d ↦{fullShare} tblOf m d) ∗ oLoc d ↦{fullShare} gath (tblOf m d) (ixOf m d))
        ∗ held (T d) (ucRefs τ sig \ S3) (W1 m d))
      ⊢ (held (T d) (ucRefs τ sig) (W2 m d) : sProp 𝕄) := by
  rw [held_rest, StableHlo.held_sub_split (T d) S3_sub (W2 m d), held_S3]
  rw [show W2 m d i' = ixOf m d from Function.update_of_ne (by decide) _ _,
    show W2 m d t' = tblOf m d from Function.update_of_ne (by decide) _ _,
    show W2 m d o' = gath (tblOf m d) (ixOf m d) from Function.update_self _ _ _]

/-! ## The launch element -/

/-- The handshake's cells and the five calls' staging cells, each at its launch state. -/
def u₀ : UU := (initOf (K (F := F)).hsCells (K (F := F)).hsToks,
  (initOf (Pipeline.PerCore.cells (fun _ => Pipeline.pin (pcfgs (F := F)) adm) ghost_inj)
    (Pipeline.PerCore.launchToks (fun _ => Pipeline.pin (pcfgs (F := F)) adm) ghost_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) Finset.univ d)
        ∗ bigSep Finset.univ fun thr : Thread nD τ => bigSep Finset.univ fun q : Fin 1 => (P tbl ix).x q thr) := by
  unfold u₀
  iintro Hu
  ihave H := (ownU_pair (initOf (K (F := F)).hsCells (K (F := F)).hsToks) _) $$ Hu
  icases H with ⟨HH, HP⟩
  ihave H := (own_pair_emb embR _ (1 : Counters)) $$ HP
  icases H with ⟨HP, -⟩
  ihave HP := (show BI.own ((Emb.inl.trans embR) (initOf (Pipeline.PerCore.cells (fun _ => Pipeline.pin (pcfgs (F := F)) adm) ghost_inj)
      (Pipeline.PerCore.launchToks (fun _ => Pipeline.pin (pcfgs (F := F)) adm) ghost_inj)))
    ⊢ (BI.own (EP (initOf (Pipeline.PerCore.cells (fun _ => Pipeline.pin (pcfgs (F := F)) adm) ghost_inj)
      (Pipeline.PerCore.launchToks (fun _ => Pipeline.pin (pcfgs (F := F)) adm) ghost_inj))) : sProp 𝕄) from .rfl) $$ HP
  imod (Pipeline.PerCore.fund_ghost (fun _ => Pipeline.pin (pcfgs (F := F)) adm) EP ghost_inj) $$ HP with ⟨Hg, Ht⟩
  imodintro
  isplitl [HH]; · iexact HH
  isplitl [Hg Ht]
  · unfold ghost
    simp only [bigSep_sep']
    isplitl [Hg]; · iexact Hg
    iexact Ht
  rw [show (bigSep Finset.univ fun thr : Thread nD τ => bigSep Finset.univ fun q : Fin 1 => (P (F := F) tbl ix).x q thr) = bigSep Finset.univ fun _ => iprop(emp) from
    bigSep_congr fun _ _ => bigSep_univ_of_subsingleton (0 : Fin 1), bigSep_emp']
  iempintro

/-! ## The five TensorCore calls -/

section Calls

variable [∀ e, Nonempty (Elt F e)]

theorem call0 (S : Finset (Fin 5)) (hp : 0 ∈ S) (d : Dev nD) (Q : PUnit → sProp 𝕄) :
    iprop((iprop(boundary (d.tc : Thread nD τ) ∗ held (d.tc : Thread nD τ) (ucRefs τ sig) (E1 m d) ∗ side d ∗ ghost (S.erase 0) d) -∗ Q ⟨⟩)
        ∗ boundary (d.tc : Thread nD τ) ∗ held (d.tc : Thread nD τ) (ucRefs τ sig) (E0 m d) ∗ side d ∗ ghost S d ∗ levAts (K (F := F)).L (K (F := F)).lev)
      ⊢ wp frame (wpE ((K (F := F)).defs (D (F := F))) 𝒱 (SparseCore.T d) none) Set.univ (callTc 0) Q :=
  wp_region (dats m) 0 S hp launch0 (E0 m) (fun c => (Stat0.body_obligation (E0 m) c).loose)
    (fun c => (Stat0.dat (E0 m) c).share_full fun _ => rfl) (fun _ _ => rfl) (fun _ _ => rfl) (fun c w => Stat0.A_eq (E0 m) c w)
    (Stat0.hin (E0 m)) (Stat0.hout (E0 m)) d Q

theorem call1 (S : Finset (Fin 5)) (hp : 1 ∈ S) (d : Dev nD) (Q : PUnit → sProp 𝕄) :
    iprop((iprop(boundary (d.tc : Thread nD τ) ∗ held (d.tc : Thread nD τ) (ucRefs τ sig) (E2 m d) ∗ side d ∗ ghost (S.erase 1) d) -∗ Q ⟨⟩)
        ∗ boundary (d.tc : Thread nD τ) ∗ held (d.tc : Thread nD τ) (ucRefs τ sig) (E1 m d) ∗ side d ∗ ghost S d ∗ levAts (K (F := F)).L (K (F := F)).lev)
      ⊢ wp frame (wpE ((K (F := F)).defs (D (F := F))) 𝒱 (SparseCore.T d) none) Set.univ (callTc 1) Q :=
  wp_region (dats m) 1 S hp launch1 (E1 m) (fun c => (Stat1.body_obligation (E1 m) c).loose)
    (fun c => (Stat1.dat (E1 m) c).share_full fun _ => rfl) (fun _ _ => rfl) (fun _ _ => rfl) (fun c w => Stat1.A_eq (E1 m) c w)
    (Stat1.hin (E1 m)) (Stat1.hout (E1 m)) d Q

theorem call2 (S : Finset (Fin 5)) (hp : 2 ∈ S) (d : Dev nD) (Q : PUnit → sProp 𝕄) :
    iprop((iprop(boundary (d.tc : Thread nD τ) ∗ held (d.tc : Thread nD τ) (ucRefs τ sig) (E3 m d) ∗ side d ∗ ghost (S.erase 2) d) -∗ Q ⟨⟩)
        ∗ boundary (d.tc : Thread nD τ) ∗ held (d.tc : Thread nD τ) (ucRefs τ sig) (E2 m d) ∗ side d ∗ ghost S d ∗ levAts (K (F := F)).L (K (F := F)).lev)
      ⊢ wp frame (wpE ((K (F := F)).defs (D (F := F))) 𝒱 (SparseCore.T d) none) Set.univ (callTc 2) Q :=
  wp_region (dats m) 2 S hp launch2 (E2 m) (fun c => (Stat2.body_obligation (E2 m) c).loose)
    (fun c => (Stat2.dat (E2 m) c).share_full fun _ => rfl) (fun _ _ => rfl) (fun _ _ => rfl) (fun c w => Stat2.A_eq (E2 m) c w)
    (Stat2.hin (E2 m)) (Stat2.hout (E2 m)) d Q

theorem call3 (S : Finset (Fin 5)) (hp : 3 ∈ S) (d : Dev nD) (Q : PUnit → sProp 𝕄) :
    iprop((iprop(boundary (d.tc : Thread nD τ) ∗ held (d.tc : Thread nD τ) (ucRefs τ sig) (E4 m d) ∗ side d ∗ ghost (S.erase 3) d) -∗ Q ⟨⟩)
        ∗ boundary (d.tc : Thread nD τ) ∗ held (d.tc : Thread nD τ) (ucRefs τ sig) (E3 m d) ∗ side d ∗ ghost S d ∗ levAts (K (F := F)).L (K (F := F)).lev)
      ⊢ wp frame (wpE ((K (F := F)).defs (D (F := F))) 𝒱 (SparseCore.T d) none) Set.univ (callTc 3) Q :=
  wp_region (dats m) 3 S hp launch3 (E3 m) (fun c => (Score.body_obligation (E3 m) c).loose)
    (fun c => (Score.dat (E3 m) c).share_full fun _ => rfl) (fun _ _ => rfl) (fun _ _ => rfl) (fun c w => Score.A_eq (E3 m) c w)
    (fun _ => .rfl) (fun _ => .rfl) d Q

theorem call4 (S : Finset (Fin 5)) (hp : 4 ∈ S) (d : Dev nD) (Q : PUnit → sProp 𝕄) :
    iprop((iprop(boundary (d.tc : Thread nD τ) ∗ held (d.tc : Thread nD τ) (ucRefs τ sig) (E6 m d) ∗ side d ∗ ghost (S.erase 4) d) -∗ Q ⟨⟩)
        ∗ boundary (d.tc : Thread nD τ) ∗ held (d.tc : Thread nD τ) (ucRefs τ sig) (E5 m d) ∗ side d ∗ ghost S d ∗ levAts (K (F := F)).L (K (F := F)).lev)
      ⊢ wp frame (wpE ((K (F := F)).defs (D (F := F))) 𝒱 (SparseCore.T d) none) Set.univ (callTc 4) Q :=
  wp_region (dats m) 4 S hp launch4 (E5 m) (fun c => (Topk.body_obligation (E5 m) c).loose)
    (fun c => (Topk.dat (E5 m) c).share_full fun _ => rfl) (fun _ _ => rfl) (fun _ _ => rfl) (fun c w => Topk.A_eq (E5 m) c w)
    (fun _ => .rfl) (fun _ => .rfl) d Q

end Calls

/-! ## @main on the TensorCore -/

/-- What @main leaves the claims: every host buffer at its final contents. -/
abbrev FIN (d : Dev nD) : sProp 𝕄 := held (T d) (ucRefs τ sig) (W3 m d)

/-- What the core owes before the SparseCore call, apart from its positions in the handshake. -/
theorem tcSt_split (d : Dev nD) :
    ∃ R : sProp 𝕄, (K (F := F)).tcSt EH d 0
      = iprop((∃ Wt, ⌜(K (F := F)).WBelow (T d) Wt 0⌝ ∗ owes (d.tc : Thread nD τ) (debt (F := F) d) Wt) ∗ R) :=
  ⟨_, rfl⟩

/-- @main on device `d`'s TensorCore. -/
theorem hmain [∀ e, Nonempty (Elt F e)] (κ : GSem nD τ sig → ℕ) (d : Dev nD) :
    iprop((K (F := F)).ctx EH (P (tblOf m) (ixOf m)) κ ∗ (K (F := F)).tcSt EH d 0 ∗ (K (F := F)).tcRes m ρ d ∗ ghost (F := F) Finset.univ d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_split (F := F) d
  have hlev := SparseCore.Cfg.ctx_levAts (K := K (F := F)) (EH := EH) (P := P (tblOf m) (ixOf m)) (lv := (K (F := F)).lev) κ
  rw [show (unscopedBufs d (fun b => m ((SparseCore.T d).loc b)) : sProp 𝕄) = held (T d) (ucRefs τ sig) (W0 m d) from
    Pipeline.unscopedBufs_held d (W0 m d), main_eq, hR]
  iintro ⟨#Hctx, ⟨Ho, HR⟩, ⟨Hb, Hheld, Hts, Hp⟩, Hg⟩
  ihave #Hlev := hlev $$ Hctx
  ihave Hside := (show iprop((prngReg d (ρ d)) ∗ ∃ Wt, ⌜(K (F := F)).WBelow (T d) Wt 0⌝ ∗ owes (d.tc : Thread nD τ) (debt (F := F) d) Wt)
      ⊢ (side d : sProp 𝕄) from by
    unfold side
    iintro ⟨H1, H2⟩
    isplitl [H1]; · iexists _; iexact H1
    iexact H2) $$ [Hp Ho]
  · isplitl [Hp] <;> iassumption
  iapply (StableHlo.wp_seq 𝒱 none Set.univ d (ucRefs τ sig) _ opsA opsA_sub opsA_fresh (W0 m d)) $$ [Hb Hheld]
  · isplitl [Hb] <;> iassumption
  iintro ⟨Hb, Hheld⟩
  ihave Hheld := (show held d.tc (ucRefs τ sig) (after opsA (W0 m d)) ⊢ (held (d.tc : Thread nD τ) (ucRefs τ sig) (E0 m d) : sProp 𝕄) from .rfl) $$ Hheld
  rw [wp_bind]
  iapply (call0 m (Finset.univ) (by decide) d _)
  isplitr [Hb Hheld Hside Hg]
  swap
  · isplitl [Hb]; · iexact Hb
    isplitl [Hheld]; · iexact Hheld
    isplitl [Hside]; · iexact Hside
    isplitl [Hg]; · iexact Hg
    iexact Hlev
  iintro ⟨Hb, Hheld, Hside, Hg⟩
  rw [wp_bind]
  iapply (call1 m (Finset.univ.erase 0) (by decide) d _)
  isplitr [Hb Hheld Hside Hg]
  swap
  · isplitl [Hb]; · iexact Hb
    isplitl [Hheld]; · iexact Hheld
    isplitl [Hside]; · iexact Hside
    isplitl [Hg]; · iexact Hg
    iexact Hlev
  iintro ⟨Hb, Hheld, Hside, Hg⟩
  rw [wp_bind]
  iapply (call2 m ((Finset.univ.erase 0).erase 1) (by decide) d _)
  isplitr [Hb Hheld Hside Hg]
  swap
  · isplitl [Hb]; · iexact Hb
    isplitl [Hheld]; · iexact Hheld
    isplitl [Hside]; · iexact Hside
    isplitl [Hg]; · iexact Hg
    iexact Hlev
  iintro ⟨Hb, Hheld, Hside, Hg⟩
  rw [wp_bind]
  iapply (call3 m (((Finset.univ.erase 0).erase 1).erase 2) (by decide) d _)
  isplitr [Hb Hheld Hside Hg]
  swap
  · isplitl [Hb]; · iexact Hb
    isplitl [Hheld]; · iexact Hheld
    isplitl [Hside]; · iexact Hside
    isplitl [Hg]; · iexact Hg
    iexact Hlev
  iintro ⟨Hb, Hheld, Hside, Hg⟩
  iapply (StableHlo.wp_seq 𝒱 none Set.univ d (ucRefs τ sig) _ opsM opsM_sub opsM_fresh (E4 m d)) $$ [Hb Hheld]
  · isplitl [Hb] <;> iassumption
  iintro ⟨Hb, Hheld⟩
  ihave Hheld := (show held d.tc (ucRefs τ sig) (after opsM (E4 m d)) ⊢ (held (d.tc : Thread nD τ) (ucRefs τ sig) (E5 m d) : sProp 𝕄) from .rfl) $$ Hheld
  rw [wp_bind]
  iapply (call4 m ((((Finset.univ.erase 0).erase 1).erase 2).erase 3) (by decide) d _)
  isplitr [Hb Hheld Hside Hg]
  swap
  · isplitl [Hb]; · iexact Hb
    isplitl [Hheld]; · iexact Hheld
    isplitl [Hside]; · iexact Hside
    isplitl [Hg]; · iexact Hg
    iexact Hlev
  iintro ⟨Hb, Hheld, Hside, Hg⟩
  iapply (StableHlo.wp_seq 𝒱 none Set.univ d (ucRefs τ sig) _ ops1 ops1_sub ops1_fresh (E6 m d)) $$ [Hb Hheld]
  · isplitl [Hb] <;> iassumption
  iintro ⟨Hb, Hheld⟩
  ihave Hst := (show iprop(side d ∗ R) ⊢ (K (F := F)).tcSt EH d 0 from by
    rw [hR]; unfold side
    iintro ⟨⟨-, Ho⟩, HR⟩
    isplitl [Ho] <;> iassumption) $$ [Hside HR]
  · isplitl [Hside] <;> iassumption
  ihave Hheld' := (show held d.tc (ucRefs τ sig) (after ops1 (E6 m d)) ⊢ (held (T d) (ucRefs τ sig) (W1 m d) : sProp 𝕄) from .rfl) $$ Hheld
  ihave Hh := (Entails.of_eq (StableHlo.held_sub_split (T d) S3_sub (W1 m d))) $$ Hheld'
  icases Hh with ⟨H3, Hrest⟩
  ihave H3' := (Entails.of_eq (held_S3 d (W1 m d))) $$ H3
  rw [wp_bind]
  iapply ((K (F := F)).wp_run (D (F := F)) 𝒱 (EH := EH) (P := P (tblOf m) (ixOf m)) κ d 0) $$ [Hst H3' Hrest Hb Hts]
  isplitr; · iexact Hctx
  isplitl [Hst]; · iexact Hst
  isplitl [H3']
  · iapply (st_intro (tblOf m) (ixOf m) d (W1 m d o')); iexact H3'
  iintro ⟨Hst, Hdn⟩
  ihave Hdn' := (dn_elim (tblOf m) (ixOf m) d) $$ Hdn
  ihave Hheld := (held_after_call m d) $$ [Hdn' Hrest]
  · isplitl [Hdn'] <;> iassumption
  rw [show StableHlo.seq (ops2 (F := F)) = (StableHlo.seq (Λ := SparseCore.Sig (ΛP (F := F)) 1) (nD := nD) ops2 >>= fun u => Pure.pure u) from (bind_pure _).symm]
  iapply (StableHlo.wp_seq 𝒱 none Set.univ d (ucRefs τ sig) (fun u => Pure.pure u) ops2 ops2_sub ops2_fresh (W2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = W3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

def QC : PUnit × MemSt nD τ sig (Elt F) → Prop :=
  fun r => (∀ (c : Dev nD), ∀ b ∈ ucRefs τ sig, r.2.mem (c, b) = W3 m c b) ∧ r.2.sem = fun _ => 0

/-- Every run ends, with every host buffer at `W3` and every counter at zero. -/
theorem run_main [∀ e, Nonempty (Elt F e)] (hr : InRange (ixOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tblOf m) (ixOf m)) (A := ∅) facts v₀
    (fun q hq => match q with | 0 => nomatch hq)
    (fun q _ => match q with | 0 => tileObl (tblOf m) (ixOf m) facts hr)
    (fun q _ => match q with | 0 => SparseCore.Cfg.VecSplit.of_plain (vecSplit (tblOf m) (ixOf m)))
    m ρ main (fun d => ghost (F := F) Finset.univ d) (FIN m) (u₀ (F := F)) (sep_elim_left.trans (hu₀ (tblOf m) (ixOf m))) (hmain m ρ) (fq m) (hfin m) (QC m) (fun _ h hz => ⟨h, hz⟩)

end Cert.Proof.KernelRun

end
-- ==== Proof.TopkValue.lean ====
/-
  What the selection call leaves: row by row, the positions of the 64 largest scores in decreasing order, equal scores in
  increasing order of position, each plus its batch's first row of the flat table. A trip of the kernel's loop takes the row's
  largest entry at its least position and marks that position with −1, below every score.
-/
module

public import proofs.«01_k».proof.Proof.KernelTopk
public import Idealize.ShloMosaic.Lib.VecWindow
public import Idealize.ShloMosaic.Lib.Pipeline.Value
public import Idealize.ShloMosaic.Lib.Pointwise
public import Idealize.ShloMosaic.Lib.SortNet.Extract
public import Idealize.ShloMosaic.PureOps.Ideal.Laws

@[expose] public section

set_option maxRecDepth 16384

noncomputable section

namespace Cert.Proof.KernelRun.Topk

open Cert.KernelIdeal Cert.KernelIdeal.Gen
open Idealize.ShloMosaic Idealize.ShloMosaic.TcCoe Idealize.ShloMosaic.Tactic

section Rounds

variable {F : FTy → Type} [FloatOps F]

/-- The rows before trip `k`: those of `x` with the positions chosen so far marked, -/
def rowsAt (x : Vec F S8x8192 .f32) : ℕ → Vec F S8x8192 .f32
  | 0 => x
  | k + 1 => k4_pay4 (rowsAt x k)

/-- and the indices chosen so far. -/
def resAt (x : Vec F S8x8192 .f32) : ℕ → IVec S8x64 32
  | 0 => k4_pay2
  | k + 1 => if h : k < k4_t1_loop.trips then k4_pay5 ⟨k, h⟩ (resAt x k) (rowsAt x k) else resAt x k

theorem stateAt_eq (arg3 : Memref sig .tc .vmem S8x8192 .f32) (G : BufTy.Contents (Elt F) arg3.view.ty) (x : Vec F S8x8192 .f32)
    (hG : rowsOf arg3 G = x) : ∀ k, k ≤ k4_t1_loop.trips →
      (stateAt arg3 G k4_pay2 k).1 = resAt x k ∧ rowsOf arg3 (arg3.view.writes (Elt F) G (stateAt arg3 G k4_pay2 k).2) = rowsAt x k
  | 0, _ => ⟨rfl, hG⟩
  | k + 1, hk => by
    obtain ⟨h1, h2⟩ := stateAt_eq arg3 G x hG k (Nat.le_of_succ_le hk)
    rw [stateAt_succ arg3 G k4_pay2 ⟨k, hk⟩, h2, h1]
    refine ⟨?_, ?_⟩
    · show _ = resAt x (k + 1)
      rw [resAt, dif_pos (show k < k4_t1_loop.trips from hk)]
    · exact View.readAt_writes_full arg3.view G _ _ _ _

theorem trips_ge : 64 ≤ k4_t1_loop.trips := by decide

theorem k4_pay1_eq (x : Vec F S8x8192 .f32) : k4_pay1 x = x := by
  unfold k4_pay1
  simp only [shapeCast_self]

theorem out_eq (c : Dev nD) (i : grid4.Coords) (arg1 : Memref sig .tc .vmem S8x8192 .f32) (harg1 : arg1.IsWhole) (arg2 : Memref sig .tc .vmem S8x64 .i32) (harg2 : arg2.IsWhole) (arg3 : Memref sig .tc .vmem S8x8192 .f32) (harg3 : arg3.IsWhole)
    (x0 : Vec F S8x8192 .f32) :
    out4_A_1 c i arg1 harg1 arg2 harg2 arg3 harg3 x0 = k4_pay6 i (resAt x0 64) := by
  have hx : rowsOf arg3 (arg3.view.writes (Elt F) arg3.view.junk (kernelRun4_A.sl.HS0_1 c arg1 harg1 x0)) = x0 := by
    delta kernelRun4_A.sl.HS0_1
    refine (View.readAt_writes_full arg3.view _ _ _ _ _).trans ?_
    rw [k4_pay1_eq]
    refine (View.readAt_full _ _ _).trans ?_
    exact harg1.read_unread _
  unfold out4_A_1
  delta kernelRun4_A
  dsimp only
  refine (View.read_writes_full _ _ _ _ _).trans ?_
  rw [show Scf.trips (0#32) (Scalar.addi 0#32 64#32) 1#32 = 64 from by decide, (stateAt_eq arg3 _ x0 hx 64 trips_ge).1]

end Rounds

/-! ## One trip, at extended reals -/

theorem minus_inf : Ideal.ofBits .f32 0xFF800000#32 = ⊥ := by simp [Ideal.ofBits, Ideal.ieee]
theorem minus_one : Ideal.ofBits .f32 0xBF800000#32 = -1 := by
  simp [Ideal.ofBits, Ideal.ieee, -EReal.coe_mul]
  exact_mod_cast (by norm_num : (8388608 : ℝ) * (2 ^ 23)⁻¹ = 1)

/-- The maximum taken over a row is an entry that no other exceeds. -/
theorem fold_max_eq {n : ℕ} (f : Fin n → EReal) (p : Fin n) (h : ∀ j, f j ≤ f p) : Finset.univ.fold max ⊥ f = f p :=
  le_antisymm (Finset.fold_max_le _ |>.mpr ⟨bot_le, fun j _ => h j⟩) (Finset.le_fold_max _ |>.mpr (.inr ⟨p, Finset.mem_univ _, le_rfl⟩))

/-- The least of the positions that hold the maximum, as words. -/
theorem fold_min_eq {n : ℕ} (hn : n ≤ 1073741824) (P : Fin n → Prop) [DecidablePred P] (p : Fin n) (hp : P p) (h : ∀ j, P j → p ≤ j) :
    Finset.univ.fold IntOp.minsi (2147483647#32) (fun j : Fin n => if P j then BitVec.ofNat 32 j.val else 1073741824#32) = BitVec.ofNat 32 p.val := by
  have toInt_ofNat : ∀ m : ℕ, m ≤ 1073741824 → (BitVec.ofNat 32 m).toInt = (m : ℤ) := fun m hm => by
    rw [BitVec.toInt_ofNat', Int.bmod_def]; omega
  apply BitVec.eq_of_toInt_eq
  rw [← Finset.fold_hom (op := IntOp.minsi (w := 32)) (op' := min) (m := BitVec.toInt) (fun a b => SortNet.toInt_minsi a b)]
  have hf : ∀ j : Fin n, (if P j then BitVec.ofNat 32 j.val else 1073741824#32).toInt = if P j then (j.val : ℤ) else 1073741824 := fun j => by
    split
    · exact toInt_ofNat _ (by omega)
    · exact toInt_ofNat _ le_rfl
  simp only [hf]
  rw [toInt_ofNat p.val (by omega)]
  refine le_antisymm (Finset.fold_min_le _ |>.mpr (.inr ⟨p, Finset.mem_univ _, by rw [if_pos hp]⟩))
    (Finset.le_fold_min _ |>.mpr ⟨by show (p.val : ℤ) ≤ 2147483647; omega, fun j _ => ?_⟩)
  split
  next hj => exact_mod_cast h j hj
  next => omega

/-- The position a trip chooses in a row: the least one that holds the row's largest entry. -/
theorem pay3_apply (v : Vec Ideal S8x8192 .f32) (r : Fin 8) (p : Fin 8192) (q : Fin 1)
    (h : ∀ j, v (ix2 r j) ≤ v (ix2 r p) ∧ (v (ix2 r j) = v (ix2 r p) → p ≤ j)) :
    k4_pay3 v (ix2 r q) = BitVec.ofNat 32 p.val := by
  pointwise [k4_pay3]
  rw [minus_inf]
  have hm := fold_max_eq (fun j => v (ix2 r j)) p fun j => (h j).1
  refine Eq.trans ?_ (fold_min_eq (by decide) (fun j => v (ix2 r j) = v (ix2 r p)) p rfl fun j => (h j).2)
  refine congrArg (fun f => Finset.univ.fold IntOp.minsi (2147483647#32) f) (funext fun j => ?_)
  exact if_congr (by rw [← hm]) rfl rfl

/-- The row after a trip: the chosen position marked. -/
theorem pay4_apply (v : Vec Ideal S8x8192 .f32) (r : Fin 8) (p j : Fin 8192) (h : k4_pay3 v (ix2 r 0) = BitVec.ofNat 32 p.val) :
    k4_pay4 v (ix2 r j) = if j = p then -1 else v (ix2 r j) := by
  pointwise [k4_pay4]
  rw [minus_one, show k4_pay3 v (ix2 r 0) = _ from h]
  have e : (BitVec.ofNat 32 j.val = BitVec.ofNat 32 p.val) ↔ j = p := by
    rw [← BitVec.toNat_inj]; simp only [BitVec.toNat_ofNat]; omega
  by_cases hj : j = p
  · subst hj; simp [IntOp.cmpi, Scalar.select]
  · have hne : BitVec.ofNat 32 j.val ≠ BitVec.ofNat 32 p.val := fun he => hj (e.mp he)
    simp [IntOp.cmpi, Scalar.select, hj, beq_eq_false_iff_ne.mpr hne]

theorem trips_eq : k4_t1_loop.trips = 64 := by decide

/-- The indices after trip `k`: the chosen position in column `k`. -/
theorem pay5_apply (v : Vec Ideal S8x8192 .f32) (k : Fin k4_t1_loop.trips) (acc : IVec S8x64 32) (r : Fin 8) (c : Fin 64) :
    k4_pay5 k acc v (ix2 r c) = if c.val = k.val then k4_pay3 v (ix2 r 0) else acc (ix2 r c) := by
  have hk : k.val < 64 := trips_eq ▸ k.isLt
  pointwise [k4_pay5]
  have hiv : Scf.iv (0#32) (1#32) k.val = BitVec.ofNat 32 k.val := by simp [Scf.iv]
  rw [hiv]
  have e : (BitVec.ofNat 32 c.val = BitVec.ofNat 32 k.val) ↔ c.val = k.val := by
    rw [← BitVec.toNat_inj]; simp only [BitVec.toNat_ofNat]; omega
  by_cases hc : c.val = k.val
  · simp [IntOp.cmpi, Scalar.select, hc]
  · have hne : BitVec.ofNat 32 c.val ≠ BitVec.ofNat 32 k.val := fun he => hc (e.mp he)
    simp [IntOp.cmpi, Scalar.select, hc, beq_eq_false_iff_ne.mpr hne]

/-- The batch's first row that the last line adds: grid point `n` works on rows `8n ..`, of batch `n / 64`. -/
theorem pay6_apply (i : grid4.Coords) (v : IVec S8x64 32) (r : Fin 8) (c : Fin 64) :
    k4_pay6 i v (ix2 r c) = v (ix2 r c) + BitVec.ofNat 32 ((i 0).val / 64 * 8192) := by
  pointwise [k4_pay6]
  refine congrArg (IntOp.addi (v (ix2 r c))) ?_
  generalize i 0 = n
  revert n
  change ∀ n : Fin 512, _
  decide +kernel

/-! ## All the trips -/

/-- The positions of a row in decreasing order of entry, equal entries in increasing order of position. -/
structure Ranked {n : ℕ} (f : Fin n → EReal) (π : Fin n → Fin n) : Prop where
  inj : Function.Injective π
  surj : Function.Surjective π
  order : ∀ i j, i < j → f (π j) < f (π i) ∨ (f (π j) = f (π i) ∧ π i < π j)

/-- Before trip `k` a row of scores has its `k` first positions marked, and the indices are those positions. -/
theorem rounds_apply (x : Vec Ideal S8x8192 .f32) (r : Fin 8) (π : Fin 8192 → Fin 8192) (hπ : Ranked (fun j => x (ix2 r j)) π)
    (h0 : ∀ j, 0 ≤ x (ix2 r j)) : ∀ k, k ≤ 64 →
      (∀ j : Fin 8192, rowsAt x k (ix2 r (π j)) = if j.val < k then -1 else x (ix2 r (π j)))
      ∧ ∀ c : Fin 64, resAt x k (ix2 r c) = if c.val < k then BitVec.ofNat 32 (π ⟨c.val, by omega⟩).val else 0#32
  | 0, _ => ⟨fun j => by rw [if_neg (Nat.not_lt_zero _)]; rfl, fun c => by rw [if_neg (Nat.not_lt_zero _)]; rfl⟩
  | k + 1, hk => by
    obtain ⟨h1, h2⟩ := rounds_apply x r π hπ h0 k (Nat.le_of_succ_le hk)
    have hneg : (-1 : EReal) < 0 := by
      have h : ((-1 : ℝ) : EReal) < ((0 : ℝ) : EReal) := EReal.coe_lt_coe_iff.mpr (by norm_num)
      simpa using h
    have hp : rowsAt x k (ix2 r (π ⟨k, by omega⟩)) = x (ix2 r (π ⟨k, by omega⟩)) := by rw [h1, if_neg (Nat.lt_irrefl _)]
    have hsel : k4_pay3 (rowsAt x k) (ix2 r 0) = BitVec.ofNat 32 (π ⟨k, by omega⟩).val := pay3_apply _ r _ 0 fun j' => by
      obtain ⟨j, rfl⟩ := hπ.surj j'
      rw [hp, h1]
      by_cases hj : j.val < k
      · rw [if_pos hj]
        have hlt := lt_of_lt_of_le hneg (h0 (π ⟨k, by omega⟩))
        exact ⟨le_of_lt hlt, fun e => absurd e (ne_of_lt hlt)⟩
      · rw [if_neg hj]
        rcases Nat.lt_or_ge k j.val with hlt | hge
        · rcases hπ.order ⟨k, by omega⟩ j hlt with h | ⟨h, h'⟩
          · exact ⟨le_of_lt h, fun e => absurd e (ne_of_lt h)⟩
          · exact ⟨le_of_eq h, fun _ => le_of_lt h'⟩
        · have e : j = ⟨k, by omega⟩ := Fin.ext (Nat.le_antisymm hge (Nat.le_of_not_lt hj))
          rw [e]; exact ⟨le_rfl, fun _ => le_rfl⟩
    refine ⟨fun j => ?_, fun c => ?_⟩
    · show k4_pay4 (rowsAt x k) _ = _
      rw [pay4_apply _ r _ _ hsel, h1]
      by_cases hj : j.val = k
      · have e : j = ⟨k, by omega⟩ := Fin.ext hj
        rw [if_pos (congrArg π e), if_pos (by omega)]
      · rw [if_neg fun e => hj (congrArg Fin.val (hπ.inj e))]
        by_cases hlt : j.val < k
        · rw [if_pos hlt, if_pos (by omega)]
        · rw [if_neg hlt, if_neg (by omega)]
    · have ht : k < k4_t1_loop.trips := by rw [trips_eq]; omega
      rw [resAt, dif_pos ht, pay5_apply, h2]
      by_cases hc : c.val = k
      · rw [if_pos hc, hsel, if_pos (by omega)]
        exact congrArg (fun q => BitVec.ofNat 32 (π q).val) (Fin.ext hc.symm)
      · rw [if_neg hc]
        by_cases hlt : c.val < k
        · rw [if_pos hlt, if_pos (by omega)]
        · rw [if_neg hlt, if_neg (by omega)]

end Cert.Proof.KernelRun.Topk

end
-- ==== Proof.TopkArray.lean ====
/-
  The array the selection call leaves, from its blocks: grid point `t` writes rows `8t ..`. Every entry names a row of the
  flat table, and when a row's scores are ranked it holds the first 64 of the ranking.
-/
module

public import proofs.«01_k».proof.Proof.TopkValue
public import Idealize.ShloMosaic.Lib.Pipeline.ValueKit.Geometry

@[expose] public section

set_option maxRecDepth 16384

noncomputable section

namespace Cert.Proof.KernelRun.Topk

open Cert.KernelIdeal Cert.KernelIdeal.Gen
open Idealize.ShloMosaic Idealize.ShloMosaic.TcCoe Idealize.ShloMosaic.Tactic
open Idealize.ShloMosaic.Pipeline

/-! ## Every chosen position is a row of its batch -/

theorem exists_first (f : Fin 8192 → EReal) : ∃ p, ∀ j, f j ≤ f p ∧ (f j = f p → p ≤ j) := by
  obtain ⟨q, -, hq⟩ := Finset.exists_max_image Finset.univ f ⟨0, Finset.mem_univ _⟩
  have hne : (Finset.univ.filter fun j => f j = f q).Nonempty := ⟨q, by simp⟩
  refine ⟨(Finset.univ.filter fun j => f j = f q).min' hne, fun j => ?_⟩
  have hm := (Finset.mem_filter.mp (Finset.min'_mem _ hne)).2
  exact ⟨(hq j (Finset.mem_univ _)).trans (le_of_eq hm.symm), fun e => Finset.min'_le _ _ (by simp [e, hm])⟩

theorem pay3_row (v : Vec Ideal S8x8192 .f32) (r : Fin 8) : ∃ p : Fin 8192, k4_pay3 v (ix2 r 0) = BitVec.ofNat 32 p.val :=
  let ⟨p, h⟩ := exists_first fun j => v (ix2 r j)
  ⟨p, pay3_apply v r p 0 h⟩

theorem resAt_row (x : Vec Ideal S8x8192 .f32) (r : Fin 8) (c : Fin 64) :
    ∀ k, ∃ p : Fin 8192, resAt x k (ix2 r c) = BitVec.ofNat 32 p.val
  | 0 => ⟨0, rfl⟩
  | k + 1 => by
    rw [resAt]
    split
    · rw [pay5_apply]
      split
      · exact pay3_row _ r
      · exact resAt_row x r c k
    · exact resAt_row x r c k

/-- So every entry the call writes names a row of the flat table. -/
theorem out_lt (i : grid4.Coords) (x : Vec Ideal S8x8192 .f32) (y : S8x64.Idx) : (k4_pay6 i (resAt x 64) y).toNat < 65536 := by
  obtain ⟨r, c, rfl⟩ : ∃ (r : Fin 8) (c : Fin 64), y = ix2 r c := ⟨y 0, y 1, eq_ix2 y⟩
  obtain ⟨p, hp⟩ := resAt_row x r c 64
  have hi : (i 0).val < 512 := (i 0).isLt
  rw [pay6_apply, hp]
  simp only [BitVec.toNat_add, BitVec.toNat_ofNat]
  omega

/-! ## The array -/

variable (V : Dev nD → Valuation τ sig (Elt Ideal))

theorem arr_lt (c : Dev nD) (j : S4096x64.Idx) : (show BitVec 32 from (dat V c).arrAt 1 cfg4.N j).toNat < 65536 := by
  refine (dat V c).arrAt_forall_of_covers 1 (fun i v => (show BitVec 32 from v).toNat < 65536) (by decide +kernel) (fun t hf y => ?_) j
  blk_simp
  rw [after4_1, outsAt4, out_eq]
  exact out_lt _ _ _

theorem index0 : ∀ t : Fin cfg4.N, win4_0.index t = ![t.val, 0] := (by decide +kernel : ∀ t : Fin grid4.N, win4_0.index t = ![t.val, 0])
theorem index1 : ∀ t : Fin cfg4.N, win4_1.index t = ![t.val, 0] := (by decide +kernel : ∀ t : Fin grid4.N, win4_1.index t = ![t.val, 0])
theorem coords0 : ∀ t : Fin cfg4.N, (grid4.coords t 0).val = t.val := (by decide +kernel : ∀ t : Fin grid4.N, (grid4.coords t 0).val = t.val)

theorem iblk_apply (c : Dev nD) (t : Fin cfg4.N) (r : Fin 8) (j : Fin 8192) (h : t.val * 8 + r.val < 4096) :
    iblk V c 0 t (ix2 r j) = V c (Proc.devRef .tc main_v18) (ix2 (⟨t.val * 8 + r.val, h⟩ : Fin 4096) j) := by
  blk_simp [iblk]
  refine congrArg _ ?_
  blk_ext [index0]

/-- The first 64 positions of each row's ranking, each plus its batch's first row of the flat table. -/
def want (π : Fin 4096 → Fin 8192 → Fin 8192) : S4096x64.Idx → BitVec 32 := fun i =>
  BitVec.ofNat 32 ((π (i 0) (Fin.castLE (n := 64) (by decide) (i 1))).val + (i 0).val / 512 * 8192)

/-- Row `R` of the result, when row `R` of the scores is ranked by `π R`: the ranking's first 64 positions, plus the batch's first
    row of the flat table. -/
theorem arr_eq (c : Dev nD) (π : Fin 4096 → Fin 8192 → Fin 8192)
    (hπ : ∀ R, Ranked (fun j => V c (Proc.devRef .tc main_v18) (ix2 R j)) (π R))
    (h0 : ∀ (R : Fin 4096) (j : Fin 8192), (0 : EReal) ≤ V c (Proc.devRef .tc main_v18) (ix2 R j)) :
    (dat V c).arrAt 1 cfg4.N = want π := by
  refine (dat V c).arrAt_eq_of_covers 1 _ (by decide +kernel) fun t hf y => ?_
  blk_simp
  rw [after4_1, outsAt4, out_eq]
  have ht : t.val < 512 := t.isLt
  obtain ⟨r, k, rfl⟩ : ∃ (r : Fin 8) (k : Fin 64), y = ix2 r k := ⟨y 0, y 1, eq_ix2 (n0 := 8) (n1 := 64) y⟩
  have e : (win4_1.blk t).view.emb (ix2 r k) = (ix2 (⟨t.val * 8 + r.val, by omega⟩ : Fin 4096) k : S4096x64.Idx) := by
    blk_ext [index1]
  have hx : ∀ j, iblk V c 0 t (ix2 r j) = V c (Proc.devRef .tc main_v18) (ix2 (⟨t.val * 8 + r.val, by omega⟩ : Fin 4096) j) :=
    fun j => iblk_apply V c t r j _
  have h := ((rounds_apply (iblk V c 0 t) r (π ⟨t.val * 8 + r.val, by omega⟩)
    (by rw [show (fun j => iblk V c 0 t (ix2 r j)) = _ from funext hx]; exact hπ _)
    (fun j => by rw [hx]; exact h0 _ j) 64 le_rfl).2 k)
  rw [if_pos k.isLt] at h
  refine (pay6_apply _ _ _ _).trans ?_
  rw [h, coords0, ← BitVec.ofNat_add]
  refine Eq.trans ?_ (congrArg (want π) e).symm
  show _ = BitVec.ofNat 32 ((π ⟨t.val * 8 + r.val, _⟩ (Fin.castLE _ k)).val + (t.val * 8 + r.val) / 512 * 8192)
  rw [show (t.val * 8 + r.val) / 512 = t.val / 64 by omega]
  rfl

end Cert.Proof.KernelRun.Topk

end
-- ==== Proof.KernelArgs.lean ====
/-
  The sixteen arguments through the whole run, and the row numbers the gather reads: every one names a row of the table.
-/
module

public import proofs.«01_k».proof.Proof.KernelMain
public import proofs.«01_k».proof.Proof.TopkArray
public import Idealize.ShloMosaic.Lib.Pipeline.RegionArraysS

@[expose] public section

set_option maxRecDepth 16384

noncomputable section

namespace Cert.Proof.KernelRun

open Cert.KernelIdeal Cert.KernelIdeal.Gen
open Idealize.ShloMosaic Idealize.ShloMosaic.Tactic
open Idealize.ShloMosaic.StableHlo
open Idealize.ShloMosaic.Pipeline

section Args

variable {F : FTy → Type} [FloatOps F]
variable (m : (ℓ : Loc nD τ sig) → Buf (Elt F) ℓ)

/-- The sixteen arguments. -/
def args : List (Ref sig .tc) := [main_arg0, main_arg1, main_arg2, main_arg3, main_arg4, main_arg5, main_arg6, main_arg7, main_arg8, main_arg9, main_arg10, main_arg11, main_arg12, main_arg13, main_arg14, main_arg15]

theorem opsA_keep (V : Valuation τ sig (Elt F)) (b : Ref sig .tc) (h : b ∉ [main_v0, main_v1, main_c, main_call0_v0, main_v2, main_c_0, main_call1_v0, main_v3, main_v4, main_v5, main_v6, main_v7, main_v8, main_v9, main_v10, main_v11, main_v12, main_v13]) :
    after opsA V (Proc.devRef .tc b) = V (Proc.devRef .tc b) :=
  after_of_writes_sub _ V (forall_writes_sub_of_map rfl) h
theorem opsM_keep (V : Valuation τ sig (Elt F)) (b : Ref sig .tc) (h : b ∉ [main_v18]) :
    after opsM V (Proc.devRef .tc b) = V (Proc.devRef .tc b) :=
  after_of_writes_sub _ V (forall_writes_sub_of_map rfl) h
theorem ops1_keep (V : Valuation τ sig (Elt F)) (b : Ref sig .tc) (h : b ∉ [main_v20, main_v21, main_v22, main_c_1, main_call2_v0, main_v23, main_v24]) :
    after ops1 V (Proc.devRef .tc b) = V (Proc.devRef .tc b) :=
  after_of_writes_sub _ V (forall_writes_sub_of_map rfl) h
theorem ops2_keep (V : Valuation τ sig (Elt F)) (b : Ref sig .tc) (h : b ∉ [main_v26, main_v27, main_v28, main_v29, main_v30, main_v31, main_v32, main_v33, main_v34, main_v35]) :
    after ops2 V (Proc.devRef .tc b) = V (Proc.devRef .tc b) :=
  after_of_writes_sub _ V (forall_writes_sub_of_map rfl) h

/-- No call writes an argument. -/
theorem args_in (b : Ref sig .tc) (h : b ∈ args) :
    (∀ w, arrRef spec0 w = b → (cfg0.win w).isOut = false) ∧ (∀ w, arrRef spec1 w = b → (cfg1.win w).isOut = false)
    ∧ (∀ w, arrRef spec2 w = b → (cfg2.win w).isOut = false) ∧ (∀ w, arrRef spec3 w = b → (cfg3.win w).isOut = false)
    ∧ (∀ w, arrRef spec4 w = b → (cfg4.win w).isOut = false) := by
  revert b; decide

theorem inj0 : Function.Injective (arrRef spec0) := by decide
theorem inj1 : Function.Injective (arrRef spec1) := by decide
theorem inj2 : Function.Injective (arrRef spec2) := by decide
theorem inj3 : Function.Injective (arrRef spec3) := by decide
theorem inj4 : Function.Injective (arrRef spec4) := by decide

variable (c : Dev nD) (b : Ref sig .tc) (h : b ∈ args)
include h

theorem E0_arg : E0 m c (Proc.devRef .tc b) = m ((c.tc : Thread nD τ).loc b) :=
  opsA_keep _ b ((by decide : ∀ b ∈ args, b ∉ [main_v0, main_v1, main_c, main_call0_v0, main_v2, main_c_0, main_call1_v0, main_v3, main_v4, main_v5, main_v6, main_v7, main_v8, main_v9, main_v10, main_v11, main_v12, main_v13]) b h)
theorem E1_arg : E1 m c (Proc.devRef .tc b) = m ((c.tc : Thread nD τ).loc b) :=
  (afterRegion_keeps _ _ inj0 (Stat0.A_eq (E0 m) c) b (args_in b h).1).trans (E0_arg m c b h)
theorem E2_arg : E2 m c (Proc.devRef .tc b) = m ((c.tc : Thread nD τ).loc b) :=
  (afterRegion_keeps _ _ inj1 (Stat1.A_eq (E1 m) c) b (args_in b h).2.1).trans (E1_arg m c b h)
theorem E3_arg : E3 m c (Proc.devRef .tc b) = m ((c.tc : Thread nD τ).loc b) :=
  (afterRegion_keeps _ _ inj2 (Stat2.A_eq (E2 m) c) b (args_in b h).2.2.1).trans (E2_arg m c b h)
theorem E4_arg : E4 m c (Proc.devRef .tc b) = m ((c.tc : Thread nD τ).loc b) :=
  (afterRegion_keeps _ _ inj3 (Score.A_eq (E3 m) c) b (args_in b h).2.2.2.1).trans (E3_arg m c b h)
theorem E5_arg : E5 m c (Proc.devRef .tc b) = m ((c.tc : Thread nD τ).loc b) :=
  (opsM_keep _ b ((by decide : ∀ b ∈ args, b ∉ [main_v18]) b h)).trans (E4_arg m c b h)
theorem E6_arg : E6 m c (Proc.devRef .tc b) = m ((c.tc : Thread nD τ).loc b) :=
  (afterRegion_keeps _ _ inj4 (Topk.A_eq (E5 m) c) b (args_in b h).2.2.2.2).trans (E5_arg m c b h)
theorem W1_arg : W1 m c (Proc.devRef .tc b) = m ((c.tc : Thread nD τ).loc b) :=
  (ops1_keep _ b ((by decide : ∀ b ∈ args, b ∉ [main_v20, main_v21, main_v22, main_c_1, main_call2_v0, main_v23, main_v24]) b h)).trans (E6_arg m c b h)
theorem W2_arg : W2 m c (Proc.devRef .tc b) = m ((c.tc : Thread nD τ).loc b) :=
  (Function.update_of_ne (fun e => (by decide : ∀ b ∈ args, b ≠ main_v25) b h (Proc.devRef_injective _ e)) _ _).trans (W1_arg m c b h)
theorem W3_arg : W3 m c (Proc.devRef .tc b) = m ((c.tc : Thread nD τ).loc b) :=
  (ops2_keep _ b ((by decide : ∀ b ∈ args, b ∉ [main_v26, main_v27, main_v28, main_v29, main_v30, main_v31, main_v32, main_v33, main_v34, main_v35]) b h)).trans (W2_arg m c b h)

end Args

variable (m : (ℓ : Loc nD τ sig) → Buf (Elt Ideal) ℓ) (ρ : Dev nD → PrngReg)

theorem E6_v19 (c : Dev nD) : E6 m c (Proc.devRef .tc main_v19) = (Topk.dat (E5 m) c).arrAt 1 cfg4.N :=
  afterRegion_arr (Topk.dat (E5 m) c) (E5 m c) inj4 1

theorem ixOf_eq (c : Dev nD) : ixOf m c = shapeCast S262144 (E6 m c (Proc.devRef .tc main_v19)) shapeCasts_S4096x64_S262144 := by
  unfold ixOf W1 ops1
  after_results
  rfl

theorem inRange : InRange (ixOf m) := by
  intro c j
  rw [ixOf_eq, E6_v19]
  exact Topk.arr_lt (E5 m) c _

/-- The arguments end as they began and every counter at zero. -/
theorem frame : θ_run (Cert.KernelIdeal.defs (F := Ideal)) (Cert.KernelIdeal.threads (F := Ideal)) ⟨m, fun _ => 0, ρ⟩ (fun r =>
    (∀ (c : Dev nD) (b : Ref sig .tc), b ∈ args → r.2.mem ((c.tc : Thread nD τ).loc b) = m ((c.tc : Thread nD τ).loc b)) ∧ r.2.sem = fun _ => 0) :=
  (θ_run Cert.KernelIdeal.defs _ _).mono (fun _ h => ⟨fun c b hb =>
    (h.1 c (Proc.devRef .tc b) (Finset.mem_filter.mpr ⟨StableHlo.devRef_mem_tcRefs _, (by decide : ∀ b ∈ args, ¬ (Proc.devRef (τ := τ) .tc b).isScoped = true) b hb⟩)).trans
      (W3_arg m c b hb), h.2⟩) (run_main (F := Ideal) m ρ (inRange m))

end Cert.Proof.KernelRun

end
-- ==== Proof.ReferenceRun.lean ====
/-
  The whole run of the reference's program: its operations in stages (a convolution, a normalization, …, the sort, the
  gathers), each stage's result as a function of what it reads, and the run that reads them.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.RefRun

open Cert.ReferenceIdeal Cert.ReferenceIdeal.Gen

open Idealize.ShloMosaic
open Idealize.ShloMosaic.StableHlo

variable {F : FTy → Type} [FloatOps F]
variable (m : (ℓ : Loc nD τ sig) → Buf (Elt F) ℓ) (ρ : Dev nD → PrngReg)

/-! ## The operations -/

/-- The first convolution. -/
abbrev opsA : List (HloOp τ sig (Elt F)) :=
  [ unary main_arg0 main_v0 ((transpose S8x3x8192 [0, 2, 1] · transposes_S8x8192x3_S8x3x8192_0_2_1)),
    binary main_v0 main_arg2 main_v1 ((fun l r => Host.dotGeneral dot_S8x3x8192_S32x3_S8x8192x32_1_1_02_0_n_n none l r)),
    unary main_v1 main_v2 ((transpose S8x32x8192 [0, 2, 1] · transposes_S8x8192x32_S8x32x8192_0_2_1)),
    unary main_arg3 main_v3 (broadcastInDim S1x32x1 ![1] bcast_S32_S1x32x1_1),
    unary main_v3 main_v4 (broadcastInDim S8x32x8192 ![0, 1, 2] bcast_S1x32x1_S8x32x8192_0_1_2),
    binary main_v2 main_v4 main_v5 (addf) ]

/-- The first normalization. -/
abbrev opsB : List (HloOp τ sig (Elt F)) :=
  [ nullary main_cst (constant S_ .f32 0x00000000#32),
    binary main_v5 main_cst main_v6 ((fun x v => Host.reduceAdd x v reducesTo_S8x32x8192_S32_d0_2 h_S_)),
    unary main_v6 main_v7 (broadcastInDim S1x32x1 ![1] bcast_S32_S1x32x1_1),
    nullary main_cst_0 (constant S_ .f32 0x47800000#32),
    unary main_cst_0 main_v8 (broadcastInDim S1x32x1 ![] bcast_S_S1x32x1),
    binary main_v7 main_v8 main_v9 (Host.divf),
    unary main_v9 main_v10 (broadcastInDim S8x32x8192 ![0, 1, 2] bcast_S1x32x1_S8x32x8192_0_1_2),
    binary main_v5 main_v10 main_v11 (subf),
    unary main_v9 main_v12 (broadcastInDim S8x32x8192 ![0, 1, 2] bcast_S1x32x1_S8x32x8192_0_1_2),
    binary main_v5 main_v12 main_v13 (subf),
    binary main_v11 main_v13 main_v14 (mulf),
    nullary main_cst_1 (constant S_ .f32 0x00000000#32),
    binary main_v14 main_cst_1 main_v15 ((fun x v => Host.reduceAdd x v reducesTo_S8x32x8192_S32_d0_2 h_S_)),
    unary main_v15 main_v16 (broadcastInDim S1x32x1 ![1] bcast_S32_S1x32x1_1),
    nullary main_cst_2 (constant S_ .f32 0x47800000#32),
    unary main_cst_2 main_v17 (broadcastInDim S1x32x1 ![] bcast_S_S1x32x1),
    binary main_v16 main_v17 main_v18 (Host.divf),
    unary main_v9 main_v19 (broadcastInDim S8x32x8192 ![0, 1, 2] bcast_S1x32x1_S8x32x8192_0_1_2),
    binary main_v5 main_v19 main_v20 (subf),
    nullary main_cst_3 (constant S_ .f32 0x3727C5AC#32),
    unary main_cst_3 main_v21 (broadcastInDim S1x32x1 ![] bcast_S_S1x32x1),
    binary main_v18 main_v21 main_v22 (addf),
    unary main_v22 main_v23 (Host.sqrt),
    unary main_v23 main_v24 (broadcastInDim S8x32x8192 ![0, 1, 2] bcast_S1x32x1_S8x32x8192_0_1_2),
    binary main_v20 main_v24 main_v25 (Host.divf),
    unary main_arg4 main_v26 (broadcastInDim S1x32x1 ![1] bcast_S32_S1x32x1_1),
    unary main_v26 main_v27 (broadcastInDim S8x32x8192 ![0, 1, 2] bcast_S1x32x1_S8x32x8192_0_1_2),
    binary main_v25 main_v27 main_v28 (mulf),
    unary main_arg5 main_v29 (broadcastInDim S1x32x1 ![1] bcast_S32_S1x32x1_1),
    unary main_v29 main_v30 (broadcastInDim S8x32x8192 ![0, 1, 2] bcast_S1x32x1_S8x32x8192_0_1_2),
    binary main_v28 main_v30 main_v31 (addf),
    nullary main_cst_4 (constant S_ .f32 0x00000000#32),
    unary main_cst_4 main_v32 (broadcastInDim S8x32x8192 ![] bcast_S_S8x32x8192),
    binary main_v31 main_v32 main_v33 (maximumf) ]

/-- The second convolution. -/
abbrev opsC : List (HloOp τ sig (Elt F)) :=
  [ binary main_v33 main_arg6 main_v34 ((fun l r => Host.dotGeneral dot_S8x32x8192_S64x32_S8x8192x64_1_1_02_0_n_n none l r)),
    unary main_v34 main_v35 ((transpose S8x64x8192 [0, 2, 1] · transposes_S8x8192x64_S8x64x8192_0_2_1)),
    unary main_arg7 main_v36 (broadcastInDim S1x64x1 ![1] bcast_S64_S1x64x1_1),
    unary main_v36 main_v37 (broadcastInDim S8x64x8192 ![0, 1, 2] bcast_S1x64x1_S8x64x8192_0_1_2),
    binary main_v35 main_v37 main_v38 (addf) ]

/-- The second normalization, its first half. -/
abbrev opsD1 : List (HloOp τ sig (Elt F)) :=
  [ nullary main_cst_5 (constant S_ .f32 0x00000000#32),
    binary main_v38 main_cst_5 main_v39 ((fun x v => Host.reduceAdd x v reducesTo_S8x64x8192_S64_d0_2 h_S_)),
    unary main_v39 main_v40 (broadcastInDim S1x64x1 ![1] bcast_S64_S1x64x1_1),
    nullary main_cst_6 (constant S_ .f32 0x47800000#32),
    unary main_cst_6 main_v41 (broadcastInDim S1x64x1 ![] bcast_S_S1x64x1),
    binary main_v40 main_v41 main_v42 (Host.divf),
    unary main_v42 main_v43 (broadcastInDim S8x64x8192 ![0, 1, 2] bcast_S1x64x1_S8x64x8192_0_1_2),
    binary main_v38 main_v43 main_v44 (subf),
    unary main_v42 main_v45 (broadcastInDim S8x64x8192 ![0, 1, 2] bcast_S1x64x1_S8x64x8192_0_1_2),
    binary main_v38 main_v45 main_v46 (subf),
    binary main_v44 main_v46 main_v47 (mulf),
    nullary main_cst_7 (constant S_ .f32 0x00000000#32),
    binary main_v47 main_cst_7 main_v48 ((fun x v => Host.reduceAdd x v reducesTo_S8x64x8192_S64_d0_2 h_S_)),
    unary main_v48 main_v49 (broadcastInDim S1x64x1 ![1] bcast_S64_S1x64x1_1),
    nullary main_cst_8 (constant S_ .f32 0x47800000#32) ]

/-- The second normalization, its second half. -/
abbrev opsD2 : List (HloOp τ sig (Elt F)) :=
  [ unary main_cst_8 main_v50 (broadcastInDim S1x64x1 ![] bcast_S_S1x64x1),
    binary main_v49 main_v50 main_v51 (Host.divf),
    unary main_v42 main_v52 (broadcastInDim S8x64x8192 ![0, 1, 2] bcast_S1x64x1_S8x64x8192_0_1_2),
    binary main_v38 main_v52 main_v53 (subf),
    nullary main_cst_9 (constant S_ .f32 0x3727C5AC#32),
    unary main_cst_9 main_v54 (broadcastInDim S1x64x1 ![] bcast_S_S1x64x1),
    binary main_v51 main_v54 main_v55 (addf),
    unary main_v55 main_v56 (Host.sqrt),
    unary main_v56 main_v57 (broadcastInDim S8x64x8192 ![0, 1, 2] bcast_S1x64x1_S8x64x8192_0_1_2),
    binary main_v53 main_v57 main_v58 (Host.divf),
    unary main_arg8 main_v59 (broadcastInDim S1x64x1 ![1] bcast_S64_S1x64x1_1),
    unary main_v59 main_v60 (broadcastInDim S8x64x8192 ![0, 1, 2] bcast_S1x64x1_S8x64x8192_0_1_2),
    binary main_v58 main_v60 main_v61 (mulf),
    unary main_arg9 main_v62 (broadcastInDim S1x64x1 ![1] bcast_S64_S1x64x1_1),
    unary main_v62 main_v63 (broadcastInDim S8x64x8192 ![0, 1, 2] bcast_S1x64x1_S8x64x8192_0_1_2),
    binary main_v61 main_v63 main_v64 (addf),
    nullary main_cst_10 (constant S_ .f32 0x00000000#32),
    unary main_cst_10 main_v65 (broadcastInDim S8x64x8192 ![] bcast_S_S8x64x8192),
    binary main_v64 main_v65 main_v66 (maximumf) ]

/-- The third convolution. -/
abbrev opsE : List (HloOp τ sig (Elt F)) :=
  [ binary main_v66 main_arg10 main_v67 ((fun l r => Host.dotGeneral dot_S8x64x8192_S256x64_S8x8192x256_1_1_02_0_n_n none l r)),
    unary main_v67 main_v68 ((transpose S8x256x8192 [0, 2, 1] · transposes_S8x8192x256_S8x256x8192_0_2_1)),
    unary main_arg11 main_v69 (broadcastInDim S1x256x1 ![1] bcast_S256_S1x256x1_1),
    unary main_v69 main_v70 (broadcastInDim S8x256x8192 ![0, 1, 2] bcast_S1x256x1_S8x256x8192_0_1_2),
    binary main_v68 main_v70 main_v71 (addf) ]

/-- The third normalization. -/
abbrev opsF : List (HloOp τ sig (Elt F)) :=
  [ nullary main_cst_11 (constant S_ .f32 0x00000000#32),
    binary main_v71 main_cst_11 main_v72 ((fun x v => Host.reduceAdd x v reducesTo_S8x256x8192_S256_d0_2 h_S_)),
    unary main_v72 main_v73 (broadcastInDim S1x256x1 ![1] bcast_S256_S1x256x1_1),
    nullary main_cst_12 (constant S_ .f32 0x47800000#32),
    unary main_cst_12 main_v74 (broadcastInDim S1x256x1 ![] bcast_S_S1x256x1),
    binary main_v73 main_v74 main_v75 (Host.divf),
    unary main_v75 main_v76 (broadcastInDim S8x256x8192 ![0, 1, 2] bcast_S1x256x1_S8x256x8192_0_1_2),
    binary main_v71 main_v76 main_v77 (subf),
    unary main_v75 main_v78 (broadcastInDim S8x256x8192 ![0, 1, 2] bcast_S1x256x1_S8x256x8192_0_1_2),
    binary main_v71 main_v78 main_v79 (subf),
    binary main_v77 main_v79 main_v80 (mulf),
    nullary main_cst_13 (constant S_ .f32 0x00000000#32),
    binary main_v80 main_cst_13 main_v81 ((fun x v => Host.reduceAdd x v reducesTo_S8x256x8192_S256_d0_2 h_S_)),
    unary main_v81 main_v82 (broadcastInDim S1x256x1 ![1] bcast_S256_S1x256x1_1),
    nullary main_cst_14 (constant S_ .f32 0x47800000#32),
    unary main_cst_14 main_v83 (broadcastInDim S1x256x1 ![] bcast_S_S1x256x1),
    binary main_v82 main_v83 main_v84 (Host.divf),
    unary main_v75 main_v85 (broadcastInDim S8x256x8192 ![0, 1, 2] bcast_S1x256x1_S8x256x8192_0_1_2),
    binary main_v71 main_v85 main_v86 (subf),
    nullary main_cst_15 (constant S_ .f32 0x3727C5AC#32),
    unary main_cst_15 main_v87 (broadcastInDim S1x256x1 ![] bcast_S_S1x256x1),
    binary main_v84 main_v87 main_v88 (addf),
    unary main_v88 main_v89 (Host.sqrt),
    unary main_v89 main_v90 (broadcastInDim S8x256x8192 ![0, 1, 2] bcast_S1x256x1_S8x256x8192_0_1_2),
    binary main_v86 main_v90 main_v91 (Host.divf),
    unary main_arg12 main_v92 (broadcastInDim S1x256x1 ![1] bcast_S256_S1x256x1_1),
    unary main_v92 main_v93 (broadcastInDim S8x256x8192 ![0, 1, 2] bcast_S1x256x1_S8x256x8192_0_1_2),
    binary main_v91 main_v93 main_v94 (mulf),
    unary main_arg13 main_v95 (broadcastInDim S1x256x1 ![1] bcast_S256_S1x256x1_1),
    unary main_v95 main_v96 (broadcastInDim S8x256x8192 ![0, 1, 2] bcast_S1x256x1_S8x256x8192_0_1_2),
    binary main_v94 main_v96 main_v97 (addf),
    nullary main_cst_16 (constant S_ .f32 0x00000000#32),
    unary main_cst_16 main_v98 (broadcastInDim S8x256x8192 ![] bcast_S_S8x256x8192),
    binary main_v97 main_v98 main_v99 (maximumf) ]

/-- The last convolution, its first half. -/
abbrev opsG1 : List (HloOp τ sig (Elt F)) :=
  [ binary main_v99 main_arg14 main_v100 ((fun l r => Host.dotGeneral dot_S8x256x8192_S512x256_S8x8192x512_1_1_02_0_n_n none l r)),
    unary main_v100 main_v101 ((transpose S8x512x8192 [0, 2, 1] · transposes_S8x8192x512_S8x512x8192_0_2_1)) ]

/-- The scores and their negatives. -/
abbrev opsG2 : List (HloOp τ sig (Elt F)) :=
  [ unary main_arg15 main_v102 (broadcastInDim S1x512x1 ![1] bcast_S512_S1x512x1_1),
    unary main_v102 main_v103 (broadcastInDim S8x512x8192 ![0, 1, 2] bcast_S1x512x1_S8x512x8192_0_1_2),
    binary main_v101 main_v103 main_v104 (addf),
    unary main_v104 main_v105 (Host.negf),
    unary main_v105 main_v106 (Host.exp),
    nullary main_cst_17 (constant S_ .f32 0x3F800000#32),
    unary main_cst_17 main_v107 (broadcastInDim S8x512x8192 ![] bcast_S_S8x512x8192),
    binary main_v107 main_v106 main_v108 (addf),
    nullary main_cst_18 (constant S_ .f32 0x3F800000#32),
    unary main_cst_18 main_v109 (broadcastInDim S8x512x8192 ![] bcast_S_S8x512x8192),
    binary main_v109 main_v108 main_v110 (Host.divf),
    unary main_v110 main_v111 (Host.negf) ]

/-- The sort of every row of negated scores beside the row numbers. -/
abbrev opsS : List (HloOp τ sig (Elt F)) :=
  [ TRef.nullary main_call0.v0 (iotaInDim S8x512x8192 32 2),
    TRef.binary (.of main_v111) main_call0.v0 main_call0.v1_0 (fun x y => (Host.sort2 S8x512x8192 2 comparator_f32_i32_d2 x y).1),
    TRef.binary (.of main_v111) main_call0.v0 main_call0.v1_1 (fun x y => (Host.sort2 S8x512x8192 2 comparator_f32_i32_d2 x y).2) ]

/-- The row numbers kept, the rows they name and the results. -/
abbrev opsH : List (HloOp τ sig (Elt F)) :=
  [ unary main_v112 main_v113 ((extractStridedSlice S8x512x64 ![0, 0, 0] · slices_S8x512x8192_S8x512x64_0_0_0)),
    nullary main_c (constantI S_ 32 0#32),
    unary main_c main_v114 (broadcastInDim S8x512x64 ![] bcast_S_S8x512x64),
    binary main_v113 main_v114 main_v115 (cmpi .slt),
    nullary main_c_19 (constantI S_ 32 8192#32),
    unary main_c_19 main_v116 (broadcastInDim S8x512x64 ![] bcast_S_S8x512x64),
    binary main_v113 main_v116 main_v117 (addi),
    ternary main_v115 main_v117 main_v113 main_v118 (select),
    unary main_v118 main_v119 (broadcastInDim S8x512x64x1 ![0, 1, 2] bcast_S8x512x64_S8x512x64x1_0_1_2),
    binary main_arg0 main_v119 main_v120 ((fun x i => Host.gather gather_S8x8192x3_S8x512x64x1_S8x512x64x3_3_1_0_0_1_3_113 x i)),
    nullary main_c_20 (constantI S_ 32 0#32),
    unary main_c_20 main_v121 (broadcastInDim S8x512x64 ![] bcast_S_S8x512x64),
    binary main_v113 main_v121 main_v122 (cmpi .slt),
    nullary main_c_21 (constantI S_ 32 8192#32),
    unary main_c_21 main_v123 (broadcastInDim S8x512x64 ![] bcast_S_S8x512x64),
    binary main_v113 main_v123 main_v124 (addi),
    ternary main_v122 main_v124 main_v113 main_v125 (select),
    unary main_v125 main_v126 (broadcastInDim S8x512x64x1 ![0, 1, 2] bcast_S8x512x64_S8x512x64x1_0_1_2),
    binary main_arg1 main_v126 main_v127 ((fun x i => Host.gather gather_S8x8192x64_S8x512x64x1_S8x512x64x64_3_1_0_0_1_3_1164 x i)),
    unary main_v120 main_v128 ((extractStridedSlice S8x512x32x3 ![0, 0, 0, 0] · slices_S8x512x64x3_S8x512x32x3_0_0_0_0)),
    unary main_v127 main_v129 ((extractStridedSlice S8x512x32x64 ![0, 0, 0, 0] · slices_S8x512x64x64_S8x512x32x64_0_0_0_0)),
    unary main_v128 main_v130 ((extractStridedSlice S8x512x1x3 ![0, 0, 0, 0] · slices_S8x512x32x3_S8x512x1x3_0_0_0_0)),
    reshape main_v130 main_v131 (rfl : (.f32 : EltTy) = .f32) shapeCasts_S8x512x1x3_S8x512x3,
    unary main_v127 main_v132 ((extractStridedSlice S8x512x1x64 ![0, 0, 0, 0] · slices_S8x512x64x64_S8x512x1x64_0_0_0_0)),
    reshape main_v132 main_v133 (rfl : (.f32 : EltTy) = .f32) shapeCasts_S8x512x1x64_S8x512x64 ]

/-- All of them, window by window. -/
def part0 : List (HloOp τ sig (Elt F)) := opsA ++ (opsB ++ (opsC ++ opsD1))
@[inherit_doc part0] def part1 : List (HloOp τ sig (Elt F)) := opsD2 ++ (opsE ++ (opsF ++ opsG1))
@[inherit_doc part0] def part2 : List (HloOp τ sig (Elt F)) := opsG2 ++ (opsS ++ opsH)
@[inherit_doc part0] def ops : List (HloOp τ sig (Elt F)) := part0 ++ (part1 ++ part2)

theorem main_part0_eq (c : Dev nD) : main_part0 (F := F) c = seq part0 := rfl
theorem main_part1_eq (c : Dev nD) : main_part1 (F := F) c = seq part1 := rfl
theorem main_part2_eq (c : Dev nD) : main_part2 (F := F) c = seq part2 := rfl
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., binary_bufs_sub .., unary_bufs_sub .., unary_bufs_sub .., unary_bufs_sub .., binary_bufs_sub ..⟩
theorem opsA_fresh : (opsA : List (HloOp τ sig (Elt F))).Forall fun op => op.fresh = ∅ :=
  ⟨rfl, rfl, rfl, rfl, rfl, rfl⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsC_sub : (opsC : List (HloOp τ sig (Elt F))).Forall fun op => op.bufs ⊆ tcRefs τ sig :=
  ⟨binary_bufs_sub .., unary_bufs_sub .., unary_bufs_sub .., unary_bufs_sub .., binary_bufs_sub ..⟩
theorem opsC_fresh : (opsC : List (HloOp τ sig (Elt F))).Forall fun op => op.fresh = ∅ :=
  ⟨rfl, rfl, rfl, rfl, rfl⟩
theorem opsD1_sub : (opsD1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., nullary_bufs_sub ..⟩
theorem opsD1_fresh : (opsD1 : List (HloOp τ sig (Elt F))).Forall fun op => op.fresh = ∅ :=
  ⟨rfl, rfl, rfl, rfl, rfl, rfl, rfl, rfl, rfl, rfl, rfl, rfl, rfl, rfl, rfl⟩
theorem opsD2_sub : (opsD2 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsD2_fresh : (opsD2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsE_sub : (opsE : List (HloOp τ sig (Elt F))).Forall fun op => op.bufs ⊆ tcRefs τ sig :=
  ⟨binary_bufs_sub .., unary_bufs_sub .., unary_bufs_sub .., unary_bufs_sub .., binary_bufs_sub ..⟩
theorem opsE_fresh : (opsE : List (HloOp τ sig (Elt F))).Forall fun op => op.fresh = ∅ :=
  ⟨rfl, rfl, rfl, rfl, rfl⟩
theorem opsF_sub : (opsF : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsG1_sub : (opsG1 : List (HloOp τ sig (Elt F))).Forall fun op => op.bufs ⊆ tcRefs τ sig :=
  ⟨binary_bufs_sub .., unary_bufs_sub ..⟩
theorem opsG1_fresh : (opsG1 : List (HloOp τ sig (Elt F))).Forall fun op => op.fresh = ∅ :=
  ⟨rfl, rfl⟩
theorem opsG2_sub : (opsG2 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub ..⟩
theorem opsG2_fresh : (opsG2 : List (HloOp τ sig (Elt F))).Forall fun op => op.fresh = ∅ :=
  ⟨rfl, rfl, rfl, rfl, rfl, rfl, rfl, rfl, rfl, rfl, rfl, rfl⟩
theorem opsS_sub : (opsS : List (HloOp τ sig (Elt F))).Forall fun op => op.bufs ⊆ tcRefs τ sig :=
  ⟨nullary_bufs_sub .., binary_bufs_sub .., binary_bufs_sub ..⟩
theorem opsS_fresh : (opsS : List (HloOp τ sig (Elt F))).Forall fun op => op.fresh = ∅ :=
  ⟨rfl, rfl, rfl⟩
theorem opsH_sub : (opsH : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., reshape_bufs_sub .., unary_bufs_sub .., reshape_bufs_sub ..⟩
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- opsA writes only its own results. -/
theorem opsA_keep (V : Valuation τ sig (Elt F)) (b : Ref sig .tc)
    (h : b ∉ [main_v0, main_v1, main_v2, main_v3, main_v4, main_v5]) : after opsA V (Proc.devRef .tc b) = V (Proc.devRef .tc b) :=
  after_of_writes_sub _ V (forall_writes_sub_of_map rfl) h
/-- opsB writes only its own results. -/
theorem opsB_keep (V : Valuation τ sig (Elt F)) (b : Ref sig .tc)
    (h : b ∉ [main_cst, main_v6, main_v7, main_cst_0, main_v8, main_v9, main_v10, main_v11, main_v12, main_v13, main_v14, main_cst_1, main_v15, main_v16, main_cst_2, main_v17, main_v18, main_v19, main_v20, main_cst_3, main_v21, main_v22, main_v23, main_v24, main_v25, main_v26, main_v27, main_v28, main_v29, main_v30, main_v31, main_cst_4, main_v32, main_v33]) : after opsB V (Proc.devRef .tc b) = V (Proc.devRef .tc b) :=
  after_of_writes_sub _ V (forall_writes_sub_of_map rfl) h
/-- opsC writes only its own results. -/
theorem opsC_keep (V : Valuation τ sig (Elt F)) (b : Ref sig .tc)
    (h : b ∉ [main_v34, main_v35, main_v36, main_v37, main_v38]) : after opsC V (Proc.devRef .tc b) = V (Proc.devRef .tc b) :=
  after_of_writes_sub _ V (forall_writes_sub_of_map rfl) h
/-- opsD1 writes only its own results. -/
theorem opsD1_keep (V : Valuation τ sig (Elt F)) (b : Ref sig .tc)
    (h : b ∉ [main_cst_5, main_v39, main_v40, main_cst_6, main_v41, main_v42, main_v43, main_v44, main_v45, main_v46, main_v47, main_cst_7, main_v48, main_v49, main_cst_8]) : after opsD1 V (Proc.devRef .tc b) = V (Proc.devRef .tc b) :=
  after_of_writes_sub _ V (forall_writes_sub_of_map rfl) h
/-- opsD2 writes only its own results. -/
theorem opsD2_keep (V : Valuation τ sig (Elt F)) (b : Ref sig .tc)
    (h : b ∉ [main_v50, main_v51, main_v52, main_v53, main_cst_9, main_v54, main_v55, main_v56, main_v57, main_v58, main_v59, main_v60, main_v61, main_v62, main_v63, main_v64, main_cst_10, main_v65, main_v66]) : after opsD2 V (Proc.devRef .tc b) = V (Proc.devRef .tc b) :=
  after_of_writes_sub _ V (forall_writes_sub_of_map rfl) h
/-- opsE writes only its own results. -/
theorem opsE_keep (V : Valuation τ sig (Elt F)) (b : Ref sig .tc)
    (h : b ∉ [main_v67, main_v68, main_v69, main_v70, main_v71]) : after opsE V (Proc.devRef .tc b) = V (Proc.devRef .tc b) :=
  after_of_writes_sub _ V (forall_writes_sub_of_map rfl) h
/-- opsF writes only its own results. -/
theorem opsF_keep (V : Valuation τ sig (Elt F)) (b : Ref sig .tc)
    (h : b ∉ [main_cst_11, main_v72, main_v73, main_cst_12, main_v74, main_v75, main_v76, main_v77, main_v78, main_v79, main_v80, main_cst_13, main_v81, main_v82, main_cst_14, main_v83, main_v84, main_v85, main_v86, main_cst_15, main_v87, main_v88, main_v89, main_v90, main_v91, main_v92, main_v93, main_v94, main_v95, main_v96, main_v97, main_cst_16, main_v98, main_v99]) : after opsF V (Proc.devRef .tc b) = V (Proc.devRef .tc b) :=
  after_of_writes_sub _ V (forall_writes_sub_of_map rfl) h
/-- opsG1 writes only its own results. -/
theorem opsG1_keep (V : Valuation τ sig (Elt F)) (b : Ref sig .tc)
    (h : b ∉ [main_v100, main_v101]) : after opsG1 V (Proc.devRef .tc b) = V (Proc.devRef .tc b) :=
  after_of_writes_sub _ V (forall_writes_sub_of_map rfl) h
/-- opsG2 writes only its own results. -/
theorem opsG2_keep (V : Valuation τ sig (Elt F)) (b : Ref sig .tc)
    (h : b ∉ [main_v102, main_v103, main_v104, main_v105, main_v106, main_cst_17, main_v107, main_v108, main_cst_18, main_v109, main_v110, main_v111]) : after opsG2 V (Proc.devRef .tc b) = V (Proc.devRef .tc b) :=
  after_of_writes_sub _ V (forall_writes_sub_of_map rfl) h
/-- opsS writes only its own results. -/
theorem opsS_keep (V : Valuation τ sig (Elt F)) (b : Ref sig .tc)
    (h : b ∉ [main_call0_v0, main_call0_v1_0, main_v112]) : after opsS V (Proc.devRef .tc b) = V (Proc.devRef .tc b) :=
  after_of_writes_sub _ V (forall_writes_sub_of_map rfl) h
/-- opsH writes only its own results. -/
theorem opsH_keep (V : Valuation τ sig (Elt F)) (b : Ref sig .tc)
    (h : b ∉ [main_v113, main_c, main_v114, main_v115, main_c_19, main_v116, main_v117, main_v118, main_v119, main_v120, main_c_20, main_v121, main_v122, main_c_21, main_v123, main_v124, main_v125, main_v126, main_v127, main_v128, main_v129, main_v130, main_v131, main_v132, main_v133]) : after opsH V (Proc.devRef .tc b) = V (Proc.devRef .tc b) :=
  after_of_writes_sub _ V (forall_writes_sub_of_map rfl) h
theorem ops_sub : (ops : List (HloOp τ sig (Elt F))).Forall fun op => op.bufs ⊆ tcRefs τ sig :=
  List.forall_iff_forall_mem.mpr fun op h => by
    simp only [ops, part0, part1, part2, List.mem_append, or_assoc] at h
    rcases h with h | h | h | h | h | h | h | h | h | h | h
    exacts [List.forall_iff_forall_mem.mp opsA_sub op h, List.forall_iff_forall_mem.mp opsB_sub op h, List.forall_iff_forall_mem.mp opsC_sub op h, List.forall_iff_forall_mem.mp opsD1_sub op h, List.forall_iff_forall_mem.mp opsD2_sub op h, List.forall_iff_forall_mem.mp opsE_sub op h, List.forall_iff_forall_mem.mp opsF_sub op h, List.forall_iff_forall_mem.mp opsG1_sub op h, List.forall_iff_forall_mem.mp opsG2_sub op h, List.forall_iff_forall_mem.mp opsS_sub op h, List.forall_iff_forall_mem.mp opsH_sub op h]
theorem ops_fresh : ∀ op ∈ (ops : List (HloOp τ sig (Elt F))), op.fresh = ∅ := fun op h => by
    simp only [ops, part0, part1, part2, List.mem_append, or_assoc] at h
    rcases h with h | h | h | h | h | h | h | h | h | h | h
    exacts [List.forall_iff_forall_mem.mp opsA_fresh op h, List.forall_iff_forall_mem.mp opsB_fresh op h, List.forall_iff_forall_mem.mp opsC_fresh op h, List.forall_iff_forall_mem.mp opsD1_fresh op h, List.forall_iff_forall_mem.mp opsD2_fresh op h, List.forall_iff_forall_mem.mp opsE_fresh op h, List.forall_iff_forall_mem.mp opsF_fresh op h, List.forall_iff_forall_mem.mp opsG1_fresh op h, List.forall_iff_forall_mem.mp opsG2_fresh op h, List.forall_iff_forall_mem.mp opsS_fresh op h, List.forall_iff_forall_mem.mp opsH_fresh op h]

/-! ## The run -/

/-- The contents after each stage. -/
def VA (V : Valuation τ sig (Elt F)) := after opsA V
@[inherit_doc VA] def VB (V : Valuation τ sig (Elt F)) := after opsB (VA V)
@[inherit_doc VA] def VC (V : Valuation τ sig (Elt F)) := after opsC (VB V)
@[inherit_doc VA] def VD1 (V : Valuation τ sig (Elt F)) := after opsD1 (VC V)
@[inherit_doc VA] def VD (V : Valuation τ sig (Elt F)) := after opsD2 (VD1 V)
@[inherit_doc VA] def VE (V : Valuation τ sig (Elt F)) := after opsE (VD V)
@[inherit_doc VA] def VF (V : Valuation τ sig (Elt F)) := after opsF (VE V)
@[inherit_doc VA] def VG1 (V : Valuation τ sig (Elt F)) := after opsG1 (VF V)
@[inherit_doc VA] def VG (V : Valuation τ sig (Elt F)) := after opsG2 (VG1 V)
@[inherit_doc VA] def VS (V : Valuation τ sig (Elt F)) := after opsS (VG V)
@[inherit_doc VA] def VH (V : Valuation τ sig (Elt F)) := after opsH (VS V)

theorem after_ops (V : Valuation τ sig (Elt F)) : after ops V = VH V := by
  simp only [ops, part0, part1, part2, after_append]
  rfl

/-- Every buffer of the host ends at the last stage's contents. -/
theorem run_main : θ_run defs (onTc (τ := τ) main) ⟨m, fun _ => 0, ρ⟩ fun r =>
    ∀ (d : Dev nD) (b : Ref sig .tc), r.2.mem ((d.tc : Thread nD τ).loc b) = VH (launchContents m d) (Proc.devRef .tc b) :=
  (θ_run defs (onTc (τ := τ) main) ⟨m, fun _ => 0, ρ⟩).mono
    (fun r h d b => (h d b).trans (congrFun (after_ops (launchContents m d)) _))
    (run_seq scopedRefs_eq scopedSems_eq defs main (fun _ => ops) main_eq (fun _ => ops_sub) m ρ fun _ => ops_fresh)

/-! ## What a stage leaves alone -/

/-- The sixteen arguments. -/
def args : List (Ref sig .tc) := [main_arg0, main_arg1, main_arg2, main_arg3, main_arg4, main_arg5, main_arg6, main_arg7, main_arg8, main_arg9, main_arg10, main_arg11, main_arg12, main_arg13, main_arg14, main_arg15]
theorem VA_arg (V : Valuation τ sig (Elt F)) (b : Ref sig .tc) (h : b ∈ args) : VA V (Proc.devRef .tc b) = V (Proc.devRef .tc b) :=
  (opsA_keep _ b ((by decide : ∀ b ∈ args, b ∉ [main_v0, main_v1, main_v2, main_v3, main_v4, main_v5]) b h)).trans rfl
theorem VB_arg (V : Valuation τ sig (Elt F)) (b : Ref sig .tc) (h : b ∈ args) : VB V (Proc.devRef .tc b) = V (Proc.devRef .tc b) :=
  (opsB_keep _ b ((by decide : ∀ b ∈ args, b ∉ [main_cst, main_v6, main_v7, main_cst_0, main_v8, main_v9, main_v10, main_v11, main_v12, main_v13, main_v14, main_cst_1, main_v15, main_v16, main_cst_2, main_v17, main_v18, main_v19, main_v20, main_cst_3, main_v21, main_v22, main_v23, main_v24, main_v25, main_v26, main_v27, main_v28, main_v29, main_v30, main_v31, main_cst_4, main_v32, main_v33]) b h)).trans (VA_arg V b h)
theorem VC_arg (V : Valuation τ sig (Elt F)) (b : Ref sig .tc) (h : b ∈ args) : VC V (Proc.devRef .tc b) = V (Proc.devRef .tc b) :=
  (opsC_keep _ b ((by decide : ∀ b ∈ args, b ∉ [main_v34, main_v35, main_v36, main_v37, main_v38]) b h)).trans (VB_arg V b h)
theorem VD1_arg (V : Valuation τ sig (Elt F)) (b : Ref sig .tc) (h : b ∈ args) : VD1 V (Proc.devRef .tc b) = V (Proc.devRef .tc b) :=
  (opsD1_keep _ b ((by decide : ∀ b ∈ args, b ∉ [main_cst_5, main_v39, main_v40, main_cst_6, main_v41, main_v42, main_v43, main_v44, main_v45, main_v46, main_v47, main_cst_7, main_v48, main_v49, main_cst_8]) b h)).trans (VC_arg V b h)
theorem VD_arg (V : Valuation τ sig (Elt F)) (b : Ref sig .tc) (h : b ∈ args) : VD V (Proc.devRef .tc b) = V (Proc.devRef .tc b) :=
  (opsD2_keep _ b ((by decide : ∀ b ∈ args, b ∉ [main_v50, main_v51, main_v52, main_v53, main_cst_9, main_v54, main_v55, main_v56, main_v57, main_v58, main_v59, main_v60, main_v61, main_v62, main_v63, main_v64, main_cst_10, main_v65, main_v66]) b h)).trans (VD1_arg V b h)
theorem VE_arg (V : Valuation τ sig (Elt F)) (b : Ref sig .tc) (h : b ∈ args) : VE V (Proc.devRef .tc b) = V (Proc.devRef .tc b) :=
  (opsE_keep _ b ((by decide : ∀ b ∈ args, b ∉ [main_v67, main_v68, main_v69, main_v70, main_v71]) b h)).trans (VD_arg V b h)
theorem VF_arg (V : Valuation τ sig (Elt F)) (b : Ref sig .tc) (h : b ∈ args) : VF V (Proc.devRef .tc b) = V (Proc.devRef .tc b) :=
  (opsF_keep _ b ((by decide : ∀ b ∈ args, b ∉ [main_cst_11, main_v72, main_v73, main_cst_12, main_v74, main_v75, main_v76, main_v77, main_v78, main_v79, main_v80, main_cst_13, main_v81, main_v82, main_cst_14, main_v83, main_v84, main_v85, main_v86, main_cst_15, main_v87, main_v88, main_v89, main_v90, main_v91, main_v92, main_v93, main_v94, main_v95, main_v96, main_v97, main_cst_16, main_v98, main_v99]) b h)).trans (VE_arg V b h)
theorem VG1_arg (V : Valuation τ sig (Elt F)) (b : Ref sig .tc) (h : b ∈ args) : VG1 V (Proc.devRef .tc b) = V (Proc.devRef .tc b) :=
  (opsG1_keep _ b ((by decide : ∀ b ∈ args, b ∉ [main_v100, main_v101]) b h)).trans (VF_arg V b h)
theorem VG_arg (V : Valuation τ sig (Elt F)) (b : Ref sig .tc) (h : b ∈ args) : VG V (Proc.devRef .tc b) = V (Proc.devRef .tc b) :=
  (opsG2_keep _ b ((by decide : ∀ b ∈ args, b ∉ [main_v102, main_v103, main_v104, main_v105, main_v106, main_cst_17, main_v107, main_v108, main_cst_18, main_v109, main_v110, main_v111]) b h)).trans (VG1_arg V b h)
theorem VS_arg (V : Valuation τ sig (Elt F)) (b : Ref sig .tc) (h : b ∈ args) : VS V (Proc.devRef .tc b) = V (Proc.devRef .tc b) :=
  (opsS_keep _ b ((by decide : ∀ b ∈ args, b ∉ [main_call0_v0, main_call0_v1_0, main_v112]) b h)).trans (VG_arg V b h)
theorem VH_arg (V : Valuation τ sig (Elt F)) (b : Ref sig .tc) (h : b ∈ args) : VH V (Proc.devRef .tc b) = V (Proc.devRef .tc b) :=
  (opsH_keep _ b ((by decide : ∀ b ∈ args, b ∉ [main_v113, main_c, main_v114, main_v115, main_c_19, main_v116, main_v117, main_v118, main_v119, main_v120, main_c_20, main_v121, main_v122, main_c_21, main_v123, main_v124, main_v125, main_v126, main_v127, main_v128, main_v129, main_v130, main_v131, main_v132, main_v133]) b h)).trans (VS_arg V b h)

/-! ## The stages' results -/

/-- Convolution 0: the weights' rows times the columns, plus the bias. -/
def conv0 (x : Vec F S8x8192x3 .f32) (w : Vec F S32x3 .f32) (b : Vec F S32 .f32) : Vec F S8x32x8192 .f32 :=
  addf (transpose S8x32x8192 [0, 2, 1] (Host.dotGeneral dot_S8x3x8192_S32x3_S8x8192x32_1_1_02_0_n_n none (transpose S8x3x8192 [0, 2, 1] x transposes_S8x8192x3_S8x3x8192_0_2_1) w) transposes_S8x8192x32_S8x32x8192_0_2_1)
    (broadcastInDim S8x32x8192 ![0, 1, 2] bcast_S1x32x1_S8x32x8192_0_1_2 (broadcastInDim S1x32x1 ![1] bcast_S32_S1x32x1_1 b))
/-- Convolution 1: the weights' rows times the columns, plus the bias. -/
def conv1 (x : Vec F S8x32x8192 .f32) (w : Vec F S64x32 .f32) (b : Vec F S64 .f32) : Vec F S8x64x8192 .f32 :=
  addf (transpose S8x64x8192 [0, 2, 1] (Host.dotGeneral dot_S8x32x8192_S64x32_S8x8192x64_1_1_02_0_n_n none x w) transposes_S8x8192x64_S8x64x8192_0_2_1)
    (broadcastInDim S8x64x8192 ![0, 1, 2] bcast_S1x64x1_S8x64x8192_0_1_2 (broadcastInDim S1x64x1 ![1] bcast_S64_S1x64x1_1 b))
/-- Convolution 2: the weights' rows times the columns, plus the bias. -/
def conv2 (x : Vec F S8x64x8192 .f32) (w : Vec F S256x64 .f32) (b : Vec F S256 .f32) : Vec F S8x256x8192 .f32 :=
  addf (transpose S8x256x8192 [0, 2, 1] (Host.dotGeneral dot_S8x64x8192_S256x64_S8x8192x256_1_1_02_0_n_n none x w) transposes_S8x8192x256_S8x256x8192_0_2_1)
    (broadcastInDim S8x256x8192 ![0, 1, 2] bcast_S1x256x1_S8x256x8192_0_1_2 (broadcastInDim S1x256x1 ![1] bcast_S256_S1x256x1_1 b))
/-- Convolution 3: the weights' rows times the columns, plus the bias. -/
def conv3 (x : Vec F S8x256x8192 .f32) (w : Vec F S512x256 .f32) (b : Vec F S512 .f32) : Vec F S8x512x8192 .f32 :=
  addf (transpose S8x512x8192 [0, 2, 1] (Host.dotGeneral dot_S8x256x8192_S512x256_S8x8192x512_1_1_02_0_n_n none x w) transposes_S8x8192x512_S8x512x8192_0_2_1)
    (broadcastInDim S8x512x8192 ![0, 1, 2] bcast_S1x512x1_S8x512x8192_0_1_2 (broadcastInDim S1x512x1 ![1] bcast_S512_S1x512x1_1 b))
/-- The mean of every channel of layer 0. -/
def mean0 (y : Vec F S8x32x8192 .f32) : Vec F S1x32x1 .f32 :=
  Host.divf (broadcastInDim S1x32x1 ![1] bcast_S32_S1x32x1_1 (Host.reduceAdd y (constant S_ .f32 0x00000000#32) reducesTo_S8x32x8192_S32_d0_2 h_S_))
    (broadcastInDim S1x32x1 ![] bcast_S_S1x32x1 (constant S_ .f32 0x47800000#32))
/-- Layer 0 about its mean. -/
def cent0 (y : Vec F S8x32x8192 .f32) : Vec F S8x32x8192 .f32 :=
  subf y (broadcastInDim S8x32x8192 ![0, 1, 2] bcast_S1x32x1_S8x32x8192_0_1_2 (mean0 y))
/-- The normalization of layer 0: the variance is the mean of the squares about the mean. -/
def norm0 (y : Vec F S8x32x8192 .f32) (g be : Vec F S32 .f32) : Vec F S8x32x8192 .f32 :=
  maximumf (addf (mulf (Host.divf (cent0 y)
      (broadcastInDim S8x32x8192 ![0, 1, 2] bcast_S1x32x1_S8x32x8192_0_1_2 (Host.sqrt (addf (mean0 (mulf (cent0 y) (cent0 y))) (broadcastInDim S1x32x1 ![] bcast_S_S1x32x1 (constant S_ .f32 0x3727C5AC#32))))))
      (broadcastInDim S8x32x8192 ![0, 1, 2] bcast_S1x32x1_S8x32x8192_0_1_2 (broadcastInDim S1x32x1 ![1] bcast_S32_S1x32x1_1 g)))
      (broadcastInDim S8x32x8192 ![0, 1, 2] bcast_S1x32x1_S8x32x8192_0_1_2 (broadcastInDim S1x32x1 ![1] bcast_S32_S1x32x1_1 be)))
    (broadcastInDim S8x32x8192 ![] bcast_S_S8x32x8192 (constant S_ .f32 0x00000000#32))
/-- The mean of every channel of layer 1. -/
def mean1 (y : Vec F S8x64x8192 .f32) : Vec F S1x64x1 .f32 :=
  Host.divf (broadcastInDim S1x64x1 ![1] bcast_S64_S1x64x1_1 (Host.reduceAdd y (constant S_ .f32 0x00000000#32) reducesTo_S8x64x8192_S64_d0_2 h_S_))
    (broadcastInDim S1x64x1 ![] bcast_S_S1x64x1 (constant S_ .f32 0x47800000#32))
/-- Layer 1 about its mean. -/
def cent1 (y : Vec F S8x64x8192 .f32) : Vec F S8x64x8192 .f32 :=
  subf y (broadcastInDim S8x64x8192 ![0, 1, 2] bcast_S1x64x1_S8x64x8192_0_1_2 (mean1 y))
/-- The normalization of layer 1: the variance is the mean of the squares about the mean. -/
def norm1 (y : Vec F S8x64x8192 .f32) (g be : Vec F S64 .f32) : Vec F S8x64x8192 .f32 :=
  maximumf (addf (mulf (Host.divf (cent1 y)
      (broadcastInDim S8x64x8192 ![0, 1, 2] bcast_S1x64x1_S8x64x8192_0_1_2 (Host.sqrt (addf (mean1 (mulf (cent1 y) (cent1 y))) (broadcastInDim S1x64x1 ![] bcast_S_S1x64x1 (constant S_ .f32 0x3727C5AC#32))))))
      (broadcastInDim S8x64x8192 ![0, 1, 2] bcast_S1x64x1_S8x64x8192_0_1_2 (broadcastInDim S1x64x1 ![1] bcast_S64_S1x64x1_1 g)))
      (broadcastInDim S8x64x8192 ![0, 1, 2] bcast_S1x64x1_S8x64x8192_0_1_2 (broadcastInDim S1x64x1 ![1] bcast_S64_S1x64x1_1 be)))
    (broadcastInDim S8x64x8192 ![] bcast_S_S8x64x8192 (constant S_ .f32 0x00000000#32))
/-- The mean of every channel of layer 2. -/
def mean2 (y : Vec F S8x256x8192 .f32) : Vec F S1x256x1 .f32 :=
  Host.divf (broadcastInDim S1x256x1 ![1] bcast_S256_S1x256x1_1 (Host.reduceAdd y (constant S_ .f32 0x00000000#32) reducesTo_S8x256x8192_S256_d0_2 h_S_))
    (broadcastInDim S1x256x1 ![] bcast_S_S1x256x1 (constant S_ .f32 0x47800000#32))
/-- Layer 2 about its mean. -/
def cent2 (y : Vec F S8x256x8192 .f32) : Vec F S8x256x8192 .f32 :=
  subf y (broadcastInDim S8x256x8192 ![0, 1, 2] bcast_S1x256x1_S8x256x8192_0_1_2 (mean2 y))
/-- The normalization of layer 2: the variance is the mean of the squares about the mean. -/
def norm2 (y : Vec F S8x256x8192 .f32) (g be : Vec F S256 .f32) : Vec F S8x256x8192 .f32 :=
  maximumf (addf (mulf (Host.divf (cent2 y)
      (broadcastInDim S8x256x8192 ![0, 1, 2] bcast_S1x256x1_S8x256x8192_0_1_2 (Host.sqrt (addf (mean2 (mulf (cent2 y) (cent2 y))) (broadcastInDim S1x256x1 ![] bcast_S_S1x256x1 (constant S_ .f32 0x3727C5AC#32))))))
      (broadcastInDim S8x256x8192 ![0, 1, 2] bcast_S1x256x1_S8x256x8192_0_1_2 (broadcastInDim S1x256x1 ![1] bcast_S256_S1x256x1_1 g)))
      (broadcastInDim S8x256x8192 ![0, 1, 2] bcast_S1x256x1_S8x256x8192_0_1_2 (broadcastInDim S1x256x1 ![1] bcast_S256_S1x256x1_1 be)))
    (broadcastInDim S8x256x8192 ![] bcast_S_S8x256x8192 (constant S_ .f32 0x00000000#32))
/-- The scores. -/
def sigm (y : Vec F S8x512x8192 .f32) : Vec F S8x512x8192 .f32 :=
  Host.divf (broadcastInDim S8x512x8192 ![] bcast_S_S8x512x8192 (constant S_ .f32 0x3F800000#32))
    (addf (broadcastInDim S8x512x8192 ![] bcast_S_S8x512x8192 (constant S_ .f32 0x3F800000#32)) (Host.exp (Host.negf y)))
/-- The row numbers in the order of the negated scores. -/
def order (q : Vec F S8x512x8192 .f32) : Vec F S8x512x8192 .i32 :=
  (Host.sort2 S8x512x8192 2 comparator_f32_i32_d2 (Host.negf q) (iotaInDim S8x512x8192 32 2)).2
/-- The first sixty-four of them. -/
def first (o : Vec F S8x512x8192 .i32) : Vec F S8x512x64 .i32 :=
  extractStridedSlice S8x512x64 ![0, 0, 0] o slices_S8x512x8192_S8x512x64_0_0_0
/-- The row numbers as the gathers take them: a negative one counts from the end. -/
def rows (s : Vec F S8x512x64 .i32) : Vec F S8x512x64x1 .i32 :=
  broadcastInDim S8x512x64x1 ![0, 1, 2] bcast_S8x512x64_S8x512x64x1_0_1_2
    (select (cmpi .slt s (broadcastInDim S8x512x64 ![] bcast_S_S8x512x64 (constantI S_ 32 0#32)))
      (addi s (broadcastInDim S8x512x64 ![] bcast_S_S8x512x64 (constantI S_ 32 8192#32))) s)
/-- The gathered coordinates and features. -/
def coordOf (x : Vec F S8x8192x3 .f32) (s : Vec F S8x512x64 .i32) : Vec F S8x512x64x3 .f32 :=
  Host.gather gather_S8x8192x3_S8x512x64x1_S8x512x64x3_3_1_0_0_1_3_113 x (rows s)
@[inherit_doc coordOf] def featOf (x : Vec F S8x8192x64 .f32) (s : Vec F S8x512x64 .i32) : Vec F S8x512x64x64 .f32 :=
  Host.gather gather_S8x8192x64_S8x512x64x1_S8x512x64x64_3_1_0_0_1_3_1164 x (rows s)

variable (V : Valuation τ sig (Elt F))

theorem A_v5 : after opsA V (Proc.devRef .tc main_v5) = conv0 (V (Proc.devRef .tc main_arg0)) (V (Proc.devRef .tc main_arg2)) (V (Proc.devRef .tc main_arg3)) := by
  after_results
  rfl
theorem B_v33 : after opsB V (Proc.devRef .tc main_v33) = norm0 (V (Proc.devRef .tc main_v5)) (V (Proc.devRef .tc main_arg4)) (V (Proc.devRef .tc main_arg5)) := by
  after_results
  rfl
theorem C_v38 : after opsC V (Proc.devRef .tc main_v38) = conv1 (V (Proc.devRef .tc main_v33)) (V (Proc.devRef .tc main_arg6)) (V (Proc.devRef .tc main_arg7)) := by
  after_results
  rfl
theorem D_v66 : after opsD2 (after opsD1 V) (Proc.devRef .tc main_v66) = norm1 (V (Proc.devRef .tc main_v38)) (V (Proc.devRef .tc main_arg8)) (V (Proc.devRef .tc main_arg9)) := by
  after_results
  rfl
theorem E_v71 : after opsE V (Proc.devRef .tc main_v71) = conv2 (V (Proc.devRef .tc main_v66)) (V (Proc.devRef .tc main_arg10)) (V (Proc.devRef .tc main_arg11)) := by
  after_results
  rfl
theorem F_v99 : after opsF V (Proc.devRef .tc main_v99) = norm2 (V (Proc.devRef .tc main_v71)) (V (Proc.devRef .tc main_arg12)) (V (Proc.devRef .tc main_arg13)) := by
  after_results
  rfl
theorem G_v111 : after opsG2 (after opsG1 V) (Proc.devRef .tc main_v111) = Host.negf (sigm (conv3 (V (Proc.devRef .tc main_v99)) (V (Proc.devRef .tc main_arg14)) (V (Proc.devRef .tc main_arg15)))) := by
  after_results
  rfl
theorem S_v112 : after opsS V (Proc.devRef .tc main_v112) = (Host.sort2 S8x512x8192 2 comparator_f32_i32_d2 (V (Proc.devRef .tc main_v111)) (iotaInDim S8x512x8192 32 2)).2 := by
  after_results
  rfl
theorem H_v120 : after opsH V (Proc.devRef .tc main_v120) = (coordOf (V (Proc.devRef .tc main_arg0)) (first (F := F) (V (Proc.devRef .tc main_v112)))) := by
  after_results
  rfl
theorem H_v127 : after opsH V (Proc.devRef .tc main_v127) = (featOf (V (Proc.devRef .tc main_arg1)) (first (F := F) (V (Proc.devRef .tc main_v112)))) := by
  after_results
  rfl
theorem H_v128 : after opsH V (Proc.devRef .tc main_v128) = (extractStridedSlice S8x512x32x3 ![0, 0, 0, 0] (coordOf (V (Proc.devRef .tc main_arg0)) (first (F := F) (V (Proc.devRef .tc main_v112)))) slices_S8x512x64x3_S8x512x32x3_0_0_0_0) := by
  after_results
  rfl
theorem H_v129 : after opsH V (Proc.devRef .tc main_v129) = (extractStridedSlice S8x512x32x64 ![0, 0, 0, 0] (featOf (V (Proc.devRef .tc main_arg1)) (first (F := F) (V (Proc.devRef .tc main_v112)))) slices_S8x512x64x64_S8x512x32x64_0_0_0_0) := by
  after_results
  rfl
theorem H_v131 : after opsH V (Proc.devRef .tc main_v131) = shapeCast S8x512x3 (extractStridedSlice S8x512x1x3 ![0, 0, 0, 0] (extractStridedSlice S8x512x32x3 ![0, 0, 0, 0] (coordOf (V (Proc.devRef .tc main_arg0)) (first (F := F) (V (Proc.devRef .tc main_v112)))) slices_S8x512x64x3_S8x512x32x3_0_0_0_0) slices_S8x512x32x3_S8x512x1x3_0_0_0_0) shapeCasts_S8x512x1x3_S8x512x3 := by
  after_results
  rfl
theorem H_v133 : after opsH V (Proc.devRef .tc main_v133) = shapeCast S8x512x64 (extractStridedSlice S8x512x1x64 ![0, 0, 0, 0] (featOf (V (Proc.devRef .tc main_arg1)) (first (F := F) (V (Proc.devRef .tc main_v112)))) slices_S8x512x64x64_S8x512x1x64_0_0_0_0) shapeCasts_S8x512x1x64_S8x512x64 := by
  after_results
  rfl

/-- The scores, as a function of the arguments. -/
def score : Vec F S8x512x8192 .f32 :=
  sigm (conv3 (norm2 (conv2 (norm1 (conv1 (norm0 (conv0 (V (Proc.devRef .tc main_arg0)) (V (Proc.devRef .tc main_arg2)) (V (Proc.devRef .tc main_arg3))) (V (Proc.devRef .tc main_arg4)) (V (Proc.devRef .tc main_arg5))) (V (Proc.devRef .tc main_arg6)) (V (Proc.devRef .tc main_arg7))) (V (Proc.devRef .tc main_arg8)) (V (Proc.devRef .tc main_arg9))) (V (Proc.devRef .tc main_arg10)) (V (Proc.devRef .tc main_arg11))) (V (Proc.devRef .tc main_arg12)) (V (Proc.devRef .tc main_arg13))) (V (Proc.devRef .tc main_arg14)) (V (Proc.devRef .tc main_arg15)))

theorem order_eq : VS V (Proc.devRef .tc main_v112) = order (score V) := by
  unfold VS; rw [S_v112]
  unfold VG VG1; rw [G_v111]
  rw [VF_arg V main_arg14 (by decide), VF_arg V main_arg15 (by decide)]
  unfold VF; rw [F_v99, VE_arg V main_arg12 (by decide), VE_arg V main_arg13 (by decide)]
  unfold VE; rw [E_v71, VD_arg V main_arg10 (by decide), VD_arg V main_arg11 (by decide)]
  unfold VD VD1; rw [D_v66, VC_arg V main_arg8 (by decide), VC_arg V main_arg9 (by decide)]
  unfold VC; rw [C_v38, VB_arg V main_arg6 (by decide), VB_arg V main_arg7 (by decide)]
  unfold VB; rw [B_v33, VA_arg V main_arg4 (by decide), VA_arg V main_arg5 (by decide)]
  unfold VA; rw [A_v5]
  rfl

end Cert.Proof.RefRun

end
-- ==== Proof.Layers.lean ====
/-
  One convolution followed by its normalization, at one column of numbers, and the blocks the score calls compute as these
  functions of their columns.
-/
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.Proof.Layers

open Idealize.ShloMosaic Idealize.ShloMosaic.TcCoe Idealize.ShloMosaic.Tactic
open Cert.KernelIdeal Cert.KernelIdeal.Gen

/-! ## The layers -/

/-- A convolution of width one, at one column: weights times the column, plus the bias. -/
def lin {k o : ℕ} (w : Fin o → Fin k → EReal) (b : Fin o → EReal) (x : Fin k → EReal) (j : Fin o) : EReal :=
  ∑ i, w j i * x i + b j

/-- The number added to a variance. -/
def eps : EReal := Ideal.ofBits FTy.f32 0x3727C5AC#32

/-- One over the number of columns. -/
def inv : EReal := Ideal.ofBits FTy.f32 0x37800000#32

/-- Normalization by mean `μ` and variance `v`, scaled and shifted, then cut off below at zero. -/
def act {o : ℕ} (μ v g be y : Fin o → EReal) (j : Fin o) : EReal :=
  max (Ideal.div (y j - μ j) (Ideal.sqrt (v j + eps)) * g j + be j) 0

/-- The mean of each row over all columns. -/
def meanOf {o N : ℕ} (Y : Fin o → Fin N → EReal) (j : Fin o) : EReal := (∑ n, Y j n) * inv

/-- The variance of each row, from the mean of the squares. -/
def varOf {o N : ℕ} (Y : Fin o → Fin N → EReal) (j : Fin o) : EReal :=
  (∑ n, Y j n * Y j n) * inv - meanOf Y j * meanOf Y j

theorem lin_congr {k o : ℕ} {w w' : Fin o → Fin k → EReal} {b b' : Fin o → EReal} {x x' : Fin k → EReal}
    (hw : ∀ j i, w j i = w' j i) (hb : ∀ j, b j = b' j) (hx : ∀ i, x i = x' i) (j : Fin o) : lin w b x j = lin w' b' x' j := by
  rw [show w = w' from funext fun j => funext (hw j), show b = b' from funext hb, show x = x' from funext hx]

theorem act_congr {o : ℕ} {μ μ' v v' g g' be be' y y' : Fin o → EReal} (hμ : ∀ j, μ j = μ' j) (hv : ∀ j, v j = v' j)
    (hg : ∀ j, g j = g' j) (hbe : ∀ j, be j = be' j) (hy : ∀ j, y j = y' j) (j : Fin o) : act μ v g be y j = act μ' v' g' be' y' j := by
  unfold act
  rw [hμ, hv, hg, hbe, hy]

/-- The column of the flat matrix that holds position `i` of batch `b`. -/
def colOf (b : Fin 8) (i : Fin 8192) : Fin 65536 := ⟨b.val * 8192 + i.val, by omega⟩

/-! ## The blocks -/

/-- A rank-two block as rows and columns, a one-column block as a column. -/
abbrev mat {o k : ℕ} (w : (⟨2, ![o, k]⟩ : Shape).Idx → EReal) (j : Fin o) (i : Fin k) : EReal := w (ix2 j i)
abbrev col {o : ℕ} (w : (⟨2, ![o, 1]⟩ : Shape).Idx → EReal) (j : Fin o) : EReal := w (ix2 j (0 : Fin 1))

theorem pay0 (w : Vec Ideal S32x8 .f32) (x : Vec Ideal S8x2048 .f32) (b : Vec Ideal S32x1 .f32) (j : Fin 32) (l : Fin 2048) :
    k0_pay1 (F := Ideal) w x b (ix2 j l) = lin (mat w) (col b) (fun i => mat x i l) j := by
  unfold k0_pay1
  pointwise
  rfl

theorem pay1 (x : Vec Ideal S8x2048 .f32) (w : Vec Ideal S32x8 .f32) (b μ v g be : Vec Ideal S32x1 .f32) (w1 : Vec Ideal S64x32 .f32)
    (b1 : Vec Ideal S64x1 .f32) (j : Fin 64) (l : Fin 2048) :
    k1_pay7 (F := Ideal) x w b μ v g be w1 b1 (ix2 j l)
      = lin (mat w1) (col b1) (act (col μ) (col v) (col g) (col be) (lin (mat w) (col b) fun i => mat x i l)) j := by
  unfold k1_pay7
  pointwise
  rfl

theorem pay2a (x : Vec Ideal S8x2048 .f32) (w : Vec Ideal S32x8 .f32) (b μ v g be : Vec Ideal S32x1 .f32) (w1 : Vec Ideal S64x32 .f32)
    (b1 : Vec Ideal S64x1 .f32) (j : Fin 64) (l : Fin 2048) :
    k2_pay4 (F := Ideal) x w b μ v g be w1 b1 (ix2 j l)
      = lin (mat w1) (col b1) (act (col μ) (col v) (col g) (col be) (lin (mat w) (col b) fun i => mat x i l)) j := by
  unfold k2_pay4
  pointwise
  rfl

theorem pay2b (y : Vec Ideal S64x2048 .f32) (μ v g be : Vec Ideal S64x1 .f32) (w2 : Vec Ideal S256x64 .f32)
    (b2 : Vec Ideal S256x1 .f32) (j : Fin 256) (l : Fin 2048) :
    k2_pay5 (F := Ideal) y μ v g be w2 b2 (ix2 j l)
      = lin (mat w2) (col b2) (act (col μ) (col v) (col g) (col be) fun i => mat y i l) j := by
  unfold k2_pay5
  pointwise
  rfl

theorem pay3a (x : Vec Ideal S8x1024 .f32) (w : Vec Ideal S32x8 .f32) (b μ v g be : Vec Ideal S32x1 .f32) (w1 : Vec Ideal S64x32 .f32)
    (b1 : Vec Ideal S64x1 .f32) (j : Fin 64) (l : Fin 1024) :
    k3_pay2 (F := Ideal) x w b μ v g be w1 b1 (ix2 j l)
      = lin (mat w1) (col b1) (act (col μ) (col v) (col g) (col be) (lin (mat w) (col b) fun i => mat x i l)) j := by
  unfold k3_pay2
  pointwise
  rfl

theorem pay3b (y : Vec Ideal S64x1024 .f32) (μ v g be : Vec Ideal S64x1 .f32) (w2 : Vec Ideal S256x64 .f32)
    (b2 μ2 v2 g2 be2 : Vec Ideal S256x1 .f32) (w3 : Vec Ideal S512x256 .f32) (b3 : Vec Ideal S512x1 .f32) (j : Fin 512) (l : Fin 1024) :
    k3_pay1 (F := Ideal) (k3_pay3 y μ v g be w2 b2 μ2 v2) g2 be2 w3 b3 (ix3 (0 : Fin 1) j l)
      = Ideal.logistic (lin (mat w3) (col b3) (act (col μ2) (col v2) (col g2) (col be2)
          (lin (mat w2) (col b2) (act (col μ) (col v) (col g) (col be) fun i => mat y i l))) j) := by
  unfold k3_pay1 k3_pay3
  pointwise
  rfl

end Cert.Proof.Layers

end
-- ==== Proof.Net.lean ====
/-
  The layers of the network over all columns at once, and what holds of them when the numbers are real: each layer is real, and the
  mean of the squares about the mean is the mean of the squares less the square of the mean.
-/
module

public import proofs.«01_k».proof.Proof.Layers

@[expose] public section

noncomputable section

namespace Cert.Proof.Layers

open Idealize.ShloMosaic

/-! ## Real numbers among the extended ones -/

/-- The number is neither infinity. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, rfl⟩
theorem IsReal.max {x y : EReal} (hx : IsReal x) (hy : IsReal y) : IsReal (max x y) := by
  rcases max_choice x y with h | h <;> rw [h] <;> assumption
theorem IsReal.sum {ι : Type} {s : Finset ι} {f : ι → EReal} (h : ∀ i ∈ s, IsReal (f i)) : IsReal (∑ i ∈ s, f i) :=
  Finset.sum_induction f IsReal (fun _ _ => IsReal.add) IsReal.zero h

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem div_coe (x : EReal) {r : ℝ} (hr : r ≠ 0) : Ideal.div x (r : EReal) = x * ((r⁻¹ : ℝ) : EReal) := by
  unfold Ideal.div
  rw [if_neg (EReal.coe_ne_zero.mpr hr), EReal.coe_inv]

theorem sqrt_coe {r : ℝ} (hr : 0 ≤ r) : Ideal.sqrt (r : EReal) = ((Real.sqrt r : ℝ) : EReal) :=
  if_neg (not_lt.mpr hr)

/-! ## The constants -/

/-- The number of columns. -/
def big : EReal := Ideal.ofBits FTy.f32 0x47800000#32

theorem big_eq : big = ((65536 : ℝ) : EReal) := by
  unfold big
  simp [Ideal.ofBits, Ideal.ieee]
  rw [← EReal.coe_mul]
  norm_num
theorem inv_eq : inv = (((65536 : ℝ)⁻¹ : ℝ) : EReal) := by
  unfold inv
  simp [Ideal.ofBits, Ideal.ieee]
  rw [← EReal.coe_mul]
  norm_num
theorem eps_eq : ∃ r : ℝ, 0 < r ∧ eps = (r : EReal) := by
  unfold eps
  simp [Ideal.ofBits, Ideal.ieee]
  exact ⟨10995116 * (2 ^ 40)⁻¹, by norm_num, by rw [EReal.coe_mul]⟩

theorem div_big (x : EReal) : Ideal.div x big = x * inv := by
  rw [big_eq, inv_eq, div_coe x (by norm_num)]

/-! ## The layers over all columns -/

/-- A convolution of width one over all columns. -/
def layer {k o N : ℕ} (w : Fin o → Fin k → EReal) (b : Fin o → EReal) (x : Fin k → Fin N → EReal) (j : Fin o) (n : Fin N) : EReal :=
  lin w b (fun i => x i n) j

/-- Its normalization. -/
def normed {o N : ℕ} (g be : Fin o → EReal) (Y : Fin o → Fin N → EReal) (j : Fin o) (n : Fin N) : EReal :=
  act (meanOf Y) (varOf Y) g be (fun j => Y j n) j

/-- The variance as the mean of the squares about the mean. -/
def varAbout {o N : ℕ} (Y : Fin o → Fin N → EReal) (j : Fin o) : EReal :=
  Ideal.div (∑ n, (Y j n - Ideal.div (∑ n, Y j n) big) * (Y j n - Ideal.div (∑ n, Y j n) big)) big

theorem layer_real {k o N : ℕ} {w : Fin o → Fin k → EReal} {b : Fin o → EReal} {x : Fin k → Fin N → EReal}
    (hw : ∀ j i, IsReal (w j i)) (hb : ∀ j, IsReal (b j)) (hx : ∀ i n, IsReal (x i n)) (j : Fin o) (n : Fin N) :
    IsReal (layer w b x j n) :=
  (IsReal.sum fun i _ => (hw j i).mul (hx i n)).add (hb j)

theorem meanOf_real {o N : ℕ} {Y : Fin o → Fin N → EReal} (hY : ∀ j n, IsReal (Y j n)) (j : Fin o) : IsReal (meanOf Y j) :=
  (IsReal.sum fun n _ => hY j n).mul ⟨_, inv_eq⟩

/-- The two variances agree, and are a real number at least zero. -/
theorem var_eq {o : ℕ} {Y : Fin o → Fin 65536 → EReal} (hY : ∀ j n, IsReal (Y j n)) (j : Fin o) :
    varAbout Y j = varOf Y j ∧ ∃ r : ℝ, 0 ≤ r ∧ varOf Y j = (r : EReal) := by
  choose y hy using hY
  obtain ⟨m, hm⟩ : ∃ m : ℝ, m = (∑ n, y j n) * (65536 : ℝ)⁻¹ := ⟨_, rfl⟩
  have eμ : meanOf Y j = (m : EReal) := by
    unfold meanOf
    rw [hm, EReal.coe_mul, ← coe_sum, inv_eq]
    simp only [hy]
  have e1 : varOf Y j = (((∑ n, y j n * y j n) * (65536 : ℝ)⁻¹ - m * m : ℝ) : EReal) := by
    unfold varOf
    rw [eμ, EReal.coe_sub, EReal.coe_mul, EReal.coe_mul, ← coe_sum, inv_eq]
    simp only [hy, EReal.coe_mul]
  have e2 : varAbout Y j = (((∑ n, (y j n - m) * (y j n - m)) * (65536 : ℝ)⁻¹ : ℝ) : EReal) := by
    unfold varAbout
    rw [div_big, div_big, show (∑ n, Y j n) * inv = (m : EReal) from eμ, EReal.coe_mul, ← coe_sum, inv_eq]
    simp only [hy, EReal.coe_mul, EReal.coe_sub]
  have hs : (∑ n, (y j n - m) * (y j n - m)) * (65536 : ℝ)⁻¹ = (∑ n, y j n * y j n) * (65536 : ℝ)⁻¹ - m * m := by
    have h1 : ∑ n, (y j n - m) * (y j n - m) = ∑ n, y j n * y j n - 2 * m * ∑ n, y j n + 65536 * (m * m) := by
      rw [Finset.mul_sum, ← Finset.sum_sub_distrib, show (65536 : ℝ) * (m * m) = ∑ _n : Fin 65536, m * m by simp,
        ← Finset.sum_add_distrib]
      exact Finset.sum_congr rfl fun n _ => by ring
    have h2 : ∑ n, y j n = 65536 * m := by rw [hm]; ring
    rw [h1, h2]
    ring
  refine ⟨by rw [e1, e2, hs], _, ?_, e1⟩
  rw [← hs]
  exact mul_nonneg (Finset.sum_nonneg fun n _ => mul_self_nonneg _) (by norm_num)

theorem normed_real {o : ℕ} {g be : Fin o → EReal} {Y : Fin o → Fin 65536 → EReal} (hg : ∀ j, IsReal (g j)) (hbe : ∀ j, IsReal (be j))
    (hY : ∀ j n, IsReal (Y j n)) (j : Fin o) (n : Fin 65536) : IsReal (normed g be Y j n) := by
  obtain ⟨-, v, hv, ev⟩ := var_eq hY j
  obtain ⟨e, he, ee⟩ := eps_eq
  unfold normed act
  rw [ev, ee, ← EReal.coe_add, sqrt_coe (by linarith), div_coe _ (Real.sqrt_ne_zero'.mpr (by linarith))]
  exact (((((hY j n).sub (meanOf_real hY j)).mul ⟨_, rfl⟩).mul (hg j)).add (hbe j)).max IsReal.zero

/-- The normalization with the other variance. -/
theorem normed_about {o : ℕ} {g be : Fin o → EReal} {Y : Fin o → Fin 65536 → EReal} (hY : ∀ j n, IsReal (Y j n)) (j : Fin o)
    (n : Fin 65536) :
    max (Ideal.div (Y j n - Ideal.div (∑ n, Y j n) big) (Ideal.sqrt (varAbout Y j + eps)) * g j + be j) 0 = normed g be Y j n := by
  rw [(var_eq hY j).1, div_big]
  rfl

/-! ## The logistic function -/

theorem exp_nonneg (x : EReal) : 0 ≤ Ideal.exp x := by
  induction x using EReal.rec with
  | bot => exact le_rfl
  | top => exact le_top
  | coe r => exact EReal.coe_nonneg.mpr (Real.exp_pos r).le

theorem logistic_nonneg (x : EReal) : 0 ≤ Ideal.logistic x := by
  unfold Ideal.logistic Ideal.div
  have h : (0 : EReal) < 1 + Ideal.exp (-x) := lt_of_lt_of_le zero_lt_one (le_add_of_nonneg_right (exp_nonneg _))
  rw [if_neg h.ne', one_mul]
  exact EReal.inv_nonneg_of_nonneg h.le

/-! ## The network -/

/-- The coordinates and the weights, as arrays. -/
structure Weights where
  a0 : (⟨3, ![8, 8192, 3]⟩ : Shape).Idx → EReal
  a2 : (⟨2, ![32, 3]⟩ : Shape).Idx → EReal
  a3 : (⟨1, ![32]⟩ : Shape).Idx → EReal
  a4 : (⟨1, ![32]⟩ : Shape).Idx → EReal
  a5 : (⟨1, ![32]⟩ : Shape).Idx → EReal
  a6 : (⟨2, ![64, 32]⟩ : Shape).Idx → EReal
  a7 : (⟨1, ![64]⟩ : Shape).Idx → EReal
  a8 : (⟨1, ![64]⟩ : Shape).Idx → EReal
  a9 : (⟨1, ![64]⟩ : Shape).Idx → EReal
  a10 : (⟨2, ![256, 64]⟩ : Shape).Idx → EReal
  a11 : (⟨1, ![256]⟩ : Shape).Idx → EReal
  a12 : (⟨1, ![256]⟩ : Shape).Idx → EReal
  a13 : (⟨1, ![256]⟩ : Shape).Idx → EReal
  a14 : (⟨2, ![512, 256]⟩ : Shape).Idx → EReal
  a15 : (⟨1, ![512]⟩ : Shape).Idx → EReal

namespace Weights

variable (A : Weights)

/-- The coordinates as a matrix: one column for each position of each batch. -/
def x (k : Fin 3) (n : Fin 65536) : EReal := A.a0 (ix3 ⟨n.val / 8192, by omega⟩ ⟨n.val % 8192, by omega⟩ k)

/-- A bias or a scale. -/
abbrev vec {o : ℕ} (b : (⟨1, ![o]⟩ : Shape).Idx → EReal) (j : Fin o) : EReal := b (ix1 j)

/-- The three layers before their normalizations, and the scores. -/
def y0 : Fin 32 → Fin 65536 → EReal := layer (mat A.a2) (vec A.a3) A.x
def y1 : Fin 64 → Fin 65536 → EReal := layer (mat A.a6) (vec A.a7) (normed (vec A.a4) (vec A.a5) A.y0)
def y2 : Fin 256 → Fin 65536 → EReal := layer (mat A.a10) (vec A.a11) (normed (vec A.a8) (vec A.a9) A.y1)
def scores (j : Fin 512) (n : Fin 65536) : EReal :=
  Ideal.logistic (layer (mat A.a14) (vec A.a15) (normed (vec A.a12) (vec A.a13) A.y2) j n)

/-- What is real when the inputs up to the third layer are. -/
structure Real : Prop where
  r0 : ∀ i, IsReal (A.a0 i)
  r2 : ∀ i, IsReal (A.a2 i)
  r3 : ∀ i, IsReal (A.a3 i)
  r4 : ∀ i, IsReal (A.a4 i)
  r5 : ∀ i, IsReal (A.a5 i)
  r6 : ∀ i, IsReal (A.a6 i)
  r7 : ∀ i, IsReal (A.a7 i)
  r8 : ∀ i, IsReal (A.a8 i)
  r9 : ∀ i, IsReal (A.a9 i)
  r10 : ∀ i, IsReal (A.a10 i)
  r11 : ∀ i, IsReal (A.a11 i)

variable {A}

theorem y0_real (h : A.Real) (j : Fin 32) (n : Fin 65536) : IsReal (A.y0 j n) :=
  layer_real (fun _ _ => h.r2 _) (fun _ => h.r3 _) (fun _ _ => h.r0 _) j n
theorem y1_real (h : A.Real) (j : Fin 64) (n : Fin 65536) : IsReal (A.y1 j n) :=
  layer_real (fun _ _ => h.r6 _) (fun _ => h.r7 _) (fun _ _ => normed_real (fun _ => h.r4 _) (fun _ => h.r5 _) (y0_real h) _ _) j n
theorem y2_real (h : A.Real) (j : Fin 256) (n : Fin 65536) : IsReal (A.y2 j n) :=
  layer_real (fun _ _ => h.r10 _) (fun _ => h.r11 _) (fun _ _ => normed_real (fun _ => h.r8 _) (fun _ => h.r9 _) (y1_real h) _ _) j n

theorem x_colOf (A : Weights) (k : Fin 3) (u : Fin 8) (i : Fin 8192) : A.a0 (ix3 u i k) = A.x k (colOf u i) := by
  unfold x colOf
  congr 1
  congr 1 <;> apply Fin.ext <;> simp only [] <;> omega

end Weights

end Cert.Proof.Layers

end
-- ==== Proof.Stat0Value.lean ====
/-
  The first score call's statistics: the two scratch columns add up, over the 32 blocks, every row of this layer and every row of
  its squares; the last block writes the mean and the variance.
-/
module

public import proofs.«01_k».proof.Proof.KernelStat0
public import proofs.«01_k».proof.Proof.Layers
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.Proof.KernelRun.Stat0

open Cert.KernelIdeal Cert.KernelIdeal.Gen Cert.Proof.Layers
open Idealize.ShloMosaic Idealize.ShloMosaic.TcCoe Idealize.ShloMosaic.Tactic

section Steps

variable {F : FTy → Type} [FloatOps F]
variable (V : Dev nD → Valuation τ sig (Elt F))

/-- The layer's block at point `t`. -/
def blkv (c : Dev nD) (t : Fin cfg0.N) : Vec F S32x2048 .f32 := k0_pay1 (iblk V c 1 t) (iblk V c 0 t) (iblk V c 2 t)

theorem s_first (c : Dev nD) (t : Fin cfg0.N) (h0 : t.val % 32 = 0) :
    (outsAt0 V c t.val t.isLt).2.2.1 = k0_pay4 (iblk V c 1 t) (iblk V c 0 t) (iblk V c 2 t) k0_pay2 := by
  rw [outsAt0_A V c t h0 (by omega), atA]
  frame_out
theorem s_next (c : Dev nD) (t : Fin cfg0.N) (h0 : ¬t.val % 32 = 0) :
    (outsAt0 V c t.val t.isLt).2.2.1 = k0_pay4 (iblk V c 1 t) (iblk V c 0 t) (iblk V c 2 t) (outsAt0 V c (t.val - 1) (Nat.lt_of_le_of_lt (Nat.sub_le _ _) t.isLt)).2.2.1 := by
  by_cases h1 : t.val % 32 = 31
  · rw [outsAt0_C V c t h0 h1, atC]
    frame_out
    exact congrArg (k0_pay4 _ _ _) ((Memref.isWhole_whole _).read_unread _)
  · rw [outsAt0_B V c t h0 h1, atB]
    frame_out
    exact congrArg (k0_pay4 _ _ _) ((Memref.isWhole_whole _).read_unread _)
theorem ss_first (c : Dev nD) (t : Fin cfg0.N) (h0 : t.val % 32 = 0) :
    (outsAt0 V c t.val t.isLt).2.2.2 = k0_pay5 (iblk V c 1 t) (iblk V c 0 t) (iblk V c 2 t) k0_pay3 := by
  rw [outsAt0_A V c t h0 (by omega), atA]
  frame_out
theorem ss_next (c : Dev nD) (t : Fin cfg0.N) (h0 : ¬t.val % 32 = 0) :
    (outsAt0 V c t.val t.isLt).2.2.2 = k0_pay5 (iblk V c 1 t) (iblk V c 0 t) (iblk V c 2 t) (outsAt0 V c (t.val - 1) (Nat.lt_of_le_of_lt (Nat.sub_le _ _) t.isLt)).2.2.2 := by
  by_cases h1 : t.val % 32 = 31
  · rw [outsAt0_C V c t h0 h1, atC]
    frame_out
    exact congrArg (k0_pay5 _ _ _) ((Memref.isWhole_whole _).read_unread _)
  · rw [outsAt0_B V c t h0 h1, atB]
    frame_out
    exact congrArg (k0_pay5 _ _ _) ((Memref.isWhole_whole _).read_unread _)
theorem out_mean (c : Dev nD) (t : Fin cfg0.N) (h1 : t.val % 32 = 31) :
    (outsAt0 V c t.val t.isLt).1 = k0_pay6 (outsAt0 V c t.val t.isLt).2.2.1 := by
  rw [outsAt0_C V c t (by omega) h1, atC]
  frame_out
theorem out_var (c : Dev nD) (t : Fin cfg0.N) (h1 : t.val % 32 = 31) :
    (outsAt0 V c t.val t.isLt).2.1 = k0_pay7 (outsAt0 V c t.val t.isLt).2.2.1 (outsAt0 V c t.val t.isLt).2.2.2 := by
  rw [outsAt0_C V c t (by omega) h1, atC]
  frame_out

end Steps

variable (V : Dev nD → Valuation τ sig (Elt Ideal))

/-- The layer over all columns. -/
def Y (c : Dev nD) (j : Fin 32) (n : Fin 65536) : EReal :=
  lin (mat (V c (Proc.devRef .tc main_v3))) (col (V c (Proc.devRef .tc main_v4))) (fun i => mat (V c (Proc.devRef .tc main_v2)) i n) j

theorem index0 : ∀ t : Fin cfg0.N, win0_0.index t = ![0, t.val] :=
  (by decide +kernel : ∀ t : Fin grid0.N, win0_0.index t = ![0, t.val])
theorem iblk_0 (c : Dev nD) (t : Fin cfg0.N) (i : Fin 8) (l : Fin 2048) (h : t.val * 2048 + l.val < 65536) :
    iblk V c 0 t (ix2 i l) = V c (Proc.devRef .tc main_v2) (ix2 i (⟨t.val * 2048 + l.val, h⟩ : Fin 65536)) := by
  blk_simp [iblk]
  refine congrArg _ ?_
  blk_ext [index0]
theorem index1 : ∀ t : Fin cfg0.N, win0_1.index t = ![0, 0] := (by decide +kernel : ∀ t : Fin grid0.N, win0_1.index t = ![0, 0])
theorem iblk_1 (c : Dev nD) (t : Fin cfg0.N) : (iblk V c 1 t : S32x8.Idx → EReal) = V c (Proc.devRef .tc main_v3) := by
  funext y
  obtain ⟨i, l, rfl⟩ : ∃ (i : Fin 32) (l : Fin 8), y = ix2 i l := ⟨y 0, y 1, eq_ix2 (n0 := 32) (n1 := 8) y⟩
  blk_simp [iblk]
  refine congrArg _ ?_
  blk_ext [index1]
theorem index2 : ∀ t : Fin cfg0.N, win0_2.index t = ![0, 0] := (by decide +kernel : ∀ t : Fin grid0.N, win0_2.index t = ![0, 0])
theorem iblk_2 (c : Dev nD) (t : Fin cfg0.N) : (iblk V c 2 t : S32x1.Idx → EReal) = V c (Proc.devRef .tc main_v4) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index2]

theorem blkv_apply (c : Dev nD) (t : Fin cfg0.N) (j : Fin 32) (l : Fin 2048) (h : t.val * 2048 + l.val < 65536) :
    blkv V c t (ix2 j l) = Y V c j ⟨t.val * 2048 + l.val, h⟩ := by
  unfold blkv Y
  refine (pay0 _ _ _ j l).trans ?_
  skip
  rw [iblk_1, iblk_2]
  simp only [mat, iblk_0 V c t _ l h]

theorem s_last (c : Dev nD) (t : Fin cfg0.N) (ht : t.val = 31) (j : Fin 32) :
    (outsAt0 V c t.val t.isLt).2.2.1 (ix2 j (0 : Fin 1)) = ∑ n, Y V c j n := by
  have h := Pipeline.eq_sum_fin_of_reset_step_last (N := cfg0.N) (fun n h => (outsAt0 V c n h).2.2.1 (ix2 j (0 : Fin 1))) 32 (0 : EReal)
    (fun t => ∑ l : Fin 2048, blkv V c t (ix2 j l))
    (fun t h0 => by
      show (outsAt0 V c t.val t.isLt).2.2.1 (ix2 j (0 : Fin 1)) = _
      rw [s_first V c t h0]
      unfold k0_pay4 k0_pay2
      pointwise
      rfl)
    (fun t h0 => by
      show (outsAt0 V c t.val t.isLt).2.2.1 (ix2 j (0 : Fin 1)) = _
      rw [s_next V c t h0]
      unfold k0_pay4
      pointwise
      rfl)
    (le_of_eq N_0) t (by rw [ht]; exact N_0.symm)
  refine h.trans ?_
  rw [zero_add]
  exact (Fin.sum_congr' _ N_0.symm).symm.trans ((Finset.sum_congr rfl fun p _ => Finset.sum_congr rfl fun l _ =>
    blkv_apply V c (Fin.cast N_0.symm p) j l (by have := p.isLt; have := l.isLt; show p.val * 2048 + l.val < 65536; omega)).trans
      (Fin.sum_mul_add_fin 32 2048 (fun n => Y V c j n)))

theorem ss_last (c : Dev nD) (t : Fin cfg0.N) (ht : t.val = 31) (j : Fin 32) :
    (outsAt0 V c t.val t.isLt).2.2.2 (ix2 j (0 : Fin 1)) = ∑ n, Y V c j n * Y V c j n := by
  have h := Pipeline.eq_sum_fin_of_reset_step_last (N := cfg0.N) (fun n h => (outsAt0 V c n h).2.2.2 (ix2 j (0 : Fin 1))) 32 (0 : EReal)
    (fun t => ∑ l : Fin 2048, blkv V c t (ix2 j l) * blkv V c t (ix2 j l))
    (fun t h0 => by
      show (outsAt0 V c t.val t.isLt).2.2.2 (ix2 j (0 : Fin 1)) = _
      rw [ss_first V c t h0]
      unfold k0_pay5 k0_pay3
      pointwise
      rfl)
    (fun t h0 => by
      show (outsAt0 V c t.val t.isLt).2.2.2 (ix2 j (0 : Fin 1)) = _
      rw [ss_next V c t h0]
      unfold k0_pay5
      pointwise
      rfl)
    (le_of_eq N_0) t (by rw [ht]; exact N_0.symm)
  refine h.trans ?_
  rw [zero_add]
  refine (Fin.sum_congr' _ N_0.symm).symm.trans ((Finset.sum_congr rfl fun p _ => Finset.sum_congr rfl fun l _ => ?_).trans
      (Fin.sum_mul_add_fin 32 2048 (fun n => Y V c j n * Y V c j n)))
  rw [blkv_apply V c (Fin.cast N_0.symm p) j l (by have := p.isLt; have := l.isLt; show p.val * 2048 + l.val < 65536; omega)]
  rfl

theorem flush_last : ∀ t : Fin cfg0.N, (cfg0.win 3).flush t = true → t.val = 31 := by decide +kernel
theorem flush_last' : ∀ t : Fin cfg0.N, (cfg0.win 4).flush t = true → t.val = 31 := by decide +kernel
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

/-- The array of means. -/
theorem mean_eq (c : Dev nD) : (dat V c).arrAt 3 cfg0.N = fun i : S32x1.Idx => meanOf (Y V c) (i 0) := by
  refine (dat V c).arrAt_eq_of_covers 3 _ (by decide +kernel) fun t hf y => ?_
  have ht : t.val = 31 := flush_last t hf
  blk_simp
  rw [after0_3, out_mean V c t (by omega)]
  obtain ⟨j, u, rfl⟩ : ∃ (j : Fin 32) (u : Fin 1), y = ix2 j u := ⟨y 0, y 1, eq_ix2 (n0 := 32) (n1 := 1) y⟩
  obtain rfl : u = 0 := Subsingleton.elim _ _
  have e : (win0_3.blk t).view.emb (ix2 j (0 : Fin 1)) = (ix2 j (0 : Fin 1) : S32x1.Idx) := by
    blk_ext [index3]
  refine Eq.trans ?_ (congrArg (fun i : S32x1.Idx => meanOf (Y V c) (i 0)) e).symm
  unfold k0_pay6
  pointwise
  rw [s_last V c t ht]
  rfl

/-- The array of variances. -/
theorem var_eq (c : Dev nD) : (dat V c).arrAt 4 cfg0.N = fun i : S32x1.Idx => varOf (Y V c) (i 0) := by
  refine (dat V c).arrAt_eq_of_covers 4 _ (by decide +kernel) fun t hf y => ?_
  have ht : t.val = 31 := flush_last' t hf
  blk_simp
  rw [after0_4, out_var V c t (by omega)]
  obtain ⟨j, u, rfl⟩ : ∃ (j : Fin 32) (u : Fin 1), y = ix2 j u := ⟨y 0, y 1, eq_ix2 (n0 := 32) (n1 := 1) y⟩
  obtain rfl : u = 0 := Subsingleton.elim _ _
  have e : (win0_4.blk t).view.emb (ix2 j (0 : Fin 1)) = (ix2 j (0 : Fin 1) : S32x1.Idx) := by
    blk_ext [index4]
  refine Eq.trans ?_ (congrArg (fun i : S32x1.Idx => varOf (Y V c) (i 0)) e).symm
  unfold k0_pay7 k0_pay6
  pointwise
  rw [s_last V c t ht, ss_last V c t ht]
  rfl

end Cert.Proof.KernelRun.Stat0

end
-- ==== Proof.Stat1Value.lean ====
/-
  The second score call's statistics: the two scratch columns add up, over the 32 blocks, every row of this layer and every row of
  its squares; the last block writes the mean and the variance.
-/
module

public import proofs.«01_k».proof.Proof.KernelStat1
public import proofs.«01_k».proof.Proof.Layers
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.Proof.KernelRun.Stat1

open Cert.KernelIdeal Cert.KernelIdeal.Gen Cert.Proof.Layers
open Idealize.ShloMosaic Idealize.ShloMosaic.TcCoe Idealize.ShloMosaic.Tactic

section Steps

variable {F : FTy → Type} [FloatOps F]
variable (V : Dev nD → Valuation τ sig (Elt F))

/-- The layer's block at point `t`. -/
def blkv (c : Dev nD) (t : Fin cfg1.N) : Vec F S64x2048 .f32 := k1_pay7 (iblk V c 0 t) (iblk V c 1 t) (iblk V c 2 t) (iblk V c 3 t) (iblk V c 4 t) (iblk V c 5 t) (iblk V c 6 t) (iblk V c 7 t) (iblk V c 8 t)

theorem s_first (c : Dev nD) (t : Fin cfg1.N) (h0 : t.val % 32 = 0) :
    (outsAt1 V c t.val t.isLt).2.2.1 = k1_pay3 (blkv V c t) k1_pay1 := by
  rw [outsAt0_A V c t h0 (by omega), atA]
  frame_out
  rfl
theorem s_next (c : Dev nD) (t : Fin cfg1.N) (h0 : ¬t.val % 32 = 0) :
    (outsAt1 V c t.val t.isLt).2.2.1 = k1_pay3 (blkv V c t) (outsAt1 V c (t.val - 1) (Nat.lt_of_le_of_lt (Nat.sub_le _ _) t.isLt)).2.2.1 := by
  by_cases h1 : t.val % 32 = 31
  · rw [outsAt0_C V c t h0 h1, atC]
    frame_out
    exact congrArg (k1_pay3 _) ((Memref.isWhole_whole _).read_unread _)
  · rw [outsAt0_B V c t h0 h1, atB]
    frame_out
    exact congrArg (k1_pay3 _) ((Memref.isWhole_whole _).read_unread _)
theorem ss_first (c : Dev nD) (t : Fin cfg1.N) (h0 : t.val % 32 = 0) :
    (outsAt1 V c t.val t.isLt).2.2.2 = k1_pay4 (blkv V c t) k1_pay2 := by
  rw [outsAt0_A V c t h0 (by omega), atA]
  frame_out
  rfl
theorem ss_next (c : Dev nD) (t : Fin cfg1.N) (h0 : ¬t.val % 32 = 0) :
    (outsAt1 V c t.val t.isLt).2.2.2 = k1_pay4 (blkv V c t) (outsAt1 V c (t.val - 1) (Nat.lt_of_le_of_lt (Nat.sub_le _ _) t.isLt)).2.2.2 := by
  by_cases h1 : t.val % 32 = 31
  · rw [outsAt0_C V c t h0 h1, atC]
    frame_out
    exact congrArg (k1_pay4 _) ((Memref.isWhole_whole _).read_unread _)
  · rw [outsAt0_B V c t h0 h1, atB]
    frame_out
    exact congrArg (k1_pay4 _) ((Memref.isWhole_whole _).read_unread _)
theorem out_mean (c : Dev nD) (t : Fin cfg1.N) (h1 : t.val % 32 = 31) :
    (outsAt1 V c t.val t.isLt).1 = k1_pay5 (outsAt1 V c t.val t.isLt).2.2.1 := by
  rw [outsAt0_C V c t (by omega) h1, atC]
  frame_out
theorem out_var (c : Dev nD) (t : Fin cfg1.N) (h1 : t.val % 32 = 31) :
    (outsAt1 V c t.val t.isLt).2.1 = k1_pay6 (outsAt1 V c t.val t.isLt).2.2.1 (outsAt1 V c t.val t.isLt).2.2.2 := by
  rw [outsAt0_C V c t (by omega) h1, atC]
  frame_out

end Steps

variable (V : Dev nD → Valuation τ sig (Elt Ideal))

/-- The layer over all columns. -/
def Y (c : Dev nD) (j : Fin 64) (n : Fin 65536) : EReal :=
  lin (mat (V c (Proc.devRef .tc main_arg6))) (col (V c (Proc.devRef .tc main_v7))) (act (col (V c (Proc.devRef .tc main_v14_0))) (col (V c (Proc.devRef .tc main_v14_1))) (col (V c (Proc.devRef .tc main_v5))) (col (V c (Proc.devRef .tc main_v6))) (lin (mat (V c (Proc.devRef .tc main_v3))) (col (V c (Proc.devRef .tc main_v4))) (fun i => mat (V c (Proc.devRef .tc main_v2)) i n))) j

theorem index0 : ∀ t : Fin cfg1.N, win1_0.index t = ![0, t.val] :=
  (by decide +kernel : ∀ t : Fin grid1.N, win1_0.index t = ![0, t.val])
theorem iblk_0 (c : Dev nD) (t : Fin cfg1.N) (i : Fin 8) (l : Fin 2048) (h : t.val * 2048 + l.val < 65536) :
    iblk V c 0 t (ix2 i l) = V c (Proc.devRef .tc main_v2) (ix2 i (⟨t.val * 2048 + l.val, h⟩ : Fin 65536)) := by
  blk_simp [iblk]
  refine congrArg _ ?_
  blk_ext [index0]
theorem index1 : ∀ t : Fin cfg1.N, win1_1.index t = ![0, 0] := (by decide +kernel : ∀ t : Fin grid1.N, win1_1.index t = ![0, 0])
theorem iblk_1 (c : Dev nD) (t : Fin cfg1.N) : (iblk V c 1 t : S32x8.Idx → EReal) = V c (Proc.devRef .tc main_v3) := by
  funext y
  obtain ⟨i, l, rfl⟩ : ∃ (i : Fin 32) (l : Fin 8), y = ix2 i l := ⟨y 0, y 1, eq_ix2 (n0 := 32) (n1 := 8) y⟩
  blk_simp [iblk]
  refine congrArg _ ?_
  blk_ext [index1]
theorem index2 : ∀ t : Fin cfg1.N, win1_2.index t = ![0, 0] := (by decide +kernel : ∀ t : Fin grid1.N, win1_2.index t = ![0, 0])
theorem iblk_2 (c : Dev nD) (t : Fin cfg1.N) : (iblk V c 2 t : S32x1.Idx → EReal) = V c (Proc.devRef .tc main_v4) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index2]
theorem index3 : ∀ t : Fin cfg1.N, win1_3.index t = ![0, 0] := (by decide +kernel : ∀ t : Fin grid1.N, win1_3.index t = ![0, 0])
theorem iblk_3 (c : Dev nD) (t : Fin cfg1.N) : (iblk V c 3 t : S32x1.Idx → EReal) = V c (Proc.devRef .tc main_v14_0) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index3]
theorem index4 : ∀ t : Fin cfg1.N, win1_4.index t = ![0, 0] := (by decide +kernel : ∀ t : Fin grid1.N, win1_4.index t = ![0, 0])
theorem iblk_4 (c : Dev nD) (t : Fin cfg1.N) : (iblk V c 4 t : S32x1.Idx → EReal) = V c (Proc.devRef .tc main_v14_1) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index4]
theorem index5 : ∀ t : Fin cfg1.N, win1_5.index t = ![0, 0] := (by decide +kernel : ∀ t : Fin grid1.N, win1_5.index t = ![0, 0])
theorem iblk_5 (c : Dev nD) (t : Fin cfg1.N) : (iblk V c 5 t : S32x1.Idx → EReal) = V c (Proc.devRef .tc main_v5) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index5]
theorem index6 : ∀ t : Fin cfg1.N, win1_6.index t = ![0, 0] := (by decide +kernel : ∀ t : Fin grid1.N, win1_6.index t = ![0, 0])
theorem iblk_6 (c : Dev nD) (t : Fin cfg1.N) : (iblk V c 6 t : S32x1.Idx → EReal) = V c (Proc.devRef .tc main_v6) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index6]
theorem index7 : ∀ t : Fin cfg1.N, win1_7.index t = ![0, 0] := (by decide +kernel : ∀ t : Fin grid1.N, win1_7.index t = ![0, 0])
theorem iblk_7 (c : Dev nD) (t : Fin cfg1.N) : (iblk V c 7 t : S64x32.Idx → EReal) = V c (Proc.devRef .tc main_arg6) := by
  funext y
  obtain ⟨i, l, rfl⟩ : ∃ (i : Fin 64) (l : Fin 32), y = ix2 i l := ⟨y 0, y 1, eq_ix2 (n0 := 64) (n1 := 32) y⟩
  blk_simp [iblk]
  refine congrArg _ ?_
  blk_ext [index7]
theorem index8 : ∀ t : Fin cfg1.N, win1_8.index t = ![0, 0] := (by decide +kernel : ∀ t : Fin grid1.N, win1_8.index t = ![0, 0])
theorem iblk_8 (c : Dev nD) (t : Fin cfg1.N) : (iblk V c 8 t : S64x1.Idx → EReal) = V c (Proc.devRef .tc main_v7) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index8]

theorem blkv_apply (c : Dev nD) (t : Fin cfg1.N) (j : Fin 64) (l : Fin 2048) (h : t.val * 2048 + l.val < 65536) :
    blkv V c t (ix2 j l) = Y V c j ⟨t.val * 2048 + l.val, h⟩ := by
  unfold blkv Y
  refine (pay1 _ _ _ _ _ _ _ _ _ j l).trans ?_
  skip
  rw [iblk_1, iblk_2, iblk_3, iblk_4, iblk_5, iblk_6, iblk_7, iblk_8]
  simp only [mat, iblk_0 V c t _ l h]

theorem s_last (c : Dev nD) (t : Fin cfg1.N) (ht : t.val = 31) (j : Fin 64) :
    (outsAt1 V c t.val t.isLt).2.2.1 (ix2 j (0 : Fin 1)) = ∑ n, Y V c j n := by
  have h := Pipeline.eq_sum_fin_of_reset_step_last (N := cfg1.N) (fun n h => (outsAt1 V c n h).2.2.1 (ix2 j (0 : Fin 1))) 32 (0 : EReal)
    (fun t => ∑ l : Fin 2048, blkv V c t (ix2 j l))
    (fun t h0 => by
      show (outsAt1 V c t.val t.isLt).2.2.1 (ix2 j (0 : Fin 1)) = _
      rw [s_first V c t h0]
      unfold k1_pay3 k1_pay1
      pointwise)
    (fun t h0 => by
      show (outsAt1 V c t.val t.isLt).2.2.1 (ix2 j (0 : Fin 1)) = _
      rw [s_next V c t h0]
      unfold k1_pay3
      pointwise)
    (le_of_eq N_0) t (by rw [ht]; exact N_0.symm)
  refine h.trans ?_
  rw [zero_add]
  exact (Fin.sum_congr' _ N_0.symm).symm.trans ((Finset.sum_congr rfl fun p _ => Finset.sum_congr rfl fun l _ =>
    blkv_apply V c (Fin.cast N_0.symm p) j l (by have := p.isLt; have := l.isLt; show p.val * 2048 + l.val < 65536; omega)).trans
      (Fin.sum_mul_add_fin 32 2048 (fun n => Y V c j n)))

theorem ss_last (c : Dev nD) (t : Fin cfg1.N) (ht : t.val = 31) (j : Fin 64) :
    (outsAt1 V c t.val t.isLt).2.2.2 (ix2 j (0 : Fin 1)) = ∑ n, Y V c j n * Y V c j n := by
  have h := Pipeline.eq_sum_fin_of_reset_step_last (N := cfg1.N) (fun n h => (outsAt1 V c n h).2.2.2 (ix2 j (0 : Fin 1))) 32 (0 : EReal)
    (fun t => ∑ l : Fin 2048, blkv V c t (ix2 j l) * blkv V c t (ix2 j l))
    (fun t h0 => by
      show (outsAt1 V c t.val t.isLt).2.2.2 (ix2 j (0 : Fin 1)) = _
      rw [ss_first V c t h0]
      unfold k1_pay4 k1_pay2
      pointwise)
    (fun t h0 => by
      show (outsAt1 V c t.val t.isLt).2.2.2 (ix2 j (0 : Fin 1)) = _
      rw [ss_next V c t h0]
      unfold k1_pay4
      pointwise)
    (le_of_eq N_0) t (by rw [ht]; exact N_0.symm)
  refine h.trans ?_
  rw [zero_add]
  refine (Fin.sum_congr' _ N_0.symm).symm.trans ((Finset.sum_congr rfl fun p _ => Finset.sum_congr rfl fun l _ => ?_).trans
      (Fin.sum_mul_add_fin 32 2048 (fun n => Y V c j n * Y V c j n)))
  rw [blkv_apply V c (Fin.cast N_0.symm p) j l (by have := p.isLt; have := l.isLt; show p.val * 2048 + l.val < 65536; omega)]
  rfl

theorem flush_last : ∀ t : Fin cfg1.N, (cfg1.win 9).flush t = true → t.val = 31 := by decide +kernel
theorem flush_last' : ∀ t : Fin cfg1.N, (cfg1.win 10).flush t = true → t.val = 31 := by decide +kernel
theorem index9 : ∀ t : Fin cfg1.N, win1_9.index t = ![0, 0] := (by decide +kernel : ∀ t : Fin grid1.N, win1_9.index t = ![0, 0])
theorem index10 : ∀ t : Fin cfg1.N, win1_10.index t = ![0, 0] := (by decide +kernel : ∀ t : Fin grid1.N, win1_10.index t = ![0, 0])

/-- The array of means. -/
theorem mean_eq (c : Dev nD) : (dat V c).arrAt 9 cfg1.N = fun i : S64x1.Idx => meanOf (Y V c) (i 0) := by
  refine (dat V c).arrAt_eq_of_covers 9 _ (by decide +kernel) fun t hf y => ?_
  have ht : t.val = 31 := flush_last t hf
  blk_simp
  rw [after1_9, out_mean V c t (by omega)]
  obtain ⟨j, u, rfl⟩ : ∃ (j : Fin 64) (u : Fin 1), y = ix2 j u := ⟨y 0, y 1, eq_ix2 (n0 := 64) (n1 := 1) y⟩
  obtain rfl : u = 0 := Subsingleton.elim _ _
  have e : (win1_9.blk t).view.emb (ix2 j (0 : Fin 1)) = (ix2 j (0 : Fin 1) : S64x1.Idx) := by
    blk_ext [index9]
  refine Eq.trans ?_ (congrArg (fun i : S64x1.Idx => meanOf (Y V c) (i 0)) e).symm
  unfold k1_pay5
  pointwise
  rw [s_last V c t ht]
  rfl

/-- The array of variances. -/
theorem var_eq (c : Dev nD) : (dat V c).arrAt 10 cfg1.N = fun i : S64x1.Idx => varOf (Y V c) (i 0) := by
  refine (dat V c).arrAt_eq_of_covers 10 _ (by decide +kernel) fun t hf y => ?_
  have ht : t.val = 31 := flush_last' t hf
  blk_simp
  rw [after1_10, out_var V c t (by omega)]
  obtain ⟨j, u, rfl⟩ : ∃ (j : Fin 64) (u : Fin 1), y = ix2 j u := ⟨y 0, y 1, eq_ix2 (n0 := 64) (n1 := 1) y⟩
  obtain rfl : u = 0 := Subsingleton.elim _ _
  have e : (win1_10.blk t).view.emb (ix2 j (0 : Fin 1)) = (ix2 j (0 : Fin 1) : S64x1.Idx) := by
    blk_ext [index10]
  refine Eq.trans ?_ (congrArg (fun i : S64x1.Idx => varOf (Y V c) (i 0)) e).symm
  unfold k1_pay6 k1_pay5
  pointwise
  rw [s_last V c t ht, ss_last V c t ht]
  rfl

end Cert.Proof.KernelRun.Stat1

end
-- ==== Proof.Stat2Value.lean ====
/-
  The third score call's statistics: the two scratch columns add up, over the 32 blocks, every row of this layer and every row of
  its squares; the last block writes the mean and the variance.
-/
module

public import proofs.«01_k».proof.Proof.KernelStat2
public import proofs.«01_k».proof.Proof.Layers
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.Proof.KernelRun.Stat2

open Cert.KernelIdeal Cert.KernelIdeal.Gen Cert.Proof.Layers
open Idealize.ShloMosaic Idealize.ShloMosaic.TcCoe Idealize.ShloMosaic.Tactic

section Steps

variable {F : FTy → Type} [FloatOps F]
variable (V : Dev nD → Valuation τ sig (Elt F))

/-- The layer's block at point `t`. -/
def blkv (c : Dev nD) (t : Fin cfg2.N) : Vec F S256x2048 .f32 := k2_pay5 (k2_pay4 (iblk V c 0 t) (iblk V c 1 t) (iblk V c 2 t) (iblk V c 3 t) (iblk V c 4 t) (iblk V c 5 t) (iblk V c 6 t) (iblk V c 7 t) (iblk V c 8 t)) (iblk V c 9 t) (iblk V c 10 t) (iblk V c 11 t) (iblk V c 12 t) (iblk V c 13 t) (iblk V c 14 t)

theorem s_first (c : Dev nD) (t : Fin cfg2.N) (h0 : t.val % 32 = 0) :
    (outsAt2 V c t.val t.isLt).2.2.1 = k2_pay8 (k2_pay4 (iblk V c 0 t) (iblk V c 1 t) (iblk V c 2 t) (iblk V c 3 t) (iblk V c 4 t) (iblk V c 5 t) (iblk V c 6 t) (iblk V c 7 t) (iblk V c 8 t)) (iblk V c 9 t) (iblk V c 10 t) (iblk V c 11 t) (iblk V c 12 t) (iblk V c 13 t) (iblk V c 14 t) k2_pay6 := by
  rw [outsAt0_A V c t h0 (by omega), atA]
  frame_out
theorem s_next (c : Dev nD) (t : Fin cfg2.N) (h0 : ¬t.val % 32 = 0) :
    (outsAt2 V c t.val t.isLt).2.2.1 = k2_pay8 (k2_pay4 (iblk V c 0 t) (iblk V c 1 t) (iblk V c 2 t) (iblk V c 3 t) (iblk V c 4 t) (iblk V c 5 t) (iblk V c 6 t) (iblk V c 7 t) (iblk V c 8 t)) (iblk V c 9 t) (iblk V c 10 t) (iblk V c 11 t) (iblk V c 12 t) (iblk V c 13 t) (iblk V c 14 t) (outsAt2 V c (t.val - 1) (Nat.lt_of_le_of_lt (Nat.sub_le _ _) t.isLt)).2.2.1 := by
  by_cases h1 : t.val % 32 = 31
  · rw [outsAt0_C V c t h0 h1, atC]
    frame_out
    exact congrArg (k2_pay8 _ _ _ _ _ _ _) ((Memref.isWhole_whole _).read_unread _)
  · rw [outsAt0_B V c t h0 h1, atB]
    frame_out
    exact congrArg (k2_pay8 _ _ _ _ _ _ _) ((Memref.isWhole_whole _).read_unread _)
theorem ss_first (c : Dev nD) (t : Fin cfg2.N) (h0 : t.val % 32 = 0) :
    (outsAt2 V c t.val t.isLt).2.2.2 = k2_pay1 (blkv V c t) k2_pay7 := by
  rw [outsAt0_A V c t h0 (by omega), atA]
  frame_out
  rfl
theorem ss_next (c : Dev nD) (t : Fin cfg2.N) (h0 : ¬t.val % 32 = 0) :
    (outsAt2 V c t.val t.isLt).2.2.2 = k2_pay1 (blkv V c t) (outsAt2 V c (t.val - 1) (Nat.lt_of_le_of_lt (Nat.sub_le _ _) t.isLt)).2.2.2 := by
  by_cases h1 : t.val % 32 = 31
  · rw [outsAt0_C V c t h0 h1, atC]
    frame_out
    exact congrArg (k2_pay1 _) ((Memref.isWhole_whole _).read_unread _)
  · rw [outsAt0_B V c t h0 h1, atB]
    frame_out
    exact congrArg (k2_pay1 _) ((Memref.isWhole_whole _).read_unread _)
theorem out_mean (c : Dev nD) (t : Fin cfg2.N) (h1 : t.val % 32 = 31) :
    (outsAt2 V c t.val t.isLt).1 = k2_pay2 (outsAt2 V c t.val t.isLt).2.2.1 := by
  rw [outsAt0_C V c t (by omega) h1, atC]
  frame_out
theorem out_var (c : Dev nD) (t : Fin cfg2.N) (h1 : t.val % 32 = 31) :
    (outsAt2 V c t.val t.isLt).2.1 = k2_pay3 (outsAt2 V c t.val t.isLt).2.2.1 (outsAt2 V c t.val t.isLt).2.2.2 := by
  rw [outsAt0_C V c t (by omega) h1, atC]
  frame_out

end Steps

variable (V : Dev nD → Valuation τ sig (Elt Ideal))

/-- The layer over all columns. -/
def Y (c : Dev nD) (j : Fin 256) (n : Fin 65536) : EReal :=
  lin (mat (V c (Proc.devRef .tc main_arg10))) (col (V c (Proc.devRef .tc main_v10))) (act (col (V c (Proc.devRef .tc main_v15_0))) (col (V c (Proc.devRef .tc main_v15_1))) (col (V c (Proc.devRef .tc main_v8))) (col (V c (Proc.devRef .tc main_v9))) (lin (mat (V c (Proc.devRef .tc main_arg6))) (col (V c (Proc.devRef .tc main_v7))) (act (col (V c (Proc.devRef .tc main_v14_0))) (col (V c (Proc.devRef .tc main_v14_1))) (col (V c (Proc.devRef .tc main_v5))) (col (V c (Proc.devRef .tc main_v6))) (lin (mat (V c (Proc.devRef .tc main_v3))) (col (V c (Proc.devRef .tc main_v4))) (fun i => mat (V c (Proc.devRef .tc main_v2)) i n))))) j

theorem index0 : ∀ t : Fin cfg2.N, win2_0.index t = ![0, t.val] :=
  (by decide +kernel : ∀ t : Fin grid2.N, win2_0.index t = ![0, t.val])
theorem iblk_0 (c : Dev nD) (t : Fin cfg2.N) (i : Fin 8) (l : Fin 2048) (h : t.val * 2048 + l.val < 65536) :
    iblk V c 0 t (ix2 i l) = V c (Proc.devRef .tc main_v2) (ix2 i (⟨t.val * 2048 + l.val, h⟩ : Fin 65536)) := by
  blk_simp [iblk]
  refine congrArg _ ?_
  blk_ext [index0]
theorem index1 : ∀ t : Fin cfg2.N, win2_1.index t = ![0, 0] := (by decide +kernel : ∀ t : Fin grid2.N, win2_1.index t = ![0, 0])
theorem iblk_1 (c : Dev nD) (t : Fin cfg2.N) : (iblk V c 1 t : S32x8.Idx → EReal) = V c (Proc.devRef .tc main_v3) := by
  funext y
  obtain ⟨i, l, rfl⟩ : ∃ (i : Fin 32) (l : Fin 8), y = ix2 i l := ⟨y 0, y 1, eq_ix2 (n0 := 32) (n1 := 8) y⟩
  blk_simp [iblk]
  refine congrArg _ ?_
  blk_ext [index1]
theorem index2 : ∀ t : Fin cfg2.N, win2_2.index t = ![0, 0] := (by decide +kernel : ∀ t : Fin grid2.N, win2_2.index t = ![0, 0])
theorem iblk_2 (c : Dev nD) (t : Fin cfg2.N) : (iblk V c 2 t : S32x1.Idx → EReal) = V c (Proc.devRef .tc main_v4) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index2]
theorem index3 : ∀ t : Fin cfg2.N, win2_3.index t = ![0, 0] := (by decide +kernel : ∀ t : Fin grid2.N, win2_3.index t = ![0, 0])
theorem iblk_3 (c : Dev nD) (t : Fin cfg2.N) : (iblk V c 3 t : S32x1.Idx → EReal) = V c (Proc.devRef .tc main_v14_0) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index3]
theorem index4 : ∀ t : Fin cfg2.N, win2_4.index t = ![0, 0] := (by decide +kernel : ∀ t : Fin grid2.N, win2_4.index t = ![0, 0])
theorem iblk_4 (c : Dev nD) (t : Fin cfg2.N) : (iblk V c 4 t : S32x1.Idx → EReal) = V c (Proc.devRef .tc main_v14_1) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index4]
theorem index5 : ∀ t : Fin cfg2.N, win2_5.index t = ![0, 0] := (by decide +kernel : ∀ t : Fin grid2.N, win2_5.index t = ![0, 0])
theorem iblk_5 (c : Dev nD) (t : Fin cfg2.N) : (iblk V c 5 t : S32x1.Idx → EReal) = V c (Proc.devRef .tc main_v5) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index5]
theorem index6 : ∀ t : Fin cfg2.N, win2_6.index t = ![0, 0] := (by decide +kernel : ∀ t : Fin grid2.N, win2_6.index t = ![0, 0])
theorem iblk_6 (c : Dev nD) (t : Fin cfg2.N) : (iblk V c 6 t : S32x1.Idx → EReal) = V c (Proc.devRef .tc main_v6) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index6]
theorem index7 : ∀ t : Fin cfg2.N, win2_7.index t = ![0, 0] := (by decide +kernel : ∀ t : Fin grid2.N, win2_7.index t = ![0, 0])
theorem iblk_7 (c : Dev nD) (t : Fin cfg2.N) : (iblk V c 7 t : S64x32.Idx → EReal) = V c (Proc.devRef .tc main_arg6) := by
  funext y
  obtain ⟨i, l, rfl⟩ : ∃ (i : Fin 64) (l : Fin 32), y = ix2 i l := ⟨y 0, y 1, eq_ix2 (n0 := 64) (n1 := 32) y⟩
  blk_simp [iblk]
  refine congrArg _ ?_
  blk_ext [index7]
theorem index8 : ∀ t : Fin cfg2.N, win2_8.index t = ![0, 0] := (by decide +kernel : ∀ t : Fin grid2.N, win2_8.index t = ![0, 0])
theorem iblk_8 (c : Dev nD) (t : Fin cfg2.N) : (iblk V c 8 t : S64x1.Idx → EReal) = V c (Proc.devRef .tc main_v7) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index8]
theorem index9 : ∀ t : Fin cfg2.N, win2_9.index t = ![0, 0] := (by decide +kernel : ∀ t : Fin grid2.N, win2_9.index t = ![0, 0])
theorem iblk_9 (c : Dev nD) (t : Fin cfg2.N) : (iblk V c 9 t : S64x1.Idx → EReal) = V c (Proc.devRef .tc main_v15_0) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index9]
theorem index10 : ∀ t : Fin cfg2.N, win2_10.index t = ![0, 0] := (by decide +kernel : ∀ t : Fin grid2.N, win2_10.index t = ![0, 0])
theorem iblk_10 (c : Dev nD) (t : Fin cfg2.N) : (iblk V c 10 t : S64x1.Idx → EReal) = V c (Proc.devRef .tc main_v15_1) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index10]
theorem index11 : ∀ t : Fin cfg2.N, win2_11.index t = ![0, 0] := (by decide +kernel : ∀ t : Fin grid2.N, win2_11.index t = ![0, 0])
theorem iblk_11 (c : Dev nD) (t : Fin cfg2.N) : (iblk V c 11 t : S64x1.Idx → EReal) = V c (Proc.devRef .tc main_v8) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index11]
theorem index12 : ∀ t : Fin cfg2.N, win2_12.index t = ![0, 0] := (by decide +kernel : ∀ t : Fin grid2.N, win2_12.index t = ![0, 0])
theorem iblk_12 (c : Dev nD) (t : Fin cfg2.N) : (iblk V c 12 t : S64x1.Idx → EReal) = V c (Proc.devRef .tc main_v9) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index12]
theorem index13 : ∀ t : Fin cfg2.N, win2_13.index t = ![0, 0] := (by decide +kernel : ∀ t : Fin grid2.N, win2_13.index t = ![0, 0])
theorem iblk_13 (c : Dev nD) (t : Fin cfg2.N) : (iblk V c 13 t : S256x64.Idx → EReal) = V c (Proc.devRef .tc main_arg10) := by
  funext y
  obtain ⟨i, l, rfl⟩ : ∃ (i : Fin 256) (l : Fin 64), y = ix2 i l := ⟨y 0, y 1, eq_ix2 (n0 := 256) (n1 := 64) y⟩
  blk_simp [iblk]
  refine congrArg _ ?_
  blk_ext [index13]
theorem index14 : ∀ t : Fin cfg2.N, win2_14.index t = ![0, 0] := (by decide +kernel : ∀ t : Fin grid2.N, win2_14.index t = ![0, 0])
theorem iblk_14 (c : Dev nD) (t : Fin cfg2.N) : (iblk V c 14 t : S256x1.Idx → EReal) = V c (Proc.devRef .tc main_v10) := by
  funext y
  obtain ⟨i, l, rfl⟩ : ∃ (i : Fin 256) (l : Fin 1), y = ix2 i l := ⟨y 0, y 1, eq_ix2 (n0 := 256) (n1 := 1) y⟩
  blk_simp [iblk]
  refine congrArg _ ?_
  blk_ext [index14]

theorem blkv_apply (c : Dev nD) (t : Fin cfg2.N) (j : Fin 256) (l : Fin 2048) (h : t.val * 2048 + l.val < 65536) :
    blkv V c t (ix2 j l) = Y V c j ⟨t.val * 2048 + l.val, h⟩ := by
  unfold blkv Y
  refine (pay2b _ _ _ _ _ _ _ j l).trans ?_
  simp only [mat, pay2a]
  rw [iblk_1, iblk_2, iblk_3, iblk_4, iblk_5, iblk_6, iblk_7, iblk_8, iblk_9, iblk_10, iblk_11, iblk_12, iblk_13, iblk_14]
  simp only [mat, iblk_0 V c t _ l h]

theorem s_last (c : Dev nD) (t : Fin cfg2.N) (ht : t.val = 31) (j : Fin 256) :
    (outsAt2 V c t.val t.isLt).2.2.1 (ix2 j (0 : Fin 1)) = ∑ n, Y V c j n := by
  have h := Pipeline.eq_sum_fin_of_reset_step_last (N := cfg2.N) (fun n h => (outsAt2 V c n h).2.2.1 (ix2 j (0 : Fin 1))) 32 (0 : EReal)
    (fun t => ∑ l : Fin 2048, blkv V c t (ix2 j l))
    (fun t h0 => by
      show (outsAt2 V c t.val t.isLt).2.2.1 (ix2 j (0 : Fin 1)) = _
      rw [s_first V c t h0]
      unfold k2_pay8 k2_pay6
      pointwise
      rfl)
    (fun t h0 => by
      show (outsAt2 V c t.val t.isLt).2.2.1 (ix2 j (0 : Fin 1)) = _
      rw [s_next V c t h0]
      unfold k2_pay8
      pointwise
      rfl)
    (le_of_eq N_0) t (by rw [ht]; exact N_0.symm)
  refine h.trans ?_
  rw [zero_add]
  exact (Fin.sum_congr' _ N_0.symm).symm.trans ((Finset.sum_congr rfl fun p _ => Finset.sum_congr rfl fun l _ =>
    blkv_apply V c (Fin.cast N_0.symm p) j l (by have := p.isLt; have := l.isLt; show p.val * 2048 + l.val < 65536; omega)).trans
      (Fin.sum_mul_add_fin 32 2048 (fun n => Y V c j n)))

theorem ss_last (c : Dev nD) (t : Fin cfg2.N) (ht : t.val = 31) (j : Fin 256) :
    (outsAt2 V c t.val t.isLt).2.2.2 (ix2 j (0 : Fin 1)) = ∑ n, Y V c j n * Y V c j n := by
  have h := Pipeline.eq_sum_fin_of_reset_step_last (N := cfg2.N) (fun n h => (outsAt2 V c n h).2.2.2 (ix2 j (0 : Fin 1))) 32 (0 : EReal)
    (fun t => ∑ l : Fin 2048, blkv V c t (ix2 j l) * blkv V c t (ix2 j l))
    (fun t h0 => by
      show (outsAt2 V c t.val t.isLt).2.2.2 (ix2 j (0 : Fin 1)) = _
      rw [ss_first V c t h0]
      unfold k2_pay1 k2_pay7
      pointwise)
    (fun t h0 => by
      show (outsAt2 V c t.val t.isLt).2.2.2 (ix2 j (0 : Fin 1)) = _
      rw [ss_next V c t h0]
      unfold k2_pay1
      pointwise)
    (le_of_eq N_0) t (by rw [ht]; exact N_0.symm)
  refine h.trans ?_
  rw [zero_add]
  refine (Fin.sum_congr' _ N_0.symm).symm.trans ((Finset.sum_congr rfl fun p _ => Finset.sum_congr rfl fun l _ => ?_).trans
      (Fin.sum_mul_add_fin 32 2048 (fun n => Y V c j n * Y V c j n)))
  rw [blkv_apply V c (Fin.cast N_0.symm p) j l (by have := p.isLt; have := l.isLt; show p.val * 2048 + l.val < 65536; omega)]
  rfl

theorem flush_last : ∀ t : Fin cfg2.N, (cfg2.win 15).flush t = true → t.val = 31 := by decide +kernel
theorem flush_last' : ∀ t : Fin cfg2.N, (cfg2.win 16).flush t = true → t.val = 31 := by decide +kernel
theorem index15 : ∀ t : Fin cfg2.N, win2_15.index t = ![0, 0] := (by decide +kernel : ∀ t : Fin grid2.N, win2_15.index t = ![0, 0])
theorem index16 : ∀ t : Fin cfg2.N, win2_16.index t = ![0, 0] := (by decide +kernel : ∀ t : Fin grid2.N, win2_16.index t = ![0, 0])

/-- The array of means. -/
theorem mean_eq (c : Dev nD) : (dat V c).arrAt 15 cfg2.N = fun i : S256x1.Idx => meanOf (Y V c) (i 0) := by
  refine (dat V c).arrAt_eq_of_covers 15 _ (by decide +kernel) fun t hf y => ?_
  have ht : t.val = 31 := flush_last t hf
  blk_simp
  rw [after2_15, out_mean V c t (by omega)]
  obtain ⟨j, u, rfl⟩ : ∃ (j : Fin 256) (u : Fin 1), y = ix2 j u := ⟨y 0, y 1, eq_ix2 (n0 := 256) (n1 := 1) y⟩
  obtain rfl : u = 0 := Subsingleton.elim _ _
  have e : (win2_15.blk t).view.emb (ix2 j (0 : Fin 1)) = (ix2 j (0 : Fin 1) : S256x1.Idx) := by
    blk_ext [index15]
  refine Eq.trans ?_ (congrArg (fun i : S256x1.Idx => meanOf (Y V c) (i 0)) e).symm
  unfold k2_pay2
  pointwise
  rw [s_last V c t ht]
  rfl

/-- The array of variances. -/
theorem var_eq (c : Dev nD) : (dat V c).arrAt 16 cfg2.N = fun i : S256x1.Idx => varOf (Y V c) (i 0) := by
  refine (dat V c).arrAt_eq_of_covers 16 _ (by decide +kernel) fun t hf y => ?_
  have ht : t.val = 31 := flush_last' t hf
  blk_simp
  rw [after2_16, out_var V c t (by omega)]
  obtain ⟨j, u, rfl⟩ : ∃ (j : Fin 256) (u : Fin 1), y = ix2 j u := ⟨y 0, y 1, eq_ix2 (n0 := 256) (n1 := 1) y⟩
  obtain rfl : u = 0 := Subsingleton.elim _ _
  have e : (win2_16.blk t).view.emb (ix2 j (0 : Fin 1)) = (ix2 j (0 : Fin 1) : S256x1.Idx) := by
    blk_ext [index16]
  refine Eq.trans ?_ (congrArg (fun i : S256x1.Idx => varOf (Y V c) (i 0)) e).symm
  unfold k2_pay3 k2_pay2
  pointwise
  rw [s_last V c t ht, ss_last V c t ht]
  rfl

end Cert.Proof.KernelRun.Stat2

end
-- ==== Proof.ScoreValue.lean ====
/-
  The score call's array: entry `(b, j, i)` is the logistic function of the fourth convolution's row `j` at column `8192 b + i`.
-/
module

public import proofs.«01_k».proof.Proof.KernelScore
public import proofs.«01_k».proof.Proof.Layers
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.Proof.KernelRun.Score

open Cert.KernelIdeal Cert.KernelIdeal.Gen Cert.Proof.Layers
open Idealize.ShloMosaic Idealize.ShloMosaic.TcCoe Idealize.ShloMosaic.Tactic

variable (V : Dev nD → Valuation τ sig (Elt Ideal))

/-- The scores over all columns. -/
def Q (c : Dev nD) (j : Fin 512) (n : Fin 65536) : EReal :=
  Ideal.logistic (lin (mat (V c (Proc.devRef .tc main_arg14))) (col (V c (Proc.devRef .tc main_v13))) (act (col (V c (Proc.devRef .tc main_v16_0))) (col (V c (Proc.devRef .tc main_v16_1))) (col (V c (Proc.devRef .tc main_v11))) (col (V c (Proc.devRef .tc main_v12))) (lin (mat (V c (Proc.devRef .tc main_arg10))) (col (V c (Proc.devRef .tc main_v10))) (act (col (V c (Proc.devRef .tc main_v15_0))) (col (V c (Proc.devRef .tc main_v15_1))) (col (V c (Proc.devRef .tc main_v8))) (col (V c (Proc.devRef .tc main_v9))) (lin (mat (V c (Proc.devRef .tc main_arg6))) (col (V c (Proc.devRef .tc main_v7))) (act (col (V c (Proc.devRef .tc main_v14_0))) (col (V c (Proc.devRef .tc main_v14_1))) (col (V c (Proc.devRef .tc main_v5))) (col (V c (Proc.devRef .tc main_v6))) (lin (mat (V c (Proc.devRef .tc main_v3))) (col (V c (Proc.devRef .tc main_v4))) (fun i => mat (V c (Proc.devRef .tc main_v2)) i n))))))) j)

theorem index0 : ∀ t : Fin cfg3.N, win3_0.index t = ![0, t.val] :=
  (by decide +kernel : ∀ t : Fin grid3.N, win3_0.index t = ![0, t.val])
theorem iblk_0 (c : Dev nD) (t : Fin cfg3.N) (i : Fin 8) (l : Fin 1024) (h : t.val * 1024 + l.val < 65536) :
    iblk V c 0 t (ix2 i l) = V c (Proc.devRef .tc main_v2) (ix2 i (⟨t.val * 1024 + l.val, h⟩ : Fin 65536)) := by
  blk_simp [iblk]
  refine congrArg _ ?_
  blk_ext [index0]
theorem index1 : ∀ t : Fin cfg3.N, win3_1.index t = ![0, 0] := (by decide +kernel : ∀ t : Fin grid3.N, win3_1.index t = ![0, 0])
theorem iblk_1 (c : Dev nD) (t : Fin cfg3.N) : (iblk V c 1 t : S32x8.Idx → EReal) = V c (Proc.devRef .tc main_v3) := by
  funext y
  obtain ⟨i, l, rfl⟩ : ∃ (i : Fin 32) (l : Fin 8), y = ix2 i l := ⟨y 0, y 1, eq_ix2 (n0 := 32) (n1 := 8) y⟩
  blk_simp [iblk]
  refine congrArg _ ?_
  blk_ext [index1]
theorem index2 : ∀ t : Fin cfg3.N, win3_2.index t = ![0, 0] := (by decide +kernel : ∀ t : Fin grid3.N, win3_2.index t = ![0, 0])
theorem iblk_2 (c : Dev nD) (t : Fin cfg3.N) : (iblk V c 2 t : S32x1.Idx → EReal) = V c (Proc.devRef .tc main_v4) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index2]
theorem index3 : ∀ t : Fin cfg3.N, win3_3.index t = ![0, 0] := (by decide +kernel : ∀ t : Fin grid3.N, win3_3.index t = ![0, 0])
theorem iblk_3 (c : Dev nD) (t : Fin cfg3.N) : (iblk V c 3 t : S32x1.Idx → EReal) = V c (Proc.devRef .tc main_v14_0) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index3]
theorem index4 : ∀ t : Fin cfg3.N, win3_4.index t = ![0, 0] := (by decide +kernel : ∀ t : Fin grid3.N, win3_4.index t = ![0, 0])
theorem iblk_4 (c : Dev nD) (t : Fin cfg3.N) : (iblk V c 4 t : S32x1.Idx → EReal) = V c (Proc.devRef .tc main_v14_1) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index4]
theorem index5 : ∀ t : Fin cfg3.N, win3_5.index t = ![0, 0] := (by decide +kernel : ∀ t : Fin grid3.N, win3_5.index t = ![0, 0])
theorem iblk_5 (c : Dev nD) (t : Fin cfg3.N) : (iblk V c 5 t : S32x1.Idx → EReal) = V c (Proc.devRef .tc main_v5) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index5]
theorem index6 : ∀ t : Fin cfg3.N, win3_6.index t = ![0, 0] := (by decide +kernel : ∀ t : Fin grid3.N, win3_6.index t = ![0, 0])
theorem iblk_6 (c : Dev nD) (t : Fin cfg3.N) : (iblk V c 6 t : S32x1.Idx → EReal) = V c (Proc.devRef .tc main_v6) := by
  funext y
  obtain ⟨i, l, rfl⟩ : ∃ (i : Fin 32) (l : Fin 1), y = ix2 i l := ⟨y 0, y 1, eq_ix2 (n0 := 32) (n1 := 1) y⟩
  blk_simp [iblk]
  refine congrArg _ ?_
  blk_ext [index6]
theorem index7 : ∀ t : Fin cfg3.N, win3_7.index t = ![0, 0] := (by decide +kernel : ∀ t : Fin grid3.N, win3_7.index t = ![0, 0])
theorem iblk_7 (c : Dev nD) (t : Fin cfg3.N) : (iblk V c 7 t : S64x32.Idx → EReal) = V c (Proc.devRef .tc main_arg6) := by
  funext y
  obtain ⟨i, l, rfl⟩ : ∃ (i : Fin 64) (l : Fin 32), y = ix2 i l := ⟨y 0, y 1, eq_ix2 (n0 := 64) (n1 := 32) y⟩
  blk_simp [iblk]
  refine congrArg _ ?_
  blk_ext [index7]
theorem index8 : ∀ t : Fin cfg3.N, win3_8.index t = ![0, 0] := (by decide +kernel : ∀ t : Fin grid3.N, win3_8.index t = ![0, 0])
theorem iblk_8 (c : Dev nD) (t : Fin cfg3.N) : (iblk V c 8 t : S64x1.Idx → EReal) = V c (Proc.devRef .tc main_v7) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index8]
theorem index9 : ∀ t : Fin cfg3.N, win3_9.index t = ![0, 0] := (by decide +kernel : ∀ t : Fin grid3.N, win3_9.index t = ![0, 0])
theorem iblk_9 (c : Dev nD) (t : Fin cfg3.N) : (iblk V c 9 t : S64x1.Idx → EReal) = V c (Proc.devRef .tc main_v15_0) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index9]
theorem index10 : ∀ t : Fin cfg3.N, win3_10.index t = ![0, 0] := (by decide +kernel : ∀ t : Fin grid3.N, win3_10.index t = ![0, 0])
theorem iblk_10 (c : Dev nD) (t : Fin cfg3.N) : (iblk V c 10 t : S64x1.Idx → EReal) = V c (Proc.devRef .tc main_v15_1) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index10]
theorem index11 : ∀ t : Fin cfg3.N, win3_11.index t = ![0, 0] := (by decide +kernel : ∀ t : Fin grid3.N, win3_11.index t = ![0, 0])
theorem iblk_11 (c : Dev nD) (t : Fin cfg3.N) : (iblk V c 11 t : S64x1.Idx → EReal) = V c (Proc.devRef .tc main_v8) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index11]
theorem index12 : ∀ t : Fin cfg3.N, win3_12.index t = ![0, 0] := (by decide +kernel : ∀ t : Fin grid3.N, win3_12.index t = ![0, 0])
theorem iblk_12 (c : Dev nD) (t : Fin cfg3.N) : (iblk V c 12 t : S64x1.Idx → EReal) = V c (Proc.devRef .tc main_v9) := by
  funext y
  obtain ⟨i, l, rfl⟩ : ∃ (i : Fin 64) (l : Fin 1), y = ix2 i l := ⟨y 0, y 1, eq_ix2 (n0 := 64) (n1 := 1) y⟩
  blk_simp [iblk]
  refine congrArg _ ?_
  blk_ext [index12]
theorem index13 : ∀ t : Fin cfg3.N, win3_13.index t = ![0, 0] := (by decide +kernel : ∀ t : Fin grid3.N, win3_13.index t = ![0, 0])
theorem iblk_13 (c : Dev nD) (t : Fin cfg3.N) : (iblk V c 13 t : S256x64.Idx → EReal) = V c (Proc.devRef .tc main_arg10) := by
  funext y
  obtain ⟨i, l, rfl⟩ : ∃ (i : Fin 256) (l : Fin 64), y = ix2 i l := ⟨y 0, y 1, eq_ix2 (n0 := 256) (n1 := 64) y⟩
  blk_simp [iblk]
  refine congrArg _ ?_
  blk_ext [index13]
theorem index14 : ∀ t : Fin cfg3.N, win3_14.index t = ![0, 0] := (by decide +kernel : ∀ t : Fin grid3.N, win3_14.index t = ![0, 0])
theorem iblk_14 (c : Dev nD) (t : Fin cfg3.N) : (iblk V c 14 t : S256x1.Idx → EReal) = V c (Proc.devRef .tc main_v10) := by
  funext y
  obtain ⟨i, l, rfl⟩ : ∃ (i : Fin 256) (l : Fin 1), y = ix2 i l := ⟨y 0, y 1, eq_ix2 (n0 := 256) (n1 := 1) y⟩
  blk_simp [iblk]
  refine congrArg _ ?_
  blk_ext [index14]
theorem index15 : ∀ t : Fin cfg3.N, win3_15.index t = ![0, 0] := (by decide +kernel : ∀ t : Fin grid3.N, win3_15.index t = ![0, 0])
theorem iblk_15 (c : Dev nD) (t : Fin cfg3.N) : (iblk V c 15 t : S256x1.Idx → EReal) = V c (Proc.devRef .tc main_v16_0) := by
  funext y
  obtain ⟨i, l, rfl⟩ : ∃ (i : Fin 256) (l : Fin 1), y = ix2 i l := ⟨y 0, y 1, eq_ix2 (n0 := 256) (n1 := 1) y⟩
  blk_simp [iblk]
  refine congrArg _ ?_
  blk_ext [index15]
theorem index16 : ∀ t : Fin cfg3.N, win3_16.index t = ![0, 0] := (by decide +kernel : ∀ t : Fin grid3.N, win3_16.index t = ![0, 0])
theorem iblk_16 (c : Dev nD) (t : Fin cfg3.N) : (iblk V c 16 t : S256x1.Idx → EReal) = V c (Proc.devRef .tc main_v16_1) := by
  funext y
  obtain ⟨i, l, rfl⟩ : ∃ (i : Fin 256) (l : Fin 1), y = ix2 i l := ⟨y 0, y 1, eq_ix2 (n0 := 256) (n1 := 1) y⟩
  blk_simp [iblk]
  refine congrArg _ ?_
  blk_ext [index16]
theorem index17 : ∀ t : Fin cfg3.N, win3_17.index t = ![0, 0] := (by decide +kernel : ∀ t : Fin grid3.N, win3_17.index t = ![0, 0])
theorem iblk_17 (c : Dev nD) (t : Fin cfg3.N) : (iblk V c 17 t : S256x1.Idx → EReal) = V c (Proc.devRef .tc main_v11) := by
  funext y
  obtain ⟨i, l, rfl⟩ : ∃ (i : Fin 256) (l : Fin 1), y = ix2 i l := ⟨y 0, y 1, eq_ix2 (n0 := 256) (n1 := 1) y⟩
  blk_simp [iblk]
  refine congrArg _ ?_
  blk_ext [index17]
theorem index18 : ∀ t : Fin cfg3.N, win3_18.index t = ![0, 0] := (by decide +kernel : ∀ t : Fin grid3.N, win3_18.index t = ![0, 0])
theorem iblk_18 (c : Dev nD) (t : Fin cfg3.N) : (iblk V c 18 t : S256x1.Idx → EReal) = V c (Proc.devRef .tc main_v12) := by
  funext y
  obtain ⟨i, l, rfl⟩ : ∃ (i : Fin 256) (l : Fin 1), y = ix2 i l := ⟨y 0, y 1, eq_ix2 (n0 := 256) (n1 := 1) y⟩
  blk_simp [iblk]
  refine congrArg _ ?_
  blk_ext [index18]
theorem index19 : ∀ t : Fin cfg3.N, win3_19.index t = ![0, 0] := (by decide +kernel : ∀ t : Fin grid3.N, win3_19.index t = ![0, 0])
theorem iblk_19 (c : Dev nD) (t : Fin cfg3.N) : (iblk V c 19 t : S512x256.Idx → EReal) = V c (Proc.devRef .tc main_arg14) := by
  funext y
  obtain ⟨i, l, rfl⟩ : ∃ (i : Fin 512) (l : Fin 256), y = ix2 i l := ⟨y 0, y 1, eq_ix2 (n0 := 512) (n1 := 256) y⟩
  blk_simp [iblk]
  refine congrArg _ ?_
  blk_ext [index19]
theorem index20 : ∀ t : Fin cfg3.N, win3_20.index t = ![0, 0] := (by decide +kernel : ∀ t : Fin grid3.N, win3_20.index t = ![0, 0])
theorem iblk_20 (c : Dev nD) (t : Fin cfg3.N) : (iblk V c 20 t : S512x1.Idx → EReal) = V c (Proc.devRef .tc main_v13) := by
  funext y
  obtain ⟨i, l, rfl⟩ : ∃ (i : Fin 512) (l : Fin 1), y = ix2 i l := ⟨y 0, y 1, eq_ix2 (n0 := 512) (n1 := 1) y⟩
  blk_simp [iblk]
  refine congrArg _ ?_
  blk_ext [index20]

theorem index21 : ∀ t : Fin cfg3.N, win3_21.index t = ![t.val / 8, 0, t.val % 8] :=
  (by decide +kernel : ∀ t : Fin grid3.N, win3_21.index t = ![t.val / 8, 0, t.val % 8])

/-- The array of scores. -/
def arr (c : Dev nD) : S8x512x8192.Idx → EReal := fun i => Q V c (i 1) (colOf (i 0) (i 2))

theorem score_eq (c : Dev nD) : (dat V c).arrAt 21 cfg3.N = arr V c := by
  refine (dat V c).arrAt_eq_of_covers 21 _ (by decide +kernel) fun t hf y => ?_
  blk_simp
  have ht : t.val < 64 := t.isLt
  rw [after3_21]
  unfold out3_21
  obtain ⟨u, j, l, rfl⟩ : ∃ (u : Fin 1) (j : Fin 512) (l : Fin 1024), y = ix3 u j l :=
    ⟨y 0, y 1, y 2, eq_ix3 (n0 := 1) (n1 := 512) (n2 := 1024) y⟩
  obtain rfl : u = 0 := Subsingleton.elim _ _
  have hl : t.val * 1024 + l.val < 65536 := by omega
  have e : (win3_21.blk t).view.emb (ix3 (0 : Fin 1) j l) =
      (ix3 (⟨t.val / 8, by omega⟩ : Fin 8) j (⟨t.val % 8 * 1024 + l.val, by omega⟩ : Fin 8192) : S8x512x8192.Idx) := by
    blk_ext [index21]
  refine Eq.trans ?_ (congrArg (arr V c) e).symm
  frame_out
  refine (pay3b _ _ _ _ _ _ _ _ _ _ _ _ _ j l).trans ?_
  simp only [mat, pay3a]
  rw [iblk_1, iblk_2, iblk_3, iblk_4, iblk_5, iblk_6, iblk_7, iblk_8, iblk_9, iblk_10, iblk_11, iblk_12, iblk_13, iblk_14, iblk_15, iblk_16, iblk_17, iblk_18, iblk_19, iblk_20]
  simp only [mat, iblk_0 V c t _ l hl]
  show Q V c j ⟨t.val * 1024 + l.val, hl⟩ = Q V c j _
  refine congrArg (Q V c j) (Fin.ext ?_)
  show t.val * 1024 + l.val = t.val / 8 * 8192 + (t.val % 8 * 1024 + l.val)
  omega

end Cert.Proof.KernelRun.Score

end
-- ==== Proof.KernelNet.lean ====
/-
  The kernel's scores: the arrays its score calls pass on are the statistics of the network's layers, and the scores are the
  network's.
-/
module

public import proofs.«01_k».proof.Proof.KernelArgs
public import proofs.«01_k».proof.Proof.Net
public import proofs.«01_k».proof.Proof.Stat0Value
public import proofs.«01_k».proof.Proof.Stat1Value
public import proofs.«01_k».proof.Proof.Stat2Value
public import proofs.«01_k».proof.Proof.ScoreValue

@[expose] public section

set_option maxRecDepth 16384

noncomputable section

namespace Cert.Proof.KernelRun

open Cert.KernelIdeal Cert.KernelIdeal.Gen Cert.Proof.Layers
open Idealize.ShloMosaic Idealize.ShloMosaic.TcCoe Idealize.ShloMosaic.Tactic
open Idealize.ShloMosaic.StableHlo
open Idealize.ShloMosaic.Pipeline

variable (m : (ℓ : Loc nD τ sig) → Buf (Elt Ideal) ℓ) (c : Dev nD)

/-- The weights the kernel's program starts from. -/
def weights : Weights :=
  ⟨m ((c.tc : Thread nD τ).loc main_arg0), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

/-! ## What the host prepares -/

theorem pad_zero : (FloatOps.sitofp (F := Ideal) FTy.f32 (0#32 : BitVec 32)) = (0 : EReal) := by
  show (((0#32 : BitVec 32).toInt : ℝ) : EReal) = 0
  simp
theorem pad_x (a : Vec Ideal S8x8192x3 .f32) (z : Vec Ideal S_ .f32) (k : Fin 8) (n : Fin 65536) :
    pad S8x65536 ![0, 0] ![5, 0] ![0, 0] (transpose S3x65536 [1, 0] (shapeCast S65536x3 a shapeCasts_S8x8192x3_S65536x3) transposes_S65536x3_S3x65536_1_0)
      z pads_S3x65536_S8x65536_050_000 h_S_ (ix2 k n)
      = if h : k.val < 3 then a (ix3 (⟨n.val / 8192, by omega⟩ : Fin 8) (⟨n.val % 8192, by omega⟩ : Fin 8192) (⟨k.val, h⟩ : Fin 3)) else z (Shape.Idx.first h_S_) := by
  pointwise
theorem pad_w (a : Vec Ideal S32x3 .f32) (z : Vec Ideal S_ .f32) (j : Fin 32) (k : Fin 8) :
    pad S32x8 ![0, 0] ![0, 5] ![0, 0] a z pads_S32x3_S32x8_000_050 h_S_ (ix2 j k)
      = if h : k.val < 3 then a (ix2 j (⟨k.val, h⟩ : Fin 3)) else z (Shape.Idx.first h_S_) := by
  pointwise

theorem E0_v2 (k : Fin 8) (n : Fin 65536) :
    E0 m c (Proc.devRef .tc main_v2) (ix2 k n) = if h : k.val < 3 then (weights m c).x ⟨k.val, h⟩ n else (0 : EReal) := by
  have e : E0 m c (Proc.devRef .tc main_v2) = pad S8x65536 ![0, 0] ![5, 0] ![0, 0]
      (transpose S3x65536 [1, 0] (shapeCast S65536x3 (m ((c.tc : Thread nD τ).loc main_arg0)) shapeCasts_S8x8192x3_S65536x3) transposes_S65536x3_S3x65536_1_0)
      (sitofp (F := Ideal) .f32 (constantI S_ 32 0#32)) pads_S3x65536_S8x65536_050_000 h_S_ := by
    unfold E0 opsA
    after_results
    rfl
  refine (congrFun e (ix2 k n)).trans ((pad_x _ _ k n).trans ?_)
  rw [show sitofp (F := Ideal) .f32 (constantI S_ 32 0#32) (Shape.Idx.first h_S_) = (0 : EReal) from pad_zero]
  rfl
theorem E0_v3 (j : Fin 32) (k : Fin 8) :
    E0 m c (Proc.devRef .tc main_v3) (ix2 j k) = if h : k.val < 3 then (weights m c).a2 (ix2 j (⟨k.val, h⟩ : Fin 3)) else (0 : EReal) := by
  have e : E0 m c (Proc.devRef .tc main_v3) = pad S32x8 ![0, 0] ![0, 5] ![0, 0]
      (show S32x3.Idx → EReal from m ((c.tc : Thread nD τ).loc main_arg2))
      (sitofp (F := Ideal) .f32 (constantI S_ 32 0#32)) pads_S32x3_S32x8_000_050 h_S_ := by
    unfold E0 opsA
    after_results
    rfl
  refine (congrFun e (ix2 j k)).trans ((pad_w _ _ j k).trans ?_)
  rw [show sitofp (F := Ideal) .f32 (constantI S_ 32 0#32) (Shape.Idx.first h_S_) = (0 : EReal) from pad_zero]
  rfl
theorem E0_v4 (j : Fin 32) : E0 m c (Proc.devRef .tc main_v4) (ix2 j (0 : Fin 1)) = (weights m c).a3 (ix1 j) := by
  unfold E0 opsA
  after_results
  pointwise
  rfl
theorem E0_v5 (j : Fin 32) : E0 m c (Proc.devRef .tc main_v5) (ix2 j (0 : Fin 1)) = (weights m c).a4 (ix1 j) := by
  unfold E0 opsA
  after_results
  pointwise
  rfl
theorem E0_v6 (j : Fin 32) : E0 m c (Proc.devRef .tc main_v6) (ix2 j (0 : Fin 1)) = (weights m c).a5 (ix1 j) := by
  unfold E0 opsA
  after_results
  pointwise
  rfl
theorem E0_v7 (j : Fin 64) : E0 m c (Proc.devRef .tc main_v7) (ix2 j (0 : Fin 1)) = (weights m c).a7 (ix1 j) := by
  unfold E0 opsA
  after_results
  pointwise
  rfl
theorem E0_v8 (j : Fin 64) : E0 m c (Proc.devRef .tc main_v8) (ix2 j (0 : Fin 1)) = (weights m c).a8 (ix1 j) := by
  unfold E0 opsA
  after_results
  pointwise
  rfl
theorem E0_v9 (j : Fin 64) : E0 m c (Proc.devRef .tc main_v9) (ix2 j (0 : Fin 1)) = (weights m c).a9 (ix1 j) := by
  unfold E0 opsA
  after_results
  pointwise
  rfl
theorem E0_v10 (j : Fin 256) : E0 m c (Proc.devRef .tc main_v10) (ix2 j (0 : Fin 1)) = (weights m c).a11 (ix1 j) := by
  unfold E0 opsA
  after_results
  pointwise
  rfl
theorem E0_v11 (j : Fin 256) : E0 m c (Proc.devRef .tc main_v11) (ix2 j (0 : Fin 1)) = (weights m c).a12 (ix1 j) := by
  unfold E0 opsA
  after_results
  pointwise
  rfl
theorem E0_v12 (j : Fin 256) : E0 m c (Proc.devRef .tc main_v12) (ix2 j (0 : Fin 1)) = (weights m c).a13 (ix1 j) := by
  unfold E0 opsA
  after_results
  pointwise
  rfl
theorem E0_v13 (j : Fin 512) : E0 m c (Proc.devRef .tc main_v13) (ix2 j (0 : Fin 1)) = (weights m c).a15 (ix1 j) := by
  unfold E0 opsA
  after_results
  pointwise
  rfl

/-! ## What each call leaves as it was -/

/-- The prepared arrays and the weights the calls read whole. -/
def prep : List (Ref sig .tc) := [main_v2, main_v3, main_v4, main_v5, main_v6, main_v7, main_v8, main_v9, main_v10, main_v11, main_v12, main_v13, main_arg6, main_arg10, main_arg14]

theorem prep_in (b : Ref sig .tc) (h : b ∈ prep) :
    (∀ w, arrRef spec0 w = b → (cfg0.win w).isOut = false) ∧ (∀ w, arrRef spec1 w = b → (cfg1.win w).isOut = false)
    ∧ (∀ w, arrRef spec2 w = b → (cfg2.win w).isOut = false) := by
  revert b; decide

theorem E1_prep (b : Ref sig .tc) (h : b ∈ prep) : E1 m c (Proc.devRef .tc b) = E0 m c (Proc.devRef .tc b) :=
  afterRegion_keeps _ _ inj0 (Stat0.A_eq (E0 m) c) b (prep_in b h).1
theorem E2_prep (b : Ref sig .tc) (h : b ∈ prep) : E2 m c (Proc.devRef .tc b) = E0 m c (Proc.devRef .tc b) :=
  (afterRegion_keeps _ _ inj1 (Stat1.A_eq (E1 m) c) b (prep_in b h).2.1).trans (E1_prep m c b h)
theorem E3_prep (b : Ref sig .tc) (h : b ∈ prep) : E3 m c (Proc.devRef .tc b) = E0 m c (Proc.devRef .tc b) :=
  (afterRegion_keeps _ _ inj2 (Stat2.A_eq (E2 m) c) b (prep_in b h).2.2).trans (E2_prep m c b h)

/-! ## The layers -/

/-- Five columns of zeros add nothing to a sum of three products. -/
theorem lin_pad {w : Fin 32 → Fin 8 → EReal} {b b' : Fin 32 → EReal} {x : Fin 8 → EReal} {w' : Fin 32 → Fin 3 → EReal} {x' : Fin 3 → EReal}
    (hw : ∀ j k, w j k = if h : k.val < 3 then w' j ⟨k.val, h⟩ else 0) (hb : ∀ j, b j = b' j)
    (hx : ∀ k, x k = if h : k.val < 3 then x' ⟨k.val, h⟩ else 0) (j : Fin 32) : lin w b x j = lin w' b' x' j := by
  unfold lin
  simp only [hw, hx, hb]
  rw [Fin.sum_univ_eight, Fin.sum_univ_three]
  simp

/-- Every column's first layer: the padding adds nothing. -/
theorem first_layer : layer (mat (E0 m c (Proc.devRef .tc main_v3))) (col (E0 m c (Proc.devRef .tc main_v4))) (mat (E0 m c (Proc.devRef .tc main_v2)))
    = (weights m c).y0 := by
  funext j n
  exact lin_pad (fun j k => E0_v3 m c j k) (fun j => E0_v4 m c j) (fun k => E0_v2 m c k n) j

theorem stat0_Y : Stat0.Y (E0 m) c = (weights m c).y0 := first_layer m c

theorem E1_mean : col (E1 m c (Proc.devRef .tc main_v14_0)) = meanOf (weights m c).y0 := by
  rw [show E1 m c (Proc.devRef .tc main_v14_0) = _ from afterRegion_arr (Stat0.dat (E0 m) c) (E0 m c) inj0 3, Stat0.mean_eq, stat0_Y]
  rfl
theorem E1_var : col (E1 m c (Proc.devRef .tc main_v14_1)) = varOf (weights m c).y0 := by
  rw [show E1 m c (Proc.devRef .tc main_v14_1) = _ from afterRegion_arr (Stat0.dat (E0 m) c) (E0 m c) inj0 4, Stat0.var_eq, stat0_Y]
  rfl

theorem E0_col_v5 : col (E0 m c (Proc.devRef .tc main_v5)) = Weights.vec (weights m c).a4 := funext fun j => E0_v5 m c j
theorem E0_col_v6 : col (E0 m c (Proc.devRef .tc main_v6)) = Weights.vec (weights m c).a5 := funext fun j => E0_v6 m c j
theorem E0_col_v7 : col (E0 m c (Proc.devRef .tc main_v7)) = Weights.vec (weights m c).a7 := funext fun j => E0_v7 m c j
theorem E0_col_v8 : col (E0 m c (Proc.devRef .tc main_v8)) = Weights.vec (weights m c).a8 := funext fun j => E0_v8 m c j
theorem E0_col_v9 : col (E0 m c (Proc.devRef .tc main_v9)) = Weights.vec (weights m c).a9 := funext fun j => E0_v9 m c j
theorem E0_col_v10 : col (E0 m c (Proc.devRef .tc main_v10)) = Weights.vec (weights m c).a11 := funext fun j => E0_v10 m c j
theorem E0_col_v11 : col (E0 m c (Proc.devRef .tc main_v11)) = Weights.vec (weights m c).a12 := funext fun j => E0_v11 m c j
theorem E0_col_v12 : col (E0 m c (Proc.devRef .tc main_v12)) = Weights.vec (weights m c).a13 := funext fun j => E0_v12 m c j
theorem E0_col_v13 : col (E0 m c (Proc.devRef .tc main_v13)) = Weights.vec (weights m c).a15 := funext fun j => E0_v13 m c j
theorem E0_mat_arg6 : mat (E0 m c (Proc.devRef .tc main_arg6)) = mat (weights m c).a6 := by rw [E0_arg m c main_arg6 (by decide)]; rfl
theorem E0_mat_arg10 : mat (E0 m c (Proc.devRef .tc main_arg10)) = mat (weights m c).a10 := by rw [E0_arg m c main_arg10 (by decide)]; rfl
theorem E0_mat_arg14 : mat (E0 m c (Proc.devRef .tc main_arg14)) = mat (weights m c).a14 := by rw [E0_arg m c main_arg14 (by decide)]; rfl

theorem stat1_Y : Stat1.Y (E1 m) c = (weights m c).y1 := by
  funext j n
  unfold Stat1.Y
  rw [E1_prep m c main_v2 (by decide), E1_prep m c main_v3 (by decide), E1_prep m c main_v4 (by decide), E1_prep m c main_v5 (by decide), E1_prep m c main_v6 (by decide), E1_prep m c main_arg6 (by decide), E1_prep m c main_v7 (by decide),
    E1_mean, E1_var, E0_col_v5, E0_col_v6, E0_col_v7, E0_mat_arg6]
  unfold Weights.y1
  rw [← first_layer]
  rfl

theorem E2_mean : col (E2 m c (Proc.devRef .tc main_v15_0)) = meanOf (weights m c).y1 := by
  rw [show E2 m c (Proc.devRef .tc main_v15_0) = _ from afterRegion_arr (Stat1.dat (E1 m) c) (E1 m c) inj1 9, Stat1.mean_eq, stat1_Y]
  rfl
theorem E2_var : col (E2 m c (Proc.devRef .tc main_v15_1)) = varOf (weights m c).y1 := by
  rw [show E2 m c (Proc.devRef .tc main_v15_1) = _ from afterRegion_arr (Stat1.dat (E1 m) c) (E1 m c) inj1 10, Stat1.var_eq, stat1_Y]
  rfl
theorem E2_mean0 : col (E2 m c (Proc.devRef .tc main_v14_0)) = meanOf (weights m c).y0 := by
  rw [show E2 m c (Proc.devRef .tc main_v14_0) = _ from afterRegion_keeps _ _ inj1 (Stat1.A_eq (E1 m) c) main_v14_0 (by decide), E1_mean]
theorem E2_var0 : col (E2 m c (Proc.devRef .tc main_v14_1)) = varOf (weights m c).y0 := by
  rw [show E2 m c (Proc.devRef .tc main_v14_1) = _ from afterRegion_keeps _ _ inj1 (Stat1.A_eq (E1 m) c) main_v14_1 (by decide), E1_var]

theorem stat2_Y : Stat2.Y (E2 m) c = (weights m c).y2 := by
  funext j n
  unfold Stat2.Y
  rw [E2_prep m c main_v2 (by decide), E2_prep m c main_v3 (by decide), E2_prep m c main_v4 (by decide), E2_prep m c main_v5 (by decide), E2_prep m c main_v6 (by decide), E2_prep m c main_arg6 (by decide), E2_prep m c main_v7 (by decide), E2_prep m c main_v8 (by decide), E2_prep m c main_v9 (by decide), E2_prep m c main_arg10 (by decide), E2_prep m c main_v10 (by decide),
    E2_mean0, E2_var0, E2_mean, E2_var, E0_col_v5, E0_col_v6, E0_col_v7, E0_col_v8, E0_col_v9, E0_col_v10, E0_mat_arg6, E0_mat_arg10]
  unfold Weights.y2 Weights.y1
  rw [← first_layer]
  rfl

theorem E3_mean : col (E3 m c (Proc.devRef .tc main_v16_0)) = meanOf (weights m c).y2 := by
  rw [show E3 m c (Proc.devRef .tc main_v16_0) = _ from afterRegion_arr (Stat2.dat (E2 m) c) (E2 m c) inj2 15, Stat2.mean_eq, stat2_Y]
  rfl
theorem E3_var : col (E3 m c (Proc.devRef .tc main_v16_1)) = varOf (weights m c).y2 := by
  rw [show E3 m c (Proc.devRef .tc main_v16_1) = _ from afterRegion_arr (Stat2.dat (E2 m) c) (E2 m c) inj2 16, Stat2.var_eq, stat2_Y]
  rfl
theorem E3_mean0 : col (E3 m c (Proc.devRef .tc main_v14_0)) = meanOf (weights m c).y0 := by
  rw [show E3 m c (Proc.devRef .tc main_v14_0) = _ from afterRegion_keeps _ _ inj2 (Stat2.A_eq (E2 m) c) main_v14_0 (by decide), E2_mean0]
theorem E3_var0 : col (E3 m c (Proc.devRef .tc main_v14_1)) = varOf (weights m c).y0 := by
  rw [show E3 m c (Proc.devRef .tc main_v14_1) = _ from afterRegion_keeps _ _ inj2 (Stat2.A_eq (E2 m) c) main_v14_1 (by decide), E2_var0]
theorem E3_mean1 : col (E3 m c (Proc.devRef .tc main_v15_0)) = meanOf (weights m c).y1 := by
  rw [show E3 m c (Proc.devRef .tc main_v15_0) = _ from afterRegion_keeps _ _ inj2 (Stat2.A_eq (E2 m) c) main_v15_0 (by decide), E2_mean]
theorem E3_var1 : col (E3 m c (Proc.devRef .tc main_v15_1)) = varOf (weights m c).y1 := by
  rw [show E3 m c (Proc.devRef .tc main_v15_1) = _ from afterRegion_keeps _ _ inj2 (Stat2.A_eq (E2 m) c) main_v15_1 (by decide), E2_var]

/-- The kernel's scores are the network's. -/
theorem score_Q : Score.Q (E3 m) c = (weights m c).scores := by
  funext j n
  unfold Score.Q
  rw [E3_prep m c main_v2 (by decide), E3_prep m c main_v3 (by decide), E3_prep m c main_v4 (by decide), E3_prep m c main_v5 (by decide), E3_prep m c main_v6 (by decide), E3_prep m c main_arg6 (by decide), E3_prep m c main_v7 (by decide), E3_prep m c main_v8 (by decide), E3_prep m c main_v9 (by decide), E3_prep m c main_arg10 (by decide), E3_prep m c main_v10 (by decide), E3_prep m c main_v11 (by decide), E3_prep m c main_v12 (by decide), E3_prep m c main_arg14 (by decide), E3_prep m c main_v13 (by decide),
    E3_mean0, E3_var0, E3_mean1, E3_var1, E3_mean, E3_var, E0_col_v5, E0_col_v6, E0_col_v7, E0_col_v8, E0_col_v9, E0_col_v10, E0_col_v11,
    E0_col_v12, E0_col_v13, E0_mat_arg6, E0_mat_arg10, E0_mat_arg14]
  unfold Weights.scores Weights.y2 Weights.y1
  rw [← first_layer]
  rfl

/-- The rows the selection reads: row `512 b + s` is the network's row `s` of scores at batch `b`. -/
theorem E5_v18 (R : Fin 4096) (j : Fin 8192) : E5 m c (Proc.devRef .tc main_v18) (ix2 R j)
    = (weights m c).scores ⟨R.val % 512, by omega⟩ (colOf ⟨R.val / 512, by omega⟩ j) := by
  have e : E4 m c (Proc.devRef .tc main_v17) = Score.arr (E3 m) c :=
    (afterRegion_arr (Score.dat (E3 m) c) (E3 m c) inj3 21).trans (Score.score_eq (E3 m) c)
  unfold E5 opsM
  after_results
  rw [e]
  pointwise
  unfold Score.arr
  rw [score_Q]
  rfl

end Cert.Proof.KernelRun

end
-- ==== Proof.RefLayers.lean ====
/-
  The reference's stages at coordinates, as the layers of the network over all columns.
-/
module

public import proofs.«01_k».proof.Proof.ReferenceRun
public import proofs.«01_k».proof.Proof.Net
public import Idealize.ShloMosaic.Lib.Pipeline.ValueKit.Acc

@[expose] public section

set_option maxRecDepth 16384

noncomputable section

namespace Cert.Proof.RefRun

open Cert.ReferenceIdeal Cert.ReferenceIdeal.Gen Cert.Proof.Layers
open Idealize.ShloMosaic Idealize.ShloMosaic.TcCoe Idealize.ShloMosaic.Tactic

/-- A batched array holds the matrix `Y`, batch `u`'s position `i` at its column. -/
def Holds {o : ℕ} (y : (⟨3, ![8, o, 8192]⟩ : Shape).Idx → EReal) (Y : Fin o → Fin 65536 → EReal) : Prop :=
  ∀ (u : Fin 8) (j : Fin o) (i : Fin 8192), y (ix3 u j i) = Y j (colOf u i)

/-- The host's sum over the batch and the position is the sum over all columns. -/
theorem sum_cols {o : ℕ} (h : (⟨3, ![8, o, 8192]⟩ : Shape).ReducesTo [0, 2] (⟨1, ![o]⟩ : Shape))
    (y : (⟨3, ![8, o, 8192]⟩ : Shape).Idx → EReal) (Y : Fin o → Fin 65536 → EReal) (hy : Holds y Y) (j : Fin o) :
    Ideal.hostReduceAdd h y 0 (ix1 j) = ∑ n, Y j n := by
  unfold Ideal.hostReduceAdd
  rw [zero_add, Finset.sum_filter, sum_idx3]
  have hd : ∀ (u : Fin 8) (k : Fin o) (i : Fin 8192), h.drop (ix3 u k i) = ix1 j ↔ k = j := by
    intro u k i
    constructor
    · intro e
      have e0 := congrArg Fin.val (congrFun e 0)
      rw [Shape.ReducesTo.drop_apply_val] at e0
      exact Fin.ext e0
    · rintro rfl
      funext b
      obtain rfl : b = 0 := Subsingleton.elim _ _
      refine Fin.ext ?_
      rw [Shape.ReducesTo.drop_apply_val]
      rfl
  simp only [hd]
  refine Eq.trans (Finset.sum_congr rfl fun u _ => ?_) (Fin.sum_mul_add_fin 8 8192 (fun n => Y j n))
  rw [Finset.sum_comm]
  refine Finset.sum_congr rfl fun i _ => ?_
  rw [Finset.sum_ite_eq' Finset.univ j, if_pos (Finset.mem_univ j), hy]
  rfl

theorem conv0_holds (x : Vec Ideal S8x8192x3 .f32) (w : Vec Ideal S32x3 .f32) (b : Vec Ideal S32 .f32) (X : Fin 3 → Fin 65536 → EReal)
    (hx : ∀ u i k, x (ix3 u i k) = X k (colOf u i)) : Holds (conv0 x w b) (layer (mat w) (fun j => b (ix1 j)) X) := by
  intro u j i
  unfold conv0 layer lin mat
  pointwise
  exact congrArg (· + _) (Finset.sum_congr rfl fun k _ => by rw [hx, mul_comm])

theorem mean0_apply (y : Vec Ideal S8x32x8192 .f32) (Y : Fin 32 → Fin 65536 → EReal) (hy : Holds y Y) (j : Fin 32) :
    mean0 y (ix3 (0 : Fin 1) j (0 : Fin 1)) = Ideal.div (∑ n, Y j n) big := by
  unfold mean0
  pointwise
  rw [sum_cols _ y Y hy]
  rfl

theorem norm0_holds (y : Vec Ideal S8x32x8192 .f32) (g be : Vec Ideal S32 .f32) (Y : Fin 32 → Fin 65536 → EReal)
    (hy : Holds y Y) (hY : ∀ j n, IsReal (Y j n)) :
    Holds (norm0 y g be) (normed (fun j => g (ix1 j)) (fun j => be (ix1 j)) Y) := by
  intro u j i
  have hc : Holds (mulf (cent0 y) (cent0 y)) (fun j n => (Y j n - Ideal.div (∑ n, Y j n) big) * (Y j n - Ideal.div (∑ n, Y j n) big)) := by
    intro u j i
    unfold cent0
    pointwise
    rw [mean0_apply y Y hy, hy]
  unfold norm0
  pointwise
  rw [mean0_apply _ _ hc, ← normed_about hY]
  unfold cent0
  pointwise
  rw [mean0_apply y Y hy, hy]
  rfl

theorem conv1_holds (x : Vec Ideal S8x32x8192 .f32) (w : Vec Ideal S64x32 .f32) (b : Vec Ideal S64 .f32)
    (X : Fin 32 → Fin 65536 → EReal) (hx : Holds x X) : Holds (conv1 x w b) (layer (mat w) (fun j => b (ix1 j)) X) := by
  intro u j i
  unfold conv1 layer lin mat
  pointwise
  exact congrArg (· + _) (Finset.sum_congr rfl fun k _ => by rw [hx, mul_comm])

theorem mean1_apply (y : Vec Ideal S8x64x8192 .f32) (Y : Fin 64 → Fin 65536 → EReal) (hy : Holds y Y) (j : Fin 64) :
    mean1 y (ix3 (0 : Fin 1) j (0 : Fin 1)) = Ideal.div (∑ n, Y j n) big := by
  unfold mean1
  pointwise
  rw [sum_cols _ y Y hy]
  rfl

theorem norm1_holds (y : Vec Ideal S8x64x8192 .f32) (g be : Vec Ideal S64 .f32) (Y : Fin 64 → Fin 65536 → EReal)
    (hy : Holds y Y) (hY : ∀ j n, IsReal (Y j n)) :
    Holds (norm1 y g be) (normed (fun j => g (ix1 j)) (fun j => be (ix1 j)) Y) := by
  intro u j i
  have hc : Holds (mulf (cent1 y) (cent1 y)) (fun j n => (Y j n - Ideal.div (∑ n, Y j n) big) * (Y j n - Ideal.div (∑ n, Y j n) big)) := by
    intro u j i
    unfold cent1
    pointwise
    rw [mean1_apply y Y hy, hy]
  unfold norm1
  pointwise
  rw [mean1_apply _ _ hc, ← normed_about hY]
  unfold cent1
  pointwise
  rw [mean1_apply y Y hy, hy]
  rfl

theorem conv2_holds (x : Vec Ideal S8x64x8192 .f32) (w : Vec Ideal S256x64 .f32) (b : Vec Ideal S256 .f32)
    (X : Fin 64 → Fin 65536 → EReal) (hx : Holds x X) : Holds (conv2 x w b) (layer (mat w) (fun j => b (ix1 j)) X) := by
  intro u j i
  unfold conv2 layer lin mat
  pointwise
  exact congrArg (· + _) (Finset.sum_congr rfl fun k _ => by rw [hx, mul_comm])

theorem mean2_apply (y : Vec Ideal S8x256x8192 .f32) (Y : Fin 256 → Fin 65536 → EReal) (hy : Holds y Y) (j : Fin 256) :
    mean2 y (ix3 (0 : Fin 1) j (0 : Fin 1)) = Ideal.div (∑ n, Y j n) big := by
  unfold mean2
  pointwise
  rw [sum_cols _ y Y hy]
  rfl

theorem norm2_holds (y : Vec Ideal S8x256x8192 .f32) (g be : Vec Ideal S256 .f32) (Y : Fin 256 → Fin 65536 → EReal)
    (hy : Holds y Y) (hY : ∀ j n, IsReal (Y j n)) :
    Holds (norm2 y g be) (normed (fun j => g (ix1 j)) (fun j => be (ix1 j)) Y) := by
  intro u j i
  have hc : Holds (mulf (cent2 y) (cent2 y)) (fun j n => (Y j n - Ideal.div (∑ n, Y j n) big) * (Y j n - Ideal.div (∑ n, Y j n) big)) := by
    intro u j i
    unfold cent2
    pointwise
    rw [mean2_apply y Y hy, hy]
  unfold norm2
  pointwise
  rw [mean2_apply _ _ hc, ← normed_about hY]
  unfold cent2
  pointwise
  rw [mean2_apply y Y hy, hy]
  rfl

theorem conv3_holds (x : Vec Ideal S8x256x8192 .f32) (w : Vec Ideal S512x256 .f32) (b : Vec Ideal S512 .f32)
    (X : Fin 256 → Fin 65536 → EReal) (hx : Holds x X) : Holds (conv3 x w b) (layer (mat w) (fun j => b (ix1 j)) X) := by
  intro u j i
  unfold conv3 layer lin mat
  pointwise
  exact congrArg (· + _) (Finset.sum_congr rfl fun k _ => by rw [hx, mul_comm])

theorem sigm_apply (y : Vec Ideal S8x512x8192 .f32) (u : Fin 8) (j : Fin 512) (i : Fin 8192) :
    sigm y (ix3 u j i) = Ideal.logistic (y (ix3 u j i)) := by
  unfold sigm
  pointwise
  rfl

/-- The weights the reference's program starts from. -/
def weights (V : Valuation τ sig (Elt Ideal)) : Weights :=
  ⟨V (Proc.devRef .tc main_arg0), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15)⟩

theorem score_holds (V : Valuation τ sig (Elt Ideal)) (h : (weights V).Real) : Holds (score V) (weights V).scores := by
  intro u j i
  unfold score
  rw [sigm_apply]
  refine congrArg Ideal.logistic ?_
  exact conv3_holds _ _ _ _ (norm2_holds _ _ _ _ (conv2_holds _ _ _ _ (norm1_holds _ _ _ _ (conv1_holds _ _ _ _ (norm0_holds _ _ _ _
    (conv0_holds _ _ _ (weights V).x fun u i k => Weights.x_colOf (weights V) k u i) (Weights.y0_real h))) (Weights.y1_real h))) (Weights.y2_real h)) u j i

end Cert.Proof.RefRun

end
-- ==== Proof.Order.lean ====
/-
  The reference's order of the scores: a stable sort of the negated scores, so row by row the positions in decreasing order of
  score, equal scores in increasing order of position.
-/
module

public import proofs.«01_k».proof.Proof.ReferenceRun
public import proofs.«01_k».proof.Proof.TopkValue
public import Idealize.ShloMosaic.Lib.SortFacts
public import Idealize.ShloMosaic.Lib.Pointwise
public import Idealize.ShloMosaic.PureOps.Ideal.Laws

@[expose] public section

set_option maxRecDepth 16384

noncomputable section

namespace Cert.Proof.RefRun

open Cert.ReferenceIdeal Cert.ReferenceIdeal.Gen
open Cert.Proof.KernelRun.Topk (Ranked)
open Idealize.ShloMosaic Idealize.ShloMosaic.TcCoe

section Stable

variable {n : ℕ} (f : Fin n → EReal)

/-- Position `a` comes before position `b`: a larger entry, or an equal one further left. -/
def Above (a b : Fin n) : Prop := f b < f a ∨ (f b = f a ∧ a < b)

variable {f}

theorem Above.trans {a b c : Fin n} (h₁ : Above f a b) (h₂ : Above f b c) : Above f a c := by
  rcases h₁ with h₁ | ⟨e₁, h₁⟩ <;> rcases h₂ with h₂ | ⟨e₂, h₂⟩
  · exact .inl (h₂.trans h₁)
  · exact .inl (e₂ ▸ h₁)
  · exact .inl (e₁ ▸ h₂)
  · exact .inr ⟨e₂.trans e₁, h₁.trans h₂⟩

/-- Inserting a position left of all of an ordered list, past those with a larger entry, leaves the list ordered. -/
theorem pairwise_insert (a : Fin n) (l : List (Fin n)) (ha : ∀ b ∈ l, a < b) (hl : l.Pairwise (Above f)) :
    (insertBefore (fun k k' => decide (f k' < f k)) a l).Pairwise (Above f) := by
  induction l with
  | nil => exact List.pairwise_singleton _ _
  | cons b l ih =>
    obtain ⟨hb, hl'⟩ := List.pairwise_cons.mp hl
    unfold insertBefore
    by_cases h : f a < f b
    · rw [if_pos (decide_eq_true h)]
      refine List.pairwise_cons.mpr ⟨fun x hx => ?_, ih (fun x hx => ha x (List.mem_cons_of_mem _ hx)) hl'⟩
      rcases List.mem_cons.mp ((perm_insertBefore _ a l).mem_iff.mp hx) with rfl | hx
      · exact .inl h
      · exact hb x hx
    · rw [if_neg (by simpa using h)]
      have hab : Above f a b := (lt_or_eq_of_le (not_lt.mp h)).imp id fun e => ⟨e, ha b (List.mem_cons_self ..)⟩
      refine List.pairwise_cons.mpr ⟨fun x hx => ?_, hl⟩
      rcases List.mem_cons.mp hx with rfl | hx
      · exact hab
      · exact hab.trans (hb x hx)

theorem pairwise_sort (l : List (Fin n)) (hl : l.Pairwise (· < ·)) :
    (stableSort (fun k k' => decide (f k' < f k)) l).Pairwise (Above f) := by
  induction l with
  | nil => exact List.Pairwise.nil
  | cons a l ih =>
    obtain ⟨ha, hl'⟩ := List.pairwise_cons.mp hl
    unfold stableSort
    exact pairwise_insert a _ (fun b hb => ha b ((perm_stableSort _ l).mem_iff.mp hb)) (ih hl')

/-- The stable sort by "larger entry first" ranks the positions. -/
theorem ranked_sort : Ranked f (sortedFrom fun k k' => decide (f k' < f k)) where
  inj := sortedFrom_injective _
  surj := sortedFrom_surjective _
  order i j hij := List.pairwise_iff_get.mp (pairwise_sort (f := f) (List.finRange n) (List.pairwise_lt_finRange n)) _ _
    (show i.cast (length_sortPositions n _).symm < j.cast (length_sortPositions n _).symm from hij)

end Stable

/-- On the extended reals the sort's comparator is "less than" of the two keys. -/
theorem comparator_eq (a b : EReal) (x y : BitVec 32) :
    (comparator_f32_i32_d2 (F := Ideal) (a, x) (b, y) == 1#1) = decide (a < b) := by
  have z : ∀ a : EReal, (Scalar.select (FloatOps.cmpf (F := Ideal) (φ := .f32) .une a a) (FloatOps.ofBits .f32 0x7FC00000#32)
      (Scalar.select (FloatOps.cmpf (F := Ideal) (φ := .f32) .oeq a (FloatOps.ofBits .f32 0x00000000#32)) (FloatOps.ofBits .f32 0x00000000#32) a) : Ideal .f32) = a := by
    intro a
    have h0 : (FloatOps.ofBits .f32 0x00000000#32 : Ideal .f32) = (0 : EReal) := by
      show Ideal.ofBits .f32 0x00000000#32 = 0
      simp [Ideal.ofBits, Ideal.ieee]
    rw [h0]
    by_cases h : a = 0
    · subst h; simp [Ideal.cmpf_def, Ideal.cmp, Scalar.select]
    · simp [Ideal.cmpf_def, Ideal.cmp, Scalar.select, h]
  unfold comparator_f32_i32_d2
  simp only [z]
  rw [Ideal.cmpfTotal_def]
  by_cases h : a < b <;> simp [Ideal.cmp, CmpDirection.ordered, h]

/-- The ranking of row `j` of batch `u`. -/
def ranking (q : S8x512x8192.Idx → EReal) (u : Fin 8) (j : Fin 512) : Fin 8192 → Fin 8192 :=
  sortedFrom fun k k' => decide (q (ix3 u j k') < q (ix3 u j k))

theorem ranking_ranked (q : S8x512x8192.Idx → EReal) (u : Fin 8) (j : Fin 512) : Ranked (fun i => q (ix3 u j i)) (ranking q u j) :=
  ranked_sort

theorem order_apply (q : S8x512x8192.Idx → EReal) (u : Fin 8) (j : Fin 512) (i : Fin 8192) :
    order (F := Ideal) q (ix3 u j i) = BitVec.ofNat 32 (ranking q u j i).val := by
  have hal : ∀ k : Fin 8192, (ix3 u j i : S8x512x8192.Idx).along (2 : Fin 3) k = ix3 u j k := fun k => by
    funext a
    match a with
    | 0 => rfl
    | 1 => rfl
    | 2 => rfl
  have hb : (fun k k' : Fin 8192 => comparator_f32_i32_d2 (F := Ideal) (Host.negf (F := Ideal) (φ := .f32) q ((ix3 u j i : S8x512x8192.Idx).along (2 : Fin 3) k), iotaInDim S8x512x8192 32 2 ((ix3 u j i : S8x512x8192.Idx).along (2 : Fin 3) k)) (Host.negf (F := Ideal) (φ := .f32) q ((ix3 u j i : S8x512x8192.Idx).along (2 : Fin 3) k'), iotaInDim S8x512x8192 32 2 ((ix3 u j i : S8x512x8192.Idx).along (2 : Fin 3) k')) == 1#1)
      = fun k k' => decide (q (ix3 u j k') < q (ix3 u j k)) := by
    funext k k'
    rw [comparator_eq, hal, hal]
    exact decide_eq_decide.mpr EReal.neg_lt_neg_iff
  unfold order Host.sort2
  rw [dif_pos (by decide)]
  refine (congrArg (fun B : Fin 8192 → Fin 8192 → Bool =>
    iotaInDim S8x512x8192 32 2 ((ix3 u j i : S8x512x8192.Idx).along (2 : Fin 3) (sortedFrom B i))) hb).trans ?_
  show iotaInDim S8x512x8192 32 2 ((ix3 u j i : S8x512x8192.Idx).along (2 : Fin 3) (ranking q u j i)) = _
  rw [hal]
  rfl

end Cert.Proof.RefRun

end
-- ==== Proof.Whole.lean ====
/-
  The whole kernel's six results and the whole reference's: the row numbers the kernel selects are the reference's first
  sixty-four of each row, and the two gathered arrays are the reference's.
-/
module

public import proofs.«01_k».proof.Proof.GatherValue
public import proofs.«01_k».proof.Proof.KernelNet
public import proofs.«01_k».proof.Proof.TopkArray
public import proofs.«01_k».proof.Proof.RefLayers
public import proofs.«01_k».proof.Proof.Order

@[expose] public section

set_option maxRecDepth 16384

noncomputable section

namespace Cert.Proof.KernelRun

open Cert.KernelIdeal Cert.KernelIdeal.Gen Cert.Proof.Layers
open Cert.Proof.GatherRun (tableOf flatOf featOut coordOut table_feat table_coord featOut_apply coordOut_apply batchRows batchRows_apply first_coord)
open Cert.Proof.RefRun (Holds ranking ranking_ranked order order_apply first rows coordOf featOf)
open Idealize.ShloMosaic Idealize.ShloMosaic.TcCoe Idealize.ShloMosaic.Tactic
open Idealize.ShloMosaic.StableHlo
open Idealize.ShloMosaic.Pipeline

/-! ## The row numbers -/

/-- The ranking of row `R` of the scores laid out flat. -/
def rankOf (q : S8x512x8192.Idx → EReal) (R : Fin 4096) : Fin 8192 → Fin 8192 :=
  ranking q ⟨R.val / 512, by omega⟩ ⟨R.val % 512, by omega⟩

theorem rankOf_row (q : S8x512x8192.Idx → EReal) (u : Fin 8) (s : Fin 512) (h : u.val * 512 + s.val < 4096) :
    rankOf q ⟨u.val * 512 + s.val, h⟩ = ranking q u s := by
  unfold rankOf
  congr 1 <;> apply Fin.ext <;> simp only [] <;> omega

theorem want_toNat (π : Fin 4096 → Fin 8192 → Fin 8192) (R : Fin 4096) (k : Fin 64) :
    (Topk.want π (ix2 R k)).toNat = (π R (Fin.castLE (by decide) k)).val + R.val / 512 * 8192 := by
  show (BitVec.ofNat 32 ((π R (Fin.castLE (by decide) k)).val + R.val / 512 * 8192)).toNat = _
  rw [BitVec.toNat_ofNat]
  have := (π R (Fin.castLE (by decide) k)).isLt
  omega

/-- A small row number is not negative. -/
theorem slt_zero (n : ℕ) (h : n < 8192) : IntOp.cmpi .slt (BitVec.ofNat 32 n) 0#32 = 0#1 := by
  have : ¬ IntOp.cmpi .slt (BitVec.ofNat 32 n) 0#32 = 1#1 := by
    simp only [IntOp.cmpi, BitVec.slt_eq_decide, BitVec.toInt_eq_toNat_cond, BitVec.toNat_ofNat]
    rw [decide_eq_false (by omega)]
    decide
  exact (BitVec.eq_zero_or_eq_one _).resolve_right this

/-- The reference's row number for slot `k` is the `k`-th position of the row's ranking. -/
theorem rows_apply (q : S8x512x8192.Idx → EReal) (u : Fin 8) (s : Fin 512) (k : Fin 64) :
    (rows (F := Ideal) (first (F := Ideal) (order (F := Ideal) q)) (ix4 u s k 0)).toInt.toNat = (ranking q u s (Fin.castLE (by decide) k)).val := by
  have e : first (F := Ideal) (order (F := Ideal) q) (ix3 u s k) = BitVec.ofNat 32 (ranking q u s (Fin.castLE (by decide) k)).val := by
    refine Eq.trans ?_ (order_apply q u s (Fin.castLE (by decide) k))
    unfold first
    pointwise
    rfl
  unfold rows
  pointwise
  rw [e]
  generalize hn : (ranking q u s (Fin.castLE (by decide) k)).val = n
  have hlt : n < 8192 := hn ▸ (ranking q u s (Fin.castLE (by decide) k)).isLt
  rw [slt_zero n hlt]
  show (BitVec.ofNat 32 n).toInt.toNat = n
  rw [BitVec.toInt_eq_toNat_cond, BitVec.toNat_ofNat]
  omega

/-! ## The two gathered arrays -/

theorem ix3_congr {C : ℕ} {a a' : Fin 8} {b b' : Fin 8192} (ha : a = a') (hb : b = b') (c : Fin C) :
    (ix3 a b c : (⟨3, ![8, 8192, C]⟩ : Shape).Idx) = ix3 a' b' c := by rw [ha, hb]

theorem feat_eq (a0 : S8x8192x3.Idx → EReal) (a1 : S8x8192x64.Idx → EReal) (q : S8x512x8192.Idx → EReal) :
    featOut (F := Ideal) (Cert.Proof.GatherRun.gath (tableOf (F := Ideal) a0 a1) (flatOf (F := Ideal) (Topk.want (rankOf q))))
      = featOf (F := Ideal) a1 (first (F := Ideal) (order (F := Ideal) q)) := by
  funext j
  idx_vars j
  generalize j0 = u; generalize j1 = s; generalize j2 = k; generalize j3 = c
  rw [featOut_apply]
  refine (table_feat (F := Ideal) a0 a1 _ _ c.isLt).trans ?_
  refine Eq.trans ?_ (batchRows_apply 64 _ a1 (rows (F := Ideal) (first (F := Ideal) (order (F := Ideal) q))) u s k c).symm
  have hl := rows_apply q u s k
  have hw := want_toNat (rankOf q) ⟨u.val * 512 + s.val, by omega⟩ k
  rw [rankOf_row] at hw
  have hr := (ranking q u s (Fin.castLE (by decide) k)).isLt
  simp only [] at hw
  refine congrArg a1 (ix3_congr (Fin.ext ?_) (Fin.ext ?_) c)
  · simp only [hw]; omega
  · simp only [hl, hw]; omega

theorem coord_eq (a0 : S8x8192x3.Idx → EReal) (a1 : S8x8192x64.Idx → EReal) (q : S8x512x8192.Idx → EReal) :
    coordOut (F := Ideal) (Cert.Proof.GatherRun.gath (tableOf (F := Ideal) a0 a1) (flatOf (F := Ideal) (Topk.want (rankOf q))))
      = coordOf (F := Ideal) a0 (first (F := Ideal) (order (F := Ideal) q)) := by
  funext j
  idx_vars j
  generalize j0 = u; generalize j1 = s; generalize j2 = k; generalize j3 = c
  rw [coordOut_apply]
  refine (table_coord (F := Ideal) a0 a1 _ _).trans ?_
  refine Eq.trans ?_ (batchRows_apply 3 _ a0 (rows (F := Ideal) (first (F := Ideal) (order (F := Ideal) q))) u s k c).symm
  have hl := rows_apply q u s k
  have hw := want_toNat (rankOf q) ⟨u.val * 512 + s.val, by omega⟩ k
  rw [rankOf_row] at hw
  have hr := (ranking q u s (Fin.castLE (by decide) k)).isLt
  simp only [] at hw
  refine congrArg a0 (ix3_congr (Fin.ext ?_) (Fin.ext ?_) c)
  · simp only [hw]; omega
  · simp only [hl, hw]; omega

/-! ## The kernel's results -/

section Results

variable (m : (ℓ : Loc nD τ sig) → Buf (Elt Ideal) ℓ) (c : Dev nD)

abbrev A0 : S8x8192x3.Idx → EReal := m ((c.tc : Thread nD τ).loc main_arg0)
abbrev A1 : S8x8192x64.Idx → EReal := m ((c.tc : Thread nD τ).loc main_arg1)

/-- The kernel's row numbers, when its scores are `q`'s: the first sixty-four of each row's ranking. -/
theorem E6_rows (q : S8x512x8192.Idx → EReal) (hq : Holds q (weights m c).scores) :
    E6 m c (Proc.devRef .tc main_v19) = Topk.want (rankOf q) := by
  have hs : ∀ (R : Fin 4096) (j : Fin 8192), E5 m c (Proc.devRef .tc main_v18) (ix2 R j)
      = q (ix3 ⟨R.val / 512, by omega⟩ ⟨R.val % 512, by omega⟩ j) := fun R j => (E5_v18 m c R j).trans (hq _ _ _).symm
  refine (E6_v19 m c).trans (Topk.arr_eq (E5 m) c (rankOf q) (fun R => ?_) fun R j => ?_)
  · rw [show (fun j => E5 m c (Proc.devRef .tc main_v18) (ix2 R j)) = _ from funext (hs R)]
    exact ranking_ranked q _ _
  · rw [E5_v18]
    exact logistic_nonneg _

theorem tblOf_eq : tblOf m c = tableOf (F := Ideal) (A0 m c) (A1 m c) := by
  unfold tblOf W1 ops1
  after_results
  rw [E6_arg m c main_arg0 (by decide), E6_arg m c main_arg1 (by decide)]
  rfl

/-- The gathered array. -/
def outOf (q : S8x512x8192.Idx → EReal) : S262144x128.Idx → EReal :=
  Cert.Proof.GatherRun.gath (tableOf (F := Ideal) (A0 m c) (A1 m c)) (flatOf (F := Ideal) (Topk.want (rankOf q)))

variable (q : S8x512x8192.Idx → EReal) (hq : Holds q (weights m c).scores)
include hq

theorem W2_o : W2 m c (Proc.devRef .tc main_v25) = outOf m c q := by
  unfold W2
  rw [Function.update_self, tblOf_eq, ixOf_eq, E6_rows m c q hq]
  rfl

theorem W3_feat : W3 m c (Proc.devRef .tc main_v27) = featOut (F := Ideal) (outOf m c q) := by
  unfold W3 ops2; after_results; rw [W2_o m c q hq]; rfl
theorem W3_coord : W3 m c (Proc.devRef .tc main_v29) = coordOut (F := Ideal) (outOf m c q) := by
  unfold W3 ops2; after_results; rw [W2_o m c q hq]; rfl
theorem W3_feat32 : W3 m c (Proc.devRef .tc main_v31)
    = extractStridedSlice S8x512x32x64 ![0, 0, 0, 0] (featOut (F := Ideal) (outOf m c q)) slices_S8x512x64x64_S8x512x32x64_0_0_0_0 := by
  unfold W3 ops2; after_results; rw [W2_o m c q hq]; rfl
theorem W3_coord32 : W3 m c (Proc.devRef .tc main_v30)
    = extractStridedSlice S8x512x32x3 ![0, 0, 0, 0] (coordOut (F := Ideal) (outOf m c q)) slices_S8x512x64x3_S8x512x32x3_0_0_0_0 := by
  unfold W3 ops2; after_results; rw [W2_o m c q hq]; rfl
theorem W3_feat1 : W3 m c (Proc.devRef .tc main_v35)
    = shapeCast S8x512x64 (extractStridedSlice S8x512x1x64 ![0, 0, 0, 0] (featOut (F := Ideal) (outOf m c q)) slices_S8x512x64x64_S8x512x1x64_0_0_0_0) shapeCasts_S8x512x1x64_S8x512x64 := by
  unfold W3 ops2; after_results; rw [W2_o m c q hq]; rfl
theorem W3_coord1 : W3 m c (Proc.devRef .tc main_v33)
    = shapeCast S8x512x3 (extractStridedSlice S8x512x1x3 ![0, 0, 0, 0] (coordOut (F := Ideal) (outOf m c q)) slices_S8x512x64x3_S8x512x1x3_0_0_0_0) shapeCasts_S8x512x1x3_S8x512x3 := by
  unfold W3 ops2; after_results; rw [W2_o m c q hq]; rfl

end Results

end Cert.Proof.KernelRun

end
-- ==== Proof.Finite.lean ====
/-
  The precondition read: the coordinates and the weights of the first three layers are real numbers.
-/
module

public import proofs.«01_k».proof.Proof.Net
public import proofs.«01_k».proof.Proof.Gen.Pre_finite
public import Idealize.ShloMosaic.Lib.ReduceAll
public import Idealize.ShloMosaic.Lib.Affine
public import Idealize.ShloMosaic.PureOps.Ideal.Laws

@[expose] public section

noncomputable section

namespace Cert.Proof.Finite

open Cert.Pre_finite Cert.Pre_finite.Gen Cert.Proof.Layers
open Idealize.ShloMosaic Idealize.ShloMosaic.TcCoe

/-- A number whose absolute value is below the top is real. -/
theorem isReal_of_abs {x : EReal} (h : max x (-x) < ⊤) : IsReal x := by
  induction x using EReal.rec with
  | bot => simp at h
  | top => simp at h
  | coe r => exact ⟨r, rfl⟩

theorem infinity : (FloatOps.ofBits .f32 0x7F800000#32 : Ideal .f32) = (⊤ : EReal) := by
  show Ideal.ofBits .f32 0x7F800000#32 = ⊤
  simp [Ideal.ofBits, Ideal.ieee]

/-- The conjunction of two truth values is true: both are. -/
theorem and_one {x y : IVec S_ 1} (h : andi x y = fun _ => 1#1) : x = (fun _ => 1#1) ∧ y = (fun _ => 1#1) := by
  have e : ∀ c d : BitVec 1, IntOp.andi c d = 1#1 → c = 1#1 ∧ d = 1#1 := by decide
  exact ⟨funext fun i => (e _ _ (congrFun h i)).1, funext fun i => (e _ _ (congrFun h i)).2⟩

instance : Subsingleton S_.Idx := ⟨fun a b => funext fun i => i.elim0⟩

/-- Every entry of an array is below infinity in absolute value: every entry is real. -/
theorem all_real {s : Shape} {axes : List (Fin s.rank)} (a : FVec Ideal s .f32) (hb : S_.BroadcastsInDim s ![]) (h : s.ReducesTo axes S_)
    (hu : 0 < S_.numel)
    (e : Host.reduce IntOp.andi (cmpf .olt (Host.absf a) (broadcastInDim s ![] hb (constant S_ .f32 0x7F800000#32))) (constantI S_ 1 1#1) h hu
      = fun _ => 1#1) (i : s.Idx) : IsReal (a i) := by
  have t := Host.reduce_andi_all _ _ h hu ix0 (congrFun e ix0) i
  refine isReal_of_abs ?_
  change Ideal.cmp .olt (max (a i) (-(a i))) (FloatOps.ofBits .f32 0x7F800000#32 : Ideal .f32) = 1#1 at t
  rw [infinity] at t
  by_contra hn
  simp [Ideal.cmp, hn] at t

theorem real_of_pre (a0 : FVec Ideal S8x8192x3 .f32) (a1 : FVec Ideal S8x8192x64 .f32) (a2 : FVec Ideal S32x3 .f32) (a3 a4 a5 : FVec Ideal S32 .f32)
    (a6 : FVec Ideal S64x32 .f32) (a7 a8 a9 : FVec Ideal S64 .f32) (a10 : FVec Ideal S256x64 .f32) (a11 a12 a13 : FVec Ideal S256 .f32)
    (a14 : FVec Ideal S512x256 .f32) (a15 : FVec Ideal S512 .f32)
    (h : Cert.Pre_finite.fn (F := Ideal) a0 a1 a2 a3 a4 a5 a6 a7 a8 a9 a10 a11 a12 a13 a14 a15 = fun _ => 1#1) :
    Weights.Real ⟨a0, a2, a3, a4, a5, a6, a7, a8, a9, a10, a11, a12, a13, a14, a15⟩ := by
  unfold Cert.Pre_finite.fn Cert.Pre_finite.fn_part1 Cert.Pre_finite.fn_part2 Cert.Pre_finite.fn_part3 at h
  dsimp only at h
  obtain ⟨h, r11⟩ := and_one h
  obtain ⟨h, r10⟩ := and_one h
  obtain ⟨h, r9⟩ := and_one h
  obtain ⟨h, r8⟩ := and_one h
  obtain ⟨h, r7⟩ := and_one h
  obtain ⟨h, r6⟩ := and_one h
  obtain ⟨h, r5⟩ := and_one h
  obtain ⟨h, r4⟩ := and_one h
  obtain ⟨h, r3⟩ := and_one h
  obtain ⟨r0, r2⟩ := and_one h
  exact ⟨all_real a0 _ _ _ r0, all_real a2 _ _ _ r2, all_real a3 _ _ _ r3, all_real a4 _ _ _ r4, all_real a5 _ _ _ r5, all_real a6 _ _ _ r6,
    all_real a7 _ _ _ r7, all_real a8 _ _ _ r8, all_real a9 _ _ _ r9, all_real a10 _ _ _ r10, all_real a11 _ _ _ r11⟩

end Cert.Proof.Finite

end
-- ==== Proof.lean ====
module

public import proofs.«01_k».proof.Defs
public import proofs.«01_k».proof.Proof.Gen.Gather
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.Pre_in_batch
public import proofs.«01_k».proof.Proof.GatherValue
public import proofs.«01_k».proof.Proof.Gen.Pre_finite
public import proofs.«01_k».proof.Proof.KernelArgs
public import proofs.«01_k».proof.Proof.ReferenceRun
public import proofs.«01_k».proof.Proof.Whole
public import proofs.«01_k».proof.Proof.Finite
public import Idealize.ShloMosaic.Adequacy
public import Idealize.ShloMosaic.Init

@[expose] public section

noncomputable section

namespace Cert.Proof

open Idealize.ShloMosaic Idealize.SL.Sem
open Cert.Proof.GatherRun

theorem frame_gather : Cert.quiescent_Gather := fun m ρ hpre =>
  (θ_run Cert.Gather.defs _ _).mono (fun _ h => ⟨fun c =>
    ⟨(h.1 c _ (Finset.mem_filter.mpr ⟨StableHlo.devRef_mem_tcRefs _, by decide⟩)).trans (W3_arg0 (F := Bits) m c),
      (h.1 c _ (Finset.mem_filter.mpr ⟨StableHlo.devRef_mem_tcRefs _, by decide⟩)).trans (W3_arg1 (F := Bits) m c),
      (h.1 c _ (Finset.mem_filter.mpr ⟨StableHlo.devRef_mem_tcRefs _, by decide⟩)).trans (W3_arg2 (F := Bits) m c)⟩, h.2⟩)
    (run_main (F := Bits) m ρ (inRange_of_inBatch m fun c => inBatch_of_pre _ _ _ (hpre c)))

theorem frame_gatherIdeal : Cert.quiescent_GatherIdeal := fun m ρ hpre =>
  (θ_run Cert.GatherIdeal.defs _ _).mono (fun _ h => ⟨fun c =>
    ⟨(h.1 c _ (Finset.mem_filter.mpr ⟨StableHlo.devRef_mem_tcRefs _, by decide⟩)).trans (W3_arg0 m c),
      (h.1 c _ (Finset.mem_filter.mpr ⟨StableHlo.devRef_mem_tcRefs _, by decide⟩)).trans (W3_arg1 m c),
      (h.1 c _ (Finset.mem_filter.mpr ⟨StableHlo.devRef_mem_tcRefs _, by decide⟩)).trans (W3_arg2 m c)⟩, h.2⟩)
    (run_main (F := Ideal) m ρ (inRange_of_inBatch m fun c => inBatch_of_pre _ _ _ (hpre c)))

theorem frame_gatherReference : Cert.quiescent_GatherReferenceIdeal := fun m ρ _ =>
  (θ_run Cert.GatherReferenceIdeal.defs _ _).mono (fun r h => ⟨fun c => (h c).2.2.2.2.2.2,
      Idealize.ShloMosaic.sem_eq_zero_of_no_sems (by decide) r.2⟩)
    (Cert.GatherReferenceIdeal.Value.run (F := Ideal) m ρ)

theorem frame_gatherReference_pre : Cert.quiescent_GatherReferenceIdeal_pre_in_batch := fun m ρ _ =>
  frame_gatherReference m ρ trivial

section Values
variable {F : FTy → Type} [FloatOps F]
open Cert.GatherIdeal

/-- The reference's gathered features and coordinates, of the arguments. -/
def featRef (a1 : S8x8192x64.Idx → Elt F .f32) (a2 : IVec S4096x64 32) : S8x512x64x64.Idx → Elt F .f32 :=
  Host.gather Cert.GatherReferenceIdeal.gather_S8x8192x64_S8x512x64x1_S8x512x64x64_3_1_0_0_1_3_1164 a1 (localIdx a2)
def coordRef (a0 : S8x8192x3.Idx → Elt F .f32) (a2 : IVec S4096x64 32) : S8x512x64x3.Idx → Elt F .f32 :=
  Host.gather Cert.GatherReferenceIdeal.gather_S8x8192x3_S8x512x64x1_S8x512x64x3_3_1_0_0_1_3_113 a0 (localIdx a2)

end Values

/-- The kernel's and the reference's results are equal: both gathered arrays are the reference's, and the other four results are slices of them. -/
theorem algebraic_gather : Cert.algebraic_GatherIdeal_GatherReferenceIdeal := by
  intro m ρ m' ρ' hpre hag
  have hb : ∀ c, InBatch (A2 m c) := fun c => inBatch_of_pre _ _ _ (hpre c)
  have hf : ∀ c, featOut (outOf m c) = featRef (A1 m c) (A2 m c) := fun c => feat_eq _ _ _ (hb c)
  have hc : ∀ c, coordOut (outOf m c) = coordRef (A0 m c) (A2 m c) := fun c => coord_eq _ _ _ (hb c)
  refine ⟨fun c => W3 m c (Proc.devRef .tc Cert.GatherIdeal.main_v13), fun c => W3 m c (Proc.devRef .tc Cert.GatherIdeal.main_v10), fun c => W3 m c (Proc.devRef .tc Cert.GatherIdeal.main_v9), fun c => W3 m c (Proc.devRef .tc Cert.GatherIdeal.main_v15), fun c => W3 m c (Proc.devRef .tc Cert.GatherIdeal.main_v11), fun c => W3 m c (Proc.devRef .tc Cert.GatherIdeal.main_v7), ?_, ?_⟩
  · exact (θ_run Cert.GatherIdeal.defs _ _).mono (fun r h c =>
      ⟨h.1 c (Proc.devRef .tc Cert.GatherIdeal.main_v13) (Finset.mem_filter.mpr ⟨StableHlo.devRef_mem_tcRefs _, by decide⟩),
        h.1 c (Proc.devRef .tc Cert.GatherIdeal.main_v10) (Finset.mem_filter.mpr ⟨StableHlo.devRef_mem_tcRefs _, by decide⟩),
        h.1 c (Proc.devRef .tc Cert.GatherIdeal.main_v9) (Finset.mem_filter.mpr ⟨StableHlo.devRef_mem_tcRefs _, by decide⟩),
        h.1 c (Proc.devRef .tc Cert.GatherIdeal.main_v15) (Finset.mem_filter.mpr ⟨StableHlo.devRef_mem_tcRefs _, by decide⟩),
        h.1 c (Proc.devRef .tc Cert.GatherIdeal.main_v11) (Finset.mem_filter.mpr ⟨StableHlo.devRef_mem_tcRefs _, by decide⟩),
        h.1 c (Proc.devRef .tc Cert.GatherIdeal.main_v7) (Finset.mem_filter.mpr ⟨StableHlo.devRef_mem_tcRefs _, by decide⟩),
        (h.1 c _ (Finset.mem_filter.mpr ⟨StableHlo.devRef_mem_tcRefs _, by decide⟩)).trans (W3_arg0 m c),
        (h.1 c _ (Finset.mem_filter.mpr ⟨StableHlo.devRef_mem_tcRefs _, by decide⟩)).trans (W3_arg1 m c),
        (h.1 c _ (Finset.mem_filter.mpr ⟨StableHlo.devRef_mem_tcRefs _, by decide⟩)).trans (W3_arg2 m c)⟩)
      (run_main (F := Ideal) m ρ (inRange_of_inBatch m hb))
  · refine (θ_run Cert.GatherReferenceIdeal.defs _ _).mono (fun r h c => ?_) (Cert.GatherReferenceIdeal.Value.run (F := Ideal) m' ρ')
    obtain ⟨h0, h1, h2, h3, h4, h5, h6⟩ := h c
    obtain ⟨g0, g1, g2⟩ := hag c
    rw [g0, g2] at h0 h1 h2
    rw [g1, g2] at h3 h4 h5
    have e0 := W3_coord1 m c
    have e1 := W3_coord32 m c
    have e2 := W3_coord m c
    have e3 := W3_feat1 m c
    have e4 := W3_feat32 m c
    have e5 := W3_feat m c
    rw [hc] at e0 e1 e2
    rw [first_coord] at e0
    rw [hf] at e3 e4 e5
    exact ⟨h0.trans e0.symm, h1.trans e1.symm, h2.trans e2.symm, h3.trans e3.symm, h4.trans e4.symm, h5.trans e5.symm, h6⟩

theorem frame_kernel : Cert.quiescent_KernelIdeal := fun m ρ _ =>
  (θ_run Cert.KernelIdeal.defs _ _).mono (fun _ h => ⟨fun c =>
    ⟨h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide)⟩, h.2⟩)
    (Cert.Proof.KernelRun.frame m ρ)

theorem frame_kernel_pre : Cert.quiescent_KernelIdeal_pre_finite := fun m ρ _ => frame_kernel m ρ trivial

theorem frame_reference : Cert.quiescent_ReferenceIdeal := fun m ρ _ =>
  (θ_run Cert.ReferenceIdeal.defs _ _).mono (fun r h => ⟨fun c =>
    ⟨(h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide))⟩,
      Idealize.ShloMosaic.sem_eq_zero_of_no_sems (by decide) r.2⟩)
    (Cert.Proof.RefRun.run_main (F := Ideal) m ρ)

theorem frame_reference_pre : Cert.quiescent_ReferenceIdeal_pre_finite := fun m ρ _ => frame_reference m ρ trivial

section Whole

open Cert.Proof.KernelRun (A0 A1)

/-- The reference's results as functions of its launch contents: slices of the two gathered arrays. -/
theorem reference_results (V : Valuation Cert.ReferenceIdeal.τ Cert.ReferenceIdeal.sig (Elt Ideal)) :
    let s := Cert.Proof.RefRun.first (F := Ideal) (Cert.Proof.RefRun.order (F := Ideal) (Cert.Proof.RefRun.score V))
    let x := Cert.Proof.RefRun.coordOf (F := Ideal) (V (Proc.devRef .tc Cert.ReferenceIdeal.main_arg0)) s
    let y := Cert.Proof.RefRun.featOf (F := Ideal) (V (Proc.devRef .tc Cert.ReferenceIdeal.main_arg1)) s
    Cert.Proof.RefRun.VH V (Proc.devRef .tc Cert.ReferenceIdeal.main_v131) = shapeCast Cert.ReferenceIdeal.S8x512x3 (extractStridedSlice Cert.ReferenceIdeal.S8x512x1x3 ![0, 0, 0, 0] (extractStridedSlice Cert.ReferenceIdeal.S8x512x32x3 ![0, 0, 0, 0] x Cert.ReferenceIdeal.Facts₀.slices_S8x512x64x3_S8x512x32x3_0_0_0_0) Cert.ReferenceIdeal.Facts₀.slices_S8x512x32x3_S8x512x1x3_0_0_0_0) Cert.ReferenceIdeal.Facts₀.shapeCasts_S8x512x1x3_S8x512x3
    ∧ Cert.Proof.RefRun.VH V (Proc.devRef .tc Cert.ReferenceIdeal.main_v128) = extractStridedSlice Cert.ReferenceIdeal.S8x512x32x3 ![0, 0, 0, 0] x Cert.ReferenceIdeal.Facts₀.slices_S8x512x64x3_S8x512x32x3_0_0_0_0
    ∧ Cert.Proof.RefRun.VH V (Proc.devRef .tc Cert.ReferenceIdeal.main_v120) = x
    ∧ Cert.Proof.RefRun.VH V (Proc.devRef .tc Cert.ReferenceIdeal.main_v133) = shapeCast Cert.ReferenceIdeal.S8x512x64 (extractStridedSlice Cert.ReferenceIdeal.S8x512x1x64 ![0, 0, 0, 0] y Cert.ReferenceIdeal.Facts₀.slices_S8x512x64x64_S8x512x1x64_0_0_0_0) Cert.ReferenceIdeal.Facts₀.shapeCasts_S8x512x1x64_S8x512x64
    ∧ Cert.Proof.RefRun.VH V (Proc.devRef .tc Cert.ReferenceIdeal.main_v129) = extractStridedSlice Cert.ReferenceIdeal.S8x512x32x64 ![0, 0, 0, 0] y Cert.ReferenceIdeal.Facts₀.slices_S8x512x64x64_S8x512x32x64_0_0_0_0
    ∧ Cert.Proof.RefRun.VH V (Proc.devRef .tc Cert.ReferenceIdeal.main_v127) = y := by
  have e := Cert.Proof.RefRun.order_eq V
  have e0 := Cert.Proof.RefRun.VS_arg V Cert.ReferenceIdeal.main_arg0 (by decide)
  have e1 := Cert.Proof.RefRun.VS_arg V Cert.ReferenceIdeal.main_arg1 (by decide)
  intro s x y
  have hx : Cert.Proof.RefRun.coordOf (F := Ideal) (Cert.Proof.RefRun.VS V (Proc.devRef .tc Cert.ReferenceIdeal.main_arg0)) (Cert.Proof.RefRun.first (F := Ideal) (Cert.Proof.RefRun.VS V (Proc.devRef .tc Cert.ReferenceIdeal.main_v112))) = x := by
    rw [e, e0]
  have hy : Cert.Proof.RefRun.featOf (F := Ideal) (Cert.Proof.RefRun.VS V (Proc.devRef .tc Cert.ReferenceIdeal.main_arg1)) (Cert.Proof.RefRun.first (F := Ideal) (Cert.Proof.RefRun.VS V (Proc.devRef .tc Cert.ReferenceIdeal.main_v112))) = y := by
    rw [e, e1]
  have h0 := Cert.Proof.RefRun.H_v131 (Cert.Proof.RefRun.VS V)
  have h1 := Cert.Proof.RefRun.H_v128 (Cert.Proof.RefRun.VS V)
  have h2 := Cert.Proof.RefRun.H_v120 (Cert.Proof.RefRun.VS V)
  have h3 := Cert.Proof.RefRun.H_v133 (Cert.Proof.RefRun.VS V)
  have h4 := Cert.Proof.RefRun.H_v129 (Cert.Proof.RefRun.VS V)
  have h5 := Cert.Proof.RefRun.H_v127 (Cert.Proof.RefRun.VS V)
  rw [hx] at h0 h1 h2
  rw [hy] at h3 h4 h5
  exact ⟨h0, h1, h2, h3, h4, h5⟩

/-- The whole kernel's results and the whole reference's are equal: both rank the same scores and gather the same rows. -/
theorem algebraic_kernel : Cert.algebraic_KernelIdeal_ReferenceIdeal_pre_finite := by
  intro m ρ m' ρ' hpre hag
  have hw : ∀ c, Cert.Proof.RefRun.weights (StableHlo.launchContents m' c) = Cert.Proof.KernelRun.weights m c := by
    intro c
    obtain ⟨g0, g1, g2, g3, g4, g5, g6, g7, g8, g9, g10, g11, g12, g13, g14, g15⟩ := hag c
    unfold Cert.Proof.RefRun.weights Cert.Proof.KernelRun.weights
    congr 1 <;> assumption
  have hr : ∀ c, (Cert.Proof.RefRun.weights (StableHlo.launchContents m' c)).Real := fun c => by
    rw [hw]; exact Cert.Proof.Finite.real_of_pre _ _ _ _ _ _ _ _ _ _ _ _ _ _ _ _ (hpre c)
  have hq : ∀ c, Cert.Proof.RefRun.Holds (Cert.Proof.RefRun.score (StableHlo.launchContents m' c)) (Cert.Proof.KernelRun.weights m c).scores := fun c => by
    rw [← hw]; exact Cert.Proof.RefRun.score_holds _ (hr c)
  refine ⟨fun c => Cert.Proof.KernelRun.W3 m c (Proc.devRef .tc Cert.KernelIdeal.main_v33), fun c => Cert.Proof.KernelRun.W3 m c (Proc.devRef .tc Cert.KernelIdeal.main_v30), fun c => Cert.Proof.KernelRun.W3 m c (Proc.devRef .tc Cert.KernelIdeal.main_v29), fun c => Cert.Proof.KernelRun.W3 m c (Proc.devRef .tc Cert.KernelIdeal.main_v35), fun c => Cert.Proof.KernelRun.W3 m c (Proc.devRef .tc Cert.KernelIdeal.main_v31), fun c => Cert.Proof.KernelRun.W3 m c (Proc.devRef .tc Cert.KernelIdeal.main_v27), ?_, ?_⟩
  · exact (θ_run Cert.KernelIdeal.defs _ _).mono (fun r h c =>
      ⟨h.1 c (Proc.devRef .tc Cert.KernelIdeal.main_v33) (Finset.mem_filter.mpr ⟨StableHlo.devRef_mem_tcRefs _, by decide⟩), h.1 c (Proc.devRef .tc Cert.KernelIdeal.main_v30) (Finset.mem_filter.mpr ⟨StableHlo.devRef_mem_tcRefs _, by decide⟩), h.1 c (Proc.devRef .tc Cert.KernelIdeal.main_v29) (Finset.mem_filter.mpr ⟨StableHlo.devRef_mem_tcRefs _, by decide⟩), h.1 c (Proc.devRef .tc Cert.KernelIdeal.main_v35) (Finset.mem_filter.mpr ⟨StableHlo.devRef_mem_tcRefs _, by decide⟩), h.1 c (Proc.devRef .tc Cert.KernelIdeal.main_v31) (Finset.mem_filter.mpr ⟨StableHlo.devRef_mem_tcRefs _, by decide⟩), h.1 c (Proc.devRef .tc Cert.KernelIdeal.main_v27) (Finset.mem_filter.mpr ⟨StableHlo.devRef_mem_tcRefs _, by decide⟩),
        (h.1 c _ (Finset.mem_filter.mpr ⟨StableHlo.devRef_mem_tcRefs _, by decide⟩)).trans (Cert.Proof.KernelRun.W3_arg m c Cert.KernelIdeal.main_arg0 (by decide)), (h.1 c _ (Finset.mem_filter.mpr ⟨StableHlo.devRef_mem_tcRefs _, by decide⟩)).trans (Cert.Proof.KernelRun.W3_arg m c Cert.KernelIdeal.main_arg1 (by decide)), (h.1 c _ (Finset.mem_filter.mpr ⟨StableHlo.devRef_mem_tcRefs _, by decide⟩)).trans (Cert.Proof.KernelRun.W3_arg m c Cert.KernelIdeal.main_arg2 (by decide)), (h.1 c _ (Finset.mem_filter.mpr ⟨StableHlo.devRef_mem_tcRefs _, by decide⟩)).trans (Cert.Proof.KernelRun.W3_arg m c Cert.KernelIdeal.main_arg3 (by decide)), (h.1 c _ (Finset.mem_filter.mpr ⟨StableHlo.devRef_mem_tcRefs _, by decide⟩)).trans (Cert.Proof.KernelRun.W3_arg m c Cert.KernelIdeal.main_arg4 (by decide)), (h.1 c _ (Finset.mem_filter.mpr ⟨StableHlo.devRef_mem_tcRefs _, by decide⟩)).trans (Cert.Proof.KernelRun.W3_arg m c Cert.KernelIdeal.main_arg5 (by decide)), (h.1 c _ (Finset.mem_filter.mpr ⟨StableHlo.devRef_mem_tcRefs _, by decide⟩)).trans (Cert.Proof.KernelRun.W3_arg m c Cert.KernelIdeal.main_arg6 (by decide)), (h.1 c _ (Finset.mem_filter.mpr ⟨StableHlo.devRef_mem_tcRefs _, by decide⟩)).trans (Cert.Proof.KernelRun.W3_arg m c Cert.KernelIdeal.main_arg7 (by decide)), (h.1 c _ (Finset.mem_filter.mpr ⟨StableHlo.devRef_mem_tcRefs _, by decide⟩)).trans (Cert.Proof.KernelRun.W3_arg m c Cert.KernelIdeal.main_arg8 (by decide)), (h.1 c _ (Finset.mem_filter.mpr ⟨StableHlo.devRef_mem_tcRefs _, by decide⟩)).trans (Cert.Proof.KernelRun.W3_arg m c Cert.KernelIdeal.main_arg9 (by decide)), (h.1 c _ (Finset.mem_filter.mpr ⟨StableHlo.devRef_mem_tcRefs _, by decide⟩)).trans (Cert.Proof.KernelRun.W3_arg m c Cert.KernelIdeal.main_arg10 (by decide)), (h.1 c _ (Finset.mem_filter.mpr ⟨StableHlo.devRef_mem_tcRefs _, by decide⟩)).trans (Cert.Proof.KernelRun.W3_arg m c Cert.KernelIdeal.main_arg11 (by decide)), (h.1 c _ (Finset.mem_filter.mpr ⟨StableHlo.devRef_mem_tcRefs _, by decide⟩)).trans (Cert.Proof.KernelRun.W3_arg m c Cert.KernelIdeal.main_arg12 (by decide)), (h.1 c _ (Finset.mem_filter.mpr ⟨StableHlo.devRef_mem_tcRefs _, by decide⟩)).trans (Cert.Proof.KernelRun.W3_arg m c Cert.KernelIdeal.main_arg13 (by decide)), (h.1 c _ (Finset.mem_filter.mpr ⟨StableHlo.devRef_mem_tcRefs _, by decide⟩)).trans (Cert.Proof.KernelRun.W3_arg m c Cert.KernelIdeal.main_arg14 (by decide)), (h.1 c _ (Finset.mem_filter.mpr ⟨StableHlo.devRef_mem_tcRefs _, by decide⟩)).trans (Cert.Proof.KernelRun.W3_arg m c Cert.KernelIdeal.main_arg15 (by decide))⟩)
      (Cert.Proof.KernelRun.run_main (F := Ideal) m ρ (Cert.Proof.KernelRun.inRange m))
  · refine (θ_run Cert.ReferenceIdeal.defs _ _).mono (fun r h c => ?_) (Cert.Proof.RefRun.run_main (F := Ideal) m' ρ')
    obtain ⟨h0, h1, h2, h3, h4, h5⟩ := reference_results (StableHlo.launchContents m' c)
    have gx : StableHlo.launchContents m' c (Proc.devRef .tc Cert.ReferenceIdeal.main_arg0) = A0 m c := (hag c).1
    have gy : StableHlo.launchContents m' c (Proc.devRef .tc Cert.ReferenceIdeal.main_arg1) = A1 m c := (hag c).2.1
    rw [gx] at h0 h1 h2
    rw [gy] at h3 h4 h5
    have hf := Cert.Proof.KernelRun.feat_eq (A0 m c) (A1 m c) (Cert.Proof.RefRun.score (StableHlo.launchContents m' c))
    have hc := Cert.Proof.KernelRun.coord_eq (A0 m c) (A1 m c) (Cert.Proof.RefRun.score (StableHlo.launchContents m' c))
    have e0 := Cert.Proof.KernelRun.W3_coord1 m c _ (hq c)
    have e1 := Cert.Proof.KernelRun.W3_coord32 m c _ (hq c)
    have e2 := Cert.Proof.KernelRun.W3_coord m c _ (hq c)
    have e3 := Cert.Proof.KernelRun.W3_feat1 m c _ (hq c)
    have e4 := Cert.Proof.KernelRun.W3_feat32 m c _ (hq c)
    have e5 := Cert.Proof.KernelRun.W3_feat m c _ (hq c)
    unfold Cert.Proof.KernelRun.outOf at e0 e1 e2 e3 e4 e5
    rw [hc] at e0 e1 e2
    rw [first_coord] at e0
    rw [hf] at e3 e4 e5
    exact ⟨(h c _).trans (h0.trans e0.symm), (h c _).trans (h1.trans e1.symm), (h c _).trans (h2.trans e2.symm), (h c _).trans (h3.trans e3.symm), (h c _).trans (h4.trans e4.symm), (h c _).trans (h5.trans e5.symm),
      (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide)), (h c _).trans (Cert.Proof.RefRun.VH_arg _ _ (by decide))⟩

end Whole

theorem claim : Cert.Claim := ⟨Cert.Gather.Gen.facts, Cert.GatherIdeal.Gen.facts, Cert.GatherReferenceIdeal.Gen.facts, Cert.KernelIdeal.Gen.facts, Cert.ReferenceIdeal.Gen.facts, Cert.Pre_in_batch.Gen.facts, Cert.Pre_finite.Gen.facts,
  frame_gather, frame_gatherIdeal, frame_gatherReference, frame_gatherReference_pre, frame_kernel, frame_kernel_pre, frame_reference, frame_reference_pre, trivial, algebraic_gather, algebraic_kernel⟩

end Cert.Proof

end
